-- ==== Defs.lean ====
def Pre_Kernel [hPre_pages_exist : Cert.Pre_pages_exist.Facts] (m : (ℓ : Loc Cert.Kernel.nD Cert.Kernel.τ Cert.Kernel.sig) → Buf (Elt Bits) ℓ) : Prop :=
  ∀ c : Dev Cert.Kernel.nD,
    (Cert.Pre_pages_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pages_exist : Cert.Pre_pages_exist.Facts] (m : (ℓ : Loc Cert.KernelIdeal.nD Cert.KernelIdeal.τ Cert.KernelIdeal.sig) → Buf (Elt Ideal) ℓ) : Prop :=
  ∀ c : Dev Cert.KernelIdeal.nD,
    (Cert.Pre_pages_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_exist [hPre_pages_exist : Cert.Pre_pages_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_MergeP (m : (ℓ : Loc Cert.MergeP.nD Cert.MergeP.τ Cert.MergeP.sig) → Buf (Elt Bits) ℓ) : Prop :=
  True

def Pre_MergePIdeal (m : (ℓ : Loc Cert.MergePIdeal.nD Cert.MergePIdeal.τ Cert.MergePIdeal.sig) → Buf (Elt Ideal) ℓ) : Prop :=
  True

def Pre_MergePRefIdeal (m : (ℓ : Loc Cert.MergePRefIdeal.nD Cert.MergePRefIdeal.τ Cert.MergePRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def quiescent_Kernel [hKernel : Cert.Kernel.Facts] [hPre_pages_exist : Cert.Pre_pages_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pages_exist : Cert.Pre_pages_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pages_exist [hReferenceIdeal : Cert.ReferenceIdeal.Facts] [hPre_pages_exist : Cert.Pre_pages_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4)
      ∧ r.2.mem ((c.tc : Thread Cert.InP.nD Cert.InP.τ).loc Cert.InP.main_arg5) = m ((c.tc : Thread Cert.InP.nD Cert.InP.τ).loc Cert.InP.main_arg5)
      ∧ r.2.mem ((c.tc : Thread Cert.InP.nD Cert.InP.τ).loc Cert.InP.main_arg6) = m ((c.tc : Thread Cert.InP.nD Cert.InP.τ).loc Cert.InP.main_arg6))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
      ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
      ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2)
      ∧ r.2.mem ((c.tc : Thread Cert.InPRefIdeal.nD Cert.InPRefIdeal.τ).loc Cert.InPRefIdeal.main_arg3) = m ((c.tc : Thread Cert.InPRefIdeal.nD Cert.InPRefIdeal.τ).loc Cert.InPRefIdeal.main_arg3)
      ∧ r.2.mem ((c.tc : Thread Cert.InPRefIdeal.nD Cert.InPRefIdeal.τ).loc Cert.InPRefIdeal.main_arg4) = m ((c.tc : Thread Cert.InPRefIdeal.nD Cert.InPRefIdeal.τ).loc Cert.InPRefIdeal.main_arg4)
      ∧ r.2.mem ((c.tc : Thread Cert.InPRefIdeal.nD Cert.InPRefIdeal.τ).loc Cert.InPRefIdeal.main_arg5) = m ((c.tc : Thread Cert.InPRefIdeal.nD Cert.InPRefIdeal.τ).loc Cert.InPRefIdeal.main_arg5)
      ∧ r.2.mem ((c.tc : Thread Cert.InPRefIdeal.nD Cert.InPRefIdeal.τ).loc Cert.InPRefIdeal.main_arg6) = m ((c.tc : Thread Cert.InPRefIdeal.nD Cert.InPRefIdeal.τ).loc Cert.InPRefIdeal.main_arg6))
      ∧ r.2.sem = fun _ => 0)

def quiescent_MergeP [hMergeP : Cert.MergeP.Facts] : Prop :=
  ∀ (m : (ℓ : Loc Cert.MergeP.nD Cert.MergeP.τ Cert.MergeP.sig) → Buf (Elt Bits) ℓ) (g : Dev Cert.MergeP.nD → PrngReg), Pre_MergeP m →
    θ_run (Cert.MergeP.defs (F := Bits)) (onTc (τ := Cert.MergeP.τ) (Cert.MergeP.main (F := Bits))) ⟨m, fun _ => 0, g⟩ (fun r => (∀ c : Dev Cert.MergeP.nD,
      r.2.mem ((c.tc : Thread Cert.MergeP.nD Cert.MergeP.τ).loc Cert.MergeP.main_arg0) = m ((c.tc : Thread Cert.MergeP.nD Cert.MergeP.τ).loc Cert.MergeP.main_arg0)
      ∧ r.2.mem ((c.tc : Thread Cert.MergeP.nD Cert.MergeP.τ).loc Cert.MergeP.main_arg1) = m ((c.tc : Thread Cert.MergeP.nD Cert.MergeP.τ).loc Cert.MergeP.main_arg1)
      ∧ r.2.mem ((c.tc : Thread Cert.MergeP.nD Cert.MergeP.τ).loc Cert.MergeP.main_arg2) = m ((c.tc : Thread Cert.MergeP.nD Cert.MergeP.τ).loc Cert.MergeP.main_arg2)
      ∧ r.2.mem ((c.tc : Thread Cert.MergeP.nD Cert.MergeP.τ).loc Cert.MergeP.main_arg3) = m ((c.tc : Thread Cert.MergeP.nD Cert.MergeP.τ).loc Cert.MergeP.main_arg3)
      ∧ r.2.mem ((c.tc : Thread Cert.MergeP.nD Cert.MergeP.τ).loc Cert.MergeP.main_arg4) = m ((c.tc : Thread Cert.MergeP.nD Cert.MergeP.τ).loc Cert.MergeP.main_arg4)
      ∧ r.2.mem ((c.tc : Thread Cert.MergeP.nD Cert.MergeP.τ).loc Cert.MergeP.main_arg5) = m ((c.tc : Thread Cert.MergeP.nD Cert.MergeP.τ).loc Cert.MergeP.main_arg5)
      ∧ r.2.mem ((c.tc : Thread Cert.MergeP.nD Cert.MergeP.τ).loc Cert.MergeP.main_arg6) = m ((c.tc : Thread Cert.MergeP.nD Cert.MergeP.τ).loc Cert.MergeP.main_arg6)
      ∧ r.2.mem ((c.tc : Thread Cert.MergeP.nD Cert.MergeP.τ).loc Cert.MergeP.main_arg7) = m ((c.tc : Thread Cert.MergeP.nD Cert.MergeP.τ).loc Cert.MergeP.main_arg7)
      ∧ r.2.mem ((c.tc : Thread Cert.MergeP.nD Cert.MergeP.τ).loc Cert.MergeP.main_arg8) = m ((c.tc : Thread Cert.MergeP.nD Cert.MergeP.τ).loc Cert.MergeP.main_arg8)
      ∧ r.2.mem ((c.tc : Thread Cert.MergeP.nD Cert.MergeP.τ).loc Cert.MergeP.main_arg9) = m ((c.tc : Thread Cert.MergeP.nD Cert.MergeP.τ).loc Cert.MergeP.main_arg9)
      ∧ r.2.mem ((c.tc : Thread Cert.MergeP.nD Cert.MergeP.τ).loc Cert.MergeP.main_arg10) = m ((c.tc : Thread Cert.MergeP.nD Cert.MergeP.τ).loc Cert.MergeP.main_arg10)
      ∧ r.2.mem ((c.tc : Thread Cert.MergeP.nD Cert.MergeP.τ).loc Cert.MergeP.main_arg11) = m ((c.tc : Thread Cert.MergeP.nD Cert.MergeP.τ).loc Cert.MergeP.main_arg11)
      ∧ r.2.mem ((c.tc : Thread Cert.MergeP.nD Cert.MergeP.τ).loc Cert.MergeP.main_arg12) = m ((c.tc : Thread Cert.MergeP.nD Cert.MergeP.τ).loc Cert.MergeP.main_arg12)
      ∧ r.2.mem ((c.tc : Thread Cert.MergeP.nD Cert.MergeP.τ).loc Cert.MergeP.main_arg13) = m ((c.tc : Thread Cert.MergeP.nD Cert.MergeP.τ).loc Cert.MergeP.main_arg13))
      ∧ r.2.sem = fun _ => 0)

def quiescent_MergePIdeal [hMergePIdeal : Cert.MergePIdeal.Facts] : Prop :=
  ∀ (m : (ℓ : Loc Cert.MergePIdeal.nD Cert.MergePIdeal.τ Cert.MergePIdeal.sig) → Buf (Elt Ideal) ℓ) (g : Dev Cert.MergePIdeal.nD → PrngReg), Pre_MergePIdeal m →
    θ_run (Cert.MergePIdeal.defs (F := Ideal)) (onTc (τ := Cert.MergePIdeal.τ) (Cert.MergePIdeal.main (F := Ideal))) ⟨m, fun _ => 0, g⟩ (fun r => (∀ c : Dev Cert.MergePIdeal.nD,
      r.2.mem ((c.tc : Thread Cert.MergePIdeal.nD Cert.MergePIdeal.τ).loc Cert.MergePIdeal.main_arg0) = m ((c.tc : Thread Cert.MergePIdeal.nD Cert.MergePIdeal.τ).loc Cert.MergePIdeal.main_arg0)
      ∧ r.2.mem ((c.tc : Thread Cert.MergePIdeal.nD Cert.MergePIdeal.τ).loc Cert.MergePIdeal.main_arg1) = m ((c.tc : Thread Cert.MergePIdeal.nD Cert.MergePIdeal.τ).loc Cert.MergePIdeal.main_arg1)
      ∧ r.2.mem ((c.tc : Thread Cert.MergePIdeal.nD Cert.MergePIdeal.τ).loc Cert.MergePIdeal.main_arg2) = m ((c.tc : Thread Cert.MergePIdeal.nD Cert.MergePIdeal.τ).loc Cert.MergePIdeal.main_arg2)
      ∧ r.2.mem ((c.tc : Thread Cert.MergePIdeal.nD Cert.MergePIdeal.τ).loc Cert.MergePIdeal.main_arg3) = m ((c.tc : Thread Cert.MergePIdeal.nD Cert.MergePIdeal.τ).loc Cert.MergePIdeal.main_arg3)
      ∧ r.2.mem ((c.tc : Thread Cert.MergePIdeal.nD Cert.MergePIdeal.τ).loc Cert.MergePIdeal.main_arg4) = m ((c.tc : Thread Cert.MergePIdeal.nD Cert.MergePIdeal.τ).loc Cert.MergePIdeal.main_arg4)
      ∧ r.2.mem ((c.tc : Thread Cert.MergePIdeal.nD Cert.MergePIdeal.τ).loc Cert.MergePIdeal.main_arg5) = m ((c.tc : Thread Cert.MergePIdeal.nD Cert.MergePIdeal.τ).loc Cert.MergePIdeal.main_arg5)
      ∧ r.2.mem ((c.tc : Thread Cert.MergePIdeal.nD Cert.MergePIdeal.τ).loc Cert.MergePIdeal.main_arg6) = m ((c.tc : Thread Cert.MergePIdeal.nD Cert.MergePIdeal.τ).loc Cert.MergePIdeal.main_arg6)
      ∧ r.2.mem ((c.tc : Thread Cert.MergePIdeal.nD Cert.MergePIdeal.τ).loc Cert.MergePIdeal.main_arg7) = m ((c.tc : Thread Cert.MergePIdeal.nD Cert.MergePIdeal.τ).loc Cert.MergePIdeal.main_arg7)
      ∧ r.2.mem ((c.tc : Thread Cert.MergePIdeal.nD Cert.MergePIdeal.τ).loc Cert.MergePIdeal.main_arg8) = m ((c.tc : Thread Cert.MergePIdeal.nD Cert.MergePIdeal.τ).loc Cert.MergePIdeal.main_arg8)
      ∧ r.2.mem ((c.tc : Thread Cert.MergePIdeal.nD Cert.MergePIdeal.τ).loc Cert.MergePIdeal.main_arg9) = m ((c.tc : Thread Cert.MergePIdeal.nD Cert.MergePIdeal.τ).loc Cert.MergePIdeal.main_arg9)
      ∧ r.2.mem ((c.tc : Thread Cert.MergePIdeal.nD Cert.MergePIdeal.τ).loc Cert.MergePIdeal.main_arg10) = m ((c.tc : Thread Cert.MergePIdeal.nD Cert.MergePIdeal.τ).loc Cert.MergePIdeal.main_arg10)
      ∧ r.2.mem ((c.tc : Thread Cert.MergePIdeal.nD Cert.MergePIdeal.τ).loc Cert.MergePIdeal.main_arg11) = m ((c.tc : Thread Cert.MergePIdeal.nD Cert.MergePIdeal.τ).loc Cert.MergePIdeal.main_arg11)
      ∧ r.2.mem ((c.tc : Thread Cert.MergePIdeal.nD Cert.MergePIdeal.τ).loc Cert.MergePIdeal.main_arg12) = m ((c.tc : Thread Cert.MergePIdeal.nD Cert.MergePIdeal.τ).loc Cert.MergePIdeal.main_arg12)
      ∧ r.2.mem ((c.tc : Thread Cert.MergePIdeal.nD Cert.MergePIdeal.τ).loc Cert.MergePIdeal.main_arg13) = m ((c.tc : Thread Cert.MergePIdeal.nD Cert.MergePIdeal.τ).loc Cert.MergePIdeal.main_arg13))
      ∧ r.2.sem = fun _ => 0)

def quiescent_MergePRefIdeal [hMergePRefIdeal : Cert.MergePRefIdeal.Facts] : Prop :=
  ∀ (m : (ℓ : Loc Cert.MergePRefIdeal.nD Cert.MergePRefIdeal.τ Cert.MergePRefIdeal.sig) → Buf (Elt Ideal) ℓ) (g : Dev Cert.MergePRefIdeal.nD → PrngReg), Pre_MergePRefIdeal m →
    θ_run (Cert.MergePRefIdeal.defs (F := Ideal)) (onTc (τ := Cert.MergePRefIdeal.τ) (Cert.MergePRefIdeal.main (F := Ideal))) ⟨m, fun _ => 0, g⟩ (fun r => (∀ c : Dev Cert.MergePRefIdeal.nD,
      r.2.mem ((c.tc : Thread Cert.MergePRefIdeal.nD Cert.MergePRefIdeal.τ).loc Cert.MergePRefIdeal.main_arg0) = m ((c.tc : Thread Cert.MergePRefIdeal.nD Cert.MergePRefIdeal.τ).loc Cert.MergePRefIdeal.main_arg0)
      ∧ r.2.mem ((c.tc : Thread Cert.MergePRefIdeal.nD Cert.MergePRefIdeal.τ).loc Cert.MergePRefIdeal.main_arg1) = m ((c.tc : Thread Cert.MergePRefIdeal.nD Cert.MergePRefIdeal.τ).loc Cert.MergePRefIdeal.main_arg1)
      ∧ r.2.mem ((c.tc : Thread Cert.MergePRefIdeal.nD Cert.MergePRefIdeal.τ).loc Cert.MergePRefIdeal.main_arg2) = m ((c.tc : Thread Cert.MergePRefIdeal.nD Cert.MergePRefIdeal.τ).loc Cert.MergePRefIdeal.main_arg2)
      ∧ r.2.mem ((c.tc : Thread Cert.MergePRefIdeal.nD Cert.MergePRefIdeal.τ).loc Cert.MergePRefIdeal.main_arg3) = m ((c.tc : Thread Cert.MergePRefIdeal.nD Cert.MergePRefIdeal.τ).loc Cert.MergePRefIdeal.main_arg3)
      ∧ r.2.mem ((c.tc : Thread Cert.MergePRefIdeal.nD Cert.MergePRefIdeal.τ).loc Cert.MergePRefIdeal.main_arg4) = m ((c.tc : Thread Cert.MergePRefIdeal.nD Cert.MergePRefIdeal.τ).loc Cert.MergePRefIdeal.main_arg4)
      ∧ r.2.mem ((c.tc : Thread Cert.MergePRefIdeal.nD Cert.MergePRefIdeal.τ).loc Cert.MergePRefIdeal.main_arg5) = m ((c.tc : Thread Cert.MergePRefIdeal.nD Cert.MergePRefIdeal.τ).loc Cert.MergePRefIdeal.main_arg5)
      ∧ r.2.mem ((c.tc : Thread Cert.MergePRefIdeal.nD Cert.MergePRefIdeal.τ).loc Cert.MergePRefIdeal.main_arg6) = m ((c.tc : Thread Cert.MergePRefIdeal.nD Cert.MergePRefIdeal.τ).loc Cert.MergePRefIdeal.main_arg6)
      ∧ r.2.mem ((c.tc : Thread Cert.MergePRefIdeal.nD Cert.MergePRefIdeal.τ).loc Cert.MergePRefIdeal.main_arg7) = m ((c.tc : Thread Cert.MergePRefIdeal.nD Cert.MergePRefIdeal.τ).loc Cert.MergePRefIdeal.main_arg7)
      ∧ r.2.mem ((c.tc : Thread Cert.MergePRefIdeal.nD Cert.MergePRefIdeal.τ).loc Cert.MergePRefIdeal.main_arg8) = m ((c.tc : Thread Cert.MergePRefIdeal.nD Cert.MergePRefIdeal.τ).loc Cert.MergePRefIdeal.main_arg8)
      ∧ r.2.mem ((c.tc : Thread Cert.MergePRefIdeal.nD Cert.MergePRefIdeal.τ).loc Cert.MergePRefIdeal.main_arg9) = m ((c.tc : Thread Cert.MergePRefIdeal.nD Cert.MergePRefIdeal.τ).loc Cert.MergePRefIdeal.main_arg9)
      ∧ r.2.mem ((c.tc : Thread Cert.MergePRefIdeal.nD Cert.MergePRefIdeal.τ).loc Cert.MergePRefIdeal.main_arg10) = m ((c.tc : Thread Cert.MergePRefIdeal.nD Cert.MergePRefIdeal.τ).loc Cert.MergePRefIdeal.main_arg10)
      ∧ r.2.mem ((c.tc : Thread Cert.MergePRefIdeal.nD Cert.MergePRefIdeal.τ).loc Cert.MergePRefIdeal.main_arg11) = m ((c.tc : Thread Cert.MergePRefIdeal.nD Cert.MergePRefIdeal.τ).loc Cert.MergePRefIdeal.main_arg11)
      ∧ r.2.mem ((c.tc : Thread Cert.MergePRefIdeal.nD Cert.MergePRefIdeal.τ).loc Cert.MergePRefIdeal.main_arg12) = m ((c.tc : Thread Cert.MergePRefIdeal.nD Cert.MergePRefIdeal.τ).loc Cert.MergePRefIdeal.main_arg12)
      ∧ r.2.mem ((c.tc : Thread Cert.MergePRefIdeal.nD Cert.MergePRefIdeal.τ).loc Cert.MergePRefIdeal.main_arg13) = m ((c.tc : Thread Cert.MergePRefIdeal.nD Cert.MergePRefIdeal.τ).loc Cert.MergePRefIdeal.main_arg13))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2)
      ∧ r.2.mem ((c.tc : Thread Cert.InS.nD Cert.InS.τ).loc Cert.InS.main_arg3) = m ((c.tc : Thread Cert.InS.nD Cert.InS.τ).loc Cert.InS.main_arg3))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
      ∧ r.2.mem ((c.tc : Thread Cert.InSIdeal.nD Cert.InSIdeal.τ).loc Cert.InSIdeal.main_arg3) = m ((c.tc : Thread Cert.InSIdeal.nD Cert.InSIdeal.τ).loc Cert.InSIdeal.main_arg3))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2)
      ∧ r.2.mem ((c.tc : Thread Cert.InSRefIdeal.nD Cert.InSRefIdeal.τ).loc Cert.InSRefIdeal.main_arg3) = m ((c.tc : Thread Cert.InSRefIdeal.nD Cert.InSRefIdeal.τ).loc Cert.InSRefIdeal.main_arg3))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8)
      ∧ r.2.mem ((c.tc : Thread Cert.MergeS.nD Cert.MergeS.τ).loc Cert.MergeS.main_arg9) = m ((c.tc : Thread Cert.MergeS.nD Cert.MergeS.τ).loc Cert.MergeS.main_arg9)
      ∧ r.2.mem ((c.tc : Thread Cert.MergeS.nD Cert.MergeS.τ).loc Cert.MergeS.main_arg10) = m ((c.tc : Thread Cert.MergeS.nD Cert.MergeS.τ).loc Cert.MergeS.main_arg10))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
      ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
      ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8)
      ∧ r.2.mem ((c.tc : Thread Cert.MergeSRefIdeal.nD Cert.MergeSRefIdeal.τ).loc Cert.MergeSRefIdeal.main_arg9) = m ((c.tc : Thread Cert.MergeSRefIdeal.nD Cert.MergeSRefIdeal.τ).loc Cert.MergeSRefIdeal.main_arg9)
      ∧ r.2.mem ((c.tc : Thread Cert.MergeSRefIdeal.nD Cert.MergeSRefIdeal.τ).loc Cert.MergeSRefIdeal.main_arg10) = m ((c.tc : Thread Cert.MergeSRefIdeal.nD Cert.MergeSRefIdeal.τ).loc Cert.MergeSRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pages_exist : Cert.Pre_pages_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
      ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)
      ∧ m' ((c.tc : Thread Cert.InPRefIdeal.nD Cert.InPRefIdeal.τ).loc Cert.InPRefIdeal.main_arg3) = m ((c.tc : Thread Cert.InPIdeal.nD Cert.InPIdeal.τ).loc Cert.InPIdeal.main_arg3)
      ∧ m' ((c.tc : Thread Cert.InPRefIdeal.nD Cert.InPRefIdeal.τ).loc Cert.InPRefIdeal.main_arg4) = m ((c.tc : Thread Cert.InPIdeal.nD Cert.InPIdeal.τ).loc Cert.InPIdeal.main_arg4)
      ∧ m' ((c.tc : Thread Cert.InPRefIdeal.nD Cert.InPRefIdeal.τ).loc Cert.InPRefIdeal.main_arg5) = m ((c.tc : Thread Cert.InPIdeal.nD Cert.InPIdeal.τ).loc Cert.InPIdeal.main_arg5)
      ∧ m' ((c.tc : Thread Cert.InPRefIdeal.nD Cert.InPRefIdeal.τ).loc Cert.InPRefIdeal.main_arg6) = m ((c.tc : Thread Cert.InPIdeal.nD Cert.InPIdeal.τ).loc Cert.InPIdeal.main_arg6)) →
    ∃ (v0 : (c : Dev Cert.InPIdeal.nD) → Buf (Elt Ideal) ((c.tc : Thread Cert.InPIdeal.nD Cert.InPIdeal.τ).loc Cert.InPIdeal.main_v0_0)) (v1 : (c : Dev Cert.InPIdeal.nD) → Buf (Elt Ideal) ((c.tc : Thread Cert.InPIdeal.nD Cert.InPIdeal.τ).loc Cert.InPIdeal.main_v0_1)) (v2 : (c : Dev Cert.InPIdeal.nD) → Buf (Elt Ideal) ((c.tc : Thread Cert.InPIdeal.nD Cert.InPIdeal.τ).loc Cert.InPIdeal.main_v0_2)) (v3 : (c : Dev Cert.InPIdeal.nD) → Buf (Elt Ideal) ((c.tc : Thread Cert.InPIdeal.nD Cert.InPIdeal.τ).loc Cert.InPIdeal.main_v0_3)) (v4 : (c : Dev Cert.InPIdeal.nD) → Buf (Elt Ideal) ((c.tc : Thread Cert.InPIdeal.nD Cert.InPIdeal.τ).loc Cert.InPIdeal.main_v0_4)) (v5 : (c : Dev Cert.InPIdeal.nD) → Buf (Elt Ideal) ((c.tc : Thread Cert.InPIdeal.nD Cert.InPIdeal.τ).loc Cert.InPIdeal.main_v0_5)) (v6 : (c : Dev Cert.InPIdeal.nD) → Buf (Elt Ideal) ((c.tc : Thread Cert.InPIdeal.nD Cert.InPIdeal.τ).loc Cert.InPIdeal.main_v0_6)) (v7 : (c : Dev Cert.InPIdeal.nD) → Buf (Elt Ideal) ((c.tc : Thread Cert.InPIdeal.nD Cert.InPIdeal.τ).loc Cert.InPIdeal.main_v0_7)) (v8 : (c : Dev Cert.InPIdeal.nD) → Buf (Elt Ideal) ((c.tc : Thread Cert.InPIdeal.nD Cert.InPIdeal.τ).loc Cert.InPIdeal.main_v0_8)) (v9 : (c : Dev Cert.InPIdeal.nD) → Buf (Elt Ideal) ((c.tc : Thread Cert.InPIdeal.nD Cert.InPIdeal.τ).loc Cert.InPIdeal.main_v0_9)) (v10 : (c : Dev Cert.InPIdeal.nD) → Buf (Elt Ideal) ((c.tc : Thread Cert.InPIdeal.nD Cert.InPIdeal.τ).loc Cert.InPIdeal.main_v0_10)) (v11 : (c : Dev Cert.InPIdeal.nD) → Buf (Elt Ideal) ((c.tc : Thread Cert.InPIdeal.nD Cert.InPIdeal.τ).loc Cert.InPIdeal.main_v0_11)) (v12 : (c : Dev Cert.InPIdeal.nD) → Buf (Elt Ideal) ((c.tc : Thread Cert.InPIdeal.nD Cert.InPIdeal.τ).loc Cert.InPIdeal.main_v0_12)) (v13 : (c : Dev Cert.InPIdeal.nD) → Buf (Elt Ideal) ((c.tc : Thread Cert.InPIdeal.nD Cert.InPIdeal.τ).loc Cert.InPIdeal.main_v0_13)) (v14 : (c : Dev Cert.InPIdeal.nD) → Buf (Elt Ideal) ((c.tc : Thread Cert.InPIdeal.nD Cert.InPIdeal.τ).loc Cert.InPIdeal.main_v2)) (v15 : (c : Dev Cert.InPIdeal.nD) → Buf (Elt Ideal) ((c.tc : Thread Cert.InPIdeal.nD Cert.InPIdeal.τ).loc Cert.InPIdeal.main_v4)) (v16 : (c : Dev Cert.InPIdeal.nD) → Buf (Elt Ideal) ((c.tc : Thread Cert.InPIdeal.nD Cert.InPIdeal.τ).loc Cert.InPIdeal.main_v6)) (v17 : (c : Dev Cert.InPIdeal.nD) → Buf (Elt Ideal) ((c.tc : Thread Cert.InPIdeal.nD Cert.InPIdeal.τ).loc Cert.InPIdeal.main_v7)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v0_0) = v0 c
          ∧ r.2.mem ((c.tc : Thread Cert.InPIdeal.nD Cert.InPIdeal.τ).loc Cert.InPIdeal.main_v0_1) = v1 c
          ∧ r.2.mem ((c.tc : Thread Cert.InPIdeal.nD Cert.InPIdeal.τ).loc Cert.InPIdeal.main_v0_2) = v2 c
          ∧ r.2.mem ((c.tc : Thread Cert.InPIdeal.nD Cert.InPIdeal.τ).loc Cert.InPIdeal.main_v0_3) = v3 c
          ∧ r.2.mem ((c.tc : Thread Cert.InPIdeal.nD Cert.InPIdeal.τ).loc Cert.InPIdeal.main_v0_4) = v4 c
          ∧ r.2.mem ((c.tc : Thread Cert.InPIdeal.nD Cert.InPIdeal.τ).loc Cert.InPIdeal.main_v0_5) = v5 c
          ∧ r.2.mem ((c.tc : Thread Cert.InPIdeal.nD Cert.InPIdeal.τ).loc Cert.InPIdeal.main_v0_6) = v6 c
          ∧ r.2.mem ((c.tc : Thread Cert.InPIdeal.nD Cert.InPIdeal.τ).loc Cert.InPIdeal.main_v0_7) = v7 c
          ∧ r.2.mem ((c.tc : Thread Cert.InPIdeal.nD Cert.InPIdeal.τ).loc Cert.InPIdeal.main_v0_8) = v8 c
          ∧ r.2.mem ((c.tc : Thread Cert.InPIdeal.nD Cert.InPIdeal.τ).loc Cert.InPIdeal.main_v0_9) = v9 c
          ∧ r.2.mem ((c.tc : Thread Cert.InPIdeal.nD Cert.InPIdeal.τ).loc Cert.InPIdeal.main_v0_10) = v10 c
          ∧ r.2.mem ((c.tc : Thread Cert.InPIdeal.nD Cert.InPIdeal.τ).loc Cert.InPIdeal.main_v0_11) = v11 c
          ∧ r.2.mem ((c.tc : Thread Cert.InPIdeal.nD Cert.InPIdeal.τ).loc Cert.InPIdeal.main_v0_12) = v12 c
          ∧ r.2.mem ((c.tc : Thread Cert.InPIdeal.nD Cert.InPIdeal.τ).loc Cert.InPIdeal.main_v0_13) = v13 c
          ∧ r.2.mem ((c.tc : Thread Cert.InPIdeal.nD Cert.InPIdeal.τ).loc Cert.InPIdeal.main_v2) = v14 c
          ∧ r.2.mem ((c.tc : Thread Cert.InPIdeal.nD Cert.InPIdeal.τ).loc Cert.InPIdeal.main_v4) = v15 c
          ∧ r.2.mem ((c.tc : Thread Cert.InPIdeal.nD Cert.InPIdeal.τ).loc Cert.InPIdeal.main_v6) = v16 c
          ∧ r.2.mem ((c.tc : Thread Cert.InPIdeal.nD Cert.InPIdeal.τ).loc Cert.InPIdeal.main_v7) = v17 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
          ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
          ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
          ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
          ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v36) = v0 c
          ∧ r.2.mem ((c.tc : Thread Cert.InPRefIdeal.nD Cert.InPRefIdeal.τ).loc Cert.InPRefIdeal.main_v41) = v1 c
          ∧ r.2.mem ((c.tc : Thread Cert.InPRefIdeal.nD Cert.InPRefIdeal.τ).loc Cert.InPRefIdeal.main_v46) = v2 c
          ∧ r.2.mem ((c.tc : Thread Cert.InPRefIdeal.nD Cert.InPRefIdeal.τ).loc Cert.InPRefIdeal.main_v18) = v3 c
          ∧ r.2.mem ((c.tc : Thread Cert.InPRefIdeal.nD Cert.InPRefIdeal.τ).loc Cert.InPRefIdeal.main_v19) = v4 c
          ∧ r.2.mem ((c.tc : Thread Cert.InPRefIdeal.nD Cert.InPRefIdeal.τ).loc Cert.InPRefIdeal.main_v20) = v5 c
          ∧ r.2.mem ((c.tc : Thread Cert.InPRefIdeal.nD Cert.InPRefIdeal.τ).loc Cert.InPRefIdeal.main_v21) = v6 c
          ∧ r.2.mem ((c.tc : Thread Cert.InPRefIdeal.nD Cert.InPRefIdeal.τ).loc Cert.InPRefIdeal.main_v47) = v7 c
          ∧ r.2.mem ((c.tc : Thread Cert.InPRefIdeal.nD Cert.InPRefIdeal.τ).loc Cert.InPRefIdeal.main_v48) = v8 c
          ∧ r.2.mem ((c.tc : Thread Cert.InPRefIdeal.nD Cert.InPRefIdeal.τ).loc Cert.InPRefIdeal.main_v50) = v9 c
          ∧ r.2.mem ((c.tc : Thread Cert.InPRefIdeal.nD Cert.InPRefIdeal.τ).loc Cert.InPRefIdeal.main_v53) = v10 c
          ∧ r.2.mem ((c.tc : Thread Cert.InPRefIdeal.nD Cert.InPRefIdeal.τ).loc Cert.InPRefIdeal.main_v54) = v11 c
          ∧ r.2.mem ((c.tc : Thread Cert.InPRefIdeal.nD Cert.InPRefIdeal.τ).loc Cert.InPRefIdeal.main_v56) = v12 c
          ∧ r.2.mem ((c.tc : Thread Cert.InPRefIdeal.nD Cert.InPRefIdeal.τ).loc Cert.InPRefIdeal.main_v59) = v13 c
          ∧ r.2.mem ((c.tc : Thread Cert.InPRefIdeal.nD Cert.InPRefIdeal.τ).loc Cert.InPRefIdeal.main_v61) = v14 c
          ∧ r.2.mem ((c.tc : Thread Cert.InPRefIdeal.nD Cert.InPRefIdeal.τ).loc Cert.InPRefIdeal.main_v66) = v15 c
          ∧ r.2.mem ((c.tc : Thread Cert.InPRefIdeal.nD Cert.InPRefIdeal.τ).loc Cert.InPRefIdeal.main_v71) = v16 c
          ∧ r.2.mem ((c.tc : Thread Cert.InPRefIdeal.nD Cert.InPRefIdeal.τ).loc Cert.InPRefIdeal.main_v75) = v17 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
          ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2)
          ∧ r.2.mem ((c.tc : Thread Cert.InPRefIdeal.nD Cert.InPRefIdeal.τ).loc Cert.InPRefIdeal.main_arg3) = m' ((c.tc : Thread Cert.InPRefIdeal.nD Cert.InPRefIdeal.τ).loc Cert.InPRefIdeal.main_arg3)
          ∧ r.2.mem ((c.tc : Thread Cert.InPRefIdeal.nD Cert.InPRefIdeal.τ).loc Cert.InPRefIdeal.main_arg4) = m' ((c.tc : Thread Cert.InPRefIdeal.nD Cert.InPRefIdeal.τ).loc Cert.InPRefIdeal.main_arg4)
          ∧ r.2.mem ((c.tc : Thread Cert.InPRefIdeal.nD Cert.InPRefIdeal.τ).loc Cert.InPRefIdeal.main_arg5) = m' ((c.tc : Thread Cert.InPRefIdeal.nD Cert.InPRefIdeal.τ).loc Cert.InPRefIdeal.main_arg5)
          ∧ r.2.mem ((c.tc : Thread Cert.InPRefIdeal.nD Cert.InPRefIdeal.τ).loc Cert.InPRefIdeal.main_arg6) = m' ((c.tc : Thread Cert.InPRefIdeal.nD Cert.InPRefIdeal.τ).loc Cert.InPRefIdeal.main_arg6))

def preserves_MergeP_MergePIdeal : Prop :=
  True

def algebraic_MergePIdeal_MergePRefIdeal [hMergePIdeal : Cert.MergePIdeal.Facts] [hMergePRefIdeal : Cert.MergePRefIdeal.Facts] : Prop :=
  ∀ (m : (ℓ : Loc Cert.MergePIdeal.nD Cert.MergePIdeal.τ Cert.MergePIdeal.sig) → Buf (Elt Ideal) ℓ) (g : Dev Cert.MergePIdeal.nD → PrngReg)
    (m' : (ℓ : Loc Cert.MergePRefIdeal.nD Cert.MergePRefIdeal.τ Cert.MergePRefIdeal.sig) → Buf (Elt Ideal) ℓ) (g' : Dev Cert.MergePRefIdeal.nD → PrngReg), Pre_MergePIdeal m →
    (∀ c : Dev Cert.MergePIdeal.nD,
      m' ((c.tc : Thread Cert.MergePRefIdeal.nD Cert.MergePRefIdeal.τ).loc Cert.MergePRefIdeal.main_arg0) = m ((c.tc : Thread Cert.MergePIdeal.nD Cert.MergePIdeal.τ).loc Cert.MergePIdeal.main_arg0)
      ∧ m' ((c.tc : Thread Cert.MergePRefIdeal.nD Cert.MergePRefIdeal.τ).loc Cert.MergePRefIdeal.main_arg1) = m ((c.tc : Thread Cert.MergePIdeal.nD Cert.MergePIdeal.τ).loc Cert.MergePIdeal.main_arg1)
      ∧ m' ((c.tc : Thread Cert.MergePRefIdeal.nD Cert.MergePRefIdeal.τ).loc Cert.MergePRefIdeal.main_arg2) = m ((c.tc : Thread Cert.MergePIdeal.nD Cert.MergePIdeal.τ).loc Cert.MergePIdeal.main_arg2)
      ∧ m' ((c.tc : Thread Cert.MergePRefIdeal.nD Cert.MergePRefIdeal.τ).loc Cert.MergePRefIdeal.main_arg3) = m ((c.tc : Thread Cert.MergePIdeal.nD Cert.MergePIdeal.τ).loc Cert.MergePIdeal.main_arg3)
      ∧ m' ((c.tc : Thread Cert.MergePRefIdeal.nD Cert.MergePRefIdeal.τ).loc Cert.MergePRefIdeal.main_arg4) = m ((c.tc : Thread Cert.MergePIdeal.nD Cert.MergePIdeal.τ).loc Cert.MergePIdeal.main_arg4)
      ∧ m' ((c.tc : Thread Cert.MergePRefIdeal.nD Cert.MergePRefIdeal.τ).loc Cert.MergePRefIdeal.main_arg5) = m ((c.tc : Thread Cert.MergePIdeal.nD Cert.MergePIdeal.τ).loc Cert.MergePIdeal.main_arg5)
      ∧ m' ((c.tc : Thread Cert.MergePRefIdeal.nD Cert.MergePRefIdeal.τ).loc Cert.MergePRefIdeal.main_arg6) = m ((c.tc : Thread Cert.MergePIdeal.nD Cert.MergePIdeal.τ).loc Cert.MergePIdeal.main_arg6)
      ∧ m' ((c.tc : Thread Cert.MergePRefIdeal.nD Cert.MergePRefIdeal.τ).loc Cert.MergePRefIdeal.main_arg7) = m ((c.tc : Thread Cert.MergePIdeal.nD Cert.MergePIdeal.τ).loc Cert.MergePIdeal.main_arg7)
      ∧ m' ((c.tc : Thread Cert.MergePRefIdeal.nD Cert.MergePRefIdeal.τ).loc Cert.MergePRefIdeal.main_arg8) = m ((c.tc : Thread Cert.MergePIdeal.nD Cert.MergePIdeal.τ).loc Cert.MergePIdeal.main_arg8)
      ∧ m' ((c.tc : Thread Cert.MergePRefIdeal.nD Cert.MergePRefIdeal.τ).loc Cert.MergePRefIdeal.main_arg9) = m ((c.tc : Thread Cert.MergePIdeal.nD Cert.MergePIdeal.τ).loc Cert.MergePIdeal.main_arg9)
      ∧ m' ((c.tc : Thread Cert.MergePRefIdeal.nD Cert.MergePRefIdeal.τ).loc Cert.MergePRefIdeal.main_arg10) = m ((c.tc : Thread Cert.MergePIdeal.nD Cert.MergePIdeal.τ).loc Cert.MergePIdeal.main_arg10)
      ∧ m' ((c.tc : Thread Cert.MergePRefIdeal.nD Cert.MergePRefIdeal.τ).loc Cert.MergePRefIdeal.main_arg11) = m ((c.tc : Thread Cert.MergePIdeal.nD Cert.MergePIdeal.τ).loc Cert.MergePIdeal.main_arg11)
      ∧ m' ((c.tc : Thread Cert.MergePRefIdeal.nD Cert.MergePRefIdeal.τ).loc Cert.MergePRefIdeal.main_arg12) = m ((c.tc : Thread Cert.MergePIdeal.nD Cert.MergePIdeal.τ).loc Cert.MergePIdeal.main_arg12)
      ∧ m' ((c.tc : Thread Cert.MergePRefIdeal.nD Cert.MergePRefIdeal.τ).loc Cert.MergePRefIdeal.main_arg13) = m ((c.tc : Thread Cert.MergePIdeal.nD Cert.MergePIdeal.τ).loc Cert.MergePIdeal.main_arg13)) →
    ∃ (v0 : (c : Dev Cert.MergePIdeal.nD) → Buf (Elt Ideal) ((c.tc : Thread Cert.MergePIdeal.nD Cert.MergePIdeal.τ).loc Cert.MergePIdeal.main_v0)),
      θ_run (Cert.MergePIdeal.defs (F := Ideal)) (onTc (τ := Cert.MergePIdeal.τ) (Cert.MergePIdeal.main (F := Ideal))) ⟨m, fun _ => 0, g⟩ (fun r => ∀ c : Dev Cert.MergePIdeal.nD,
          r.2.mem ((c.tc : Thread Cert.MergePIdeal.nD Cert.MergePIdeal.τ).loc Cert.MergePIdeal.main_v0) = v0 c
          ∧ r.2.mem ((c.tc : Thread Cert.MergePIdeal.nD Cert.MergePIdeal.τ).loc Cert.MergePIdeal.main_arg0) = m ((c.tc : Thread Cert.MergePIdeal.nD Cert.MergePIdeal.τ).loc Cert.MergePIdeal.main_arg0)
          ∧ r.2.mem ((c.tc : Thread Cert.MergePIdeal.nD Cert.MergePIdeal.τ).loc Cert.MergePIdeal.main_arg1) = m ((c.tc : Thread Cert.MergePIdeal.nD Cert.MergePIdeal.τ).loc Cert.MergePIdeal.main_arg1)
          ∧ r.2.mem ((c.tc : Thread Cert.MergePIdeal.nD Cert.MergePIdeal.τ).loc Cert.MergePIdeal.main_arg2) = m ((c.tc : Thread Cert.MergePIdeal.nD Cert.MergePIdeal.τ).loc Cert.MergePIdeal.main_arg2)
          ∧ r.2.mem ((c.tc : Thread Cert.MergePIdeal.nD Cert.MergePIdeal.τ).loc Cert.MergePIdeal.main_arg3) = m ((c.tc : Thread Cert.MergePIdeal.nD Cert.MergePIdeal.τ).loc Cert.MergePIdeal.main_arg3)
          ∧ r.2.mem ((c.tc : Thread Cert.MergePIdeal.nD Cert.MergePIdeal.τ).loc Cert.MergePIdeal.main_arg4) = m ((c.tc : Thread Cert.MergePIdeal.nD Cert.MergePIdeal.τ).loc Cert.MergePIdeal.main_arg4)
          ∧ r.2.mem ((c.tc : Thread Cert.MergePIdeal.nD Cert.MergePIdeal.τ).loc Cert.MergePIdeal.main_arg5) = m ((c.tc : Thread Cert.MergePIdeal.nD Cert.MergePIdeal.τ).loc Cert.MergePIdeal.main_arg5)
          ∧ r.2.mem ((c.tc : Thread Cert.MergePIdeal.nD Cert.MergePIdeal.τ).loc Cert.MergePIdeal.main_arg6) = m ((c.tc : Thread Cert.MergePIdeal.nD Cert.MergePIdeal.τ).loc Cert.MergePIdeal.main_arg6)
          ∧ r.2.mem ((c.tc : Thread Cert.MergePIdeal.nD Cert.MergePIdeal.τ).loc Cert.MergePIdeal.main_arg7) = m ((c.tc : Thread Cert.MergePIdeal.nD Cert.MergePIdeal.τ).loc Cert.MergePIdeal.main_arg7)
          ∧ r.2.mem ((c.tc : Thread Cert.MergePIdeal.nD Cert.MergePIdeal.τ).loc Cert.MergePIdeal.main_arg8) = m ((c.tc : Thread Cert.MergePIdeal.nD Cert.MergePIdeal.τ).loc Cert.MergePIdeal.main_arg8)
          ∧ r.2.mem ((c.tc : Thread Cert.MergePIdeal.nD Cert.MergePIdeal.τ).loc Cert.MergePIdeal.main_arg9) = m ((c.tc : Thread Cert.MergePIdeal.nD Cert.MergePIdeal.τ).loc Cert.MergePIdeal.main_arg9)
          ∧ r.2.mem ((c.tc : Thread Cert.MergePIdeal.nD Cert.MergePIdeal.τ).loc Cert.MergePIdeal.main_arg10) = m ((c.tc : Thread Cert.MergePIdeal.nD Cert.MergePIdeal.τ).loc Cert.MergePIdeal.main_arg10)
          ∧ r.2.mem ((c.tc : Thread Cert.MergePIdeal.nD Cert.MergePIdeal.τ).loc Cert.MergePIdeal.main_arg11) = m ((c.tc : Thread Cert.MergePIdeal.nD Cert.MergePIdeal.τ).loc Cert.MergePIdeal.main_arg11)
          ∧ r.2.mem ((c.tc : Thread Cert.MergePIdeal.nD Cert.MergePIdeal.τ).loc Cert.MergePIdeal.main_arg12) = m ((c.tc : Thread Cert.MergePIdeal.nD Cert.MergePIdeal.τ).loc Cert.MergePIdeal.main_arg12)
          ∧ r.2.mem ((c.tc : Thread Cert.MergePIdeal.nD Cert.MergePIdeal.τ).loc Cert.MergePIdeal.main_arg13) = m ((c.tc : Thread Cert.MergePIdeal.nD Cert.MergePIdeal.τ).loc Cert.MergePIdeal.main_arg13))
      ∧ θ_run (Cert.MergePRefIdeal.defs (F := Ideal)) (onTc (τ := Cert.MergePRefIdeal.τ) (Cert.MergePRefIdeal.main (F := Ideal))) ⟨m', fun _ => 0, g'⟩ (fun r => ∀ c : Dev Cert.MergePRefIdeal.nD,
          r.2.mem ((c.tc : Thread Cert.MergePRefIdeal.nD Cert.MergePRefIdeal.τ).loc Cert.MergePRefIdeal.main_v134) = v0 c
          ∧ r.2.mem ((c.tc : Thread Cert.MergePRefIdeal.nD Cert.MergePRefIdeal.τ).loc Cert.MergePRefIdeal.main_arg0) = m' ((c.tc : Thread Cert.MergePRefIdeal.nD Cert.MergePRefIdeal.τ).loc Cert.MergePRefIdeal.main_arg0)
          ∧ r.2.mem ((c.tc : Thread Cert.MergePRefIdeal.nD Cert.MergePRefIdeal.τ).loc Cert.MergePRefIdeal.main_arg1) = m' ((c.tc : Thread Cert.MergePRefIdeal.nD Cert.MergePRefIdeal.τ).loc Cert.MergePRefIdeal.main_arg1)
          ∧ r.2.mem ((c.tc : Thread Cert.MergePRefIdeal.nD Cert.MergePRefIdeal.τ).loc Cert.MergePRefIdeal.main_arg2) = m' ((c.tc : Thread Cert.MergePRefIdeal.nD Cert.MergePRefIdeal.τ).loc Cert.MergePRefIdeal.main_arg2)
          ∧ r.2.mem ((c.tc : Thread Cert.MergePRefIdeal.nD Cert.MergePRefIdeal.τ).loc Cert.MergePRefIdeal.main_arg3) = m' ((c.tc : Thread Cert.MergePRefIdeal.nD Cert.MergePRefIdeal.τ).loc Cert.MergePRefIdeal.main_arg3)
          ∧ r.2.mem ((c.tc : Thread Cert.MergePRefIdeal.nD Cert.MergePRefIdeal.τ).loc Cert.MergePRefIdeal.main_arg4) = m' ((c.tc : Thread Cert.MergePRefIdeal.nD Cert.MergePRefIdeal.τ).loc Cert.MergePRefIdeal.main_arg4)
          ∧ r.2.mem ((c.tc : Thread Cert.MergePRefIdeal.nD Cert.MergePRefIdeal.τ).loc Cert.MergePRefIdeal.main_arg5) = m' ((c.tc : Thread Cert.MergePRefIdeal.nD Cert.MergePRefIdeal.τ).loc Cert.MergePRefIdeal.main_arg5)
          ∧ r.2.mem ((c.tc : Thread Cert.MergePRefIdeal.nD Cert.MergePRefIdeal.τ).loc Cert.MergePRefIdeal.main_arg6) = m' ((c.tc : Thread Cert.MergePRefIdeal.nD Cert.MergePRefIdeal.τ).loc Cert.MergePRefIdeal.main_arg6)
          ∧ r.2.mem ((c.tc : Thread Cert.MergePRefIdeal.nD Cert.MergePRefIdeal.τ).loc Cert.MergePRefIdeal.main_arg7) = m' ((c.tc : Thread Cert.MergePRefIdeal.nD Cert.MergePRefIdeal.τ).loc Cert.MergePRefIdeal.main_arg7)
          ∧ r.2.mem ((c.tc : Thread Cert.MergePRefIdeal.nD Cert.MergePRefIdeal.τ).loc Cert.MergePRefIdeal.main_arg8) = m' ((c.tc : Thread Cert.MergePRefIdeal.nD Cert.MergePRefIdeal.τ).loc Cert.MergePRefIdeal.main_arg8)
          ∧ r.2.mem ((c.tc : Thread Cert.MergePRefIdeal.nD Cert.MergePRefIdeal.τ).loc Cert.MergePRefIdeal.main_arg9) = m' ((c.tc : Thread Cert.MergePRefIdeal.nD Cert.MergePRefIdeal.τ).loc Cert.MergePRefIdeal.main_arg9)
          ∧ r.2.mem ((c.tc : Thread Cert.MergePRefIdeal.nD Cert.MergePRefIdeal.τ).loc Cert.MergePRefIdeal.main_arg10) = m' ((c.tc : Thread Cert.MergePRefIdeal.nD Cert.MergePRefIdeal.τ).loc Cert.MergePRefIdeal.main_arg10)
          ∧ r.2.mem ((c.tc : Thread Cert.MergePRefIdeal.nD Cert.MergePRefIdeal.τ).loc Cert.MergePRefIdeal.main_arg11) = m' ((c.tc : Thread Cert.MergePRefIdeal.nD Cert.MergePRefIdeal.τ).loc Cert.MergePRefIdeal.main_arg11)
          ∧ r.2.mem ((c.tc : Thread Cert.MergePRefIdeal.nD Cert.MergePRefIdeal.τ).loc Cert.MergePRefIdeal.main_arg12) = m' ((c.tc : Thread Cert.MergePRefIdeal.nD Cert.MergePRefIdeal.τ).loc Cert.MergePRefIdeal.main_arg12)
          ∧ r.2.mem ((c.tc : Thread Cert.MergePRefIdeal.nD Cert.MergePRefIdeal.τ).loc Cert.MergePRefIdeal.main_arg13) = m' ((c.tc : Thread Cert.MergePRefIdeal.nD Cert.MergePRefIdeal.τ).loc Cert.MergePRefIdeal.main_arg13))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)
      ∧ m' ((c.tc : Thread Cert.InSRefIdeal.nD Cert.InSRefIdeal.τ).loc Cert.InSRefIdeal.main_arg3) = m ((c.tc : Thread Cert.InSIdeal.nD Cert.InSIdeal.τ).loc Cert.InSIdeal.main_arg3)) →
    ∃ (v0 : (c : Dev Cert.InSIdeal.nD) → Buf (Elt Ideal) ((c.tc : Thread Cert.InSIdeal.nD Cert.InSIdeal.τ).loc Cert.InSIdeal.main_v0)) (v1 : (c : Dev Cert.InSIdeal.nD) → Buf (Elt Ideal) ((c.tc : Thread Cert.InSIdeal.nD Cert.InSIdeal.τ).loc Cert.InSIdeal.main_v5)) (v2 : (c : Dev Cert.InSIdeal.nD) → Buf (Elt Ideal) ((c.tc : Thread Cert.InSIdeal.nD Cert.InSIdeal.τ).loc Cert.InSIdeal.main_v7)) (v3 : (c : Dev Cert.InSIdeal.nD) → Buf (Elt Ideal) ((c.tc : Thread Cert.InSIdeal.nD Cert.InSIdeal.τ).loc Cert.InSIdeal.main_v9)) (v4 : (c : Dev Cert.InSIdeal.nD) → Buf (Elt Ideal) ((c.tc : Thread Cert.InSIdeal.nD Cert.InSIdeal.τ).loc Cert.InSIdeal.main_v10)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v0) = v0 c
          ∧ r.2.mem ((c.tc : Thread Cert.InSIdeal.nD Cert.InSIdeal.τ).loc Cert.InSIdeal.main_v5) = v1 c
          ∧ r.2.mem ((c.tc : Thread Cert.InSIdeal.nD Cert.InSIdeal.τ).loc Cert.InSIdeal.main_v7) = v2 c
          ∧ r.2.mem ((c.tc : Thread Cert.InSIdeal.nD Cert.InSIdeal.τ).loc Cert.InSIdeal.main_v9) = v3 c
          ∧ r.2.mem ((c.tc : Thread Cert.InSIdeal.nD Cert.InSIdeal.τ).loc Cert.InSIdeal.main_v10) = v4 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
          ∧ r.2.mem ((c.tc : Thread Cert.InSIdeal.nD Cert.InSIdeal.τ).loc Cert.InSIdeal.main_arg3) = m ((c.tc : Thread Cert.InSIdeal.nD Cert.InSIdeal.τ).loc Cert.InSIdeal.main_arg3))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v14) = v0 c
          ∧ r.2.mem ((c.tc : Thread Cert.InSRefIdeal.nD Cert.InSRefIdeal.τ).loc Cert.InSRefIdeal.main_v19) = v1 c
          ∧ r.2.mem ((c.tc : Thread Cert.InSRefIdeal.nD Cert.InSRefIdeal.τ).loc Cert.InSRefIdeal.main_v21) = v2 c
          ∧ r.2.mem ((c.tc : Thread Cert.InSRefIdeal.nD Cert.InSRefIdeal.τ).loc Cert.InSRefIdeal.main_v23) = v3 c
          ∧ r.2.mem ((c.tc : Thread Cert.InSRefIdeal.nD Cert.InSRefIdeal.τ).loc Cert.InSRefIdeal.main_v24) = v4 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2)
          ∧ r.2.mem ((c.tc : Thread Cert.InSRefIdeal.nD Cert.InSRefIdeal.τ).loc Cert.InSRefIdeal.main_arg3) = m' ((c.tc : Thread Cert.InSRefIdeal.nD Cert.InSRefIdeal.τ).loc Cert.InSRefIdeal.main_arg3))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)
      ∧ m' ((c.tc : Thread Cert.MergeSRefIdeal.nD Cert.MergeSRefIdeal.τ).loc Cert.MergeSRefIdeal.main_arg9) = m ((c.tc : Thread Cert.MergeSIdeal.nD Cert.MergeSIdeal.τ).loc Cert.MergeSIdeal.main_arg9)
      ∧ m' ((c.tc : Thread Cert.MergeSRefIdeal.nD Cert.MergeSRefIdeal.τ).loc Cert.MergeSRefIdeal.main_arg10) = m ((c.tc : Thread Cert.MergeSIdeal.nD Cert.MergeSIdeal.τ).loc Cert.MergeSIdeal.main_arg10)) →
    ∃ (v0 : (c : Dev Cert.MergeSIdeal.nD) → Buf (Elt Ideal) ((c.tc : Thread Cert.MergeSIdeal.nD Cert.MergeSIdeal.τ).loc Cert.MergeSIdeal.main_v0)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v0) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
          ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
          ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v116) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8)
          ∧ r.2.mem ((c.tc : Thread Cert.MergeSRefIdeal.nD Cert.MergeSRefIdeal.τ).loc Cert.MergeSRefIdeal.main_arg9) = m' ((c.tc : Thread Cert.MergeSRefIdeal.nD Cert.MergeSRefIdeal.τ).loc Cert.MergeSRefIdeal.main_arg9)
          ∧ r.2.mem ((c.tc : Thread Cert.MergeSRefIdeal.nD Cert.MergeSRefIdeal.τ).loc Cert.MergeSRefIdeal.main_arg10) = m' ((c.tc : Thread Cert.MergeSRefIdeal.nD Cert.MergeSRefIdeal.τ).loc Cert.MergeSRefIdeal.main_arg10))

def Claim : Prop :=
  ∃ (hKernel : Cert.Kernel.Facts) (hKernelIdeal : Cert.KernelIdeal.Facts) (hReferenceIdeal : Cert.ReferenceIdeal.Facts) (hInP : Cert.InP.Facts) (hInPIdeal : Cert.InPIdeal.Facts) (hInPRefIdeal : Cert.InPRefIdeal.Facts) (hMergeP : Cert.MergeP.Facts) (hMergePIdeal : Cert.MergePIdeal.Facts) (hMergePRefIdeal : Cert.MergePRefIdeal.Facts) (hInS : Cert.InS.Facts) (hInSIdeal : Cert.InSIdeal.Facts) (hInSRefIdeal : Cert.InSRefIdeal.Facts) (hMergeS : Cert.MergeS.Facts) (hMergeSIdeal : Cert.MergeSIdeal.Facts) (hMergeSRefIdeal : Cert.MergeSRefIdeal.Facts) (hPre_pages_exist : Cert.Pre_pages_exist.Facts),
    quiescent_Kernel (hKernel := hKernel) (hPre_pages_exist := hPre_pages_exist)
    ∧ quiescent_KernelIdeal (hKernelIdeal := hKernelIdeal) (hPre_pages_exist := hPre_pages_exist)
    ∧ quiescent_ReferenceIdeal (hReferenceIdeal := hReferenceIdeal)
    ∧ quiescent_ReferenceIdeal_pre_pages_exist (hReferenceIdeal := hReferenceIdeal) (hPre_pages_exist := hPre_pages_exist)
    ∧ quiescent_InP (hInP := hInP)
    ∧ quiescent_InPIdeal (hInPIdeal := hInPIdeal)
    ∧ quiescent_InPRefIdeal (hInPRefIdeal := hInPRefIdeal)
    ∧ quiescent_MergeP (hMergeP := hMergeP)
    ∧ quiescent_MergePIdeal (hMergePIdeal := hMergePIdeal)
    ∧ quiescent_MergePRefIdeal (hMergePRefIdeal := hMergePRefIdeal)
    ∧ quiescent_InS (hInS := hInS)
    ∧ quiescent_InSIdeal (hInSIdeal := hInSIdeal)
    ∧ quiescent_InSRefIdeal (hInSRefIdeal := hInSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ preserves_Kernel_KernelIdeal
    ∧ algebraic_KernelIdeal_ReferenceIdeal (hKernelIdeal := hKernelIdeal) (hReferenceIdeal := hReferenceIdeal) (hPre_pages_exist := hPre_pages_exist)
    ∧ preserves_InP_InPIdeal
    ∧ algebraic_InPIdeal_InPRefIdeal (hInPIdeal := hInPIdeal) (hInPRefIdeal := hInPRefIdeal)
    ∧ preserves_MergeP_MergePIdeal
    ∧ algebraic_MergePIdeal_MergePRefIdeal (hMergePIdeal := hMergePIdeal) (hMergePRefIdeal := hMergePRefIdeal)
    ∧ preserves_InS_InSIdeal
    ∧ algebraic_InSIdeal_InSRefIdeal (hInSIdeal := hInSIdeal) (hInSRefIdeal := hInSRefIdeal)
    ∧ preserves_MergeS_MergeSIdeal
    ∧ algebraic_MergeSIdeal_MergeSRefIdeal (hMergeSIdeal := hMergeSIdeal) (hMergeSRefIdeal := hMergeSRefIdeal)
-- ==== Pre_pages_exist.lean ====
abbrev S2048 : Shape := ⟨1, ![2048]⟩
abbrev S256x5760 : Shape := ⟨2, ![256, 5760]⟩
abbrev S4x2560x64x128 : Shape := ⟨4, ![4, 2560, 64, 128]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S256x5760 .f32) (main_arg2 : FVec F S4x2560x64x128 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 2560#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Kernel.lean ====
abbrev S2048 : Shape := ⟨1, ![2048]⟩
abbrev S256x5760 : Shape := ⟨2, ![256, 5760]⟩
abbrev S4x2560x64x128 : Shape := ⟨4, ![4, 2560, 64, 128]⟩
abbrev S_ : Shape := ⟨0, ![]⟩
abbrev S256x6144 : Shape := ⟨2, ![256, 6144]⟩
abbrev S32x8x8192 : Shape := ⟨3, ![32, 8, 8192]⟩
abbrev S32x8x128 : Shape := ⟨3, ![32, 8, 128]⟩
abbrev S8x512 : Shape := ⟨2, ![8, 512]⟩
abbrev S8x128 : Shape := ⟨2, ![8, 128]⟩
abbrev S1x1x64x128 : Shape := ⟨4, ![1, 1, 64, 128]⟩
abbrev S1 : Shape := ⟨1, ![1]⟩
abbrev S1x8x4096 : Shape := ⟨3, ![1, 8, 4096]⟩
abbrev S1x8x128 : Shape := ⟨3, ![1, 8, 128]⟩
abbrev S8x64 : Shape := ⟨2, ![8, 64]⟩
abbrev S64x64 : Shape := ⟨2, ![64, 64]⟩
abbrev S64x128 : Shape := ⟨2, ![64, 128]⟩
abbrev S8x1 : Shape := ⟨2, ![8, 1]⟩
abbrev S120x64 : Shape := ⟨2, ![120, 64]⟩
abbrev S128x64 : Shape := ⟨2, ![128, 64]⟩

abbrev nBuf : Space → Nat
  | .hbm => 7
  | .vmem => 72
  | .smem => 1
  | _ => 0

abbrev bufTy : (tb : Table) → Fin (tcTables nBuf tb) → BufTy
  | .hbm, ⟨0, _⟩ => ⟨S256x5760, .f32⟩
  | .hbm, ⟨1, _⟩ => ⟨S4x2560x64x128, .f32⟩
  | .hbm, ⟨2, _⟩ => ⟨S_, .i32⟩
  | .hbm, ⟨3, _⟩ => ⟨S_, .f32⟩
  | .hbm, ⟨4, _⟩ => ⟨S256x6144, .f32⟩
  | .hbm, ⟨5, _⟩ => ⟨S32x8x8192, .f32⟩
  | .hbm, ⟨6, _⟩ => ⟨S32x8x128, .f32⟩
  | .local _ .vmem, ⟨0, _⟩ => ⟨S8x512, .f32⟩
  | .local _ .vmem, ⟨1, _⟩ => ⟨S8x512, .f32⟩
  | .local _ .vmem, ⟨2, _⟩ => ⟨S8x128, .f32⟩
  | .local _ .vmem, ⟨3, _⟩ => ⟨S8x128, .f32⟩
  | .local _ .vmem, ⟨4, _⟩ => ⟨S1x1x64x128, .f32⟩
  | .local _ .vmem, ⟨5, _⟩ => ⟨S1x1x64x128, .f32⟩
  | .local _ .vmem, ⟨6, _⟩ => ⟨S1x1x64x128, .f32⟩
  | .local _ .vmem, ⟨7, _⟩ => ⟨S1x1x64x128, .f32⟩
  | .local _ .vmem, ⟨8, _⟩ => ⟨S1x1x64x128, .f32⟩
  | .local _ .vmem, ⟨9, _⟩ => ⟨S1x1x64x128, .f32⟩
  | .local _ .vmem, ⟨10, _⟩ => ⟨S1x1x64x128, .f32⟩
  | .local _ .vmem, ⟨11, _⟩ => ⟨S1x1x64x128, .f32⟩
  | .local _ .vmem, ⟨12, _⟩ => ⟨S1x1x64x128, .f32⟩
  | .local _ .vmem, ⟨13, _⟩ => ⟨S1x1x64x128, .f32⟩
  | .local _ .vmem, ⟨14, _⟩ => ⟨S1x1x64x128, .f32⟩
  | .local _ .vmem, ⟨15, _⟩ => ⟨S1x1x64x128, .f32⟩
  | .local _ .vmem, ⟨16, _⟩ => ⟨S1x1x64x128, .f32⟩
  | .local _ .vmem, ⟨17, _⟩ => ⟨S1x1x64x128, .f32⟩
  | .local _ .vmem, ⟨18, _⟩ => ⟨S1x1x64x128, .f32⟩
  | .local _ .vmem, ⟨19, _⟩ => ⟨S1x1x64x128, .f32⟩
  | .local _ .vmem, ⟨20, _⟩ => ⟨S1x1x64x128, .f32⟩
  | .local _ .vmem, ⟨21, _⟩ => ⟨S1x1x64x128, .f32⟩
  | .local _ .vmem, ⟨22, _⟩ => ⟨S1x1x64x128, .f32⟩
  | .local _ .vmem, ⟨23, _⟩ => ⟨S1x1x64x128, .f32⟩
  | .local _ .vmem, ⟨24, _⟩ => ⟨S1x1x64x128, .f32⟩
  | .local _ .vmem, ⟨25, _⟩ => ⟨S1x1x64x128, .f32⟩
  | .local _ .vmem, ⟨26, _⟩ => ⟨S1x1x64x128, .f32⟩
  | .local _ .vmem, ⟨27, _⟩ => ⟨S1x1x64x128, .f32⟩
  | .local _ .vmem, ⟨28, _⟩ => ⟨S1x1x64x128, .f32⟩
  | .local _ .vmem, ⟨29, _⟩ => ⟨S1x1x64x128, .f32⟩
  | .local _ .vmem, ⟨30, _⟩ => ⟨S1x1x64x128, .f32⟩
  | .local _ .vmem, ⟨31, _⟩ => ⟨S1x1x64x128, .f32⟩
  | .local _ .vmem, ⟨32, _⟩ => ⟨S1x1x64x128, .f32⟩
  | .local _ .vmem, ⟨33, _⟩ => ⟨S1x1x64x128, .f32⟩
  | .local _ .vmem, ⟨34, _⟩ => ⟨S1x1x64x128, .f32⟩
  | .local _ .vmem, ⟨35, _⟩ => ⟨S1x1x64x128, .f32⟩
  | .local _ .vmem, ⟨36, _⟩ => ⟨S1x1x64x128, .f32⟩
  | .local _ .vmem, ⟨37, _⟩ => ⟨S1x1x64x128, .f32⟩
  | .local _ .vmem, ⟨38, _⟩ => ⟨S1x1x64x128, .f32⟩
  | .local _ .vmem, ⟨39, _⟩ => ⟨S1x1x64x128, .f32⟩
  | .local _ .vmem, ⟨40, _⟩ => ⟨S1x1x64x128, .f32⟩
  | .local _ .vmem, ⟨41, _⟩ => ⟨S1x1x64x128, .f32⟩
  | .local _ .vmem, ⟨42, _⟩ => ⟨S1x1x64x128, .f32⟩
  | .local _ .vmem, ⟨43, _⟩ => ⟨S1x1x64x128, .f32⟩
  | .local _ .vmem, ⟨44, _⟩ => ⟨S1x1x64x128, .f32⟩
  | .local _ .vmem, ⟨45, _⟩ => ⟨S1x1x64x128, .f32⟩
  | .local _ .vmem, ⟨46, _⟩ => ⟨S1x1x64x128, .f32⟩
  | .local _ .vmem, ⟨47, _⟩ => ⟨S1x1x64x128, .f32⟩
  | .local _ .vmem, ⟨48, _⟩ => ⟨S1x1x64x128, .f32⟩
  | .local _ .vmem, ⟨49, _⟩ => ⟨S1x1x64x128, .f32⟩
  | .local _ .vmem, ⟨50, _⟩ => ⟨S1x1x64x128, .f32⟩
  | .local _ .vmem, ⟨51, _⟩ => ⟨S1x1x64x128, .f32⟩
  | .local _ .vmem, ⟨52, _⟩ => ⟨S1x1x64x128, .f32⟩
  | .local _ .vmem, ⟨53, _⟩ => ⟨S1x1x64x128, .f32⟩
  | .local _ .vmem, ⟨54, _⟩ => ⟨S1x1x64x128, .f32⟩
  | .local _ .vmem, ⟨55, _⟩ => ⟨S1x1x64x128, .f32⟩
  | .local _ .vmem, ⟨56, _⟩ => ⟨S1x1x64x128, .f32⟩
  | .local _ .vmem, ⟨57, _⟩ => ⟨S1x1x64x128, .f32⟩
  | .local _ .vmem, ⟨58, _⟩ => ⟨S1x1x64x128, .f32⟩
  | .local _ .vmem, ⟨59, _⟩ => ⟨S1x1x64x128, .f32⟩
  | .local _ .vmem, ⟨60, _⟩ => ⟨S1x1x64x128, .f32⟩
  | .local _ .vmem, ⟨61, _⟩ => ⟨S1x1x64x128, .f32⟩
  | .local _ .vmem, ⟨62, _⟩ => ⟨S1x1x64x128, .f32⟩
  | .local _ .vmem, ⟨63, _⟩ => ⟨S1x1x64x128, .f32⟩
  | .local _ .vmem, ⟨64, _⟩ => ⟨S1x1x64x128, .f32⟩
  | .local _ .vmem, ⟨65, _⟩ => ⟨S1x1x64x128, .f32⟩
  | .local _ .vmem, ⟨66, _⟩ => ⟨S1x1x64x128, .f32⟩
  | .local _ .vmem, ⟨67, _⟩ => ⟨S1x1x64x128, .f32⟩
  | .local _ .vmem, ⟨68, _⟩ => ⟨S1x8x4096, .f32⟩
  | .local _ .vmem, ⟨69, _⟩ => ⟨S1x8x4096, .f32⟩
  | .local _ .vmem, ⟨70, _⟩ => ⟨S1x8x128, .f32⟩
  | .local _ .vmem, ⟨71, _⟩ => ⟨S1x8x128, .f32⟩
  | .local _ .smem, ⟨0, _⟩ => ⟨S2048, .i32⟩
  | _, _ => ⟨S256x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let c32_i32 : BitVec 32 := 32#32
  let v1 : BitVec 32 := Scalar.muli arg1 c32_i32
  let v2 : BitVec 32 := Scalar.addi v0 v1
  let v3 : BitVec 32 := Scalar.addi v2 c0_i32
  let v4 : Index := Scalar.indexCast v3
  ![v4.toNat]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, c44_i32.toNat]

def cc0_transform_2 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c0_i32 : BitVec 32 := 0#32
  let v3 : BitVec 32 := Scalar.addi v2 c0_i32
  let v4 : Index := Scalar.indexCast v3
  let v5 : BitVec 32 := pf.at 0 (Rect.unit (s := S2048) ![v4.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_3 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c1_i32 : BitVec 32 := 1#32
  let v3 : BitVec 32 := Scalar.addi v2 c1_i32
  let v4 : Index := Scalar.indexCast v3
  let v5 : BitVec 32 := pf.at 0 (Rect.unit (s := S2048) ![v4.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_4 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c2_i32 : BitVec 32 := 2#32
  let v3 : BitVec 32 := Scalar.addi v2 c2_i32
  let v4 : Index := Scalar.indexCast v3
  let v5 : BitVec 32 := pf.at 0 (Rect.unit (s := S2048) ![v4.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_5 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c3_i32 : BitVec 32 := 3#32
  let v3 : BitVec 32 := Scalar.addi v2 c3_i32
  let v4 : Index := Scalar.indexCast v3
  let v5 : BitVec 32 := pf.at 0 (Rect.unit (s := S2048) ![v4.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_6 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c4_i32 : BitVec 32 := 4#32
  let v3 : BitVec 32 := Scalar.addi v2 c4_i32
  let v4 : Index := Scalar.indexCast v3
  let v5 : BitVec 32 := pf.at 0 (Rect.unit (s := S2048) ![v4.toNat] S1.size (k0_off1_inb i 4)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_7 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c5_i32 : BitVec 32 := 5#32
  let v3 : BitVec 32 := Scalar.addi v2 c5_i32
  let v4 : Index := Scalar.indexCast v3
  let v5 : BitVec 32 := pf.at 0 (Rect.unit (s := S2048) ![v4.toNat] S1.size (k0_off1_inb i 5)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_8 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c6_i32 : BitVec 32 := 6#32
  let v3 : BitVec 32 := Scalar.addi v2 c6_i32
  let v4 : Index := Scalar.indexCast v3
  let v5 : BitVec 32 := pf.at 0 (Rect.unit (s := S2048) ![v4.toNat] S1.size (k0_off1_inb i 6)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_9 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c7_i32 : BitVec 32 := 7#32
  let v3 : BitVec 32 := Scalar.addi v2 c7_i32
  let v4 : Index := Scalar.indexCast v3
  let v5 : BitVec 32 := pf.at 0 (Rect.unit (s := S2048) ![v4.toNat] S1.size (k0_off1_inb i 7)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_10 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c8_i32 : BitVec 32 := 8#32
  let v3 : BitVec 32 := Scalar.addi v2 c8_i32
  let v4 : Index := Scalar.indexCast v3
  let v5 : BitVec 32 := pf.at 0 (Rect.unit (s := S2048) ![v4.toNat] S1.size (k0_off1_inb i 8)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_11 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c9_i32 : BitVec 32 := 9#32
  let v3 : BitVec 32 := Scalar.addi v2 c9_i32
  let v4 : Index := Scalar.indexCast v3
  let v5 : BitVec 32 := pf.at 0 (Rect.unit (s := S2048) ![v4.toNat] S1.size (k0_off1_inb i 9)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_12 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c10_i32 : BitVec 32 := 10#32
  let v3 : BitVec 32 := Scalar.addi v2 c10_i32
  let v4 : Index := Scalar.indexCast v3
  let v5 : BitVec 32 := pf.at 0 (Rect.unit (s := S2048) ![v4.toNat] S1.size (k0_off1_inb i 10)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_13 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c11_i32 : BitVec 32 := 11#32
  let v3 : BitVec 32 := Scalar.addi v2 c11_i32
  let v4 : Index := Scalar.indexCast v3
  let v5 : BitVec 32 := pf.at 0 (Rect.unit (s := S2048) ![v4.toNat] S1.size (k0_off1_inb i 11)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_14 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c12_i32 : BitVec 32 := 12#32
  let v3 : BitVec 32 := Scalar.addi v2 c12_i32
  let v4 : Index := Scalar.indexCast v3
  let v5 : BitVec 32 := pf.at 0 (Rect.unit (s := S2048) ![v4.toNat] S1.size (k0_off1_inb i 12)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_15 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c13_i32 : BitVec 32 := 13#32
  let v3 : BitVec 32 := Scalar.addi v2 c13_i32
  let v4 : Index := Scalar.indexCast v3
  let v5 : BitVec 32 := pf.at 0 (Rect.unit (s := S2048) ![v4.toNat] S1.size (k0_off1_inb i 13)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_16 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c14_i32 : BitVec 32 := 14#32
  let v3 : BitVec 32 := Scalar.addi v2 c14_i32
  let v4 : Index := Scalar.indexCast v3
  let v5 : BitVec 32 := pf.at 0 (Rect.unit (s := S2048) ![v4.toNat] S1.size (k0_off1_inb i 14)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_17 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c15_i32 : BitVec 32 := 15#32
  let v3 : BitVec 32 := Scalar.addi v2 c15_i32
  let v4 : Index := Scalar.indexCast v3
  let v5 : BitVec 32 := pf.at 0 (Rect.unit (s := S2048) ![v4.toNat] S1.size (k0_off1_inb i 15)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_18 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c16_i32 : BitVec 32 := 16#32
  let v3 : BitVec 32 := Scalar.addi v2 c16_i32
  let v4 : Index := Scalar.indexCast v3
  let v5 : BitVec 32 := pf.at 0 (Rect.unit (s := S2048) ![v4.toNat] S1.size (k0_off1_inb i 16)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_19 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c17_i32 : BitVec 32 := 17#32
  let v3 : BitVec 32 := Scalar.addi v2 c17_i32
  let v4 : Index := Scalar.indexCast v3
  let v5 : BitVec 32 := pf.at 0 (Rect.unit (s := S2048) ![v4.toNat] S1.size (k0_off1_inb i 17)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_20 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c18_i32 : BitVec 32 := 18#32
  let v3 : BitVec 32 := Scalar.addi v2 c18_i32
  let v4 : Index := Scalar.indexCast v3
  let v5 : BitVec 32 := pf.at 0 (Rect.unit (s := S2048) ![v4.toNat] S1.size (k0_off1_inb i 18)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_21 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c19_i32 : BitVec 32 := 19#32
  let v3 : BitVec 32 := Scalar.addi v2 c19_i32
  let v4 : Index := Scalar.indexCast v3
  let v5 : BitVec 32 := pf.at 0 (Rect.unit (s := S2048) ![v4.toNat] S1.size (k0_off1_inb i 19)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_22 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c20_i32 : BitVec 32 := 20#32
  let v3 : BitVec 32 := Scalar.addi v2 c20_i32
  let v4 : Index := Scalar.indexCast v3
  let v5 : BitVec 32 := pf.at 0 (Rect.unit (s := S2048) ![v4.toNat] S1.size (k0_off1_inb i 20)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_23 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c21_i32 : BitVec 32 := 21#32
  let v3 : BitVec 32 := Scalar.addi v2 c21_i32
  let v4 : Index := Scalar.indexCast v3
  let v5 : BitVec 32 := pf.at 0 (Rect.unit (s := S2048) ![v4.toNat] S1.size (k0_off1_inb i 21)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_24 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c22_i32 : BitVec 32 := 22#32
  let v3 : BitVec 32 := Scalar.addi v2 c22_i32
  let v4 : Index := Scalar.indexCast v3
  let v5 : BitVec 32 := pf.at 0 (Rect.unit (s := S2048) ![v4.toNat] S1.size (k0_off1_inb i 22)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_25 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c23_i32 : BitVec 32 := 23#32
  let v3 : BitVec 32 := Scalar.addi v2 c23_i32
  let v4 : Index := Scalar.indexCast v3
  let v5 : BitVec 32 := pf.at 0 (Rect.unit (s := S2048) ![v4.toNat] S1.size (k0_off1_inb i 23)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_26 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c24_i32 : BitVec 32 := 24#32
  let v3 : BitVec 32 := Scalar.addi v2 c24_i32
  let v4 : Index := Scalar.indexCast v3
  let v5 : BitVec 32 := pf.at 0 (Rect.unit (s := S2048) ![v4.toNat] S1.size (k0_off1_inb i 24)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_27 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c25_i32 : BitVec 32 := 25#32
  let v3 : BitVec 32 := Scalar.addi v2 c25_i32
  let v4 : Index := Scalar.indexCast v3
  let v5 : BitVec 32 := pf.at 0 (Rect.unit (s := S2048) ![v4.toNat] S1.size (k0_off1_inb i 25)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_28 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c26_i32 : BitVec 32 := 26#32
  let v3 : BitVec 32 := Scalar.addi v2 c26_i32
  let v4 : Index := Scalar.indexCast v3
  let v5 : BitVec 32 := pf.at 0 (Rect.unit (s := S2048) ![v4.toNat] S1.size (k0_off1_inb i 26)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_29 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c27_i32 : BitVec 32 := 27#32
  let v3 : BitVec 32 := Scalar.addi v2 c27_i32
  let v4 : Index := Scalar.indexCast v3
  let v5 : BitVec 32 := pf.at 0 (Rect.unit (s := S2048) ![v4.toNat] S1.size (k0_off1_inb i 27)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_30 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c28_i32 : BitVec 32 := 28#32
  let v3 : BitVec 32 := Scalar.addi v2 c28_i32
  let v4 : Index := Scalar.indexCast v3
  let v5 : BitVec 32 := pf.at 0 (Rect.unit (s := S2048) ![v4.toNat] S1.size (k0_off1_inb i 28)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_31 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c29_i32 : BitVec 32 := 29#32
  let v3 : BitVec 32 := Scalar.addi v2 c29_i32
  let v4 : Index := Scalar.indexCast v3
  let v5 : BitVec 32 := pf.at 0 (Rect.unit (s := S2048) ![v4.toNat] S1.size (k0_off1_inb i 29)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_32 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c30_i32 : BitVec 32 := 30#32
  let v3 : BitVec 32 := Scalar.addi v2 c30_i32
  let v4 : Index := Scalar.indexCast v3
  let v5 : BitVec 32 := pf.at 0 (Rect.unit (s := S2048) ![v4.toNat] S1.size (k0_off1_inb i 30)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_33 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c32_i32 : BitVec 32 := 32#32
  let v1 : BitVec 32 := Scalar.muli arg1 c32_i32
  let v2 : BitVec 32 := Scalar.addi v0 v1
  let c31_i32 : BitVec 32 := 31#32
  let v3 : BitVec 32 := Scalar.addi v2 c31_i32
  let v4 : Index := Scalar.indexCast v3
  let v5 : BitVec 32 := pf.at 0 (Rect.unit (s := S2048) ![v4.toNat] S1.size (k0_off1_inb i 31)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_34 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_35 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x1x64x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x1x64x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x1x64x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x1x64x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x1x64x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x1x64x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x1x64x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x1x64x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S1x8x4096 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true]

abbrev stage0_35 : Fin 2 → Memref sig .tc .vmem S1x8x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, false]
-- ==== ReferenceIdeal.lean ====
abbrev S2048 : Shape := ⟨1, ![2048]⟩
abbrev S256x5760 : Shape := ⟨2, ![256, 5760]⟩
abbrev S4x2560x64x128 : Shape := ⟨4, ![4, 2560, 64, 128]⟩
abbrev S256x512 : Shape := ⟨2, ![256, 512]⟩
abbrev S32x8x8x64 : Shape := ⟨4, ![32, 8, 8, 64]⟩
abbrev S256x64 : Shape := ⟨2, ![256, 64]⟩
abbrev S32x8x64 : Shape := ⟨3, ![32, 8, 64]⟩
abbrev S256x8 : Shape := ⟨2, ![256, 8]⟩
abbrev S32x8x8 : Shape := ⟨3, ![32, 8, 8]⟩
abbrev S1x2560x64x128 : Shape := ⟨4, ![1, 2560, 64, 128]⟩
abbrev S2560x64x128 : Shape := ⟨3, ![2560, 64, 128]⟩
abbrev S2560x128x64 : Shape := ⟨3, ![2560, 128, 64]⟩
abbrev S32x64 : Shape := ⟨2, ![32, 64]⟩
abbrev S_ : Shape := ⟨0, ![]⟩
abbrev S32x64x1 : Shape := ⟨3, ![32, 64, 1]⟩
abbrev S32x64x128x64 : Shape := ⟨4, ![32, 64, 128, 64]⟩
abbrev S32x8192x64 : Shape := ⟨3, ![32, 8192, 64]⟩
abbrev S8 : Shape := ⟨1, ![8]⟩
abbrev S1x1x8 : Shape := ⟨3, ![1, 1, 8]⟩
abbrev S1x8x1 : Shape := ⟨3, ![1, 8, 1]⟩
abbrev S1x8x8 : Shape := ⟨3, ![1, 8, 8]⟩
abbrev S32x8x8x8 : Shape := ⟨4, ![32, 8, 8, 8]⟩
abbrev S32x8x8x8192 : Shape := ⟨4, ![32, 8, 8, 8192]⟩
abbrev S32x8x8192 : Shape := ⟨3, ![32, 8, 8192]⟩
abbrev S32x8x128 : Shape := ⟨3, ![32, 8, 128]⟩

abbrev nBuf : Space → Nat
  | .hbm => 59
  | .vmem => 0
  | .smem => 0
  | _ => 0

abbrev bufTy : (tb : Table) → Fin (tcTables nBuf tb) → BufTy
  | .hbm, ⟨0, _⟩ => ⟨S2048, .i32⟩
  | .hbm, ⟨1, _⟩ => ⟨S256x5760, .f32⟩
  | .hbm, ⟨2, _⟩ => ⟨S4x2560x64x128, .f32⟩
  | .hbm, ⟨3, _⟩ => ⟨S256x512, .f32⟩
  | .hbm, ⟨4, _⟩ => ⟨S32x8x8x64, .f32⟩
  | .hbm, ⟨5, _⟩ => ⟨S256x64, .f32⟩
  | .hbm, ⟨6, _⟩ => ⟨S32x8x64, .f32⟩
  | .hbm, ⟨7, _⟩ => ⟨S256x8, .f32⟩
  | .hbm, ⟨8, _⟩ => ⟨S32x8x8, .f32⟩
  | .hbm, ⟨9, _⟩ => ⟨S1x2560x64x128, .f32⟩
  | .hbm, ⟨10, _⟩ => ⟨S2560x64x128, .f32⟩
  | .hbm, ⟨11, _⟩ => ⟨S2560x128x64, .f32⟩
  | .hbm, ⟨12, _⟩ => ⟨S32x64, .i32⟩
  | .hbm, ⟨13, _⟩ => ⟨S_, .i32⟩
  | .hbm, ⟨14, _⟩ => ⟨S32x64, .i32⟩
  | .hbm, ⟨15, _⟩ => ⟨S32x64, .i1⟩
  | .hbm, ⟨16, _⟩ => ⟨S_, .i32⟩
  | .hbm, ⟨17, _⟩ => ⟨S32x64, .i32⟩
  | .hbm, ⟨18, _⟩ => ⟨S32x64, .i32⟩
  | .hbm, ⟨19, _⟩ => ⟨S32x64, .i32⟩
  | .hbm, ⟨20, _⟩ => ⟨S32x64x1, .i32⟩
  | .hbm, ⟨21, _⟩ => ⟨S32x64x128x64, .f32⟩
  | .hbm, ⟨22, _⟩ => ⟨S32x8192x64, .f32⟩
  | .hbm, ⟨23, _⟩ => ⟨S8, .i32⟩
  | .hbm, ⟨24, _⟩ => ⟨S1x1x8, .i32⟩
  | .hbm, ⟨25, _⟩ => ⟨S1x8x1, .i32⟩
  | .hbm, ⟨26, _⟩ => ⟨S1x8x8, .i32⟩
  | .hbm, ⟨27, _⟩ => ⟨S1x8x8, .i32⟩
  | .hbm, ⟨28, _⟩ => ⟨S1x8x8, .i1⟩
  | .hbm, ⟨29, _⟩ => ⟨S32x8x8x8, .f32⟩
  | .hbm, ⟨30, _⟩ => ⟨S_, .f32⟩
  | .hbm, ⟨31, _⟩ => ⟨S32x8x8x8, .f32⟩
  | .hbm, ⟨32, _⟩ => ⟨S32x8x8x8, .f32⟩
  | .hbm, ⟨33, _⟩ => ⟨S_, .f32⟩
  | .hbm, ⟨34, _⟩ => ⟨S32x8x8x8, .f32⟩
  | .hbm, ⟨35, _⟩ => ⟨S32x8x8x8, .f32⟩
  | .hbm, ⟨36, _⟩ => ⟨S_, .f32⟩
  | .hbm, ⟨37, _⟩ => ⟨S32x8x8, .f32⟩
  | .hbm, ⟨38, _⟩ => ⟨S32x8x8, .f32⟩
  | .hbm, ⟨39, _⟩ => ⟨S32x8x8, .f32⟩
  | .hbm, ⟨40, _⟩ => ⟨S_, .f32⟩
  | .hbm, ⟨41, _⟩ => ⟨S_, .f32⟩
  | .hbm, ⟨42, _⟩ => ⟨S32x8x8, .i1⟩
  | .hbm, ⟨43, _⟩ => ⟨S32x8x8, .f32⟩
  | .hbm, ⟨44, _⟩ => ⟨S32x8x8, .f32⟩
  | .hbm, ⟨45, _⟩ => ⟨S32x8x8x8192, .f32⟩
  | .hbm, ⟨46, _⟩ => ⟨S_, .f32⟩
  | .hbm, ⟨47, _⟩ => ⟨S32x8x8x8192, .f32⟩
  | .hbm, ⟨48, _⟩ => ⟨S32x8x8x8192, .f32⟩
  | .hbm, ⟨49, _⟩ => ⟨S_, .f32⟩
  | .hbm, ⟨50, _⟩ => ⟨S32x8x8x8192, .f32⟩
  | .hbm, ⟨51, _⟩ => ⟨S32x8x8x8192, .f32⟩
  | .hbm, ⟨52, _⟩ => ⟨S_, .f32⟩
  | .hbm, ⟨53, _⟩ => ⟨S32x8x8, .f32⟩
  | .hbm, ⟨54, _⟩ => ⟨S32x8x8, .f32⟩
  | .hbm, ⟨55, _⟩ => ⟨S32x8x8192, .f32⟩
  | .hbm, ⟨56, _⟩ => ⟨S_, .f32⟩
  | .hbm, ⟨57, _⟩ => ⟨S_, .f32⟩
  | .hbm, ⟨58, _⟩ => ⟨S32x8x128, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_call0_cst : Ref sig .tc := ⟨.hbm, 33, rfl⟩
abbrev main_call0_v0 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_call2_cst : Ref sig .tc := ⟨.hbm, 49, rfl⟩
abbrev main_call2_v0 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_call3_v0 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== InP.lean ====
abbrev S16384x1024 : Shape := ⟨2, ![16384, 1024]⟩
abbrev S1x1024 : Shape := ⟨2, ![1, 1024]⟩
abbrev S1024x3712 : Shape := ⟨2, ![1024, 3712]⟩
abbrev S2640x1024 : Shape := ⟨2, ![2640, 1024]⟩
abbrev S4x4x512x4096 : Shape := ⟨4, ![4, 4, 512, 4096]⟩
abbrev S4x4x64x4096 : Shape := ⟨4, ![4, 4, 64, 4096]⟩
abbrev S16384x512 : Shape := ⟨2, ![16384, 512]⟩
abbrev S16384x64 : Shape := ⟨2, ![16384, 64]⟩
abbrev S512x16384 : Shape := ⟨2, ![512, 16384]⟩
abbrev S128x512x128 : Shape := ⟨3, ![128, 512, 128]⟩
abbrev S8x16384 : Shape := ⟨2, ![8, 16384]⟩
abbrev S256x1024 : Shape := ⟨2, ![256, 1024]⟩
abbrev S1x1x512x256 : Shape := ⟨4, ![1, 1, 512, 256]⟩
abbrev S1x1x64x256 : Shape := ⟨4, ![1, 1, 64, 256]⟩
abbrev S256x512 : Shape := ⟨2, ![256, 512]⟩
abbrev S256x64 : Shape := ⟨2, ![256, 64]⟩
abbrev S512x256 : Shape := ⟨2, ![512, 256]⟩
abbrev S2x512x128 : Shape := ⟨3, ![2, 512, 128]⟩
abbrev S8x256 : Shape := ⟨2, ![8, 256]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩
abbrev S1024x128 : Shape := ⟨2, ![1024, 128]⟩
abbrev S256x128 : Shape := ⟨2, ![256, 128]⟩
abbrev S512x1024 : Shape := ⟨2, ![512, 1024]⟩
abbrev S512x128 : Shape := ⟨2, ![512, 128]⟩
abbrev S1x512x128 : Shape := ⟨3, ![1, 512, 128]⟩
abbrev S64x1024 : Shape := ⟨2, ![64, 1024]⟩
abbrev S64x256 : Shape := ⟨2, ![64, 256]⟩
abbrev S16x1024 : Shape := ⟨2, ![16, 1024]⟩
abbrev S16x256 : Shape := ⟨2, ![16, 256]⟩
abbrev S4x4096x512 : Shape := ⟨3, ![4, 4096, 512]⟩
abbrev S4x15x512 : Shape := ⟨3, ![4, 15, 512]⟩
abbrev S4x4x8x64x4096 : Shape := ⟨5, ![4, 4, 8, 64, 4096]⟩
abbrev S4x4x4096x8x64 : Shape := ⟨5, ![4, 4, 4096, 8, 64]⟩
abbrev S4x4x4096x64 : Shape := ⟨4, ![4, 4, 4096, 64]⟩

abbrev nBuf : Space → Nat
  | .hbm => 28
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3712, .bf16⟩
  | .hbm, ⟨3, _⟩ => ⟨S2640x1024, .bf16⟩
  | .hbm, ⟨4, _⟩ => ⟨S4x4x512x4096, .f32⟩
  | .hbm, ⟨5, _⟩ => ⟨S4x4x512x4096, .f32⟩
  | .hbm, ⟨6, _⟩ => ⟨S4x4x64x4096, .f32⟩
  | .hbm, ⟨7, _⟩ => ⟨S4x4x512x4096, .f32⟩
  | .hbm, ⟨8, _⟩ => ⟨S4x4x512x4096, .f32⟩
  | .hbm, ⟨9, _⟩ => ⟨S4x4x64x4096, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S16384x1024, .f32⟩
  | .hbm, ⟨14, _⟩ => ⟨S16384x512, .bf16⟩
  | .hbm, ⟨15, _⟩ => ⟨S16384x64, .bf16⟩
  | .hbm, ⟨16, _⟩ => ⟨S512x16384, .bf16⟩
  | .hbm, ⟨17, _⟩ => ⟨S128x512x128, .bf16⟩
  | .hbm, ⟨18, _⟩ => ⟨S512x16384, .f32⟩
  | .hbm, ⟨19, _⟩ => ⟨S512x16384, .bf16⟩
  | .hbm, ⟨20, _⟩ => ⟨S8x16384, .f32⟩
  | .hbm, ⟨21, _⟩ => ⟨S4x4096x512, .f32⟩
  | .hbm, ⟨22, _⟩ => ⟨S4x15x512, .f32⟩
  | .hbm, ⟨23, _⟩ => ⟨S4x4x8x64x4096, .f32⟩
  | .hbm, ⟨24, _⟩ => ⟨S4x4x4096x8x64, .f32⟩
  | .hbm, ⟨25, _⟩ => ⟨S4x4x8x64x4096, .f32⟩
  | .hbm, ⟨26, _⟩ => ⟨S4x4x4096x8x64, .f32⟩
  | .hbm, ⟨27, _⟩ => ⟨S4x4x4096x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S2640x1024, .bf16⟩
  | .local _ .vmem, ⟨5, _⟩ => ⟨S1x1x512x256, .f32⟩
  | .local _ .vmem, ⟨6, _⟩ => ⟨S1x1x512x256, .f32⟩
  | .local _ .vmem, ⟨7, _⟩ => ⟨S1x1x512x256, .f32⟩
  | .local _ .vmem, ⟨8, _⟩ => ⟨S1x1x512x256, .f32⟩
  | .local _ .vmem, ⟨9, _⟩ => ⟨S1x1x64x256, .f32⟩
  | .local _ .vmem, ⟨10, _⟩ => ⟨S1x1x64x256, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x512, .bf16⟩
  | .local _ .vmem, ⟨20, _⟩ => ⟨S256x512, .bf16⟩
  | .local _ .vmem, ⟨21, _⟩ => ⟨S256x64, .bf16⟩
  | .local _ .vmem, ⟨22, _⟩ => ⟨S256x64, .bf16⟩
  | .local _ .vmem, ⟨23, _⟩ => ⟨S512x256, .bf16⟩
  | .local _ .vmem, ⟨24, _⟩ => ⟨S512x256, .bf16⟩
  | .local _ .vmem, ⟨25, _⟩ => ⟨S2x512x128, .bf16⟩
  | .local _ .vmem, ⟨26, _⟩ => ⟨S2x512x128, .bf16⟩
  | .local _ .vmem, ⟨27, _⟩ => ⟨S512x256, .f32⟩
  | .local _ .vmem, ⟨28, _⟩ => ⟨S512x256, .f32⟩
  | .local _ .vmem, ⟨29, _⟩ => ⟨S512x256, .bf16⟩
  | .local _ .vmem, ⟨30, _⟩ => ⟨S512x256, .bf16⟩
  | .local _ .vmem, ⟨31, _⟩ => ⟨S8x256, .f32⟩
  | .local _ .vmem, ⟨32, _⟩ => ⟨S8x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev main_v0_9 : Ref sig .tc := ⟨.hbm, 16, rfl⟩
abbrev main_v0_10 : Ref sig .tc := ⟨.hbm, 17, rfl⟩
abbrev main_v0_11 : Ref sig .tc := ⟨.hbm, 18, rfl⟩
abbrev main_v0_12 : Ref sig .tc := ⟨.hbm, 19, rfl⟩
abbrev main_v0_13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InPRefIdeal.lean ====
abbrev S16384x1024 : Shape := ⟨2, ![16384, 1024]⟩
abbrev S1x1024 : Shape := ⟨2, ![1, 1024]⟩
abbrev S1024x3712 : Shape := ⟨2, ![1024, 3712]⟩
abbrev S2640x1024 : Shape := ⟨2, ![2640, 1024]⟩
abbrev S4x4x512x4096 : Shape := ⟨4, ![4, 4, 512, 4096]⟩
abbrev S4x4x64x4096 : Shape := ⟨4, ![4, 4, 64, 4096]⟩
abbrev S_ : Shape := ⟨0, ![]⟩
abbrev S16384 : Shape := ⟨1, ![16384]⟩
abbrev S16384x1 : Shape := ⟨2, ![16384, 1]⟩
abbrev S16384x3712 : Shape := ⟨2, ![16384, 3712]⟩
abbrev S1024x2640 : Shape := ⟨2, ![1024, 2640]⟩
abbrev S16384x2640 : Shape := ⟨2, ![16384, 2640]⟩
abbrev S16384x512 : Shape := ⟨2, ![16384, 512]⟩
abbrev S16384x64 : Shape := ⟨2, ![16384, 64]⟩
abbrev S16384x8 : Shape := ⟨2, ![16384, 8]⟩
abbrev S4x4096x512 : Shape := ⟨3, ![4, 4096, 512]⟩
abbrev S4x512x4096 : Shape := ⟨3, ![4, 512, 4096]⟩
abbrev S1x4x512x4096 : Shape := ⟨4, ![1, 4, 512, 4096]⟩
abbrev S3x4x512x4096 : Shape := ⟨4, ![3, 4, 512, 4096]⟩
abbrev S4x4096x64 : Shape := ⟨3, ![4, 4096, 64]⟩
abbrev S4x64x4096 : Shape := ⟨3, ![4, 64, 4096]⟩
abbrev S1x4x64x4096 : Shape := ⟨4, ![1, 4, 64, 4096]⟩
abbrev S3x4x64x4096 : Shape := ⟨4, ![3, 4, 64, 4096]⟩
abbrev S512x16384 : Shape := ⟨2, ![512, 16384]⟩
abbrev S128x128x512 : Shape := ⟨3, ![128, 128, 512]⟩
abbrev S128x512x128 : Shape := ⟨3, ![128, 512, 128]⟩
abbrev S8x16384 : Shape := ⟨2, ![8, 16384]⟩
abbrev S4x15x512 : Shape := ⟨3, ![4, 15, 512]⟩
abbrev S4x4x8x64x4096 : Shape := ⟨5, ![4, 4, 8, 64, 4096]⟩
abbrev S4x4x4096x8x64 : Shape := ⟨5, ![4, 4, 4096, 8, 64]⟩
abbrev S1x4x4096x8x64 : Shape := ⟨5, ![1, 4, 4096, 8, 64]⟩
abbrev S3x4x4096x8x64 : Shape := ⟨5, ![3, 4, 4096, 8, 64]⟩
abbrev S4x4x4096x64 : Shape := ⟨4, ![4, 4, 4096, 64]⟩
abbrev S1x4x4096x64 : Shape := ⟨4, ![1, 4, 4096, 64]⟩
abbrev S3x4x4096x64 : Shape := ⟨4, ![3, 4, 4096, 64]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3712, .bf16⟩
  | .hbm, ⟨3, _⟩ => ⟨S2640x1024, .bf16⟩
  | .hbm, ⟨4, _⟩ => ⟨S4x4x512x4096, .f32⟩
  | .hbm, ⟨5, _⟩ => ⟨S4x4x512x4096, .f32⟩
  | .hbm, ⟨6, _⟩ => ⟨S4x4x64x4096, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1024x3712, .f32⟩
  | .hbm, ⟨23, _⟩ => ⟨S16384x3712, .f32⟩
  | .hbm, ⟨24, _⟩ => ⟨S2640x1024, .f32⟩
  | .hbm, ⟨25, _⟩ => ⟨S1024x2640, .f32⟩
  | .hbm, ⟨26, _⟩ => ⟨S16384x2640, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x1024, .f32⟩
  | .hbm, ⟨31, _⟩ => ⟨S16384x1024, .f32⟩
  | .hbm, ⟨32, _⟩ => ⟨S16384x64, .f32⟩
  | .hbm, ⟨33, _⟩ => ⟨S16384x64, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x64, .f32⟩
  | .hbm, ⟨40, _⟩ => ⟨S16384x8, .f32⟩
  | .hbm, ⟨41, _⟩ => ⟨S16384x8, .f32⟩
  | .hbm, ⟨42, _⟩ => ⟨S4x4096x512, .f32⟩
  | .hbm, ⟨43, _⟩ => ⟨S4x512x4096, .f32⟩
  | .hbm, ⟨44, _⟩ => ⟨S1x4x512x4096, .f32⟩
  | .hbm, ⟨45, _⟩ => ⟨S3x4x512x4096, .f32⟩
  | .hbm, ⟨46, _⟩ => ⟨S4x4x512x4096, .f32⟩
  | .hbm, ⟨47, _⟩ => ⟨S4x4096x512, .f32⟩
  | .hbm, ⟨48, _⟩ => ⟨S4x512x4096, .f32⟩
  | .hbm, ⟨49, _⟩ => ⟨S1x4x512x4096, .f32⟩
  | .hbm, ⟨50, _⟩ => ⟨S3x4x512x4096, .f32⟩
  | .hbm, ⟨51, _⟩ => ⟨S4x4x512x4096, .f32⟩
  | .hbm, ⟨52, _⟩ => ⟨S4x4096x64, .f32⟩
  | .hbm, ⟨53, _⟩ => ⟨S4x64x4096, .f32⟩
  | .hbm, ⟨54, _⟩ => ⟨S1x4x64x4096, .f32⟩
  | .hbm, ⟨55, _⟩ => ⟨S3x4x64x4096, .f32⟩
  | .hbm, ⟨56, _⟩ => ⟨S4x4x64x4096, .f32⟩
  | .hbm, ⟨57, _⟩ => ⟨S16384x512, .bf16⟩
  | .hbm, ⟨58, _⟩ => ⟨S16384x64, .bf16⟩
  | .hbm, ⟨59, _⟩ => ⟨S512x16384, .f32⟩
  | .hbm, ⟨60, _⟩ => ⟨S512x16384, .bf16⟩
  | .hbm, ⟨61, _⟩ => ⟨S128x128x512, .f32⟩
  | .hbm, ⟨62, _⟩ => ⟨S128x512x128, .f32⟩
  | .hbm, ⟨63, _⟩ => ⟨S128x512x128, .bf16⟩
  | .hbm, ⟨64, _⟩ => ⟨S512x16384, .f32⟩
  | .hbm, ⟨65, _⟩ => ⟨S512x16384, .f32⟩
  | .hbm, ⟨66, _⟩ => ⟨S512x16384, .bf16⟩
  | .hbm, ⟨67, _⟩ => ⟨S8x16384, .f32⟩
  | .hbm, ⟨68, _⟩ => ⟨S_, .f32⟩
  | .hbm, ⟨69, _⟩ => ⟨S8x16384, .f32⟩
  | .hbm, ⟨70, _⟩ => ⟨S8x16384, .f32⟩
  | .hbm, ⟨71, _⟩ => ⟨S4x4096x512, .f32⟩
  | .hbm, ⟨72, _⟩ => ⟨S4x15x512, .f32⟩
  | .hbm, ⟨73, _⟩ => ⟨S4x4x8x64x4096, .f32⟩
  | .hbm, ⟨74, _⟩ => ⟨S4x4x4096x8x64, .f32⟩
  | .hbm, ⟨75, _⟩ => ⟨S1x4x4096x8x64, .f32⟩
  | .hbm, ⟨76, _⟩ => ⟨S3x4x4096x8x64, .f32⟩
  | .hbm, ⟨77, _⟩ => ⟨S4x4x4096x8x64, .f32⟩
  | .hbm, ⟨78, _⟩ => ⟨S4x4x8x64x4096, .f32⟩
  | .hbm, ⟨79, _⟩ => ⟨S4x4x4096x8x64, .f32⟩
  | .hbm, ⟨80, _⟩ => ⟨S1x4x4096x8x64, .f32⟩
  | .hbm, ⟨81, _⟩ => ⟨S3x4x4096x8x64, .f32⟩
  | .hbm, ⟨82, _⟩ => ⟨S4x4x4096x8x64, .f32⟩
  | .hbm, ⟨83, _⟩ => ⟨S4x4x4096x64, .f32⟩
  | .hbm, ⟨84, _⟩ => ⟨S1x4x4096x64, .f32⟩
  | .hbm, ⟨85, _⟩ => ⟨S3x4x4096x64, .f32⟩
  | .hbm, ⟨86, _⟩ => ⟨S4x4x4096x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_2 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩

abbrev nD : Nat := 1
abbrev τ : Topo := Topo.v7x

variable {F : FTy → Type} [FloatOps F]
-- ==== MergeP.lean ====
abbrev S16384x1024 : Shape := ⟨2, ![16384, 1024]⟩
abbrev S512x16384 : Shape := ⟨2, ![512, 16384]⟩
abbrev S16384x512 : Shape := ⟨2, ![16384, 512]⟩
abbrev S4x128x128 : Shape := ⟨3, ![4, 128, 128]⟩
abbrev S1x512 : Shape := ⟨2, ![1, 512]⟩
abbrev S2x1024 : Shape := ⟨2, ![2, 1024]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S512x256 : Shape := ⟨2, ![512, 256]⟩
abbrev S256x512 : Shape := ⟨2, ![256, 512]⟩
abbrev S16x512 : Shape := ⟨2, ![16, 512]⟩
abbrev S272x512 : Shape := ⟨2, ![272, 512]⟩
abbrev S256x128 : Shape := ⟨2, ![256, 128]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩

abbrev nBuf : Space → Nat
  | .hbm => 15
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S512x16384, .f32⟩
  | .hbm, ⟨2, _⟩ => ⟨S512x16384, .f32⟩
  | .hbm, ⟨3, _⟩ => ⟨S16384x512, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S4x128x128, .bf16⟩
  | .hbm, ⟨8, _⟩ => ⟨S1x512, .f32⟩
  | .hbm, ⟨9, _⟩ => ⟨S2x1024, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S256x512, .f32⟩
  | .local _ .vmem, ⟨7, _⟩ => ⟨S256x512, .f32⟩
  | .local _ .vmem, ⟨8, _⟩ => ⟨S16x512, .f32⟩
  | .local _ .vmem, ⟨9, _⟩ => ⟨S16x512, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S4x128x128, .bf16⟩
  | .local _ .vmem, ⟨17, _⟩ => ⟨S1x512, .f32⟩
  | .local _ .vmem, ⟨18, _⟩ => ⟨S2x1024, .f32⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S272x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergePRefIdeal.lean ====
abbrev S16384x1024 : Shape := ⟨2, ![16384, 1024]⟩
abbrev S512x16384 : Shape := ⟨2, ![512, 16384]⟩
abbrev S16384x512 : Shape := ⟨2, ![16384, 512]⟩
abbrev S4x128x128 : Shape := ⟨3, ![4, 128, 128]⟩
abbrev S1x512 : Shape := ⟨2, ![1, 512]⟩
abbrev S2x1024 : Shape := ⟨2, ![2, 1024]⟩
abbrev S512x1024 : Shape := ⟨2, ![512, 1024]⟩
abbrev S1024x1024 : Shape := ⟨2, ![1024, 1024]⟩
abbrev S1x1024 : Shape := ⟨2, ![1, 1024]⟩
abbrev S4x4096x4x128 : Shape := ⟨4, ![4, 4096, 4, 128]⟩
abbrev S4096 : Shape := ⟨1, ![4096]⟩
abbrev S4x4096x1x128 : Shape := ⟨4, ![4, 4096, 1, 128]⟩
abbrev S4x4096x128 : Shape := ⟨3, ![4, 4096, 128]⟩
abbrev S_ : Shape := ⟨0, ![]⟩
abbrev S1x4096x1 : Shape := ⟨3, ![1, 4096, 1]⟩
abbrev S16384x128 : Shape := ⟨2, ![16384, 128]⟩
abbrev S1x128x128 : Shape := ⟨3, ![1, 128, 128]⟩
abbrev S128x128 : Shape := ⟨2, ![128, 128]⟩
abbrev S1024 : Shape := ⟨1, ![1024]⟩
abbrev S16384 : Shape := ⟨1, ![16384]⟩
abbrev S16384x1 : Shape := ⟨2, ![16384, 1]⟩

abbrev nBuf : Space → Nat
  | .hbm => 184
  | .vmem => 0
  | .smem => 0
  | _ => 0

abbrev hbmTy0_0 (i : Nat) : BufTy := match i % 128 with
  | 0 => ⟨S16384x1024, .f32⟩
  | 1 => ⟨S512x16384, .f32⟩
  | 2 => ⟨S512x16384, .f32⟩
  | 3 => ⟨S16384x512, .f32⟩
  | 4 => ⟨S16384x512, .f32⟩
  | 5 => ⟨S16384x1024, .f32⟩
  | 6 => ⟨S16384x1024, .f32⟩
  | 7 => ⟨S4x128x128, .bf16⟩
  | 8 => ⟨S1x512, .f32⟩
  | 9 => ⟨S2x1024, .f32⟩
  | 10 => ⟨S512x1024, .bf16⟩
  | 11 => ⟨S512x1024, .bf16⟩
  | 12 => ⟨S1024x1024, .bf16⟩
  | 13 => ⟨S1x1024, .f32⟩
  | 14 => ⟨S4x4096x4x128, .f32⟩
  | 15 => ⟨S4096, .i32⟩
  | 16 => ⟨S4x4096x1x128, .f32⟩
  | 17 => ⟨S4x4096x128, .f32⟩
  | 18 => ⟨S_, .f32⟩
  | 19 => ⟨S_, .f32⟩
  | 20 => ⟨S4x4096x128, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .f32⟩
  | 28 => ⟨S1x4096x1, .f32⟩
  | 29 => ⟨S4x4096x128, .f32⟩
  | 30 => ⟨S4x4096x128, .f32⟩
  | 31 => ⟨S4x4096x1x128, .f32⟩
  | 32 => ⟨S4x4096x128, .f32⟩
  | 33 => ⟨S4x4096x128, .f32⟩
  | 34 => ⟨S16384x128, .f32⟩
  | 35 => ⟨S1x128x128, .bf16⟩
  | 36 => ⟨S128x128, .bf16⟩
  | 37 => ⟨S128x128, .f32⟩
  | 38 => ⟨S16384x128, .f32⟩
  | 39 => ⟨S4x4096x1x128, .f32⟩
  | 40 => ⟨S4x4096x128, .f32⟩
  | 41 => ⟨S_, .f32⟩
  | 42 => ⟨S_, .f32⟩
  | 43 => ⟨S4x4096x128, .f32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S4096, .f32⟩
  | 51 => ⟨S1x4096x1, .f32⟩
  | 52 => ⟨S4x4096x128, .f32⟩
  | 53 => ⟨S4x4096x128, .f32⟩
  | 54 => ⟨S4x4096x1x128, .f32⟩
  | 55 => ⟨S4x4096x128, .f32⟩
  | 56 => ⟨S4x4096x128, .f32⟩
  | 57 => ⟨S16384x128, .f32⟩
  | 58 => ⟨S1x128x128, .bf16⟩
  | 59 => ⟨S128x128, .bf16⟩
  | 60 => ⟨S128x128, .f32⟩
  | 61 => ⟨S16384x128, .f32⟩
  | 62 => ⟨S4x4096x1x128, .f32⟩
  | 63 => ⟨S4x4096x128, .f32⟩
  | 64 => ⟨S_, .f32⟩
  | 65 => ⟨S_, .f32⟩
  | 66 => ⟨S4x4096x128, .f32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .f32⟩
  | 74 => ⟨S1x4096x1, .f32⟩
  | 75 => ⟨S4x4096x128, .f32⟩
  | 76 => ⟨S4x4096x128, .f32⟩
  | 77 => ⟨S4x4096x1x128, .f32⟩
  | 78 => ⟨S4x4096x128, .f32⟩
  | 79 => ⟨S4x4096x128, .f32⟩
  | 80 => ⟨S16384x128, .f32⟩
  | 81 => ⟨S1x128x128, .bf16⟩
  | 82 => ⟨S128x128, .bf16⟩
  | 83 => ⟨S128x128, .f32⟩
  | 84 => ⟨S16384x128, .f32⟩
  | 85 => ⟨S4x4096x1x128, .f32⟩
  | 86 => ⟨S4x4096x128, .f32⟩
  | 87 => ⟨S_, .f32⟩
  | 88 => ⟨S_, .f32⟩
  | 89 => ⟨S4x4096x128, .f32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .f32⟩
  | 97 => ⟨S1x4096x1, .f32⟩
  | 98 => ⟨S4x4096x128, .f32⟩
  | 99 => ⟨S4x4096x128, .f32⟩
  | 100 => ⟨S4x4096x1x128, .f32⟩
  | 101 => ⟨S4x4096x128, .f32⟩
  | 102 => ⟨S4x4096x128, .f32⟩
  | 103 => ⟨S16384x128, .f32⟩
  | 104 => ⟨S1x128x128, .bf16⟩
  | 105 => ⟨S128x128, .bf16⟩
  | 106 => ⟨S128x128, .f32⟩
  | 107 => ⟨S16384x128, .f32⟩
  | 108 => ⟨S16384x512, .f32⟩
  | 109 => ⟨S16384x512, .f32⟩
  | 110 => ⟨S16384x512, .f32⟩
  | 111 => ⟨S16384x512, .f32⟩
  | 112 => ⟨S16384x512, .f32⟩
  | 113 => ⟨S512x1024, .f32⟩
  | 114 => ⟨S512x1024, .f32⟩
  | 115 => ⟨S1024x1024, .f32⟩
  | 116 => ⟨S16384x512, .f32⟩
  | 117 => ⟨S16384x512, .f32⟩
  | 118 => ⟨S_, .f32⟩
  | 119 => ⟨S16384x512, .f32⟩
  | 120 => ⟨S16384x512, .f32⟩
  | 121 => ⟨S_, .f32⟩
  | 122 => ⟨S16384x512, .f32⟩
  | 123 => ⟨S16384x512, .f32⟩
  | 124 => ⟨S16384x512, .f32⟩
  | 125 => ⟨S16384x512, .f32⟩
  | 126 => ⟨S16384x1024, .f32⟩
  | 127 => ⟨S16384x512, .f32⟩
  | _ => ⟨S16384x1024, .f32⟩

abbrev hbmTy0_1 (i : Nat) : BufTy := match i % 128 with
  | 0 => ⟨S16384x512, .f32⟩
  | 1 => ⟨S_, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S16384x512, .f32⟩
  | 8 => ⟨S16384x512, .f32⟩
  | 9 => ⟨S16384x1024, .f32⟩
  | 10 => ⟨S1x1024, .f32⟩
  | 11 => ⟨S1024, .f32⟩
  | 12 => ⟨S1x1024, .f32⟩
  | 13 => ⟨S16384x1024, .f32⟩
  | 14 => ⟨S16384x1024, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S16384x1024, .f32⟩
  | 24 => ⟨S1x1024, .f32⟩
  | 25 => ⟨S1024, .f32⟩
  | 26 => ⟨S1x1024, .f32⟩
  | 27 => ⟨S16384x1024, .f32⟩
  | 28 => ⟨S16384x1024, .f32⟩
  | 29 => ⟨S16384x1024, .f32⟩
  | 30 => ⟨S16384x1024, .f32⟩
  | 31 => ⟨S_, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S16384x1024, .f32⟩
  | 42 => ⟨S_, .f32⟩
  | 43 => ⟨S16384, .f32⟩
  | 44 => ⟨S16384x1, .f32⟩
  | 45 => ⟨S_, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S16384x1, .f32⟩
  | 52 => ⟨S16384x1024, .f32⟩
  | 53 => ⟨S16384x1024, .f32⟩
  | 54 => ⟨S16384x1024, .f32⟩
  | 55 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_c_5 : Ref sig .tc := ⟨.hbm, 67, rfl⟩
abbrev main_v46 : Ref sig .tc := ⟨.hbm, 68, rfl⟩
abbrev main_v47 : Ref sig .tc := ⟨.hbm, 69, rfl⟩
abbrev main_c_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_7 : Ref sig .tc := ⟨.hbm, 87, rfl⟩
abbrev main_v64 : Ref sig .tc := ⟨.hbm, 88, rfl⟩
abbrev main_v65 : Ref sig .tc := ⟨.hbm, 89, rfl⟩
abbrev main_c_8 : Ref sig .tc := ⟨.hbm, 90, rfl⟩
abbrev main_v66 : Ref sig .tc := ⟨.hbm, 91, rfl⟩
abbrev main_v67 : Ref sig .tc := ⟨.hbm, 92, rfl⟩
abbrev main_c_9 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call0_v0 : Ref sig .tc := ⟨.hbm, 116, rfl⟩
abbrev main_call0_v1 : Ref sig .tc := ⟨.hbm, 117, rfl⟩
abbrev main_call0_cst : Ref sig .tc := ⟨.hbm, 118, rfl⟩
abbrev main_call0_v2 : Ref sig .tc := ⟨.hbm, 119, rfl⟩
abbrev main_call0_v3 : Ref sig .tc := ⟨.hbm, 120, rfl⟩
abbrev main_call0_cst_0 : Ref sig .tc := ⟨.hbm, 121, rfl⟩
abbrev main_call0_v4 : Ref sig .tc := ⟨.hbm, 122, rfl⟩
abbrev main_call0_v5 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call1_v0 : Ref sig .tc := ⟨.hbm, 127, rfl⟩
abbrev main_call1_v1 : Ref sig .tc := ⟨.hbm, 128, rfl⟩
abbrev main_call1_cst : Ref sig .tc := ⟨.hbm, 129, rfl⟩
abbrev main_call1_v2 : Ref sig .tc := ⟨.hbm, 130, rfl⟩
abbrev main_call1_v3 : Ref sig .tc := ⟨.hbm, 131, rfl⟩
abbrev main_call1_cst_0 : Ref sig .tc := ⟨.hbm, 132, rfl⟩
abbrev main_call1_v4 : Ref sig .tc := ⟨.hbm, 133, rfl⟩
abbrev main_call1_v5 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_10 : Ref sig .tc := ⟨.hbm, 145, rfl⟩
abbrev main_v103 : Ref sig .tc := ⟨.hbm, 146, rfl⟩
abbrev main_v104 : Ref sig .tc := ⟨.hbm, 147, rfl⟩
abbrev main_cst_11 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_12 : Ref sig .tc := ⟨.hbm, 159, rfl⟩
abbrev main_v115 : Ref sig .tc := ⟨.hbm, 160, rfl⟩
abbrev main_v116 : Ref sig .tc := ⟨.hbm, 161, rfl⟩
abbrev main_cst_13 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_14 : Ref sig .tc := ⟨.hbm, 170, rfl⟩
abbrev main_v124 : Ref sig .tc := ⟨.hbm, 171, rfl⟩
abbrev main_v125 : Ref sig .tc := ⟨.hbm, 172, rfl⟩
abbrev main_cst_15 : Ref sig .tc := ⟨.hbm, 173, rfl⟩
abbrev main_v126 : Ref sig .tc := ⟨.hbm, 174, rfl⟩
abbrev main_v127 : Ref sig .tc := ⟨.hbm, 175, rfl⟩
abbrev main_cst_16 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩

abbrev nD : Nat := 1
abbrev τ : Topo := Topo.v7x

variable {F : FTy → Type} [FloatOps F]
-- ==== InS.lean ====
abbrev S256x1024 : Shape := ⟨2, ![256, 1024]⟩
abbrev S1x1024 : Shape := ⟨2, ![1, 1024]⟩
abbrev S5760x1024 : Shape := ⟨2, ![5760, 1024]⟩
abbrev S32x15x512 : Shape := ⟨3, ![32, 15, 512]⟩
abbrev S256x5760 : Shape := ⟨2, ![256, 5760]⟩
abbrev S1152x1024 : Shape := ⟨2, ![1152, 1024]⟩
abbrev S256x1152 : Shape := ⟨2, ![256, 1152]⟩
abbrev S256 : Shape := ⟨1, ![256]⟩
abbrev S256x1 : Shape := ⟨2, ![256, 1]⟩
abbrev S256x512 : Shape := ⟨2, ![256, 512]⟩
abbrev S32x8x512 : Shape := ⟨3, ![32, 8, 512]⟩
abbrev S32x23x512 : Shape := ⟨3, ![32, 23, 512]⟩
abbrev S32x8x8x64 : Shape := ⟨4, ![32, 8, 8, 64]⟩
abbrev S256x64 : Shape := ⟨2, ![256, 64]⟩
abbrev S32x8x64 : Shape := ⟨3, ![32, 8, 64]⟩

abbrev nBuf : Space → Nat
  | .hbm => 15
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S5760x1024, .bf16⟩
  | .hbm, ⟨3, _⟩ => ⟨S32x15x512, .f32⟩
  | .hbm, ⟨4, _⟩ => ⟨S256x5760, .f32⟩
  | .hbm, ⟨5, _⟩ => ⟨S256x512, .f32⟩
  | .hbm, ⟨6, _⟩ => ⟨S32x8x512, .f32⟩
  | .hbm, ⟨7, _⟩ => ⟨S32x23x512, .f32⟩
  | .hbm, ⟨8, _⟩ => ⟨S256x512, .f32⟩
  | .hbm, ⟨9, _⟩ => ⟨S32x8x8x64, .f32⟩
  | .hbm, ⟨10, _⟩ => ⟨S256x512, .f32⟩
  | .hbm, ⟨11, _⟩ => ⟨S32x8x8x64, .f32⟩
  | .hbm, ⟨12, _⟩ => ⟨S256x64, .f32⟩
  | .hbm, ⟨13, _⟩ => ⟨S32x8x64, .f32⟩
  | .hbm, ⟨14, _⟩ => ⟨S32x15x512, .f32⟩
  | .local _ .vmem, ⟨0, _⟩ => ⟨S256x1024, .f32⟩
  | .local _ .vmem, ⟨1, _⟩ => ⟨S1x1024, .f32⟩
  | .local _ .vmem, ⟨2, _⟩ => ⟨S1152x1024, .bf16⟩
  | .local _ .vmem, ⟨3, _⟩ => ⟨S1152x1024, .bf16⟩
  | .local _ .vmem, ⟨4, _⟩ => ⟨S256x1152, .f32⟩
  | .local _ .vmem, ⟨5, _⟩ => ⟨S256x1152, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InSRefIdeal.lean ====
abbrev S256x1024 : Shape := ⟨2, ![256, 1024]⟩
abbrev S1x1024 : Shape := ⟨2, ![1, 1024]⟩
abbrev S5760x1024 : Shape := ⟨2, ![5760, 1024]⟩
abbrev S32x15x512 : Shape := ⟨3, ![32, 15, 512]⟩
abbrev S_ : Shape := ⟨0, ![]⟩
abbrev S256 : Shape := ⟨1, ![256]⟩
abbrev S256x1 : Shape := ⟨2, ![256, 1]⟩
abbrev S1024x5760 : Shape := ⟨2, ![1024, 5760]⟩
abbrev S256x5760 : Shape := ⟨2, ![256, 5760]⟩
abbrev S256x512 : Shape := ⟨2, ![256, 512]⟩
abbrev S32x8x512 : Shape := ⟨3, ![32, 8, 512]⟩
abbrev S32x23x512 : Shape := ⟨3, ![32, 23, 512]⟩
abbrev S32x8x8x64 : Shape := ⟨4, ![32, 8, 8, 64]⟩
abbrev S256x64 : Shape := ⟨2, ![256, 64]⟩
abbrev S32x8x64 : Shape := ⟨3, ![32, 8, 64]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S5760x1024, .bf16⟩
  | .hbm, ⟨3, _⟩ => ⟨S32x15x512, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S5760x1024, .f32⟩
  | .hbm, ⟨20, _⟩ => ⟨S1024x5760, .f32⟩
  | .hbm, ⟨21, _⟩ => ⟨S256x5760, .f32⟩
  | .hbm, ⟨22, _⟩ => ⟨S256x512, .f32⟩
  | .hbm, ⟨23, _⟩ => ⟨S32x8x512, .f32⟩
  | .hbm, ⟨24, _⟩ => ⟨S32x23x512, .f32⟩
  | .hbm, ⟨25, _⟩ => ⟨S256x512, .f32⟩
  | .hbm, ⟨26, _⟩ => ⟨S32x8x8x64, .f32⟩
  | .hbm, ⟨27, _⟩ => ⟨S256x512, .f32⟩
  | .hbm, ⟨28, _⟩ => ⟨S32x8x8x64, .f32⟩
  | .hbm, ⟨29, _⟩ => ⟨S256x64, .f32⟩
  | .hbm, ⟨30, _⟩ => ⟨S32x8x64, .f32⟩
  | .hbm, ⟨31, _⟩ => ⟨S32x15x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== MergeS.lean ====
abbrev S256x1024 : Shape := ⟨2, ![256, 1024]⟩
abbrev S256x512 : Shape := ⟨2, ![256, 512]⟩
abbrev S256x5760 : Shape := ⟨2, ![256, 5760]⟩
abbrev S32x24x512 : Shape := ⟨3, ![32, 24, 512]⟩
abbrev S4x128x128 : Shape := ⟨3, ![4, 128, 128]⟩
abbrev S1x512 : Shape := ⟨2, ![1, 512]⟩
abbrev S2x1024 : Shape := ⟨2, ![2, 1024]⟩
abbrev S512x1024 : Shape := ⟨2, ![512, 1024]⟩
abbrev S1024x1024 : Shape := ⟨2, ![1024, 1024]⟩
abbrev S1x1024 : Shape := ⟨2, ![1, 1024]⟩
abbrev S32x8x128 : Shape := ⟨3, ![32, 8, 128]⟩
abbrev S256x128 : Shape := ⟨2, ![256, 128]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x5760, .f32⟩
  | .hbm, ⟨3, _⟩ => ⟨S32x24x512, .f32⟩
  | .hbm, ⟨4, _⟩ => ⟨S4x128x128, .bf16⟩
  | .hbm, ⟨5, _⟩ => ⟨S1x512, .f32⟩
  | .hbm, ⟨6, _⟩ => ⟨S2x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S256x1024, .f32⟩
  | .local _ .vmem, ⟨0, _⟩ => ⟨S256x1024, .f32⟩
  | .local _ .vmem, ⟨1, _⟩ => ⟨S256x512, .f32⟩
  | .local _ .vmem, ⟨2, _⟩ => ⟨S256x5760, .f32⟩
  | .local _ .vmem, ⟨3, _⟩ => ⟨S32x24x512, .f32⟩
  | .local _ .vmem, ⟨4, _⟩ => ⟨S4x128x128, .bf16⟩
  | .local _ .vmem, ⟨5, _⟩ => ⟨S1x512, .f32⟩
  | .local _ .vmem, ⟨6, _⟩ => ⟨S2x1024, .f32⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x5760 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x24x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MergeSRefIdeal.lean ====
abbrev S256x1024 : Shape := ⟨2, ![256, 1024]⟩
abbrev S256x512 : Shape := ⟨2, ![256, 512]⟩
abbrev S256x5760 : Shape := ⟨2, ![256, 5760]⟩
abbrev S32x24x512 : Shape := ⟨3, ![32, 24, 512]⟩
abbrev S4x128x128 : Shape := ⟨3, ![4, 128, 128]⟩
abbrev S1x512 : Shape := ⟨2, ![1, 512]⟩
abbrev S2x1024 : Shape := ⟨2, ![2, 1024]⟩
abbrev S512x1024 : Shape := ⟨2, ![512, 1024]⟩
abbrev S1024x1024 : Shape := ⟨2, ![1024, 1024]⟩
abbrev S1x1024 : Shape := ⟨2, ![1, 1024]⟩
abbrev S32x23x512 : Shape := ⟨3, ![32, 23, 512]⟩
abbrev S32x23x4x128 : Shape := ⟨4, ![32, 23, 4, 128]⟩
abbrev S32x23x1x128 : Shape := ⟨4, ![32, 23, 1, 128]⟩
abbrev S32x23x128 : Shape := ⟨3, ![32, 23, 128]⟩
abbrev S_ : Shape := ⟨0, ![]⟩
abbrev S32x8x128 : Shape := ⟨3, ![32, 8, 128]⟩
abbrev S32x8x1x128 : Shape := ⟨4, ![32, 8, 1, 128]⟩
abbrev S256x128 : Shape := ⟨2, ![256, 128]⟩
abbrev S1x128x128 : Shape := ⟨3, ![1, 128, 128]⟩
abbrev S128x128 : Shape := ⟨2, ![128, 128]⟩
abbrev S1024 : Shape := ⟨1, ![1024]⟩
abbrev S256 : Shape := ⟨1, ![256]⟩
abbrev S256x1 : Shape := ⟨2, ![256, 1]⟩

abbrev nBuf : Space → Nat
  | .hbm => 159
  | .vmem => 0
  | .smem => 0
  | _ => 0

abbrev hbmTy0_0 (i : Nat) : BufTy := match i % 128 with
  | 0 => ⟨S256x1024, .f32⟩
  | 1 => ⟨S256x512, .f32⟩
  | 2 => ⟨S256x5760, .f32⟩
  | 3 => ⟨S32x24x512, .f32⟩
  | 4 => ⟨S4x128x128, .bf16⟩
  | 5 => ⟨S1x512, .f32⟩
  | 6 => ⟨S2x1024, .f32⟩
  | 7 => ⟨S512x1024, .bf16⟩
  | 8 => ⟨S512x1024, .bf16⟩
  | 9 => ⟨S1024x1024, .bf16⟩
  | 10 => ⟨S1x1024, .f32⟩
  | 11 => ⟨S32x23x512, .f32⟩
  | 12 => ⟨S32x23x4x128, .f32⟩
  | 13 => ⟨S32x23x1x128, .f32⟩
  | 14 => ⟨S32x23x128, .f32⟩
  | 15 => ⟨S_, .f32⟩
  | 16 => ⟨S_, .f32⟩
  | 17 => ⟨S32x23x128, .f32⟩
  | 18 => ⟨S32x8x128, .f32⟩
  | 19 => ⟨S_, .f32⟩
  | 20 => ⟨S32x8x128, .f32⟩
  | 21 => ⟨S32x8x128, .f32⟩
  | 22 => ⟨S32x8x1x128, .f32⟩
  | 23 => ⟨S32x8x128, .f32⟩
  | 24 => ⟨S32x8x128, .f32⟩
  | 25 => ⟨S256x128, .f32⟩
  | 26 => ⟨S1x128x128, .bf16⟩
  | 27 => ⟨S128x128, .bf16⟩
  | 28 => ⟨S128x128, .f32⟩
  | 29 => ⟨S256x128, .f32⟩
  | 30 => ⟨S32x23x1x128, .f32⟩
  | 31 => ⟨S32x23x128, .f32⟩
  | 32 => ⟨S_, .f32⟩
  | 33 => ⟨S_, .f32⟩
  | 34 => ⟨S32x23x128, .f32⟩
  | 35 => ⟨S32x8x128, .f32⟩
  | 36 => ⟨S_, .f32⟩
  | 37 => ⟨S32x8x128, .f32⟩
  | 38 => ⟨S32x8x128, .f32⟩
  | 39 => ⟨S32x8x1x128, .f32⟩
  | 40 => ⟨S32x8x128, .f32⟩
  | 41 => ⟨S32x8x128, .f32⟩
  | 42 => ⟨S256x128, .f32⟩
  | 43 => ⟨S1x128x128, .bf16⟩
  | 44 => ⟨S128x128, .bf16⟩
  | 45 => ⟨S128x128, .f32⟩
  | 46 => ⟨S256x128, .f32⟩
  | 47 => ⟨S32x23x1x128, .f32⟩
  | 48 => ⟨S32x23x128, .f32⟩
  | 49 => ⟨S_, .f32⟩
  | 50 => ⟨S_, .f32⟩
  | 51 => ⟨S32x23x128, .f32⟩
  | 52 => ⟨S32x8x128, .f32⟩
  | 53 => ⟨S_, .f32⟩
  | 54 => ⟨S32x8x128, .f32⟩
  | 55 => ⟨S32x8x128, .f32⟩
  | 56 => ⟨S32x8x1x128, .f32⟩
  | 57 => ⟨S32x8x128, .f32⟩
  | 58 => ⟨S32x8x128, .f32⟩
  | 59 => ⟨S256x128, .f32⟩
  | 60 => ⟨S1x128x128, .bf16⟩
  | 61 => ⟨S128x128, .bf16⟩
  | 62 => ⟨S128x128, .f32⟩
  | 63 => ⟨S256x128, .f32⟩
  | 64 => ⟨S32x23x1x128, .f32⟩
  | 65 => ⟨S32x23x128, .f32⟩
  | 66 => ⟨S_, .f32⟩
  | 67 => ⟨S_, .f32⟩
  | 68 => ⟨S32x23x128, .f32⟩
  | 69 => ⟨S32x8x128, .f32⟩
  | 70 => ⟨S_, .f32⟩
  | 71 => ⟨S32x8x128, .f32⟩
  | 72 => ⟨S32x8x128, .f32⟩
  | 73 => ⟨S32x8x1x128, .f32⟩
  | 74 => ⟨S32x8x128, .f32⟩
  | 75 => ⟨S32x8x128, .f32⟩
  | 76 => ⟨S256x128, .f32⟩
  | 77 => ⟨S1x128x128, .bf16⟩
  | 78 => ⟨S128x128, .bf16⟩
  | 79 => ⟨S128x128, .f32⟩
  | 80 => ⟨S256x128, .f32⟩
  | 81 => ⟨S256x512, .f32⟩
  | 82 => ⟨S256x512, .f32⟩
  | 83 => ⟨S256x512, .f32⟩
  | 84 => ⟨S256x512, .f32⟩
  | 85 => ⟨S256x512, .f32⟩
  | 86 => ⟨S256x1024, .f32⟩
  | 87 => ⟨S256x1024, .f32⟩
  | 88 => ⟨S512x1024, .f32⟩
  | 89 => ⟨S512x1024, .f32⟩
  | 90 => ⟨S1024x1024, .f32⟩
  | 91 => ⟨S256x512, .f32⟩
  | 92 => ⟨S256x512, .f32⟩
  | 93 => ⟨S_, .f32⟩
  | 94 => ⟨S256x512, .f32⟩
  | 95 => ⟨S256x512, .f32⟩
  | 96 => ⟨S_, .f32⟩
  | 97 => ⟨S256x512, .f32⟩
  | 98 => ⟨S256x512, .f32⟩
  | 99 => ⟨S256x512, .f32⟩
  | 100 => ⟨S256x512, .f32⟩
  | 101 => ⟨S256x1024, .f32⟩
  | 102 => ⟨S256x512, .f32⟩
  | 103 => ⟨S256x512, .f32⟩
  | 104 => ⟨S_, .f32⟩
  | 105 => ⟨S256x512, .f32⟩
  | 106 => ⟨S256x512, .f32⟩
  | 107 => ⟨S_, .f32⟩
  | 108 => ⟨S256x512, .f32⟩
  | 109 => ⟨S256x512, .f32⟩
  | 110 => ⟨S256x512, .f32⟩
  | 111 => ⟨S256x512, .f32⟩
  | 112 => ⟨S256x1024, .f32⟩
  | 113 => ⟨S1x1024, .f32⟩
  | 114 => ⟨S1024, .f32⟩
  | 115 => ⟨S1x1024, .f32⟩
  | 116 => ⟨S256x1024, .f32⟩
  | 117 => ⟨S256x1024, .f32⟩
  | 118 => ⟨S256x1024, .f32⟩
  | 119 => ⟨S256x1024, .f32⟩
  | 120 => ⟨S_, .f32⟩
  | 121 => ⟨S256x1024, .f32⟩
  | 122 => ⟨S256x1024, .f32⟩
  | 123 => ⟨S_, .f32⟩
  | 124 => ⟨S256x1024, .f32⟩
  | 125 => ⟨S256x1024, .f32⟩
  | 126 => ⟨S256x1024, .f32⟩
  | 127 => ⟨S1x1024, .f32⟩
  | _ => ⟨S256x1024, .f32⟩

abbrev hbmTy0_1 (i : Nat) : BufTy := match i % 128 with
  | 0 => ⟨S1024, .f32⟩
  | 1 => ⟨S1x1024, .f32⟩
  | 2 => ⟨S256x1024, .f32⟩
  | 3 => ⟨S256x1024, .f32⟩
  | 4 => ⟨S256x1024, .f32⟩
  | 5 => ⟨S256x1024, .f32⟩
  | 6 => ⟨S_, .f32⟩
  | 7 => ⟨S256x1024, .f32⟩
  | 8 => ⟨S256x1024, .f32⟩
  | 9 => ⟨S_, .f32⟩
  | 10 => ⟨S256x1024, .f32⟩
  | 11 => ⟨S256x1024, .f32⟩
  | 12 => ⟨S256x1024, .f32⟩
  | 13 => ⟨S256x1024, .f32⟩
  | 14 => ⟨S256x1024, .f32⟩
  | 15 => ⟨S256x1024, .f32⟩
  | 16 => ⟨S256x1024, .f32⟩
  | 17 => ⟨S_, .f32⟩
  | 18 => ⟨S256, .f32⟩
  | 19 => ⟨S256x1, .f32⟩
  | 20 => ⟨S_, .f32⟩
  | 21 => ⟨S256x1, .f32⟩
  | 22 => ⟨S256x1, .f32⟩
  | 23 => ⟨S_, .f32⟩
  | 24 => ⟨S256x1, .f32⟩
  | 25 => ⟨S256x1, .f32⟩
  | 26 => ⟨S256x1, .f32⟩
  | 27 => ⟨S256x1024, .f32⟩
  | 28 => ⟨S256x1024, .f32⟩
  | 29 => ⟨S256x1024, .f32⟩
  | 30 => ⟨S256x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_call0_v0 : Ref sig .tc := ⟨.hbm, 91, rfl⟩
abbrev main_call0_v1 : Ref sig .tc := ⟨.hbm, 92, rfl⟩
abbrev main_call0_cst : Ref sig .tc := ⟨.hbm, 93, rfl⟩
abbrev main_call0_v2 : Ref sig .tc := ⟨.hbm, 94, rfl⟩
abbrev main_call0_v3 : Ref sig .tc := ⟨.hbm, 95, rfl⟩
abbrev main_call0_cst_0 : Ref sig .tc := ⟨.hbm, 96, rfl⟩
abbrev main_call0_v4 : Ref sig .tc := ⟨.hbm, 97, rfl⟩
abbrev main_call0_v5 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_7 : Ref sig .tc := ⟨.hbm, 120, rfl⟩
abbrev main_v85 : Ref sig .tc := ⟨.hbm, 121, rfl⟩
abbrev main_v86 : Ref sig .tc := ⟨.hbm, 122, rfl⟩
abbrev main_cst_8 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_9 : Ref sig .tc := ⟨.hbm, 134, rfl⟩
abbrev main_v97 : Ref sig .tc := ⟨.hbm, 135, rfl⟩
abbrev main_v98 : Ref sig .tc := ⟨.hbm, 136, rfl⟩
abbrev main_cst_10 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_11 : Ref sig .tc := ⟨.hbm, 145, rfl⟩
abbrev main_v106 : Ref sig .tc := ⟨.hbm, 146, rfl⟩
abbrev main_v107 : Ref sig .tc := ⟨.hbm, 147, rfl⟩
abbrev main_cst_12 : Ref sig .tc := ⟨.hbm, 148, rfl⟩
abbrev main_v108 : Ref sig .tc := ⟨.hbm, 149, rfl⟩
abbrev main_v109 : Ref sig .tc := ⟨.hbm, 150, rfl⟩
abbrev main_cst_13 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩

abbrev nD : Nat := 1
abbrev τ : Topo := Topo.v7x

variable {F : FTy → Type} [FloatOps F]
-- ==== Proof.IdxKernelIdealRun.lean ====
/- The body of the sample rows' index kernel at exact arithmetic (`KernelIdeal`), run once through: what every buffer
   holds when the body ends, as a list of stored pieces.  The one case the body has. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- What the body stores in each result's block, as a list of pieces (the last first), with the proof that the body, on blocks
    held whole, the inputs' at their contents and the results' at anything, runs to its end with the inputs as they were and
    the results' blocks written by those pieces. -/
noncomputable def kernelRun0_A (c : Dev nD) (i : grid0.Coords) (arg3 : Memref sig .tc .vmem S8x512 .f32) (harg3 : arg3.IsWhole) (arg4 : Memref sig .tc .vmem S8x128 .f32) (harg4 : arg4.IsWhole) (arg5 : Memref sig .tc .vmem S1x1x64x128 .f32) (harg5 : arg5.IsWhole) (arg6 : Memref sig .tc .vmem S1x1x64x128 .f32) (harg6 : arg6.IsWhole) (arg7 : Memref sig .tc .vmem S1x1x64x128 .f32) (harg7 : arg7.IsWhole) (arg8 : Memref sig .tc .vmem S1x1x64x128 .f32) (harg8 : arg8.IsWhole) (arg9 : Memref sig .tc .vmem S1x1x64x128 .f32) (harg9 : arg9.IsWhole) (arg10 : Memref sig .tc .vmem S1x1x64x128 .f32) (harg10 : arg10.IsWhole) (arg11 : Memref sig .tc .vmem S1x1x64x128 .f32) (harg11 : arg11.IsWhole) (arg12 : Memref sig .tc .vmem S1x1x64x128 .f32) (harg12 : arg12.IsWhole) (arg13 : Memref sig .tc .vmem S1x1x64x128 .f32) (harg13 : arg13.IsWhole) (arg14 : Memref sig .tc .vmem S1x1x64x128 .f32) (harg14 : arg14.IsWhole) (arg15 : Memref sig .tc .vmem S1x1x64x128 .f32) (harg15 : arg15.IsWhole) (arg16 : Memref sig .tc .vmem S1x1x64x128 .f32) (harg16 : arg16.IsWhole) (arg17 : Memref sig .tc .vmem S1x1x64x128 .f32) (harg17 : arg17.IsWhole) (arg18 : Memref sig .tc .vmem S1x1x64x128 .f32) (harg18 : arg18.IsWhole) (arg19 : Memref sig .tc .vmem S1x1x64x128 .f32) (harg19 : arg19.IsWhole) (arg20 : Memref sig .tc .vmem S1x1x64x128 .f32) (harg20 : arg20.IsWhole) (arg21 : Memref sig .tc .vmem S1x1x64x128 .f32) (harg21 : arg21.IsWhole) (arg22 : Memref sig .tc .vmem S1x1x64x128 .f32) (harg22 : arg22.IsWhole) (arg23 : Memref sig .tc .vmem S1x1x64x128 .f32) (harg23 : arg23.IsWhole) (arg24 : Memref sig .tc .vmem S1x1x64x128 .f32) (harg24 : arg24.IsWhole) (arg25 : Memref sig .tc .vmem S1x1x64x128 .f32) (harg25 : arg25.IsWhole) (arg26 : Memref sig .tc .vmem S1x1x64x128 .f32) (harg26 : arg26.IsWhole) (arg27 : Memref sig .tc .vmem S1x1x64x128 .f32) (harg27 : arg27.IsWhole) (arg28 : Memref sig .tc .vmem S1x1x64x128 .f32) (harg28 : arg28.IsWhole) (arg29 : Memref sig .tc .vmem S1x1x64x128 .f32) (harg29 : arg29.IsWhole) (arg30 : Memref sig .tc .vmem S1x1x64x128 .f32) (harg30 : arg30.IsWhole) (arg31 : Memref sig .tc .vmem S1x1x64x128 .f32) (harg31 : arg31.IsWhole) (arg32 : Memref sig .tc .vmem S1x1x64x128 .f32) (harg32 : arg32.IsWhole) (arg33 : Memref sig .tc .vmem S1x1x64x128 .f32) (harg33 : arg33.IsWhole) (arg34 : Memref sig .tc .vmem S1x1x64x128 .f32) (harg34 : arg34.IsWhole) (arg35 : Memref sig .tc .vmem S1x1x64x128 .f32) (harg35 : arg35.IsWhole) (arg36 : Memref sig .tc .vmem S1x1x64x128 .f32) (harg36 : arg36.IsWhole) (arg37 : Memref sig .tc .vmem S1x8x4096 .f32) (harg37 : arg37.IsWhole) (arg38 : Memref sig .tc .vmem S1x8x128 .f32) (harg38 : arg38.IsWhole)
    (x0 : Vec F S8x512 .f32) (x1 : Vec F S8x128 .f32) (x2 : Vec F S1x1x64x128 .f32) (x3 : Vec F S1x1x64x128 .f32) (x4 : Vec F S1x1x64x128 .f32) (x5 : Vec F S1x1x64x128 .f32) (x6 : Vec F S1x1x64x128 .f32) (x7 : Vec F S1x1x64x128 .f32) (x8 : Vec F S1x1x64x128 .f32) (x9 : Vec F S1x1x64x128 .f32) (x10 : Vec F S1x1x64x128 .f32) (x11 : Vec F S1x1x64x128 .f32) (x12 : Vec F S1x1x64x128 .f32) (x13 : Vec F S1x1x64x128 .f32) (x14 : Vec F S1x1x64x128 .f32) (x15 : Vec F S1x1x64x128 .f32) (x16 : Vec F S1x1x64x128 .f32) (x17 : Vec F S1x1x64x128 .f32) (x18 : Vec F S1x1x64x128 .f32) (x19 : Vec F S1x1x64x128 .f32) (x20 : Vec F S1x1x64x128 .f32) (x21 : Vec F S1x1x64x128 .f32) (x22 : Vec F S1x1x64x128 .f32) (x23 : Vec F S1x1x64x128 .f32) (x24 : Vec F S1x1x64x128 .f32) (x25 : Vec F S1x1x64x128 .f32) (x26 : Vec F S1x1x64x128 .f32) (x27 : Vec F S1x1x64x128 .f32) (x28 : Vec F S1x1x64x128 .f32) (x29 : Vec F S1x1x64x128 .f32) (x30 : Vec F S1x1x64x128 .f32) (x31 : Vec F S1x1x64x128 .f32) (x32 : Vec F S1x1x64x128 .f32) (x33 : Vec F S1x1x64x128 .f32) (xt0 : TbBuf0 (F := F) c tbM0_0) :
    Σ' (L34 : List (View.Piece (Elt F) S1x8x4096 .f32)), { L35 : List (View.Piece (Elt F) S1x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ (∃ d, owns (c : Thread nD τ) arg37 fullShare d) ∗ (∃ d, owns (c : Thread nD τ) arg38 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ (∃ f, arg37.view.loc (c : Thread nD τ) ↦[arg37.view.set]{fullShare} arg37.view.writes (Elt F) f L34) ∗ (∃ f, arg38.view.loc (c : Thread nD τ) ↦[arg38.view.set]{fullShare} arg38.view.writes (Elt F) f L35) ∗ tbPt0 c tbM0_0 xt0) -∗ K ⟨⟩))
          ⊢ wp frame (wpE (defs₀ (F := F)) Variants.none c none) E (cc0_sample_idx i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, ?_, fun E K => ?run⟩
  case run =>
    simp only [cc0_sample_idx_eq_skeleton]; unfold cc0_sample_idx_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%d34, %f34, -, H34⟩, ⟨%d35, %f35, -, H35⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg31.eq_unread hf28; obtain rfl := harg32.eq_unread hf29; obtain rfl := harg33.eq_unread hf30; obtain rfl := harg34.eq_unread hf31; obtain rfl := harg35.eq_unread hf32; obtain rfl := harg36.eq_unread hf33
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]
    · iexists _; isplitr; · ipureintro; exact harg27.read_unread _
      iexact H24
    isplitl [H25]
    · iexists _; isplitr; · ipureintro; exact harg28.read_unread _
      iexact H25
    isplitl [H26]
    · iexists _; isplitr; · ipureintro; exact harg29.read_unread _
      iexact H26
    isplitl [H27]
    · iexists _; isplitr; · ipureintro; exact harg30.read_unread _
      iexact H27
    isplitl [H28]
    · iexists _; isplitr; · ipureintro; exact harg31.read_unread _
      iexact H28
    isplitl [H29]
    · iexists _; isplitr; · ipureintro; exact harg32.read_unread _
      iexact H29
    isplitl [H30]
    · iexists _; isplitr; · ipureintro; exact harg33.read_unread _
      iexact H30
    isplitl [H31]
    · iexists _; isplitr; · ipureintro; exact harg34.read_unread _
      iexact H31
    isplitl [H32]
    · iexists _; isplitr; · ipureintro; exact harg35.read_unread _
      iexact H32
    isplitl [H33]
    · iexists _; isplitr; · ipureintro; exact harg36.read_unread _
      iexact H33
    isplitl [H34]; · iexists _; iexact H34
    isplitl [H35]; · iexists _; iexact H35
    iexact HT0

end Cert.KernelIdeal.Gen

end
-- ==== Proof.IdxKernelIdealFrame.lean ====
/- The frame of the sample rows' index kernel at exact arithmetic (`KernelIdeal`): what the two results hold point by
   point, the proof data of the pipeline, the body at every grid point, and the launch, for every page table whose
   entries name pages of the pool (`Gen.Ok`). -/
module

public import proofs.«01_k».proof.Proof.IdxKernelIdealRun
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The 32 pieces stored in the first result's block, 128 columns each, cover it. -/
theorem cover0_A_34 (c : Dev nD) (i : grid0.Coords) (arg3 : Memref sig .tc .vmem S8x512 .f32) (harg3 : arg3.IsWhole) (arg4 : Memref sig .tc .vmem S8x128 .f32) (harg4 : arg4.IsWhole) (arg5 : Memref sig .tc .vmem S1x1x64x128 .f32) (harg5 : arg5.IsWhole) (arg6 : Memref sig .tc .vmem S1x1x64x128 .f32) (harg6 : arg6.IsWhole) (arg7 : Memref sig .tc .vmem S1x1x64x128 .f32) (harg7 : arg7.IsWhole) (arg8 : Memref sig .tc .vmem S1x1x64x128 .f32) (harg8 : arg8.IsWhole) (arg9 : Memref sig .tc .vmem S1x1x64x128 .f32) (harg9 : arg9.IsWhole) (arg10 : Memref sig .tc .vmem S1x1x64x128 .f32) (harg10 : arg10.IsWhole) (arg11 : Memref sig .tc .vmem S1x1x64x128 .f32) (harg11 : arg11.IsWhole) (arg12 : Memref sig .tc .vmem S1x1x64x128 .f32) (harg12 : arg12.IsWhole) (arg13 : Memref sig .tc .vmem S1x1x64x128 .f32) (harg13 : arg13.IsWhole) (arg14 : Memref sig .tc .vmem S1x1x64x128 .f32) (harg14 : arg14.IsWhole) (arg15 : Memref sig .tc .vmem S1x1x64x128 .f32) (harg15 : arg15.IsWhole) (arg16 : Memref sig .tc .vmem S1x1x64x128 .f32) (harg16 : arg16.IsWhole) (arg17 : Memref sig .tc .vmem S1x1x64x128 .f32) (harg17 : arg17.IsWhole) (arg18 : Memref sig .tc .vmem S1x1x64x128 .f32) (harg18 : arg18.IsWhole) (arg19 : Memref sig .tc .vmem S1x1x64x128 .f32) (harg19 : arg19.IsWhole) (arg20 : Memref sig .tc .vmem S1x1x64x128 .f32) (harg20 : arg20.IsWhole) (arg21 : Memref sig .tc .vmem S1x1x64x128 .f32) (harg21 : arg21.IsWhole) (arg22 : Memref sig .tc .vmem S1x1x64x128 .f32) (harg22 : arg22.IsWhole) (arg23 : Memref sig .tc .vmem S1x1x64x128 .f32) (harg23 : arg23.IsWhole) (arg24 : Memref sig .tc .vmem S1x1x64x128 .f32) (harg24 : arg24.IsWhole) (arg25 : Memref sig .tc .vmem S1x1x64x128 .f32) (harg25 : arg25.IsWhole) (arg26 : Memref sig .tc .vmem S1x1x64x128 .f32) (harg26 : arg26.IsWhole) (arg27 : Memref sig .tc .vmem S1x1x64x128 .f32) (harg27 : arg27.IsWhole) (arg28 : Memref sig .tc .vmem S1x1x64x128 .f32) (harg28 : arg28.IsWhole) (arg29 : Memref sig .tc .vmem S1x1x64x128 .f32) (harg29 : arg29.IsWhole) (arg30 : Memref sig .tc .vmem S1x1x64x128 .f32) (harg30 : arg30.IsWhole) (arg31 : Memref sig .tc .vmem S1x1x64x128 .f32) (harg31 : arg31.IsWhole) (arg32 : Memref sig .tc .vmem S1x1x64x128 .f32) (harg32 : arg32.IsWhole) (arg33 : Memref sig .tc .vmem S1x1x64x128 .f32) (harg33 : arg33.IsWhole) (arg34 : Memref sig .tc .vmem S1x1x64x128 .f32) (harg34 : arg34.IsWhole) (arg35 : Memref sig .tc .vmem S1x1x64x128 .f32) (harg35 : arg35.IsWhole) (arg36 : Memref sig .tc .vmem S1x1x64x128 .f32) (harg36 : arg36.IsWhole) (arg37 : Memref sig .tc .vmem S1x8x4096 .f32) (harg37 : arg37.IsWhole) (arg38 : Memref sig .tc .vmem S1x8x128 .f32) (harg38 : arg38.IsWhole)
    (x0 : Vec F S8x512 .f32) (x1 : Vec F S8x128 .f32) (x2 : Vec F S1x1x64x128 .f32) (x3 : Vec F S1x1x64x128 .f32) (x4 : Vec F S1x1x64x128 .f32) (x5 : Vec F S1x1x64x128 .f32) (x6 : Vec F S1x1x64x128 .f32) (x7 : Vec F S1x1x64x128 .f32) (x8 : Vec F S1x1x64x128 .f32) (x9 : Vec F S1x1x64x128 .f32) (x10 : Vec F S1x1x64x128 .f32) (x11 : Vec F S1x1x64x128 .f32) (x12 : Vec F S1x1x64x128 .f32) (x13 : Vec F S1x1x64x128 .f32) (x14 : Vec F S1x1x64x128 .f32) (x15 : Vec F S1x1x64x128 .f32) (x16 : Vec F S1x1x64x128 .f32) (x17 : Vec F S1x1x64x128 .f32) (x18 : Vec F S1x1x64x128 .f32) (x19 : Vec F S1x1x64x128 .f32) (x20 : Vec F S1x1x64x128 .f32) (x21 : Vec F S1x1x64x128 .f32) (x22 : Vec F S1x1x64x128 .f32) (x23 : Vec F S1x1x64x128 .f32) (x24 : Vec F S1x1x64x128 .f32) (x25 : Vec F S1x1x64x128 .f32) (x26 : Vec F S1x1x64x128 .f32) (x27 : Vec F S1x1x64x128 .f32) (x28 : Vec F S1x1x64x128 .f32) (x29 : Vec F S1x1x64x128 .f32) (x30 : Vec F S1x1x64x128 .f32) (x31 : Vec F S1x1x64x128 .f32) (x32 : Vec F S1x1x64x128 .f32) (x33 : Vec F S1x1x64x128 .f32) (xt0 : TbBuf0 (F := F) c tbM0_0) (y : S1x8x4096.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 xt0).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 xt0).1 S1x8x128.size (by sl_kernel_rfl) y

/-- What the body leaves in the first result's block. -/
def out0_A_34 (c : Dev nD) (i : grid0.Coords) (arg3 : Memref sig .tc .vmem S8x512 .f32) (harg3 : arg3.IsWhole) (arg4 : Memref sig .tc .vmem S8x128 .f32) (harg4 : arg4.IsWhole) (arg5 : Memref sig .tc .vmem S1x1x64x128 .f32) (harg5 : arg5.IsWhole) (arg6 : Memref sig .tc .vmem S1x1x64x128 .f32) (harg6 : arg6.IsWhole) (arg7 : Memref sig .tc .vmem S1x1x64x128 .f32) (harg7 : arg7.IsWhole) (arg8 : Memref sig .tc .vmem S1x1x64x128 .f32) (harg8 : arg8.IsWhole) (arg9 : Memref sig .tc .vmem S1x1x64x128 .f32) (harg9 : arg9.IsWhole) (arg10 : Memref sig .tc .vmem S1x1x64x128 .f32) (harg10 : arg10.IsWhole) (arg11 : Memref sig .tc .vmem S1x1x64x128 .f32) (harg11 : arg11.IsWhole) (arg12 : Memref sig .tc .vmem S1x1x64x128 .f32) (harg12 : arg12.IsWhole) (arg13 : Memref sig .tc .vmem S1x1x64x128 .f32) (harg13 : arg13.IsWhole) (arg14 : Memref sig .tc .vmem S1x1x64x128 .f32) (harg14 : arg14.IsWhole) (arg15 : Memref sig .tc .vmem S1x1x64x128 .f32) (harg15 : arg15.IsWhole) (arg16 : Memref sig .tc .vmem S1x1x64x128 .f32) (harg16 : arg16.IsWhole) (arg17 : Memref sig .tc .vmem S1x1x64x128 .f32) (harg17 : arg17.IsWhole) (arg18 : Memref sig .tc .vmem S1x1x64x128 .f32) (harg18 : arg18.IsWhole) (arg19 : Memref sig .tc .vmem S1x1x64x128 .f32) (harg19 : arg19.IsWhole) (arg20 : Memref sig .tc .vmem S1x1x64x128 .f32) (harg20 : arg20.IsWhole) (arg21 : Memref sig .tc .vmem S1x1x64x128 .f32) (harg21 : arg21.IsWhole) (arg22 : Memref sig .tc .vmem S1x1x64x128 .f32) (harg22 : arg22.IsWhole) (arg23 : Memref sig .tc .vmem S1x1x64x128 .f32) (harg23 : arg23.IsWhole) (arg24 : Memref sig .tc .vmem S1x1x64x128 .f32) (harg24 : arg24.IsWhole) (arg25 : Memref sig .tc .vmem S1x1x64x128 .f32) (harg25 : arg25.IsWhole) (arg26 : Memref sig .tc .vmem S1x1x64x128 .f32) (harg26 : arg26.IsWhole) (arg27 : Memref sig .tc .vmem S1x1x64x128 .f32) (harg27 : arg27.IsWhole) (arg28 : Memref sig .tc .vmem S1x1x64x128 .f32) (harg28 : arg28.IsWhole) (arg29 : Memref sig .tc .vmem S1x1x64x128 .f32) (harg29 : arg29.IsWhole) (arg30 : Memref sig .tc .vmem S1x1x64x128 .f32) (harg30 : arg30.IsWhole) (arg31 : Memref sig .tc .vmem S1x1x64x128 .f32) (harg31 : arg31.IsWhole) (arg32 : Memref sig .tc .vmem S1x1x64x128 .f32) (harg32 : arg32.IsWhole) (arg33 : Memref sig .tc .vmem S1x1x64x128 .f32) (harg33 : arg33.IsWhole) (arg34 : Memref sig .tc .vmem S1x1x64x128 .f32) (harg34 : arg34.IsWhole) (arg35 : Memref sig .tc .vmem S1x1x64x128 .f32) (harg35 : arg35.IsWhole) (arg36 : Memref sig .tc .vmem S1x1x64x128 .f32) (harg36 : arg36.IsWhole) (arg37 : Memref sig .tc .vmem S1x8x4096 .f32) (harg37 : arg37.IsWhole) (arg38 : Memref sig .tc .vmem S1x8x128 .f32) (harg38 : arg38.IsWhole)
    (x0 : Vec F S8x512 .f32) (x1 : Vec F S8x128 .f32) (x2 : Vec F S1x1x64x128 .f32) (x3 : Vec F S1x1x64x128 .f32) (x4 : Vec F S1x1x64x128 .f32) (x5 : Vec F S1x1x64x128 .f32) (x6 : Vec F S1x1x64x128 .f32) (x7 : Vec F S1x1x64x128 .f32) (x8 : Vec F S1x1x64x128 .f32) (x9 : Vec F S1x1x64x128 .f32) (x10 : Vec F S1x1x64x128 .f32) (x11 : Vec F S1x1x64x128 .f32) (x12 : Vec F S1x1x64x128 .f32) (x13 : Vec F S1x1x64x128 .f32) (x14 : Vec F S1x1x64x128 .f32) (x15 : Vec F S1x1x64x128 .f32) (x16 : Vec F S1x1x64x128 .f32) (x17 : Vec F S1x1x64x128 .f32) (x18 : Vec F S1x1x64x128 .f32) (x19 : Vec F S1x1x64x128 .f32) (x20 : Vec F S1x1x64x128 .f32) (x21 : Vec F S1x1x64x128 .f32) (x22 : Vec F S1x1x64x128 .f32) (x23 : Vec F S1x1x64x128 .f32) (x24 : Vec F S1x1x64x128 .f32) (x25 : Vec F S1x1x64x128 .f32) (x26 : Vec F S1x1x64x128 .f32) (x27 : Vec F S1x1x64x128 .f32) (x28 : Vec F S1x1x64x128 .f32) (x29 : Vec F S1x1x64x128 .f32) (x30 : Vec F S1x1x64x128 .f32) (x31 : Vec F S1x1x64x128 .f32) (x32 : Vec F S1x1x64x128 .f32) (x33 : Vec F S1x1x64x128 .f32) (xt0 : TbBuf0 (F := F) c tbM0_0) : Vec F S1x8x4096 .f32 :=
  VO0_34.read (Elt F) (VO0_34.writes (Elt F) VO0_34.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 xt0).1)

/-- The one piece stored in the second result's block covers it. -/
theorem cover0_A_35 (c : Dev nD) (i : grid0.Coords) (arg3 : Memref sig .tc .vmem S8x512 .f32) (harg3 : arg3.IsWhole) (arg4 : Memref sig .tc .vmem S8x128 .f32) (harg4 : arg4.IsWhole) (arg5 : Memref sig .tc .vmem S1x1x64x128 .f32) (harg5 : arg5.IsWhole) (arg6 : Memref sig .tc .vmem S1x1x64x128 .f32) (harg6 : arg6.IsWhole) (arg7 : Memref sig .tc .vmem S1x1x64x128 .f32) (harg7 : arg7.IsWhole) (arg8 : Memref sig .tc .vmem S1x1x64x128 .f32) (harg8 : arg8.IsWhole) (arg9 : Memref sig .tc .vmem S1x1x64x128 .f32) (harg9 : arg9.IsWhole) (arg10 : Memref sig .tc .vmem S1x1x64x128 .f32) (harg10 : arg10.IsWhole) (arg11 : Memref sig .tc .vmem S1x1x64x128 .f32) (harg11 : arg11.IsWhole) (arg12 : Memref sig .tc .vmem S1x1x64x128 .f32) (harg12 : arg12.IsWhole) (arg13 : Memref sig .tc .vmem S1x1x64x128 .f32) (harg13 : arg13.IsWhole) (arg14 : Memref sig .tc .vmem S1x1x64x128 .f32) (harg14 : arg14.IsWhole) (arg15 : Memref sig .tc .vmem S1x1x64x128 .f32) (harg15 : arg15.IsWhole) (arg16 : Memref sig .tc .vmem S1x1x64x128 .f32) (harg16 : arg16.IsWhole) (arg17 : Memref sig .tc .vmem S1x1x64x128 .f32) (harg17 : arg17.IsWhole) (arg18 : Memref sig .tc .vmem S1x1x64x128 .f32) (harg18 : arg18.IsWhole) (arg19 : Memref sig .tc .vmem S1x1x64x128 .f32) (harg19 : arg19.IsWhole) (arg20 : Memref sig .tc .vmem S1x1x64x128 .f32) (harg20 : arg20.IsWhole) (arg21 : Memref sig .tc .vmem S1x1x64x128 .f32) (harg21 : arg21.IsWhole) (arg22 : Memref sig .tc .vmem S1x1x64x128 .f32) (harg22 : arg22.IsWhole) (arg23 : Memref sig .tc .vmem S1x1x64x128 .f32) (harg23 : arg23.IsWhole) (arg24 : Memref sig .tc .vmem S1x1x64x128 .f32) (harg24 : arg24.IsWhole) (arg25 : Memref sig .tc .vmem S1x1x64x128 .f32) (harg25 : arg25.IsWhole) (arg26 : Memref sig .tc .vmem S1x1x64x128 .f32) (harg26 : arg26.IsWhole) (arg27 : Memref sig .tc .vmem S1x1x64x128 .f32) (harg27 : arg27.IsWhole) (arg28 : Memref sig .tc .vmem S1x1x64x128 .f32) (harg28 : arg28.IsWhole) (arg29 : Memref sig .tc .vmem S1x1x64x128 .f32) (harg29 : arg29.IsWhole) (arg30 : Memref sig .tc .vmem S1x1x64x128 .f32) (harg30 : arg30.IsWhole) (arg31 : Memref sig .tc .vmem S1x1x64x128 .f32) (harg31 : arg31.IsWhole) (arg32 : Memref sig .tc .vmem S1x1x64x128 .f32) (harg32 : arg32.IsWhole) (arg33 : Memref sig .tc .vmem S1x1x64x128 .f32) (harg33 : arg33.IsWhole) (arg34 : Memref sig .tc .vmem S1x1x64x128 .f32) (harg34 : arg34.IsWhole) (arg35 : Memref sig .tc .vmem S1x1x64x128 .f32) (harg35 : arg35.IsWhole) (arg36 : Memref sig .tc .vmem S1x1x64x128 .f32) (harg36 : arg36.IsWhole) (arg37 : Memref sig .tc .vmem S1x8x4096 .f32) (harg37 : arg37.IsWhole) (arg38 : Memref sig .tc .vmem S1x8x128 .f32) (harg38 : arg38.IsWhole)
    (x0 : Vec F S8x512 .f32) (x1 : Vec F S8x128 .f32) (x2 : Vec F S1x1x64x128 .f32) (x3 : Vec F S1x1x64x128 .f32) (x4 : Vec F S1x1x64x128 .f32) (x5 : Vec F S1x1x64x128 .f32) (x6 : Vec F S1x1x64x128 .f32) (x7 : Vec F S1x1x64x128 .f32) (x8 : Vec F S1x1x64x128 .f32) (x9 : Vec F S1x1x64x128 .f32) (x10 : Vec F S1x1x64x128 .f32) (x11 : Vec F S1x1x64x128 .f32) (x12 : Vec F S1x1x64x128 .f32) (x13 : Vec F S1x1x64x128 .f32) (x14 : Vec F S1x1x64x128 .f32) (x15 : Vec F S1x1x64x128 .f32) (x16 : Vec F S1x1x64x128 .f32) (x17 : Vec F S1x1x64x128 .f32) (x18 : Vec F S1x1x64x128 .f32) (x19 : Vec F S1x1x64x128 .f32) (x20 : Vec F S1x1x64x128 .f32) (x21 : Vec F S1x1x64x128 .f32) (x22 : Vec F S1x1x64x128 .f32) (x23 : Vec F S1x1x64x128 .f32) (x24 : Vec F S1x1x64x128 .f32) (x25 : Vec F S1x1x64x128 .f32) (x26 : Vec F S1x1x64x128 .f32) (x27 : Vec F S1x1x64x128 .f32) (x28 : Vec F S1x1x64x128 .f32) (x29 : Vec F S1x1x64x128 .f32) (x30 : Vec F S1x1x64x128 .f32) (x31 : Vec F S1x1x64x128 .f32) (x32 : Vec F S1x1x64x128 .f32) (x33 : Vec F S1x1x64x128 .f32) (xt0 : TbBuf0 (F := F) c tbM0_0) (y : S1x8x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 xt0).2.1 S1x8x128.size (by sl_kernel_rfl) y

/-- What the body leaves in the second result's block. -/
def out0_A_35 (c : Dev nD) (i : grid0.Coords) (arg3 : Memref sig .tc .vmem S8x512 .f32) (harg3 : arg3.IsWhole) (arg4 : Memref sig .tc .vmem S8x128 .f32) (harg4 : arg4.IsWhole) (arg5 : Memref sig .tc .vmem S1x1x64x128 .f32) (harg5 : arg5.IsWhole) (arg6 : Memref sig .tc .vmem S1x1x64x128 .f32) (harg6 : arg6.IsWhole) (arg7 : Memref sig .tc .vmem S1x1x64x128 .f32) (harg7 : arg7.IsWhole) (arg8 : Memref sig .tc .vmem S1x1x64x128 .f32) (harg8 : arg8.IsWhole) (arg9 : Memref sig .tc .vmem S1x1x64x128 .f32) (harg9 : arg9.IsWhole) (arg10 : Memref sig .tc .vmem S1x1x64x128 .f32) (harg10 : arg10.IsWhole) (arg11 : Memref sig .tc .vmem S1x1x64x128 .f32) (harg11 : arg11.IsWhole) (arg12 : Memref sig .tc .vmem S1x1x64x128 .f32) (harg12 : arg12.IsWhole) (arg13 : Memref sig .tc .vmem S1x1x64x128 .f32) (harg13 : arg13.IsWhole) (arg14 : Memref sig .tc .vmem S1x1x64x128 .f32) (harg14 : arg14.IsWhole) (arg15 : Memref sig .tc .vmem S1x1x64x128 .f32) (harg15 : arg15.IsWhole) (arg16 : Memref sig .tc .vmem S1x1x64x128 .f32) (harg16 : arg16.IsWhole) (arg17 : Memref sig .tc .vmem S1x1x64x128 .f32) (harg17 : arg17.IsWhole) (arg18 : Memref sig .tc .vmem S1x1x64x128 .f32) (harg18 : arg18.IsWhole) (arg19 : Memref sig .tc .vmem S1x1x64x128 .f32) (harg19 : arg19.IsWhole) (arg20 : Memref sig .tc .vmem S1x1x64x128 .f32) (harg20 : arg20.IsWhole) (arg21 : Memref sig .tc .vmem S1x1x64x128 .f32) (harg21 : arg21.IsWhole) (arg22 : Memref sig .tc .vmem S1x1x64x128 .f32) (harg22 : arg22.IsWhole) (arg23 : Memref sig .tc .vmem S1x1x64x128 .f32) (harg23 : arg23.IsWhole) (arg24 : Memref sig .tc .vmem S1x1x64x128 .f32) (harg24 : arg24.IsWhole) (arg25 : Memref sig .tc .vmem S1x1x64x128 .f32) (harg25 : arg25.IsWhole) (arg26 : Memref sig .tc .vmem S1x1x64x128 .f32) (harg26 : arg26.IsWhole) (arg27 : Memref sig .tc .vmem S1x1x64x128 .f32) (harg27 : arg27.IsWhole) (arg28 : Memref sig .tc .vmem S1x1x64x128 .f32) (harg28 : arg28.IsWhole) (arg29 : Memref sig .tc .vmem S1x1x64x128 .f32) (harg29 : arg29.IsWhole) (arg30 : Memref sig .tc .vmem S1x1x64x128 .f32) (harg30 : arg30.IsWhole) (arg31 : Memref sig .tc .vmem S1x1x64x128 .f32) (harg31 : arg31.IsWhole) (arg32 : Memref sig .tc .vmem S1x1x64x128 .f32) (harg32 : arg32.IsWhole) (arg33 : Memref sig .tc .vmem S1x1x64x128 .f32) (harg33 : arg33.IsWhole) (arg34 : Memref sig .tc .vmem S1x1x64x128 .f32) (harg34 : arg34.IsWhole) (arg35 : Memref sig .tc .vmem S1x1x64x128 .f32) (harg35 : arg35.IsWhole) (arg36 : Memref sig .tc .vmem S1x1x64x128 .f32) (harg36 : arg36.IsWhole) (arg37 : Memref sig .tc .vmem S1x8x4096 .f32) (harg37 : arg37.IsWhole) (arg38 : Memref sig .tc .vmem S1x8x128 .f32) (harg38 : arg38.IsWhole)
    (x0 : Vec F S8x512 .f32) (x1 : Vec F S8x128 .f32) (x2 : Vec F S1x1x64x128 .f32) (x3 : Vec F S1x1x64x128 .f32) (x4 : Vec F S1x1x64x128 .f32) (x5 : Vec F S1x1x64x128 .f32) (x6 : Vec F S1x1x64x128 .f32) (x7 : Vec F S1x1x64x128 .f32) (x8 : Vec F S1x1x64x128 .f32) (x9 : Vec F S1x1x64x128 .f32) (x10 : Vec F S1x1x64x128 .f32) (x11 : Vec F S1x1x64x128 .f32) (x12 : Vec F S1x1x64x128 .f32) (x13 : Vec F S1x1x64x128 .f32) (x14 : Vec F S1x1x64x128 .f32) (x15 : Vec F S1x1x64x128 .f32) (x16 : Vec F S1x1x64x128 .f32) (x17 : Vec F S1x1x64x128 .f32) (x18 : Vec F S1x1x64x128 .f32) (x19 : Vec F S1x1x64x128 .f32) (x20 : Vec F S1x1x64x128 .f32) (x21 : Vec F S1x1x64x128 .f32) (x22 : Vec F S1x1x64x128 .f32) (x23 : Vec F S1x1x64x128 .f32) (x24 : Vec F S1x1x64x128 .f32) (x25 : Vec F S1x1x64x128 .f32) (x26 : Vec F S1x1x64x128 .f32) (x27 : Vec F S1x1x64x128 .f32) (x28 : Vec F S1x1x64x128 .f32) (x29 : Vec F S1x1x64x128 .f32) (x30 : Vec F S1x1x64x128 .f32) (x31 : Vec F S1x1x64x128 .f32) (x32 : Vec F S1x1x64x128 .f32) (x33 : Vec F S1x1x64x128 .f32) (xt0 : TbBuf0 (F := F) c tbM0_0) : Vec F S1x8x128 .f32 :=
  VO0_35.read (Elt F) (VO0_35.writes (Elt F) VO0_35.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 xt0).2.1)

/-! ## What the outputs hold after each point -/

/-- What the two results' blocks hold after the body at point `t`. -/
def outsAt0 (hO : Ok m) (c : Dev nD) (t : Fin (cfgM m hO).N) : Vec F S1x8x4096 .f32 × Vec F S1x8x128 .f32 :=
  (out0_A_34 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (tbl m 0), out0_A_35 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (tbl m 0))

/-! ## The pipeline's proof data -/

/-- The data of the launch on core `c`: the arrays as they are found (`V`); after the body at point `t` each input's buffer at
    its block and the results' at `outsAt0`; nothing owed; each window with its share of the array it reads. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => (outsAt0 m hO c t).1
    | ⟨35, _⟩ => (outsAt0 m hO c t).2
    | ⟨_ + 36, h⟩ => absurd h (Nat.not_lt.2 (Nat.le_add_left _ _))
  Φ _ := iprop(Pipeline.ΦA spec0 c ∗ Pipeline.ΦT pre0 (tbl m) c)
  q w := Pipeline.shareOf spec0 w
  owed _ := 0

/-- The data's arrays are those found. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = (outsAt0 m hO c t).1 := by dsimp only [dats]; try rfl
theorem after0_35 (hO : Ok m) (c : Dev nD) (t : Fin (cfgM m hO).N) : (dats m hO 0 c).after 35 t = (outsAt0 m hO c t).2 := by dsimp only [dats]; try rfl

/-- Each input's buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t))

set_option maxHeartbeats 3600000 in
/-- The body at any point: the inputs' buffers hold their blocks, so the run applies. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  rw [show (dats m hO 0 c).Φ t.castSucc = iprop(Pipeline.ΦA spec0 c ∗ Pipeline.ΦT pre0 (tbl m) c) from rfl, PhiT0_eq]
  unfold outsAt0
  unfold out0_A_34 out0_A_35; (try dsimp only)
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (tbl m 0)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  isplitl [H35]; · iexists _; iexact H35
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, ⟨%e34, H34⟩, ⟨%e35, H35⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]
  · unfold owns; iexists _; isplitr
    swap; · iexact H34
    ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H35
  ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The launch's body at point `t` is the body at that point's buffers. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 16000000 in
/-- What the launch asks of the body, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- The launch: the arrays after the run are those of the data, and every semaphore counter is at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- From any memory with the counters at zero the program ends, with every array of the launch as the data say. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- The frame: for every page table whose entries name pages of the pool (`Gen.Ok m`) the program runs, leaves its arguments
    as they were, and every semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.KernelIdeal.Gen

end
-- ==== Proof.IdxKernelIdealOk.lean ====
module

public import proofs.«01_k».proof.Defs
public import proofs.«01_k».proof.Proof.IdxKernelIdealFrame
public import proofs.«01_k».proof.Proof.Gen.Pre_pages_exist
public import Idealize.ShloMosaic.Lib.Pipeline.ValueKit
public import Idealize.ShloMosaic.Lib.Pointwise

/-!
The page table of the sample rows' indexer (`KernelIdeal`): when every entry names a page of the pool, every block that the kernel
fetches through the table lies in the pool.
-/

@[expose] public section

set_option maxRecDepth 16384

noncomputable section
open Idealize.ShloMosaic Idealize.ShloMosaic.TcCoe Idealize.SL.Sem

namespace Cert.KernelIdeal.Pages
open Cert.KernelIdeal Cert.KernelIdeal.Gen

variable {F : FTy → Type} [FloatOps F]

/-- The place in the table of the page that window `2 + g` shows at a grid point. -/
def place (i : grid0.Coords) (g : Fin 32) : Fin 2048 :=
  ⟨64 * (i 0).val + 32 * (i 1).val + g.val, by
    have h0 : (i 0).val < 32 := (i 0).isLt
    have h1 : (i 1).val < 2 := (i 1).isLt
    have hg := g.isLt
    omega⟩

/-- The page's number. -/
def page (pf : pre0.Contents (Elt F)) (i : grid0.Coords) (g : Fin 32) : Nat :=
  (pf 0 (ix1 (place i g)) : BitVec 32).toNat

/-- The offset of an entry in the table, computed in words of 32 bits, does not wrap. -/
theorem off (a b : Nat) (ha : a < 32) (hb : b < 2) (g : Nat) (hg : g < 32) :
    (Scalar.indexCast (Scalar.addi (Scalar.addi (Scalar.muli (BitVec.ofNat 32 a) 64#32) (Scalar.muli (BitVec.ofNat 32 b) 32#32)) (BitVec.ofNat 32 g)) : Index).toNat
      = 64 * a + 32 * b + g := by
  simp only [Scalar.indexCast, Scalar.addi, Scalar.muli, IntOp.addi, IntOp.muli]
  simp only [BitVec.toNat_add, BitVec.toNat_mul, BitVec.toNat_ofNat]
  omega

/-- A word of the table, read by its offset. -/
theorem at_unit (pf : pre0.Contents (Elt F)) (k : Nat) (h : ∀ a, (![k] : Fin 1 → Nat) a + S1.size a ≤ S2048.size a)
    (p : Fin 2048) (hk : k = p.val) : pf.at 0 (Rect.unit (s := S2048) ![k] S1.size h) numel1_S1 = pf 0 (ix1 p) := by
  subst hk
  show pf 0 _ = pf 0 _
  congr 1
  refine funext fun (a : Fin 1) => ?_
  obtain rfl : a = 0 := Subsingleton.elim _ _
  refine Fin.ext ?_
  have e : ∀ x : Fin 1, p.val + 1 * x.val = p.val := by intro x; omega
  exact e _

theorem map2 (pf : pre0.Contents (Elt F)) (i : grid0.Coords) :
    cc0_transform_2 k0_off1_inb numel1_S1 pf i = ![0, page pf i 0, 0, 0] := by
  have h0 : (i 0).val < 32 := (i 0).isLt
  have h1 : (i 1).val < 2 := (i 1).isLt
  have e := off (i 0).val (i 1).val h0 h1 0 (by decide)
  exact congrArg (fun w : BitVec 32 => (![0, w.toNat, 0, 0] : Fin 4 → Nat)) (at_unit pf _ _ (place i 0) e)

theorem map3 (pf : pre0.Contents (Elt F)) (i : grid0.Coords) :
    cc0_transform_3 k0_off1_inb numel1_S1 pf i = ![0, page pf i 1, 0, 0] := by
  have h0 : (i 0).val < 32 := (i 0).isLt
  have h1 : (i 1).val < 2 := (i 1).isLt
  have e := off (i 0).val (i 1).val h0 h1 1 (by decide)
  exact congrArg (fun w : BitVec 32 => (![0, w.toNat, 0, 0] : Fin 4 → Nat)) (at_unit pf _ _ (place i 1) e)

theorem map4 (pf : pre0.Contents (Elt F)) (i : grid0.Coords) :
    cc0_transform_4 k0_off1_inb numel1_S1 pf i = ![0, page pf i 2, 0, 0] := by
  have h0 : (i 0).val < 32 := (i 0).isLt
  have h1 : (i 1).val < 2 := (i 1).isLt
  have e := off (i 0).val (i 1).val h0 h1 2 (by decide)
  exact congrArg (fun w : BitVec 32 => (![0, w.toNat, 0, 0] : Fin 4 → Nat)) (at_unit pf _ _ (place i 2) e)

theorem map5 (pf : pre0.Contents (Elt F)) (i : grid0.Coords) :
    cc0_transform_5 k0_off1_inb numel1_S1 pf i = ![0, page pf i 3, 0, 0] := by
  have h0 : (i 0).val < 32 := (i 0).isLt
  have h1 : (i 1).val < 2 := (i 1).isLt
  have e := off (i 0).val (i 1).val h0 h1 3 (by decide)
  exact congrArg (fun w : BitVec 32 => (![0, w.toNat, 0, 0] : Fin 4 → Nat)) (at_unit pf _ _ (place i 3) e)

theorem map6 (pf : pre0.Contents (Elt F)) (i : grid0.Coords) :
    cc0_transform_6 k0_off1_inb numel1_S1 pf i = ![0, page pf i 4, 0, 0] := by
  have h0 : (i 0).val < 32 := (i 0).isLt
  have h1 : (i 1).val < 2 := (i 1).isLt
  have e := off (i 0).val (i 1).val h0 h1 4 (by decide)
  exact congrArg (fun w : BitVec 32 => (![0, w.toNat, 0, 0] : Fin 4 → Nat)) (at_unit pf _ _ (place i 4) e)

theorem map7 (pf : pre0.Contents (Elt F)) (i : grid0.Coords) :
    cc0_transform_7 k0_off1_inb numel1_S1 pf i = ![0, page pf i 5, 0, 0] := by
  have h0 : (i 0).val < 32 := (i 0).isLt
  have h1 : (i 1).val < 2 := (i 1).isLt
  have e := off (i 0).val (i 1).val h0 h1 5 (by decide)
  exact congrArg (fun w : BitVec 32 => (![0, w.toNat, 0, 0] : Fin 4 → Nat)) (at_unit pf _ _ (place i 5) e)

theorem map8 (pf : pre0.Contents (Elt F)) (i : grid0.Coords) :
    cc0_transform_8 k0_off1_inb numel1_S1 pf i = ![0, page pf i 6, 0, 0] := by
  have h0 : (i 0).val < 32 := (i 0).isLt
  have h1 : (i 1).val < 2 := (i 1).isLt
  have e := off (i 0).val (i 1).val h0 h1 6 (by decide)
  exact congrArg (fun w : BitVec 32 => (![0, w.toNat, 0, 0] : Fin 4 → Nat)) (at_unit pf _ _ (place i 6) e)

theorem map9 (pf : pre0.Contents (Elt F)) (i : grid0.Coords) :
    cc0_transform_9 k0_off1_inb numel1_S1 pf i = ![0, page pf i 7, 0, 0] := by
  have h0 : (i 0).val < 32 := (i 0).isLt
  have h1 : (i 1).val < 2 := (i 1).isLt
  have e := off (i 0).val (i 1).val h0 h1 7 (by decide)
  exact congrArg (fun w : BitVec 32 => (![0, w.toNat, 0, 0] : Fin 4 → Nat)) (at_unit pf _ _ (place i 7) e)

theorem map10 (pf : pre0.Contents (Elt F)) (i : grid0.Coords) :
    cc0_transform_10 k0_off1_inb numel1_S1 pf i = ![0, page pf i 8, 0, 0] := by
  have h0 : (i 0).val < 32 := (i 0).isLt
  have h1 : (i 1).val < 2 := (i 1).isLt
  have e := off (i 0).val (i 1).val h0 h1 8 (by decide)
  exact congrArg (fun w : BitVec 32 => (![0, w.toNat, 0, 0] : Fin 4 → Nat)) (at_unit pf _ _ (place i 8) e)

theorem map11 (pf : pre0.Contents (Elt F)) (i : grid0.Coords) :
    cc0_transform_11 k0_off1_inb numel1_S1 pf i = ![0, page pf i 9, 0, 0] := by
  have h0 : (i 0).val < 32 := (i 0).isLt
  have h1 : (i 1).val < 2 := (i 1).isLt
  have e := off (i 0).val (i 1).val h0 h1 9 (by decide)
  exact congrArg (fun w : BitVec 32 => (![0, w.toNat, 0, 0] : Fin 4 → Nat)) (at_unit pf _ _ (place i 9) e)

theorem map12 (pf : pre0.Contents (Elt F)) (i : grid0.Coords) :
    cc0_transform_12 k0_off1_inb numel1_S1 pf i = ![0, page pf i 10, 0, 0] := by
  have h0 : (i 0).val < 32 := (i 0).isLt
  have h1 : (i 1).val < 2 := (i 1).isLt
  have e := off (i 0).val (i 1).val h0 h1 10 (by decide)
  exact congrArg (fun w : BitVec 32 => (![0, w.toNat, 0, 0] : Fin 4 → Nat)) (at_unit pf _ _ (place i 10) e)

theorem map13 (pf : pre0.Contents (Elt F)) (i : grid0.Coords) :
    cc0_transform_13 k0_off1_inb numel1_S1 pf i = ![0, page pf i 11, 0, 0] := by
  have h0 : (i 0).val < 32 := (i 0).isLt
  have h1 : (i 1).val < 2 := (i 1).isLt
  have e := off (i 0).val (i 1).val h0 h1 11 (by decide)
  exact congrArg (fun w : BitVec 32 => (![0, w.toNat, 0, 0] : Fin 4 → Nat)) (at_unit pf _ _ (place i 11) e)

theorem map14 (pf : pre0.Contents (Elt F)) (i : grid0.Coords) :
    cc0_transform_14 k0_off1_inb numel1_S1 pf i = ![0, page pf i 12, 0, 0] := by
  have h0 : (i 0).val < 32 := (i 0).isLt
  have h1 : (i 1).val < 2 := (i 1).isLt
  have e := off (i 0).val (i 1).val h0 h1 12 (by decide)
  exact congrArg (fun w : BitVec 32 => (![0, w.toNat, 0, 0] : Fin 4 → Nat)) (at_unit pf _ _ (place i 12) e)

theorem map15 (pf : pre0.Contents (Elt F)) (i : grid0.Coords) :
    cc0_transform_15 k0_off1_inb numel1_S1 pf i = ![0, page pf i 13, 0, 0] := by
  have h0 : (i 0).val < 32 := (i 0).isLt
  have h1 : (i 1).val < 2 := (i 1).isLt
  have e := off (i 0).val (i 1).val h0 h1 13 (by decide)
  exact congrArg (fun w : BitVec 32 => (![0, w.toNat, 0, 0] : Fin 4 → Nat)) (at_unit pf _ _ (place i 13) e)

theorem map16 (pf : pre0.Contents (Elt F)) (i : grid0.Coords) :
    cc0_transform_16 k0_off1_inb numel1_S1 pf i = ![0, page pf i 14, 0, 0] := by
  have h0 : (i 0).val < 32 := (i 0).isLt
  have h1 : (i 1).val < 2 := (i 1).isLt
  have e := off (i 0).val (i 1).val h0 h1 14 (by decide)
  exact congrArg (fun w : BitVec 32 => (![0, w.toNat, 0, 0] : Fin 4 → Nat)) (at_unit pf _ _ (place i 14) e)

theorem map17 (pf : pre0.Contents (Elt F)) (i : grid0.Coords) :
    cc0_transform_17 k0_off1_inb numel1_S1 pf i = ![0, page pf i 15, 0, 0] := by
  have h0 : (i 0).val < 32 := (i 0).isLt
  have h1 : (i 1).val < 2 := (i 1).isLt
  have e := off (i 0).val (i 1).val h0 h1 15 (by decide)
  exact congrArg (fun w : BitVec 32 => (![0, w.toNat, 0, 0] : Fin 4 → Nat)) (at_unit pf _ _ (place i 15) e)

theorem map18 (pf : pre0.Contents (Elt F)) (i : grid0.Coords) :
    cc0_transform_18 k0_off1_inb numel1_S1 pf i = ![0, page pf i 16, 0, 0] := by
  have h0 : (i 0).val < 32 := (i 0).isLt
  have h1 : (i 1).val < 2 := (i 1).isLt
  have e := off (i 0).val (i 1).val h0 h1 16 (by decide)
  exact congrArg (fun w : BitVec 32 => (![0, w.toNat, 0, 0] : Fin 4 → Nat)) (at_unit pf _ _ (place i 16) e)

theorem map19 (pf : pre0.Contents (Elt F)) (i : grid0.Coords) :
    cc0_transform_19 k0_off1_inb numel1_S1 pf i = ![0, page pf i 17, 0, 0] := by
  have h0 : (i 0).val < 32 := (i 0).isLt
  have h1 : (i 1).val < 2 := (i 1).isLt
  have e := off (i 0).val (i 1).val h0 h1 17 (by decide)
  exact congrArg (fun w : BitVec 32 => (![0, w.toNat, 0, 0] : Fin 4 → Nat)) (at_unit pf _ _ (place i 17) e)

theorem map20 (pf : pre0.Contents (Elt F)) (i : grid0.Coords) :
    cc0_transform_20 k0_off1_inb numel1_S1 pf i = ![0, page pf i 18, 0, 0] := by
  have h0 : (i 0).val < 32 := (i 0).isLt
  have h1 : (i 1).val < 2 := (i 1).isLt
  have e := off (i 0).val (i 1).val h0 h1 18 (by decide)
  exact congrArg (fun w : BitVec 32 => (![0, w.toNat, 0, 0] : Fin 4 → Nat)) (at_unit pf _ _ (place i 18) e)

theorem map21 (pf : pre0.Contents (Elt F)) (i : grid0.Coords) :
    cc0_transform_21 k0_off1_inb numel1_S1 pf i = ![0, page pf i 19, 0, 0] := by
  have h0 : (i 0).val < 32 := (i 0).isLt
  have h1 : (i 1).val < 2 := (i 1).isLt
  have e := off (i 0).val (i 1).val h0 h1 19 (by decide)
  exact congrArg (fun w : BitVec 32 => (![0, w.toNat, 0, 0] : Fin 4 → Nat)) (at_unit pf _ _ (place i 19) e)

theorem map22 (pf : pre0.Contents (Elt F)) (i : grid0.Coords) :
    cc0_transform_22 k0_off1_inb numel1_S1 pf i = ![0, page pf i 20, 0, 0] := by
  have h0 : (i 0).val < 32 := (i 0).isLt
  have h1 : (i 1).val < 2 := (i 1).isLt
  have e := off (i 0).val (i 1).val h0 h1 20 (by decide)
  exact congrArg (fun w : BitVec 32 => (![0, w.toNat, 0, 0] : Fin 4 → Nat)) (at_unit pf _ _ (place i 20) e)

theorem map23 (pf : pre0.Contents (Elt F)) (i : grid0.Coords) :
    cc0_transform_23 k0_off1_inb numel1_S1 pf i = ![0, page pf i 21, 0, 0] := by
  have h0 : (i 0).val < 32 := (i 0).isLt
  have h1 : (i 1).val < 2 := (i 1).isLt
  have e := off (i 0).val (i 1).val h0 h1 21 (by decide)
  exact congrArg (fun w : BitVec 32 => (![0, w.toNat, 0, 0] : Fin 4 → Nat)) (at_unit pf _ _ (place i 21) e)

theorem map24 (pf : pre0.Contents (Elt F)) (i : grid0.Coords) :
    cc0_transform_24 k0_off1_inb numel1_S1 pf i = ![0, page pf i 22, 0, 0] := by
  have h0 : (i 0).val < 32 := (i 0).isLt
  have h1 : (i 1).val < 2 := (i 1).isLt
  have e := off (i 0).val (i 1).val h0 h1 22 (by decide)
  exact congrArg (fun w : BitVec 32 => (![0, w.toNat, 0, 0] : Fin 4 → Nat)) (at_unit pf _ _ (place i 22) e)

theorem map25 (pf : pre0.Contents (Elt F)) (i : grid0.Coords) :
    cc0_transform_25 k0_off1_inb numel1_S1 pf i = ![0, page pf i 23, 0, 0] := by
  have h0 : (i 0).val < 32 := (i 0).isLt
  have h1 : (i 1).val < 2 := (i 1).isLt
  have e := off (i 0).val (i 1).val h0 h1 23 (by decide)
  exact congrArg (fun w : BitVec 32 => (![0, w.toNat, 0, 0] : Fin 4 → Nat)) (at_unit pf _ _ (place i 23) e)

theorem map26 (pf : pre0.Contents (Elt F)) (i : grid0.Coords) :
    cc0_transform_26 k0_off1_inb numel1_S1 pf i = ![0, page pf i 24, 0, 0] := by
  have h0 : (i 0).val < 32 := (i 0).isLt
  have h1 : (i 1).val < 2 := (i 1).isLt
  have e := off (i 0).val (i 1).val h0 h1 24 (by decide)
  exact congrArg (fun w : BitVec 32 => (![0, w.toNat, 0, 0] : Fin 4 → Nat)) (at_unit pf _ _ (place i 24) e)

theorem map27 (pf : pre0.Contents (Elt F)) (i : grid0.Coords) :
    cc0_transform_27 k0_off1_inb numel1_S1 pf i = ![0, page pf i 25, 0, 0] := by
  have h0 : (i 0).val < 32 := (i 0).isLt
  have h1 : (i 1).val < 2 := (i 1).isLt
  have e := off (i 0).val (i 1).val h0 h1 25 (by decide)
  exact congrArg (fun w : BitVec 32 => (![0, w.toNat, 0, 0] : Fin 4 → Nat)) (at_unit pf _ _ (place i 25) e)

theorem map28 (pf : pre0.Contents (Elt F)) (i : grid0.Coords) :
    cc0_transform_28 k0_off1_inb numel1_S1 pf i = ![0, page pf i 26, 0, 0] := by
  have h0 : (i 0).val < 32 := (i 0).isLt
  have h1 : (i 1).val < 2 := (i 1).isLt
  have e := off (i 0).val (i 1).val h0 h1 26 (by decide)
  exact congrArg (fun w : BitVec 32 => (![0, w.toNat, 0, 0] : Fin 4 → Nat)) (at_unit pf _ _ (place i 26) e)

theorem map29 (pf : pre0.Contents (Elt F)) (i : grid0.Coords) :
    cc0_transform_29 k0_off1_inb numel1_S1 pf i = ![0, page pf i 27, 0, 0] := by
  have h0 : (i 0).val < 32 := (i 0).isLt
  have h1 : (i 1).val < 2 := (i 1).isLt
  have e := off (i 0).val (i 1).val h0 h1 27 (by decide)
  exact congrArg (fun w : BitVec 32 => (![0, w.toNat, 0, 0] : Fin 4 → Nat)) (at_unit pf _ _ (place i 27) e)

theorem map30 (pf : pre0.Contents (Elt F)) (i : grid0.Coords) :
    cc0_transform_30 k0_off1_inb numel1_S1 pf i = ![0, page pf i 28, 0, 0] := by
  have h0 : (i 0).val < 32 := (i 0).isLt
  have h1 : (i 1).val < 2 := (i 1).isLt
  have e := off (i 0).val (i 1).val h0 h1 28 (by decide)
  exact congrArg (fun w : BitVec 32 => (![0, w.toNat, 0, 0] : Fin 4 → Nat)) (at_unit pf _ _ (place i 28) e)

theorem map31 (pf : pre0.Contents (Elt F)) (i : grid0.Coords) :
    cc0_transform_31 k0_off1_inb numel1_S1 pf i = ![0, page pf i 29, 0, 0] := by
  have h0 : (i 0).val < 32 := (i 0).isLt
  have h1 : (i 1).val < 2 := (i 1).isLt
  have e := off (i 0).val (i 1).val h0 h1 29 (by decide)
  exact congrArg (fun w : BitVec 32 => (![0, w.toNat, 0, 0] : Fin 4 → Nat)) (at_unit pf _ _ (place i 29) e)

theorem map32 (pf : pre0.Contents (Elt F)) (i : grid0.Coords) :
    cc0_transform_32 k0_off1_inb numel1_S1 pf i = ![0, page pf i 30, 0, 0] := by
  have h0 : (i 0).val < 32 := (i 0).isLt
  have h1 : (i 1).val < 2 := (i 1).isLt
  have e := off (i 0).val (i 1).val h0 h1 30 (by decide)
  exact congrArg (fun w : BitVec 32 => (![0, w.toNat, 0, 0] : Fin 4 → Nat)) (at_unit pf _ _ (place i 30) e)

theorem map33 (pf : pre0.Contents (Elt F)) (i : grid0.Coords) :
    cc0_transform_33 k0_off1_inb numel1_S1 pf i = ![0, page pf i 31, 0, 0] := by
  have h0 : (i 0).val < 32 := (i 0).isLt
  have h1 : (i 1).val < 2 := (i 1).isLt
  have e := off (i 0).val (i 1).val h0 h1 31 (by decide)
  exact congrArg (fun w : BitVec 32 => (![0, w.toNat, 0, 0] : Fin 4 → Nat)) (at_unit pf _ _ (place i 31) e)

/-- A block at a page of the pool lies in the pool. -/
theorem inPool (p : Nat) (hp : p < 2560) (j : Fin 4 → Nat) (hj : j = ![0, p, 0, 0]) :
    ∃ h : (∀ a, (j a + 1) * S1x1x64x128.size a ≤ S4x2560x64x128.size a), EltTy.bits .f32 = 32
      ∨ (Rect.block (s := S4x2560x64x128) S1x1x64x128.size j h).WholeWords (EltTy.packing .f32) := by
  subst hj
  refine ⟨fun a => ?_, Or.inl rfl⟩
  match a with
  | ⟨0, _⟩ => show (0 + 1) * 1 ≤ 4; omega
  | ⟨1, _⟩ => show (p + 1) * 1 ≤ 2560; omega
  | ⟨2, _⟩ => show (0 + 1) * 64 ≤ 64; omega
  | ⟨3, _⟩ => show (0 + 1) * 128 ≤ 128; omega

/-- The tables that the kernel runs on: every entry names a page of the pool. -/
theorem ok_of_pages (pf : pre0.Contents (Elt F)) (h : ∀ i g, page pf i g < 2560) : ok0 pf :=
  ⟨fun i => inPool _ (h i 0) _ (map2 pf i), fun i => inPool _ (h i 1) _ (map3 pf i), fun i => inPool _ (h i 2) _ (map4 pf i), fun i => inPool _ (h i 3) _ (map5 pf i), fun i => inPool _ (h i 4) _ (map6 pf i), fun i => inPool _ (h i 5) _ (map7 pf i), fun i => inPool _ (h i 6) _ (map8 pf i), fun i => inPool _ (h i 7) _ (map9 pf i), fun i => inPool _ (h i 8) _ (map10 pf i), fun i => inPool _ (h i 9) _ (map11 pf i), fun i => inPool _ (h i 10) _ (map12 pf i), fun i => inPool _ (h i 11) _ (map13 pf i), fun i => inPool _ (h i 12) _ (map14 pf i), fun i => inPool _ (h i 13) _ (map15 pf i), fun i => inPool _ (h i 14) _ (map16 pf i), fun i => inPool _ (h i 15) _ (map17 pf i), fun i => inPool _ (h i 16) _ (map18 pf i), fun i => inPool _ (h i 17) _ (map19 pf i), fun i => inPool _ (h i 18) _ (map20 pf i), fun i => inPool _ (h i 19) _ (map21 pf i), fun i => inPool _ (h i 20) _ (map22 pf i), fun i => inPool _ (h i 21) _ (map23 pf i), fun i => inPool _ (h i 22) _ (map24 pf i), fun i => inPool _ (h i 23) _ (map25 pf i), fun i => inPool _ (h i 24) _ (map26 pf i), fun i => inPool _ (h i 25) _ (map27 pf i), fun i => inPool _ (h i 26) _ (map28 pf i), fun i => inPool _ (h i 27) _ (map29 pf i), fun i => inPool _ (h i 28) _ (map30 pf i), fun i => inPool _ (h i 29) _ (map31 pf i), fun i => inPool _ (h i 30) _ (map32 pf i), fun i => inPool _ (h i 31) _ (map33 pf i)⟩

/-- The precondition says that every entry names a page. -/
theorem pages_of_pre (x0 : IVec Cert.Pre_pages_exist.S2048 32) (x1 : FVec Ideal Cert.Pre_pages_exist.S256x5760 .f32)
    (x2 : FVec Ideal Cert.Pre_pages_exist.S4x2560x64x128 .f32) (h : Cert.Pre_pages_exist.fn (F := Ideal) x0 x1 x2 = fun _ => 1#1)
    (n : Cert.Pre_pages_exist.S2048.Idx) : (x0 n).toNat < 2560 := by
  have e := congrFun h n
  unfold Cert.Pre_pages_exist.fn at e
  pointwise at e
  generalize (x0 n : BitVec 32) = w at e ⊢
  simp only [IntOp.andi, IntOp.cmpi] at e
  have h1 : (0#32).sle w = true := by
    cases h : (0#32).sle w
    · rw [h] at e
      revert e
      cases w.slt 2560#32 <;> decide
    · rfl
  have h2 : w.slt 2560#32 = true := by
    cases h : w.slt 2560#32
    · rw [h] at e
      revert e
      cases (0#32).sle w <;> decide
    · rfl
  rw [BitVec.sle_eq_decide, decide_eq_true_eq] at h1
  rw [BitVec.slt_eq_decide, decide_eq_true_eq] at h2
  have c0 : (0#32 : BitVec 32).toInt = 0 := by decide
  have c1 : (2560#32 : BitVec 32).toInt = 2560 := by decide
  rw [c0, BitVec.toInt_eq_toNat_cond] at h1
  rw [c1, BitVec.toInt_eq_toNat_cond] at h2
  split at h1 <;> omega

/-- The precondition gives the side condition of the launch. -/
theorem ok_of_pre (m : (ℓ : Loc nD τ sig) → Buf (Elt Ideal) ℓ) (h : Cert.Pre_KernelIdeal m) : Ok m := by
  refine ok_of_pages _ fun i g => ?_
  unfold page tbl
  have e : V m (0 : Dev nD) (pre0.ref 0) = m (((0 : Dev nD) : Thread nD τ).loc main_arg0) := V_main_arg0 m 0
  show ((V m (0 : Dev nD) (pre0.ref 0) : IVec S2048 32) (ix1 (place i g))).toNat < 2560
  rw [e]
  exact pages_of_pre _ _ _ (h 0) _

end Cert.KernelIdeal.Pages
end
-- ==== Proof.IdxScore.lean ====
module

public import proofs.«01_k».proof.Proof.IdxKernelIdealOk
public import proofs.«01_k».proof.Proof.Gen.ReferenceIdeal.Read
public import Idealize.ShloMosaic.Lib.Pipeline.ValueKit
public import Idealize.ShloMosaic.Lib.Pointwise

/-!
The scores that the sample rows' indexer gives to the keys of one page: the heads' products with the keys, cut at zero
and summed with the heads' weights.
-/

@[expose] public section

set_option maxRecDepth 16384

noncomputable section
open Idealize.ShloMosaic Idealize.ShloMosaic.TcCoe Idealize.SL.Sem

namespace Cert.KernelIdeal.Pages
open Cert.KernelIdeal Cert.KernelIdeal.Gen

/-- The eighth part of a sum, taken term by term. -/
theorem sum_scaled {n : Nat} (a b : Fin n → EReal) (c : EReal) (h0 : 0 ≤ c) (h1 : c ≠ ⊤) :
    ∑ d, a d * c * b d = (∑ d, a d * b d) * c := by
  induction n with
  | zero => simp
  | succ n ih =>
    rw [Fin.sum_univ_castSucc, Fin.sum_univ_castSucc, EReal.right_distrib_of_nonneg_of_ne_top h0 h1, ih (fun d => a d.castSucc) (fun d => b d.castSucc)]
    congr 1
    rw [mul_assoc, mul_comm c, mul_assoc]

/-- The weighted sum over the eight heads, head after head. `lg` holds head `h`'s products in rows `8 h … 8 h + 7`. -/
def weigh (kw : FVec Ideal S8x128 .f32) (lg : FVec Ideal S64x128 .f32) : FVec Ideal S8x128 .f32 :=
  addf (addf (addf (addf (addf (addf (addf (addf (broadcast S8x128 (Scalar.ofBits .f32 0x00000000#32))
    (mulf (broadcastTo S8x128 (mulf (extractStridedSlice S8x1 ![0, 64] kw slices_S8x128_o0_64_S8x1) (broadcast S8x1 (Scalar.ofBits .f32 0x3EB504F3#32))) broadcasts_S8x1_S8x128)
      (maximumf (extractStridedSlice S8x128 ![0, 0] lg slices_S64x128_o0_0_S8x128) (broadcast S8x128 (Scalar.ofBits .f32 0x00000000#32)))))
    (mulf (broadcastTo S8x128 (mulf (extractStridedSlice S8x1 ![0, 65] kw slices_S8x128_o0_65_S8x1) (broadcast S8x1 (Scalar.ofBits .f32 0x3EB504F3#32))) broadcasts_S8x1_S8x128)
      (maximumf (extractStridedSlice S8x128 ![8, 0] lg slices_S64x128_o8_0_S8x128) (broadcast S8x128 (Scalar.ofBits .f32 0x00000000#32)))))
    (mulf (broadcastTo S8x128 (mulf (extractStridedSlice S8x1 ![0, 66] kw slices_S8x128_o0_66_S8x1) (broadcast S8x1 (Scalar.ofBits .f32 0x3EB504F3#32))) broadcasts_S8x1_S8x128)
      (maximumf (extractStridedSlice S8x128 ![16, 0] lg slices_S64x128_o16_0_S8x128) (broadcast S8x128 (Scalar.ofBits .f32 0x00000000#32)))))
    (mulf (broadcastTo S8x128 (mulf (extractStridedSlice S8x1 ![0, 67] kw slices_S8x128_o0_67_S8x1) (broadcast S8x1 (Scalar.ofBits .f32 0x3EB504F3#32))) broadcasts_S8x1_S8x128)
      (maximumf (extractStridedSlice S8x128 ![24, 0] lg slices_S64x128_o24_0_S8x128) (broadcast S8x128 (Scalar.ofBits .f32 0x00000000#32)))))
    (mulf (broadcastTo S8x128 (mulf (extractStridedSlice S8x1 ![0, 68] kw slices_S8x128_o0_68_S8x1) (broadcast S8x1 (Scalar.ofBits .f32 0x3EB504F3#32))) broadcasts_S8x1_S8x128)
      (maximumf (extractStridedSlice S8x128 ![32, 0] lg slices_S64x128_o32_0_S8x128) (broadcast S8x128 (Scalar.ofBits .f32 0x00000000#32)))))
    (mulf (broadcastTo S8x128 (mulf (extractStridedSlice S8x1 ![0, 69] kw slices_S8x128_o0_69_S8x1) (broadcast S8x1 (Scalar.ofBits .f32 0x3EB504F3#32))) broadcasts_S8x1_S8x128)
      (maximumf (extractStridedSlice S8x128 ![40, 0] lg slices_S64x128_o40_0_S8x128) (broadcast S8x128 (Scalar.ofBits .f32 0x00000000#32)))))
    (mulf (broadcastTo S8x128 (mulf (extractStridedSlice S8x1 ![0, 70] kw slices_S8x128_o0_70_S8x1) (broadcast S8x1 (Scalar.ofBits .f32 0x3EB504F3#32))) broadcasts_S8x1_S8x128)
      (maximumf (extractStridedSlice S8x128 ![48, 0] lg slices_S64x128_o48_0_S8x128) (broadcast S8x128 (Scalar.ofBits .f32 0x00000000#32)))))
    (mulf (broadcastTo S8x128 (mulf (extractStridedSlice S8x1 ![0, 71] kw slices_S8x128_o0_71_S8x1) (broadcast S8x1 (Scalar.ofBits .f32 0x3EB504F3#32))) broadcasts_S8x1_S8x128)
      (maximumf (extractStridedSlice S8x128 ![56, 0] lg slices_S64x128_o56_0_S8x128) (broadcast S8x128 (Scalar.ofBits .f32 0x00000000#32))))

/-- The scores of one page. -/
def core (q : Vec Ideal S8x512 .f32) (kw : Vec Ideal S8x128 .f32) (p : Vec Ideal S1x1x64x128 .f32) : FVec Ideal S1x8x128 .f32 :=
  shapeCast S1x8x128 (weigh (k0_pay3 kw) (k0_pay4 q p)) shapeCasts_S8x128_S1x8x128

theorem weigh_apply (kw : FVec Ideal S8x128 .f32) (lg : FVec Ideal S64x128 .f32) (r : Fin 8) (l : Fin 128) :
    weigh kw lg (ix2 r l) = ∑ h : Fin 8, kw (ix2 r ⟨64 + h.val, by omega⟩) * Ideal.ofBits .f32 0x3EB504F3#32
      * max (lg (ix2 ⟨8 * h.val + r.val, by omega⟩ l)) 0 := by
  rw [Fin.sum_univ_eight]
  pointwise [weigh]

/-- The scale of the products is a finite number that is not negative. -/
theorem eighth : 0 ≤ Ideal.ofBits .f32 0x3E000000#32 ∧ Ideal.ofBits .f32 0x3E000000#32 ≠ ⊤ := by
  simp [Ideal.ofBits, Ideal.ieee]
  rw [← EReal.coe_mul]
  exact ⟨EReal.coe_nonneg.2 (by positivity), EReal.coe_ne_top _⟩

/-- The queries, head under head, scaled. -/
theorem pay2_apply (q : Vec Ideal S8x512 .f32) (h r : Fin 8) (d : Fin 64) :
    k0_pay2 q (ix2 ⟨8 * h.val + r.val, by omega⟩ d) = q (ix2 r ⟨64 * h.val + d.val, by omega⟩) * Ideal.ofBits .f32 0x3E000000#32 := by
  pointwise [k0_pay2]
  refine congrArg (fun w : EReal => w * Ideal.ofBits .f32 0x3E000000#32) ?_
  have hr : r.val < 8 := r.isLt
  split_ifs <;> exact congrArg q (congrArg₂ ix2 (Fin.ext (by dsimp only; omega)) (Fin.ext (by dsimp only; omega)))

theorem pay4_apply (q : Vec Ideal S8x512 .f32) (p : Vec Ideal S1x1x64x128 .f32) (h r : Fin 8) (l : Fin 128) :
    k0_pay4 q p (ix2 ⟨8 * h.val + r.val, by omega⟩ l)
      = (∑ d : Fin 64, q (ix2 r ⟨64 * h.val + d.val, by omega⟩) * p (ix4 0 0 d l)) * Ideal.ofBits .f32 0x3E000000#32 := by
  rw [← sum_scaled _ _ _ eighth.1 eighth.2]
  pointwise [k0_pay4]
  exact Finset.sum_congr rfl fun d _ => congrArg (fun w : EReal => w * p (ix4 0 0 d l)) (pay2_apply q h r d)

/-- The products with the new keys; key `l` stands in row `l` of the block. -/
theorem pay194_apply (q : Vec Ideal S8x512 .f32) (kw : Vec Ideal S8x128 .f32) (h r l : Fin 8) :
    k0_pay194 (k0_pay2 q) (k0_pay193 (k0_pay3 kw)) (ix2 ⟨8 * h.val + r.val, by omega⟩ ⟨l.val, by omega⟩)
      = (∑ d : Fin 64, q (ix2 r ⟨64 * h.val + d.val, by omega⟩) * kw (ix2 l ⟨d.val, by omega⟩)) * Ideal.ofBits .f32 0x3E000000#32 := by
  rw [← sum_scaled _ _ _ eighth.1 eighth.2]
  pointwise [k0_pay194]
  refine Finset.sum_congr rfl fun d _ => congrArg₂ (fun w z : EReal => w * z) (pay2_apply q h r d) ?_
  pointwise [k0_pay193, k0_pay3]

/-- The scores of one page at a row and a key. -/
theorem core_apply (q : Vec Ideal S8x512 .f32) (kw : Vec Ideal S8x128 .f32) (p : Vec Ideal S1x1x64x128 .f32) (r : Fin 8) (l : Fin 128) :
    core q kw p (ix3 0 r l) = ∑ h : Fin 8, kw (ix2 r ⟨64 + h.val, by omega⟩) * Ideal.ofBits .f32 0x3EB504F3#32
      * max ((∑ d : Fin 64, q (ix2 r ⟨64 * h.val + d.val, by omega⟩) * p (ix4 0 0 d l)) * Ideal.ofBits .f32 0x3E000000#32) 0 := by
  have e : core q kw p (ix3 0 r l) = weigh (k0_pay3 kw) (k0_pay4 q p) (ix2 r l) := by
    unfold core
    pointwise
  rw [e, weigh_apply]
  refine Finset.sum_congr rfl fun h _ => ?_
  rw [pay4_apply]
  pointwise [k0_pay3]

/-- The scores of the new keys, which only the rows not before them see. -/
def fresh (q : Vec Ideal S8x512 .f32) (kw : Vec Ideal S8x128 .f32) : FVec Ideal S1x8x128 .f32 :=
  k0_pay1 (k0_pay3 kw) (k0_pay194 (k0_pay2 q) (k0_pay193 (k0_pay3 kw)))
    (k0_pay195 (k0_pay2 q) (k0_pay3 kw) (k0_pay193 (k0_pay3 kw))) (k0_pay196 (k0_pay3 kw)) k0_pay197

theorem fresh_eq (q : Vec Ideal S8x512 .f32) (kw : Vec Ideal S8x128 .f32) : fresh q kw
    = shapeCast S1x8x128 (select (cmpi .sle (iota .tc S8x128 32 [1] iota_S8x128_d1_w32) (iota .tc S8x128 32 [0] iota_S8x128_d0_w32))
        (weigh (k0_pay3 kw) (k0_pay194 (k0_pay2 q) (k0_pay193 (k0_pay3 kw)))) (broadcast S8x128 (Scalar.ofBits .f32 0xFF800000#32)))
        shapeCasts_S8x128_S1x8x128 := rfl

end Cert.KernelIdeal.Pages
end
-- ==== Proof.IdxRef.lean ====
module

public import proofs.«01_k».proof.Proof.IdxScore

/-!
What the reference of the sample rows' indexer computes, written out at an index: the keys of the pages that the table
names, and the scores of those keys.
-/

@[expose] public section

set_option maxRecDepth 16384

noncomputable section
open Idealize.ShloMosaic Idealize.ShloMosaic.TcCoe Idealize.SL.Sem

namespace Cert.ReferenceIdeal.Pages
open Cert.ReferenceIdeal Cert.ReferenceIdeal.Gen Cert.ReferenceIdeal.Read

/-- How the keys are gathered: a whole page for every entry. -/
abbrev D : GatherDims S2560x128x64 S32x64x1 S32x64x128x64 := gather_S2560x128x64_S32x64x1_S32x64x128x64_23_0_n_n_0_2_112864

/-- The keys gathered through the table: the whole page that the entry names, the entry held within the pool. -/
theorem gather_apply {α : Type} (x : S2560x128x64.Idx → α) (idx : IVec S32x64x1 32) (b : Fin 32) (k : Fin 64) (s : Fin 128) (d : Fin 64) :
    Host.gather D x idx (ix4 b k s d)
      = x (ix3 ⟨min (idx (ix3 b k 0)).toInt.toNat 2559, by omega⟩ s d) := by
  unfold Host.gather
  congr 1
  refine funext fun (a : Fin 3) => Fin.ext ?_
  match a with
  | ⟨0, _⟩ =>
    show D.start (ix4 b k s d) idx 0 + D.batchCoord (ix4 b k s d) 0 + D.offCoord (ix4 b k s d) 0 = _
    rw [D.batchCoord_eq_zero _ _ List.not_mem_nil,
      D.offCoord_eq_zero _ _ (fun h => ((GatherDims.mem_sKept _ _).mp h).1 (List.mem_singleton.mpr rfl))]
    simp only [Nat.add_zero]
    unfold GatherDims.start
    rw [dif_pos (show (0 : Fin 3) ∈ D.startIndexMap from List.mem_singleton.mpr rfl)]
    have hsi : D.siIdx (ix4 b k s d) ⟨List.idxOf (0 : Fin 3) D.startIndexMap, List.idxOf_lt_length_iff.2 (List.mem_singleton.mpr rfl)⟩
        = ix3 b k 0 := by
      refine funext fun (e : Fin 3) => Fin.ext ?_
      match e with
      | ⟨0, _⟩ => rfl
      | ⟨1, _⟩ => rfl
      | ⟨2, _⟩ => rfl
    rw [hsi]
    rfl
  | ⟨1, _⟩ =>
    show D.start (ix4 b k s d) idx 1 + D.batchCoord (ix4 b k s d) 1 + D.offCoord (ix4 b k s d) 1 = s.val
    rw [D.batchCoord_eq_zero _ _ List.not_mem_nil]
    unfold GatherDims.start
    rw [dif_neg (show (1 : Fin 3) ∉ D.startIndexMap by decide)]
    simp only [Nat.zero_add]
    rfl
  | ⟨2, _⟩ =>
    show D.start (ix4 b k s d) idx 2 + D.batchCoord (ix4 b k s d) 2 + D.offCoord (ix4 b k s d) 2 = d.val
    rw [D.batchCoord_eq_zero _ _ List.not_mem_nil]
    unfold GatherDims.start
    rw [dif_neg (show (2 : Fin 3) ∉ D.startIndexMap by decide)]
    simp only [Nat.zero_add]
    rfl

/-- An entry that names a page is not negative, so it is taken as it stands. -/
theorem kept (w z : BitVec 32) (h : w.toNat < 2560) : Scalar.select (IntOp.cmpi .slt w 0#32) z w = w := by
  have e : IntOp.cmpi .slt w 0#32 = 0#1 := by
    simp only [IntOp.cmpi]
    have n : w.slt 0#32 = false := by
      rw [BitVec.slt_eq_decide, decide_eq_false_iff_not, BitVec.toInt_eq_toNat_cond]
      have c0 : (0#32 : BitVec 32).toInt = 0 := by decide
      rw [c0]
      split <;> omega
    rw [n]
    rfl
  rw [e]
  rfl

/-- An entry that names a page lies within the pool, so nothing is cut off it. -/
theorem within (w : BitVec 32) (h : w.toNat < 2560) : min w.toInt.toNat 2559 = w.toNat := by
  rw [BitVec.toInt_eq_toNat_cond]
  split <;> omega

/-- The keys of sequence `b` in page `k` of its row of the table. -/
theorem keys_apply (x0 : (⟨S2048, .i32⟩ : BufTy).Contents (Elt Ideal)) (x2 : (⟨S4x2560x64x128, .f32⟩ : BufTy).Contents (Elt Ideal))
    (b : Fin 32) (k : Fin 64) (s : Fin 128) (d : Fin 64) (n : Fin 2048) (hn : n.val = 64 * b.val + k.val) (hp : (x0 (ix1 n) : BitVec 32).toNat < 2560) :
    val_main_v16 (F := Ideal) x0 x2 (ix4 b k s d) = x2 (ix4 0 ⟨(x0 (ix1 n) : BitVec 32).toNat, hp⟩ d s) := by
  have e : val_main_v15 (F := Ideal) x0 (ix3 b k 0) = x0 (ix1 n) := by
    pointwise [val_main_v15, val_main_v14, val_main_v13, val_main_v12, val_main_v11, val_main_v10, val_main_v9, val_main_c, val_main_c_0]
    rw [show (⟨b.val * 64 + k.val, by omega⟩ : Fin 2048) = n from Fin.ext (by dsimp only; omega)]
    exact kept _ _ hp
  unfold val_main_v16
  rw [gather_apply]
  pointwise [val_main_v8, val_main_v7, val_main_v6]
  refine congrArg x2 (congrArg (fun z => ix4 0 z d s) (Fin.ext ?_))
  exact (congrArg (fun w : BitVec 32 => min w.toInt.toNat 2559) e).trans (within _ hp)

/-- The scores of the keys in the pages. -/
theorem scores_apply (x0 : (⟨S2048, .i32⟩ : BufTy).Contents (Elt Ideal)) (x1 : (⟨S256x5760, .f32⟩ : BufTy).Contents (Elt Ideal))
    (x2 : (⟨S4x2560x64x128, .f32⟩ : BufTy).Contents (Elt Ideal)) (b : Fin 32) (r : Fin 8) (k : Fin 8192) :
    val_main_v38 (F := Ideal) x0 x1 x2 (ix3 b r k) = ∑ h : Fin 8, x1 (ix2 ⟨b.val * 8 + r.val, by omega⟩ ⟨5696 + h.val, by omega⟩) * Ideal.ofBits .f32 0x3EB504F3#32
      * max ((∑ d : Fin 64, x1 (ix2 ⟨b.val * 8 + r.val, by omega⟩ ⟨2048 + (h.val * 64 + d.val), by omega⟩)
          * val_main_v16 (F := Ideal) x0 x2 (ix4 b ⟨k.val / 128, by omega⟩ ⟨k.val % 128, by omega⟩ d)) * Ideal.ofBits .f32 0x3E000000#32) 0 := by
  pointwise [val_main_v38, val_main_v37, val_main_v36, val_main_v35, val_main_v34, val_main_v33, val_main_v32, val_main_v17, val_main_call2_v0, val_main_v5, val_main_v4, val_main_v1, val_main_v0, val_main_cst_4, val_main_cst_3, val_main_call2_cst]

/-- The scores of the new keys; the places behind them hold nothing. -/
theorem fresh_apply (x1 : (⟨S256x5760, .f32⟩ : BufTy).Contents (Elt Ideal)) (b : Fin 32) (r : Fin 8) (l : Fin 128) :
    val_main_v39 (F := Ideal) x1 (ix3 b r l) = if h : l.val < 8 then
      Scalar.select (IntOp.cmpi .sle (BitVec.ofNat 32 l.val) (BitVec.ofNat 32 r.val))
        (∑ h' : Fin 8, x1 (ix2 ⟨b.val * 8 + r.val, by omega⟩ ⟨5696 + h'.val, by omega⟩) * Ideal.ofBits .f32 0x3EB504F3#32
          * max ((∑ d : Fin 64, x1 (ix2 ⟨b.val * 8 + r.val, by omega⟩ ⟨2048 + (h'.val * 64 + d.val), by omega⟩)
              * x1 (ix2 ⟨b.val * 8 + l.val, by omega⟩ ⟨5632 + d.val, by omega⟩)) * Ideal.ofBits .f32 0x3E000000#32) 0)
        (Ideal.ofBits .f32 0xFF800000#32)
      else Ideal.ofBits .f32 0xFF800000#32 := by
  pointwise [val_main_v39]
  pointwise [val_main_v31, val_main_v30, val_main_v29, val_main_v28, val_main_v27, val_main_v26, val_main_v25, val_main_v24,
    val_main_v23, val_main_v22, val_main_v21, val_main_v20, val_main_v19, val_main_v18, val_main_v5, val_main_v4, val_main_v3, val_main_v2, val_main_v1, val_main_v0,
    val_main_call0_v0, val_main_call0_cst, val_main_call1_v1, val_main_call1_v2, val_main_cst_1, val_main_cst, val_main_call1_v0, val_main_call3_v0, val_main_cst_2, val_main_cst_5]
  rfl

end Cert.ReferenceIdeal.Pages
end
-- ==== Proof.IdxRows.lean ====
module

public import proofs.«01_k».proof.Proof.IdxRef
public import proofs.«01_k».proof.Proof.IdxScore

/-!
A row of scores, off blocks that hold the projection's queries, new keys and weights and a page of keys, is the reference's.
-/

@[expose] public section

set_option maxRecDepth 16384

noncomputable section
open Idealize.ShloMosaic Idealize.ShloMosaic.TcCoe Idealize.SL.Sem
open Idealize.ShloMosaic.Pipeline (Dat)

namespace Cert.KernelIdeal.Pages
open Cert.KernelIdeal Cert.KernelIdeal.Gen Cert.ReferenceIdeal.Read

variable (m : (ℓ : Loc nD τ sig) → Buf (Elt Ideal) ℓ)

/-- A place behind the new keys is never open to a row. -/
theorem masked : ∀ (r : Fin 8) (l : Fin 128), 8 ≤ l.val → IntOp.cmpi .sle (BitVec.ofNat 32 l.val) (BitVec.ofNat 32 r.val) = 0#1 := by
  decide +kernel

/-- A row of the scores of the new keys, off the two blocks the kernel reads. -/
theorem tail (x1 : (⟨S256x5760, .f32⟩ : BufTy).Contents (Elt Ideal)) (q : Vec Ideal S8x512 .f32) (kw : Vec Ideal S8x128 .f32) (b : Fin 32)
    (hq : ∀ (r : Fin 8) (d : Fin 512), q (ix2 r d) = x1 (ix2 ⟨b.val * 8 + r.val, by omega⟩ ⟨2048 + d.val, by omega⟩))
    (hkw : ∀ (r : Fin 8) (d : Fin 128), kw (ix2 r d) = x1 (ix2 ⟨b.val * 8 + r.val, by omega⟩ ⟨5632 + d.val, by omega⟩))
    (r : Fin 8) (l : Fin 128) : fresh q kw (ix3 0 r l) = val_main_v39 (F := Ideal) x1 (ix3 b r l) := by
  rw [fresh_eq, Cert.ReferenceIdeal.Pages.fresh_apply]
  have e : ∀ X : FVec Ideal S8x128 .f32, shapeCast S1x8x128 (select (cmpi .sle (iota .tc S8x128 32 [1] iota_S8x128_d1_w32) (iota .tc S8x128 32 [0] iota_S8x128_d0_w32))
        X (broadcast S8x128 (Scalar.ofBits .f32 0xFF800000#32))) shapeCasts_S8x128_S1x8x128 (ix3 0 r l)
      = Scalar.select (IntOp.cmpi .sle (BitVec.ofNat 32 l.val) (BitVec.ofNat 32 r.val)) (X (ix2 r l)) (Ideal.ofBits .f32 0xFF800000#32) := by
    intro X
    pointwise
  rw [e]
  by_cases hl : l.val < 8
  · rw [dif_pos hl, weigh_apply]
    refine congrArg (fun z => Scalar.select _ z _) (Finset.sum_congr rfl fun h _ => ?_)
    have a : k0_pay3 kw (ix2 r ⟨64 + h.val, by omega⟩) = x1 (ix2 ⟨b.val * 8 + r.val, by omega⟩ ⟨5696 + h.val, by omega⟩) := by
      have s : k0_pay3 kw (ix2 r ⟨64 + h.val, by omega⟩) = kw (ix2 r ⟨64 + h.val, by omega⟩) := by pointwise [k0_pay3]
      exact s.trans ((hkw r _).trans (congrArg (fun z => x1 (ix2 _ z)) (Fin.ext (by dsimp only; omega))))
    have p := pay194_apply q kw h r ⟨l.val, hl⟩
    rw [a]
    refine congrArg (fun z : EReal => _ * max z 0) (p.trans (congrArg (fun z : EReal => z * _) (Finset.sum_congr rfl fun d _ => ?_)))
    refine congrArg₂ (fun w z : EReal => w * z) ((hq r _).trans (congrArg (fun z => x1 (ix2 _ z)) (Fin.ext (by dsimp only; omega)))) ?_
    exact hkw _ _
  · rw [dif_neg hl, masked r l (by omega)]
    rfl

/-- A row of the scores of one page's keys, off the blocks the kernel reads. -/
theorem tile (x0 : (⟨S2048, .i32⟩ : BufTy).Contents (Elt Ideal)) (x1 : (⟨S256x5760, .f32⟩ : BufTy).Contents (Elt Ideal))
    (x2 : (⟨S4x2560x64x128, .f32⟩ : BufTy).Contents (Elt Ideal))
    (q : Vec Ideal S8x512 .f32) (kw : Vec Ideal S8x128 .f32) (p : Vec Ideal S1x1x64x128 .f32) (b : Fin 32)
    (hq : ∀ (r : Fin 8) (d : Fin 512), q (ix2 r d) = x1 (ix2 ⟨b.val * 8 + r.val, by omega⟩ ⟨2048 + d.val, by omega⟩))
    (hkw : ∀ (r : Fin 8) (d : Fin 128), kw (ix2 r d) = x1 (ix2 ⟨b.val * 8 + r.val, by omega⟩ ⟨5632 + d.val, by omega⟩))
    (n : Fin 2048) (hn : (x0 (ix1 n) : BitVec 32).toNat < 2560)
    (hp : ∀ (d : Fin 64) (l : Fin 128), p (ix4 0 0 d l) = x2 (ix4 0 ⟨(x0 (ix1 n) : BitVec 32).toNat, hn⟩ d l))
    (r : Fin 8) (l : Fin 128) (k : Fin 8192) (hk : n.val = 64 * b.val + k.val / 128) (hl : k.val % 128 = l.val) :
    core q kw p (ix3 0 r l) = val_main_v38 (F := Ideal) x0 x1 x2 (ix3 b r k) := by
  rw [core_apply, Cert.ReferenceIdeal.Pages.scores_apply]
  refine Finset.sum_congr rfl fun h _ => ?_
  have a : kw (ix2 r ⟨64 + h.val, by omega⟩) = x1 (ix2 ⟨b.val * 8 + r.val, by omega⟩ ⟨5696 + h.val, by omega⟩) :=
    (hkw r _).trans (congrArg (fun z => x1 (ix2 _ z)) (Fin.ext (by dsimp only; omega)))
  rw [a]
  refine congrArg (fun z : EReal => _ * max (z * _) 0) (Finset.sum_congr rfl fun d _ => ?_)
  refine congrArg₂ (fun w z : EReal => w * z) ((hq r _).trans (congrArg (fun z => x1 (ix2 _ z)) (Fin.ext (by dsimp only; omega)))) ?_
  have g := Cert.ReferenceIdeal.Pages.keys_apply x0 x2 b ⟨k.val / 128, by omega⟩ ⟨k.val % 128, by omega⟩ d n hk hn
  refine (hp d l).trans (Eq.trans ?_ g.symm)
  exact congrArg (fun z => x2 (ix4 0 _ d z)) (Fin.ext hl.symm)

end Cert.KernelIdeal.Pages
end
-- ==== Proof.IdxBlocks.lean ====
module

public import proofs.«01_k».proof.Proof.IdxKernelIdealOk

/-!
The blocks of the sample rows' index kernel: where the windows of a grid point lie, that the written blocks cover the results,
and what a block that is read holds.  Point `t` is the half `t % 2` of the pages of sample `t / 2`.
-/

@[expose] public section

set_option maxRecDepth 16384

noncomputable section
open Idealize.ShloMosaic Idealize.ShloMosaic.TcCoe Idealize.SL.Sem
open Idealize.ShloMosaic.Pipeline (Dat)

namespace Cert.KernelIdeal.Pages
open Cert.KernelIdeal Cert.KernelIdeal.Gen

variable (m : (ℓ : Loc nD τ sig) → Buf (Elt Ideal) ℓ)

/-- A grid point is the sample's number and the half of its pages. -/
theorem coords : ∀ t : Fin grid0.N, (grid0.coords t 0).val = t.val / 2 ∧ (grid0.coords t 1).val = t.val % 2 := by
  decide +kernel

/-- A small number is its own word. -/
theorem word (n : Nat) (h : n < 64) : (BitVec.ofNat 32 n).toNat = n := by
  rw [BitVec.toNat_ofNat]; omega

/-- The queries of sample `t / 2` are block `(t / 2, 4)` of the projection. -/
theorem idx0 (hO : Ok m) (t : Fin (cfgM m hO).N) : ((cfgM m hO).win 0).index t = ![t.val / 2, 4] := by
  have h := t.isLt
  have hN : (cfgM m hO).N = 64 := rfl
  have e := (coords t).1
  show (![(BitVec.ofNat 32 (grid0.coords t 0).val).toNat, (4#32).toNat] : Fin 2 → Nat) = _
  rw [e, word _ (by omega)]
  rfl

/-- Its new keys and weights are block `(t / 2, 44)`. -/
theorem idx1 (hO : Ok m) (t : Fin (cfgM m hO).N) : ((cfgM m hO).win 1).index t = ![t.val / 2, 44] := by
  have h := t.isLt
  have hN : (cfgM m hO).N = 64 := rfl
  have e := (coords t).1
  show (![(BitVec.ofNat 32 (grid0.coords t 0).val).toNat, (44#32).toNat] : Fin 2 → Nat) = _
  rw [e, word _ (by omega)]
  rfl

/-- The scores of a point go to the half `t % 2` of the sample's. -/
theorem idx34 (hO : Ok m) (t : Fin (cfgM m hO).N) : ((cfgM m hO).win 34).index t = ![t.val / 2, 0, t.val % 2] := by
  have h := t.isLt
  have hN : (cfgM m hO).N = 64 := rfl
  obtain ⟨e, e'⟩ := coords t
  show (![(BitVec.ofNat 32 (grid0.coords t 0).val).toNat, (0#32).toNat, (BitVec.ofNat 32 (grid0.coords t 1).val).toNat] : Fin 3 → Nat) = _
  rw [e, e', word (t.val / 2) (by omega), word (t.val % 2) (by omega)]
  rfl

/-- The scores of the new keys go to the sample's block. -/
theorem idx35 (hO : Ok m) (t : Fin (cfgM m hO).N) : ((cfgM m hO).win 35).index t = ![t.val / 2, 0, 0] := by
  have h := t.isLt
  have hN : (cfgM m hO).N = 64 := rfl
  have e := (coords t).1
  show (![(BitVec.ofNat 32 (grid0.coords t 0).val).toNat, (0#32).toNat, (0#32).toNat] : Fin 3 → Nat) = _
  rw [e, word _ (by omega)]
  rfl

/-- The points' blocks of scores cover the result. -/
theorem covers34 (hO : Ok m) : ((cfgM m hO).win 34).Covers := by
  refine ⟨fun (a : Fin 3) => ?_, fun β => ?_⟩
  · match a with
    | ⟨0, _⟩ => exact Nat.succ_pos _
    | ⟨1, _⟩ => exact Nat.succ_pos _
    | ⟨2, _⟩ => exact Nat.succ_pos _
  have h0 : (β (0 : Fin 3)).val < 32 := Nat.lt_of_lt_of_eq (β (0 : Fin 3)).isLt (show (32 + 1 - 1) / 1 = 32 from rfl)
  have h1 : (β (1 : Fin 3)).val < 1 := Nat.lt_of_lt_of_eq (β (1 : Fin 3)).isLt (show (8 + 8 - 1) / 8 = 1 from rfl)
  have h2 : (β (2 : Fin 3)).val < 2 := Nat.lt_of_lt_of_eq (β (2 : Fin 3)).isLt (show (8192 + 4096 - 1) / 4096 = 2 from rfl)
  have hN : (cfgM m hO).N = 64 := rfl
  refine ⟨⟨2 * (β (0 : Fin 3)).val + (β (2 : Fin 3)).val, ?_⟩, flush0_34 _ _, fun (a : Fin 3) => ⟨?_, Or.inl rfl⟩⟩
  · show _ < 64
    omega
  · rw [idx34]
    match a with
    | ⟨0, _⟩ => show (2 * _ + _) / 2 = (β (0 : Fin 3)).val; omega
    | ⟨1, _⟩ => show 0 = (β (1 : Fin 3)).val; omega
    | ⟨2, _⟩ => show (2 * _ + _) % 2 = (β (2 : Fin 3)).val; omega

/-- The samples' blocks of scores of the new keys cover the result. -/
theorem covers35 (hO : Ok m) : ((cfgM m hO).win 35).Covers := by
  refine ⟨fun (a : Fin 3) => ?_, fun β => ?_⟩
  · match a with
    | ⟨0, _⟩ => exact Nat.succ_pos _
    | ⟨1, _⟩ => exact Nat.succ_pos _
    | ⟨2, _⟩ => exact Nat.succ_pos _
  have h0 : (β (0 : Fin 3)).val < 32 := Nat.lt_of_lt_of_eq (β (0 : Fin 3)).isLt (show (32 + 1 - 1) / 1 = 32 from rfl)
  have h1 : (β (1 : Fin 3)).val < 1 := Nat.lt_of_lt_of_eq (β (1 : Fin 3)).isLt (show (8 + 8 - 1) / 8 = 1 from rfl)
  have h2 : (β (2 : Fin 3)).val < 1 := Nat.lt_of_lt_of_eq (β (2 : Fin 3)).isLt (show (128 + 128 - 1) / 128 = 1 from rfl)
  have hN : (cfgM m hO).N = 64 := rfl
  refine ⟨⟨2 * (β (0 : Fin 3)).val + 1, ?_⟩, (flush0_35 _ _).mpr ?_, fun (a : Fin 3) => ⟨?_, Or.inl rfl⟩⟩
  · show _ < 64
    omega
  · show (2 * _ + 1) % 2 = 1
    omega
  · rw [idx35]
    match a with
    | ⟨0, _⟩ => show (2 * _ + 1) / 2 = (β (0 : Fin 3)).val; omega
    | ⟨1, _⟩ => show 0 = (β (1 : Fin 3)).val; omega
    | ⟨2, _⟩ => show 0 = (β (2 : Fin 3)).val; omega

/-- The padded projection is the projection in its own columns. -/
theorem padded (c : Dev nD) (n : Fin 256) (k : Fin 6144) (h : k.val < 5760) :
    (V m c main_v0 : Vec Ideal S256x6144 .f32) (ix2 n k)
      = (m ((c : Thread nD τ).loc main_arg1) : Vec Ideal S256x5760 .f32) (ix2 n ⟨k.val, h⟩) := by
  have e : (V m c main_v0 : Vec Ideal S256x6144 .f32) = pad (s := S256x5760) (α := Ideal .f32) S256x6144 ![0, 0] ![0, 384] ![0, 0]
      (m ((c : Thread nD τ).loc main_arg1)) (sitofp .f32 (constantI S_ 32 0#32)) pads_S256x5760_S256x6144_000_03840 h_S_ := by
    rfl
  rw [e]
  pointwise
  simp [h]

/-- The query block at a point. -/
theorem qblk (hO : Ok m) (c : Dev nD) (t : Fin (cfgM m hO).N) (r : Fin 8) (d : Fin 512) (n : Fin 256) (hn : n.val = (t.val / 2) * 8 + r.val) :
    (iblk m hO c 0 t : Vec Ideal S8x512 .f32) (ix2 r d) = (m ((c : Thread nD τ).loc main_arg1) : Vec Ideal S256x5760 .f32) (ix2 n ⟨2048 + d.val, by omega⟩) := by
  have e : (((cfgM m hO).win 0).blk t).view.emb (ix2 r d) = (ix2 n ⟨2048 + d.val, by omega⟩ : S256x6144.Idx) := by
    blk_ext [idx0 m hO t]
  refine Eq.trans ?_ (padded m c n ⟨2048 + d.val, by omega⟩ (by show 2048 + d.val < 5760; omega))
  exact congrArg (V m c main_v0 : Vec Ideal S256x6144 .f32) e

/-- The block of the new keys and the weights at a point. -/
theorem kwblk (hO : Ok m) (c : Dev nD) (t : Fin (cfgM m hO).N) (r : Fin 8) (d : Fin 128) (n : Fin 256) (hn : n.val = (t.val / 2) * 8 + r.val) :
    (iblk m hO c 1 t : Vec Ideal S8x128 .f32) (ix2 r d) = (m ((c : Thread nD τ).loc main_arg1) : Vec Ideal S256x5760 .f32) (ix2 n ⟨5632 + d.val, by omega⟩) := by
  have e : (((cfgM m hO).win 1).blk t).view.emb (ix2 r d) = (ix2 n ⟨5632 + d.val, by omega⟩ : S256x6144.Idx) := by
    blk_ext [idx1 m hO t]
  refine Eq.trans ?_ (padded m c n ⟨5632 + d.val, by omega⟩ (by show 5632 + d.val < 5760; omega))
  exact congrArg (V m c main_v0 : Vec Ideal S256x6144 .f32) e

/-- The page a window shows, off the table the kernel is called with. -/
theorem page_eq (c : Dev nD) (t : Fin grid0.N) (g : Fin 32) (n : Fin 2048) (hn : n.val = 64 * (t.val / 2) + 32 * (t.val % 2) + g.val) :
    page (tbl m) (grid0.coords t) g = ((m ((c : Thread nD τ).loc main_arg0) : IVec S2048 32) (ix1 n)).toNat := by
  obtain rfl : c = 0 := Subsingleton.elim _ _
  have e : V m (0 : Dev nD) (pre0.ref 0) = m (((0 : Dev nD) : Thread nD τ).loc main_arg0) := V_main_arg0 m 0
  obtain ⟨c0, c1⟩ := coords t
  have ep : place (grid0.coords t) g = n := Fin.ext (by
    show 64 * (grid0.coords t 0).val + 32 * (grid0.coords t 1).val + g.val = n.val
    rw [c0, c1, hn])
  unfold page tbl
  rw [ep]
  exact congrArg (fun z : IVec S2048 32 => (z (ix1 n)).toNat) e

/-- The block of page 0 of the point's half. -/
theorem pblk2 (hO : Ok m) (c : Dev nD) (t : Fin (cfgM m hO).N) (d : Fin 64) (l : Fin 128) (pg : Fin 2560) (hn : page (tbl m) (grid0.coords t) 0 = pg.val) :
    (iblk m hO c 2 t : Vec Ideal S1x1x64x128 .f32) (ix4 0 0 d l) = (m ((c : Thread nD τ).loc main_arg2) : Vec Ideal S4x2560x64x128 .f32) (ix4 0 pg d l) := by
  have h : ((cfgM m hO).win 2).index t = ![0, pg.val, 0, 0] := hn ▸ map2 (tbl m) (grid0.coords t)
  have e : (((cfgM m hO).win 2).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 1 of the point's half. -/
theorem pblk3 (hO : Ok m) (c : Dev nD) (t : Fin (cfgM m hO).N) (d : Fin 64) (l : Fin 128) (pg : Fin 2560) (hn : page (tbl m) (grid0.coords t) 1 = pg.val) :
    (iblk m hO c 3 t : Vec Ideal S1x1x64x128 .f32) (ix4 0 0 d l) = (m ((c : Thread nD τ).loc main_arg2) : Vec Ideal S4x2560x64x128 .f32) (ix4 0 pg d l) := by
  have h : ((cfgM m hO).win 3).index t = ![0, pg.val, 0, 0] := hn ▸ map3 (tbl m) (grid0.coords t)
  have e : (((cfgM m hO).win 3).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 2 of the point's half. -/
theorem pblk4 (hO : Ok m) (c : Dev nD) (t : Fin (cfgM m hO).N) (d : Fin 64) (l : Fin 128) (pg : Fin 2560) (hn : page (tbl m) (grid0.coords t) 2 = pg.val) :
    (iblk m hO c 4 t : Vec Ideal S1x1x64x128 .f32) (ix4 0 0 d l) = (m ((c : Thread nD τ).loc main_arg2) : Vec Ideal S4x2560x64x128 .f32) (ix4 0 pg d l) := by
  have h : ((cfgM m hO).win 4).index t = ![0, pg.val, 0, 0] := hn ▸ map4 (tbl m) (grid0.coords t)
  have e : (((cfgM m hO).win 4).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 3 of the point's half. -/
theorem pblk5 (hO : Ok m) (c : Dev nD) (t : Fin (cfgM m hO).N) (d : Fin 64) (l : Fin 128) (pg : Fin 2560) (hn : page (tbl m) (grid0.coords t) 3 = pg.val) :
    (iblk m hO c 5 t : Vec Ideal S1x1x64x128 .f32) (ix4 0 0 d l) = (m ((c : Thread nD τ).loc main_arg2) : Vec Ideal S4x2560x64x128 .f32) (ix4 0 pg d l) := by
  have h : ((cfgM m hO).win 5).index t = ![0, pg.val, 0, 0] := hn ▸ map5 (tbl m) (grid0.coords t)
  have e : (((cfgM m hO).win 5).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 4 of the point's half. -/
theorem pblk6 (hO : Ok m) (c : Dev nD) (t : Fin (cfgM m hO).N) (d : Fin 64) (l : Fin 128) (pg : Fin 2560) (hn : page (tbl m) (grid0.coords t) 4 = pg.val) :
    (iblk m hO c 6 t : Vec Ideal S1x1x64x128 .f32) (ix4 0 0 d l) = (m ((c : Thread nD τ).loc main_arg2) : Vec Ideal S4x2560x64x128 .f32) (ix4 0 pg d l) := by
  have h : ((cfgM m hO).win 6).index t = ![0, pg.val, 0, 0] := hn ▸ map6 (tbl m) (grid0.coords t)
  have e : (((cfgM m hO).win 6).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 5 of the point's half. -/
theorem pblk7 (hO : Ok m) (c : Dev nD) (t : Fin (cfgM m hO).N) (d : Fin 64) (l : Fin 128) (pg : Fin 2560) (hn : page (tbl m) (grid0.coords t) 5 = pg.val) :
    (iblk m hO c 7 t : Vec Ideal S1x1x64x128 .f32) (ix4 0 0 d l) = (m ((c : Thread nD τ).loc main_arg2) : Vec Ideal S4x2560x64x128 .f32) (ix4 0 pg d l) := by
  have h : ((cfgM m hO).win 7).index t = ![0, pg.val, 0, 0] := hn ▸ map7 (tbl m) (grid0.coords t)
  have e : (((cfgM m hO).win 7).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 6 of the point's half. -/
theorem pblk8 (hO : Ok m) (c : Dev nD) (t : Fin (cfgM m hO).N) (d : Fin 64) (l : Fin 128) (pg : Fin 2560) (hn : page (tbl m) (grid0.coords t) 6 = pg.val) :
    (iblk m hO c 8 t : Vec Ideal S1x1x64x128 .f32) (ix4 0 0 d l) = (m ((c : Thread nD τ).loc main_arg2) : Vec Ideal S4x2560x64x128 .f32) (ix4 0 pg d l) := by
  have h : ((cfgM m hO).win 8).index t = ![0, pg.val, 0, 0] := hn ▸ map8 (tbl m) (grid0.coords t)
  have e : (((cfgM m hO).win 8).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 7 of the point's half. -/
theorem pblk9 (hO : Ok m) (c : Dev nD) (t : Fin (cfgM m hO).N) (d : Fin 64) (l : Fin 128) (pg : Fin 2560) (hn : page (tbl m) (grid0.coords t) 7 = pg.val) :
    (iblk m hO c 9 t : Vec Ideal S1x1x64x128 .f32) (ix4 0 0 d l) = (m ((c : Thread nD τ).loc main_arg2) : Vec Ideal S4x2560x64x128 .f32) (ix4 0 pg d l) := by
  have h : ((cfgM m hO).win 9).index t = ![0, pg.val, 0, 0] := hn ▸ map9 (tbl m) (grid0.coords t)
  have e : (((cfgM m hO).win 9).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 8 of the point's half. -/
theorem pblk10 (hO : Ok m) (c : Dev nD) (t : Fin (cfgM m hO).N) (d : Fin 64) (l : Fin 128) (pg : Fin 2560) (hn : page (tbl m) (grid0.coords t) 8 = pg.val) :
    (iblk m hO c 10 t : Vec Ideal S1x1x64x128 .f32) (ix4 0 0 d l) = (m ((c : Thread nD τ).loc main_arg2) : Vec Ideal S4x2560x64x128 .f32) (ix4 0 pg d l) := by
  have h : ((cfgM m hO).win 10).index t = ![0, pg.val, 0, 0] := hn ▸ map10 (tbl m) (grid0.coords t)
  have e : (((cfgM m hO).win 10).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 9 of the point's half. -/
theorem pblk11 (hO : Ok m) (c : Dev nD) (t : Fin (cfgM m hO).N) (d : Fin 64) (l : Fin 128) (pg : Fin 2560) (hn : page (tbl m) (grid0.coords t) 9 = pg.val) :
    (iblk m hO c 11 t : Vec Ideal S1x1x64x128 .f32) (ix4 0 0 d l) = (m ((c : Thread nD τ).loc main_arg2) : Vec Ideal S4x2560x64x128 .f32) (ix4 0 pg d l) := by
  have h : ((cfgM m hO).win 11).index t = ![0, pg.val, 0, 0] := hn ▸ map11 (tbl m) (grid0.coords t)
  have e : (((cfgM m hO).win 11).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 10 of the point's half. -/
theorem pblk12 (hO : Ok m) (c : Dev nD) (t : Fin (cfgM m hO).N) (d : Fin 64) (l : Fin 128) (pg : Fin 2560) (hn : page (tbl m) (grid0.coords t) 10 = pg.val) :
    (iblk m hO c 12 t : Vec Ideal S1x1x64x128 .f32) (ix4 0 0 d l) = (m ((c : Thread nD τ).loc main_arg2) : Vec Ideal S4x2560x64x128 .f32) (ix4 0 pg d l) := by
  have h : ((cfgM m hO).win 12).index t = ![0, pg.val, 0, 0] := hn ▸ map12 (tbl m) (grid0.coords t)
  have e : (((cfgM m hO).win 12).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 11 of the point's half. -/
theorem pblk13 (hO : Ok m) (c : Dev nD) (t : Fin (cfgM m hO).N) (d : Fin 64) (l : Fin 128) (pg : Fin 2560) (hn : page (tbl m) (grid0.coords t) 11 = pg.val) :
    (iblk m hO c 13 t : Vec Ideal S1x1x64x128 .f32) (ix4 0 0 d l) = (m ((c : Thread nD τ).loc main_arg2) : Vec Ideal S4x2560x64x128 .f32) (ix4 0 pg d l) := by
  have h : ((cfgM m hO).win 13).index t = ![0, pg.val, 0, 0] := hn ▸ map13 (tbl m) (grid0.coords t)
  have e : (((cfgM m hO).win 13).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 12 of the point's half. -/
theorem pblk14 (hO : Ok m) (c : Dev nD) (t : Fin (cfgM m hO).N) (d : Fin 64) (l : Fin 128) (pg : Fin 2560) (hn : page (tbl m) (grid0.coords t) 12 = pg.val) :
    (iblk m hO c 14 t : Vec Ideal S1x1x64x128 .f32) (ix4 0 0 d l) = (m ((c : Thread nD τ).loc main_arg2) : Vec Ideal S4x2560x64x128 .f32) (ix4 0 pg d l) := by
  have h : ((cfgM m hO).win 14).index t = ![0, pg.val, 0, 0] := hn ▸ map14 (tbl m) (grid0.coords t)
  have e : (((cfgM m hO).win 14).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 13 of the point's half. -/
theorem pblk15 (hO : Ok m) (c : Dev nD) (t : Fin (cfgM m hO).N) (d : Fin 64) (l : Fin 128) (pg : Fin 2560) (hn : page (tbl m) (grid0.coords t) 13 = pg.val) :
    (iblk m hO c 15 t : Vec Ideal S1x1x64x128 .f32) (ix4 0 0 d l) = (m ((c : Thread nD τ).loc main_arg2) : Vec Ideal S4x2560x64x128 .f32) (ix4 0 pg d l) := by
  have h : ((cfgM m hO).win 15).index t = ![0, pg.val, 0, 0] := hn ▸ map15 (tbl m) (grid0.coords t)
  have e : (((cfgM m hO).win 15).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 14 of the point's half. -/
theorem pblk16 (hO : Ok m) (c : Dev nD) (t : Fin (cfgM m hO).N) (d : Fin 64) (l : Fin 128) (pg : Fin 2560) (hn : page (tbl m) (grid0.coords t) 14 = pg.val) :
    (iblk m hO c 16 t : Vec Ideal S1x1x64x128 .f32) (ix4 0 0 d l) = (m ((c : Thread nD τ).loc main_arg2) : Vec Ideal S4x2560x64x128 .f32) (ix4 0 pg d l) := by
  have h : ((cfgM m hO).win 16).index t = ![0, pg.val, 0, 0] := hn ▸ map16 (tbl m) (grid0.coords t)
  have e : (((cfgM m hO).win 16).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 15 of the point's half. -/
theorem pblk17 (hO : Ok m) (c : Dev nD) (t : Fin (cfgM m hO).N) (d : Fin 64) (l : Fin 128) (pg : Fin 2560) (hn : page (tbl m) (grid0.coords t) 15 = pg.val) :
    (iblk m hO c 17 t : Vec Ideal S1x1x64x128 .f32) (ix4 0 0 d l) = (m ((c : Thread nD τ).loc main_arg2) : Vec Ideal S4x2560x64x128 .f32) (ix4 0 pg d l) := by
  have h : ((cfgM m hO).win 17).index t = ![0, pg.val, 0, 0] := hn ▸ map17 (tbl m) (grid0.coords t)
  have e : (((cfgM m hO).win 17).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 16 of the point's half. -/
theorem pblk18 (hO : Ok m) (c : Dev nD) (t : Fin (cfgM m hO).N) (d : Fin 64) (l : Fin 128) (pg : Fin 2560) (hn : page (tbl m) (grid0.coords t) 16 = pg.val) :
    (iblk m hO c 18 t : Vec Ideal S1x1x64x128 .f32) (ix4 0 0 d l) = (m ((c : Thread nD τ).loc main_arg2) : Vec Ideal S4x2560x64x128 .f32) (ix4 0 pg d l) := by
  have h : ((cfgM m hO).win 18).index t = ![0, pg.val, 0, 0] := hn ▸ map18 (tbl m) (grid0.coords t)
  have e : (((cfgM m hO).win 18).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 17 of the point's half. -/
theorem pblk19 (hO : Ok m) (c : Dev nD) (t : Fin (cfgM m hO).N) (d : Fin 64) (l : Fin 128) (pg : Fin 2560) (hn : page (tbl m) (grid0.coords t) 17 = pg.val) :
    (iblk m hO c 19 t : Vec Ideal S1x1x64x128 .f32) (ix4 0 0 d l) = (m ((c : Thread nD τ).loc main_arg2) : Vec Ideal S4x2560x64x128 .f32) (ix4 0 pg d l) := by
  have h : ((cfgM m hO).win 19).index t = ![0, pg.val, 0, 0] := hn ▸ map19 (tbl m) (grid0.coords t)
  have e : (((cfgM m hO).win 19).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 18 of the point's half. -/
theorem pblk20 (hO : Ok m) (c : Dev nD) (t : Fin (cfgM m hO).N) (d : Fin 64) (l : Fin 128) (pg : Fin 2560) (hn : page (tbl m) (grid0.coords t) 18 = pg.val) :
    (iblk m hO c 20 t : Vec Ideal S1x1x64x128 .f32) (ix4 0 0 d l) = (m ((c : Thread nD τ).loc main_arg2) : Vec Ideal S4x2560x64x128 .f32) (ix4 0 pg d l) := by
  have h : ((cfgM m hO).win 20).index t = ![0, pg.val, 0, 0] := hn ▸ map20 (tbl m) (grid0.coords t)
  have e : (((cfgM m hO).win 20).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 19 of the point's half. -/
theorem pblk21 (hO : Ok m) (c : Dev nD) (t : Fin (cfgM m hO).N) (d : Fin 64) (l : Fin 128) (pg : Fin 2560) (hn : page (tbl m) (grid0.coords t) 19 = pg.val) :
    (iblk m hO c 21 t : Vec Ideal S1x1x64x128 .f32) (ix4 0 0 d l) = (m ((c : Thread nD τ).loc main_arg2) : Vec Ideal S4x2560x64x128 .f32) (ix4 0 pg d l) := by
  have h : ((cfgM m hO).win 21).index t = ![0, pg.val, 0, 0] := hn ▸ map21 (tbl m) (grid0.coords t)
  have e : (((cfgM m hO).win 21).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 20 of the point's half. -/
theorem pblk22 (hO : Ok m) (c : Dev nD) (t : Fin (cfgM m hO).N) (d : Fin 64) (l : Fin 128) (pg : Fin 2560) (hn : page (tbl m) (grid0.coords t) 20 = pg.val) :
    (iblk m hO c 22 t : Vec Ideal S1x1x64x128 .f32) (ix4 0 0 d l) = (m ((c : Thread nD τ).loc main_arg2) : Vec Ideal S4x2560x64x128 .f32) (ix4 0 pg d l) := by
  have h : ((cfgM m hO).win 22).index t = ![0, pg.val, 0, 0] := hn ▸ map22 (tbl m) (grid0.coords t)
  have e : (((cfgM m hO).win 22).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 21 of the point's half. -/
theorem pblk23 (hO : Ok m) (c : Dev nD) (t : Fin (cfgM m hO).N) (d : Fin 64) (l : Fin 128) (pg : Fin 2560) (hn : page (tbl m) (grid0.coords t) 21 = pg.val) :
    (iblk m hO c 23 t : Vec Ideal S1x1x64x128 .f32) (ix4 0 0 d l) = (m ((c : Thread nD τ).loc main_arg2) : Vec Ideal S4x2560x64x128 .f32) (ix4 0 pg d l) := by
  have h : ((cfgM m hO).win 23).index t = ![0, pg.val, 0, 0] := hn ▸ map23 (tbl m) (grid0.coords t)
  have e : (((cfgM m hO).win 23).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 22 of the point's half. -/
theorem pblk24 (hO : Ok m) (c : Dev nD) (t : Fin (cfgM m hO).N) (d : Fin 64) (l : Fin 128) (pg : Fin 2560) (hn : page (tbl m) (grid0.coords t) 22 = pg.val) :
    (iblk m hO c 24 t : Vec Ideal S1x1x64x128 .f32) (ix4 0 0 d l) = (m ((c : Thread nD τ).loc main_arg2) : Vec Ideal S4x2560x64x128 .f32) (ix4 0 pg d l) := by
  have h : ((cfgM m hO).win 24).index t = ![0, pg.val, 0, 0] := hn ▸ map24 (tbl m) (grid0.coords t)
  have e : (((cfgM m hO).win 24).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 23 of the point's half. -/
theorem pblk25 (hO : Ok m) (c : Dev nD) (t : Fin (cfgM m hO).N) (d : Fin 64) (l : Fin 128) (pg : Fin 2560) (hn : page (tbl m) (grid0.coords t) 23 = pg.val) :
    (iblk m hO c 25 t : Vec Ideal S1x1x64x128 .f32) (ix4 0 0 d l) = (m ((c : Thread nD τ).loc main_arg2) : Vec Ideal S4x2560x64x128 .f32) (ix4 0 pg d l) := by
  have h : ((cfgM m hO).win 25).index t = ![0, pg.val, 0, 0] := hn ▸ map25 (tbl m) (grid0.coords t)
  have e : (((cfgM m hO).win 25).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 24 of the point's half. -/
theorem pblk26 (hO : Ok m) (c : Dev nD) (t : Fin (cfgM m hO).N) (d : Fin 64) (l : Fin 128) (pg : Fin 2560) (hn : page (tbl m) (grid0.coords t) 24 = pg.val) :
    (iblk m hO c 26 t : Vec Ideal S1x1x64x128 .f32) (ix4 0 0 d l) = (m ((c : Thread nD τ).loc main_arg2) : Vec Ideal S4x2560x64x128 .f32) (ix4 0 pg d l) := by
  have h : ((cfgM m hO).win 26).index t = ![0, pg.val, 0, 0] := hn ▸ map26 (tbl m) (grid0.coords t)
  have e : (((cfgM m hO).win 26).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 25 of the point's half. -/
theorem pblk27 (hO : Ok m) (c : Dev nD) (t : Fin (cfgM m hO).N) (d : Fin 64) (l : Fin 128) (pg : Fin 2560) (hn : page (tbl m) (grid0.coords t) 25 = pg.val) :
    (iblk m hO c 27 t : Vec Ideal S1x1x64x128 .f32) (ix4 0 0 d l) = (m ((c : Thread nD τ).loc main_arg2) : Vec Ideal S4x2560x64x128 .f32) (ix4 0 pg d l) := by
  have h : ((cfgM m hO).win 27).index t = ![0, pg.val, 0, 0] := hn ▸ map27 (tbl m) (grid0.coords t)
  have e : (((cfgM m hO).win 27).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 26 of the point's half. -/
theorem pblk28 (hO : Ok m) (c : Dev nD) (t : Fin (cfgM m hO).N) (d : Fin 64) (l : Fin 128) (pg : Fin 2560) (hn : page (tbl m) (grid0.coords t) 26 = pg.val) :
    (iblk m hO c 28 t : Vec Ideal S1x1x64x128 .f32) (ix4 0 0 d l) = (m ((c : Thread nD τ).loc main_arg2) : Vec Ideal S4x2560x64x128 .f32) (ix4 0 pg d l) := by
  have h : ((cfgM m hO).win 28).index t = ![0, pg.val, 0, 0] := hn ▸ map28 (tbl m) (grid0.coords t)
  have e : (((cfgM m hO).win 28).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 27 of the point's half. -/
theorem pblk29 (hO : Ok m) (c : Dev nD) (t : Fin (cfgM m hO).N) (d : Fin 64) (l : Fin 128) (pg : Fin 2560) (hn : page (tbl m) (grid0.coords t) 27 = pg.val) :
    (iblk m hO c 29 t : Vec Ideal S1x1x64x128 .f32) (ix4 0 0 d l) = (m ((c : Thread nD τ).loc main_arg2) : Vec Ideal S4x2560x64x128 .f32) (ix4 0 pg d l) := by
  have h : ((cfgM m hO).win 29).index t = ![0, pg.val, 0, 0] := hn ▸ map29 (tbl m) (grid0.coords t)
  have e : (((cfgM m hO).win 29).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 28 of the point's half. -/
theorem pblk30 (hO : Ok m) (c : Dev nD) (t : Fin (cfgM m hO).N) (d : Fin 64) (l : Fin 128) (pg : Fin 2560) (hn : page (tbl m) (grid0.coords t) 28 = pg.val) :
    (iblk m hO c 30 t : Vec Ideal S1x1x64x128 .f32) (ix4 0 0 d l) = (m ((c : Thread nD τ).loc main_arg2) : Vec Ideal S4x2560x64x128 .f32) (ix4 0 pg d l) := by
  have h : ((cfgM m hO).win 30).index t = ![0, pg.val, 0, 0] := hn ▸ map30 (tbl m) (grid0.coords t)
  have e : (((cfgM m hO).win 30).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 29 of the point's half. -/
theorem pblk31 (hO : Ok m) (c : Dev nD) (t : Fin (cfgM m hO).N) (d : Fin 64) (l : Fin 128) (pg : Fin 2560) (hn : page (tbl m) (grid0.coords t) 29 = pg.val) :
    (iblk m hO c 31 t : Vec Ideal S1x1x64x128 .f32) (ix4 0 0 d l) = (m ((c : Thread nD τ).loc main_arg2) : Vec Ideal S4x2560x64x128 .f32) (ix4 0 pg d l) := by
  have h : ((cfgM m hO).win 31).index t = ![0, pg.val, 0, 0] := hn ▸ map31 (tbl m) (grid0.coords t)
  have e : (((cfgM m hO).win 31).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 30 of the point's half. -/
theorem pblk32 (hO : Ok m) (c : Dev nD) (t : Fin (cfgM m hO).N) (d : Fin 64) (l : Fin 128) (pg : Fin 2560) (hn : page (tbl m) (grid0.coords t) 30 = pg.val) :
    (iblk m hO c 32 t : Vec Ideal S1x1x64x128 .f32) (ix4 0 0 d l) = (m ((c : Thread nD τ).loc main_arg2) : Vec Ideal S4x2560x64x128 .f32) (ix4 0 pg d l) := by
  have h : ((cfgM m hO).win 32).index t = ![0, pg.val, 0, 0] := hn ▸ map32 (tbl m) (grid0.coords t)
  have e : (((cfgM m hO).win 32).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

/-- The block of page 31 of the point's half. -/
theorem pblk33 (hO : Ok m) (c : Dev nD) (t : Fin (cfgM m hO).N) (d : Fin 64) (l : Fin 128) (pg : Fin 2560) (hn : page (tbl m) (grid0.coords t) 31 = pg.val) :
    (iblk m hO c 33 t : Vec Ideal S1x1x64x128 .f32) (ix4 0 0 d l) = (m ((c : Thread nD τ).loc main_arg2) : Vec Ideal S4x2560x64x128 .f32) (ix4 0 pg d l) := by
  have h : ((cfgM m hO).win 33).index t = ![0, pg.val, 0, 0] := hn ▸ map33 (tbl m) (grid0.coords t)
  have e : (((cfgM m hO).win 33).blk t).view.emb (ix4 0 0 d l) = (ix4 0 pg d l : S4x2560x64x128.Idx) := by
    blk_ext [h]
  exact (congrArg (V m c main_arg2 : Vec Ideal S4x2560x64x128 .f32) e).trans (congrFun (V_main_arg2 m c) (ix4 0 pg d l : S4x2560x64x128.Idx))

end Cert.KernelIdeal.Pages
end
-- ==== Proof.IdxValue.lean ====
module

public import proofs.«01_k».proof.Proof.IdxRows
public import proofs.«01_k».proof.Proof.IdxBlocks

/-!
What the sample rows' index kernel leaves in its two results is what the reference computes.
-/

@[expose] public section

set_option maxRecDepth 16384

noncomputable section
open Idealize.ShloMosaic Idealize.ShloMosaic.TcCoe Idealize.SL.Sem
open Idealize.ShloMosaic.Pipeline (Dat)

namespace Cert.KernelIdeal.Pages
open Cert.KernelIdeal Cert.KernelIdeal.Gen Cert.ReferenceIdeal.Read

variable (m : (ℓ : Loc nD τ sig) → Buf (Elt Ideal) ℓ)

/-- The projection's query block, as the body reads it. -/
abbrev Q (hO : Ok m) (c : Dev nD) (t : Fin (cfgM m hO).N) : Vec Ideal S8x512 .f32 :=
  View.read (Elt Ideal) (ms0_0 m hO t).view ((hs0_0 m hO t).unread (iblk m hO c 0 t))

/-- The projection's block of the new keys and the weights, as the body reads it. -/
abbrev KW (hO : Ok m) (c : Dev nD) (t : Fin (cfgM m hO).N) : Vec Ideal S8x128 .f32 :=
  View.read (Elt Ideal) (ms0_1 m hO t).view ((hs0_1 m hO t).unread (iblk m hO c 1 t))

/-- The queries, read off the projection. -/
theorem Q_apply (hO : Ok m) (c : Dev nD) (t : Fin (cfgM m hO).N) (hb : t.val / 2 < 32) (r : Fin 8) (d : Fin 512) :
    Q m hO c t (ix2 r d) = (m ((c : Thread nD τ).loc main_arg1) : Vec Ideal S256x5760 .f32)
      (ix2 ⟨(⟨t.val / 2, hb⟩ : Fin 32).val * 8 + r.val, by dsimp only; omega⟩ ⟨2048 + d.val, by omega⟩) :=
  (congrFun ((hs0_0 m hO t).read_unread (iblk m hO c 0 t)) (ix2 r d : S8x512.Idx)).trans (qblk m hO c t r d _ rfl)

/-- The new keys and the weights, read off the projection. -/
theorem KW_apply (hO : Ok m) (c : Dev nD) (t : Fin (cfgM m hO).N) (hb : t.val / 2 < 32) (r : Fin 8) (d : Fin 128) :
    KW m hO c t (ix2 r d) = (m ((c : Thread nD τ).loc main_arg1) : Vec Ideal S256x5760 .f32)
      (ix2 ⟨(⟨t.val / 2, hb⟩ : Fin 32).val * 8 + r.val, by dsimp only; omega⟩ ⟨5632 + d.val, by omega⟩) :=
  (congrFun ((hs0_1 m hO t).read_unread (iblk m hO c 1 t)) (ix2 r d : S8x128.Idx)).trans (kwblk m hO c t r d _ rfl)

/-- Page 0 of the point's half, as the body reads it. -/
abbrev P2 (hO : Ok m) (c : Dev nD) (t : Fin (cfgM m hO).N) : Vec Ideal S1x1x64x128 .f32 :=
  View.read (Elt Ideal) (ms0_2 m hO t).view ((hs0_2 m hO t).unread (iblk m hO c 2 t))

/-- Page 1 of the point's half, as the body reads it. -/
abbrev P3 (hO : Ok m) (c : Dev nD) (t : Fin (cfgM m hO).N) : Vec Ideal S1x1x64x128 .f32 :=
  View.read (Elt Ideal) (ms0_3 m hO t).view ((hs0_3 m hO t).unread (iblk m hO c 3 t))

/-- Page 2 of the point's half, as the body reads it. -/
abbrev P4 (hO : Ok m) (c : Dev nD) (t : Fin (cfgM m hO).N) : Vec Ideal S1x1x64x128 .f32 :=
  View.read (Elt Ideal) (ms0_4 m hO t).view ((hs0_4 m hO t).unread (iblk m hO c 4 t))

/-- Page 3 of the point's half, as the body reads it. -/
abbrev P5 (hO : Ok m) (c : Dev nD) (t : Fin (cfgM m hO).N) : Vec Ideal S1x1x64x128 .f32 :=
  View.read (Elt Ideal) (ms0_5 m hO t).view ((hs0_5 m hO t).unread (iblk m hO c 5 t))

/-- Page 4 of the point's half, as the body reads it. -/
abbrev P6 (hO : Ok m) (c : Dev nD) (t : Fin (cfgM m hO).N) : Vec Ideal S1x1x64x128 .f32 :=
  View.read (Elt Ideal) (ms0_6 m hO t).view ((hs0_6 m hO t).unread (iblk m hO c 6 t))

/-- Page 5 of the point's half, as the body reads it. -/
abbrev P7 (hO : Ok m) (c : Dev nD) (t : Fin (cfgM m hO).N) : Vec Ideal S1x1x64x128 .f32 :=
  View.read (Elt Ideal) (ms0_7 m hO t).view ((hs0_7 m hO t).unread (iblk m hO c 7 t))

/-- Page 6 of the point's half, as the body reads it. -/
abbrev P8 (hO : Ok m) (c : Dev nD) (t : Fin (cfgM m hO).N) : Vec Ideal S1x1x64x128 .f32 :=
  View.read (Elt Ideal) (ms0_8 m hO t).view ((hs0_8 m hO t).unread (iblk m hO c 8 t))

/-- Page 7 of the point's half, as the body reads it. -/
abbrev P9 (hO : Ok m) (c : Dev nD) (t : Fin (cfgM m hO).N) : Vec Ideal S1x1x64x128 .f32 :=
  View.read (Elt Ideal) (ms0_9 m hO t).view ((hs0_9 m hO t).unread (iblk m hO c 9 t))

/-- Page 8 of the point's half, as the body reads it. -/
abbrev P10 (hO : Ok m) (c : Dev nD) (t : Fin (cfgM m hO).N) : Vec Ideal S1x1x64x128 .f32 :=
  View.read (Elt Ideal) (ms0_10 m hO t).view ((hs0_10 m hO t).unread (iblk m hO c 10 t))

/-- Page 9 of the point's half, as the body reads it. -/
abbrev P11 (hO : Ok m) (c : Dev nD) (t : Fin (cfgM m hO).N) : Vec Ideal S1x1x64x128 .f32 :=
  View.read (Elt Ideal) (ms0_11 m hO t).view ((hs0_11 m hO t).unread (iblk m hO c 11 t))

/-- Page 10 of the point's half, as the body reads it. -/
abbrev P12 (hO : Ok m) (c : Dev nD) (t : Fin (cfgM m hO).N) : Vec Ideal S1x1x64x128 .f32 :=
  View.read (Elt Ideal) (ms0_12 m hO t).view ((hs0_12 m hO t).unread (iblk m hO c 12 t))

/-- Page 11 of the point's half, as the body reads it. -/
abbrev P13 (hO : Ok m) (c : Dev nD) (t : Fin (cfgM m hO).N) : Vec Ideal S1x1x64x128 .f32 :=
  View.read (Elt Ideal) (ms0_13 m hO t).view ((hs0_13 m hO t).unread (iblk m hO c 13 t))

/-- Page 12 of the point's half, as the body reads it. -/
abbrev P14 (hO : Ok m) (c : Dev nD) (t : Fin (cfgM m hO).N) : Vec Ideal S1x1x64x128 .f32 :=
  View.read (Elt Ideal) (ms0_14 m hO t).view ((hs0_14 m hO t).unread (iblk m hO c 14 t))

/-- Page 13 of the point's half, as the body reads it. -/
abbrev P15 (hO : Ok m) (c : Dev nD) (t : Fin (cfgM m hO).N) : Vec Ideal S1x1x64x128 .f32 :=
  View.read (Elt Ideal) (ms0_15 m hO t).view ((hs0_15 m hO t).unread (iblk m hO c 15 t))

/-- Page 14 of the point's half, as the body reads it. -/
abbrev P16 (hO : Ok m) (c : Dev nD) (t : Fin (cfgM m hO).N) : Vec Ideal S1x1x64x128 .f32 :=
  View.read (Elt Ideal) (ms0_16 m hO t).view ((hs0_16 m hO t).unread (iblk m hO c 16 t))

/-- Page 15 of the point's half, as the body reads it. -/
abbrev P17 (hO : Ok m) (c : Dev nD) (t : Fin (cfgM m hO).N) : Vec Ideal S1x1x64x128 .f32 :=
  View.read (Elt Ideal) (ms0_17 m hO t).view ((hs0_17 m hO t).unread (iblk m hO c 17 t))

/-- Page 16 of the point's half, as the body reads it. -/
abbrev P18 (hO : Ok m) (c : Dev nD) (t : Fin (cfgM m hO).N) : Vec Ideal S1x1x64x128 .f32 :=
  View.read (Elt Ideal) (ms0_18 m hO t).view ((hs0_18 m hO t).unread (iblk m hO c 18 t))

/-- Page 17 of the point's half, as the body reads it. -/
abbrev P19 (hO : Ok m) (c : Dev nD) (t : Fin (cfgM m hO).N) : Vec Ideal S1x1x64x128 .f32 :=
  View.read (Elt Ideal) (ms0_19 m hO t).view ((hs0_19 m hO t).unread (iblk m hO c 19 t))

/-- Page 18 of the point's half, as the body reads it. -/
abbrev P20 (hO : Ok m) (c : Dev nD) (t : Fin (cfgM m hO).N) : Vec Ideal S1x1x64x128 .f32 :=
  View.read (Elt Ideal) (ms0_20 m hO t).view ((hs0_20 m hO t).unread (iblk m hO c 20 t))

/-- Page 19 of the point's half, as the body reads it. -/
abbrev P21 (hO : Ok m) (c : Dev nD) (t : Fin (cfgM m hO).N) : Vec Ideal S1x1x64x128 .f32 :=
  View.read (Elt Ideal) (ms0_21 m hO t).view ((hs0_21 m hO t).unread (iblk m hO c 21 t))

/-- Page 20 of the point's half, as the body reads it. -/
abbrev P22 (hO : Ok m) (c : Dev nD) (t : Fin (cfgM m hO).N) : Vec Ideal S1x1x64x128 .f32 :=
  View.read (Elt Ideal) (ms0_22 m hO t).view ((hs0_22 m hO t).unread (iblk m hO c 22 t))

/-- Page 21 of the point's half, as the body reads it. -/
abbrev P23 (hO : Ok m) (c : Dev nD) (t : Fin (cfgM m hO).N) : Vec Ideal S1x1x64x128 .f32 :=
  View.read (Elt Ideal) (ms0_23 m hO t).view ((hs0_23 m hO t).unread (iblk m hO c 23 t))

/-- Page 22 of the point's half, as the body reads it. -/
abbrev P24 (hO : Ok m) (c : Dev nD) (t : Fin (cfgM m hO).N) : Vec Ideal S1x1x64x128 .f32 :=
  View.read (Elt Ideal) (ms0_24 m hO t).view ((hs0_24 m hO t).unread (iblk m hO c 24 t))

/-- Page 23 of the point's half, as the body reads it. -/
abbrev P25 (hO : Ok m) (c : Dev nD) (t : Fin (cfgM m hO).N) : Vec Ideal S1x1x64x128 .f32 :=
  View.read (Elt Ideal) (ms0_25 m hO t).view ((hs0_25 m hO t).unread (iblk m hO c 25 t))

/-- Page 24 of the point's half, as the body reads it. -/
abbrev P26 (hO : Ok m) (c : Dev nD) (t : Fin (cfgM m hO).N) : Vec Ideal S1x1x64x128 .f32 :=
  View.read (Elt Ideal) (ms0_26 m hO t).view ((hs0_26 m hO t).unread (iblk m hO c 26 t))

/-- Page 25 of the point's half, as the body reads it. -/
abbrev P27 (hO : Ok m) (c : Dev nD) (t : Fin (cfgM m hO).N) : Vec Ideal S1x1x64x128 .f32 :=
  View.read (Elt Ideal) (ms0_27 m hO t).view ((hs0_27 m hO t).unread (iblk m hO c 27 t))

/-- Page 26 of the point's half, as the body reads it. -/
abbrev P28 (hO : Ok m) (c : Dev nD) (t : Fin (cfgM m hO).N) : Vec Ideal S1x1x64x128 .f32 :=
  View.read (Elt Ideal) (ms0_28 m hO t).view ((hs0_28 m hO t).unread (iblk m hO c 28 t))

/-- Page 27 of the point's half, as the body reads it. -/
abbrev P29 (hO : Ok m) (c : Dev nD) (t : Fin (cfgM m hO).N) : Vec Ideal S1x1x64x128 .f32 :=
  View.read (Elt Ideal) (ms0_29 m hO t).view ((hs0_29 m hO t).unread (iblk m hO c 29 t))

/-- Page 28 of the point's half, as the body reads it. -/
abbrev P30 (hO : Ok m) (c : Dev nD) (t : Fin (cfgM m hO).N) : Vec Ideal S1x1x64x128 .f32 :=
  View.read (Elt Ideal) (ms0_30 m hO t).view ((hs0_30 m hO t).unread (iblk m hO c 30 t))

/-- Page 29 of the point's half, as the body reads it. -/
abbrev P31 (hO : Ok m) (c : Dev nD) (t : Fin (cfgM m hO).N) : Vec Ideal S1x1x64x128 .f32 :=
  View.read (Elt Ideal) (ms0_31 m hO t).view ((hs0_31 m hO t).unread (iblk m hO c 31 t))

/-- Page 30 of the point's half, as the body reads it. -/
abbrev P32 (hO : Ok m) (c : Dev nD) (t : Fin (cfgM m hO).N) : Vec Ideal S1x1x64x128 .f32 :=
  View.read (Elt Ideal) (ms0_32 m hO t).view ((hs0_32 m hO t).unread (iblk m hO c 32 t))

/-- Page 31 of the point's half, as the body reads it. -/
abbrev P33 (hO : Ok m) (c : Dev nD) (t : Fin (cfgM m hO).N) : Vec Ideal S1x1x64x128 .f32 :=
  View.read (Elt Ideal) (ms0_33 m hO t).view ((hs0_33 m hO t).unread (iblk m hO c 33 t))

/-- What is stored of a page at a grid point is the reference's at the page's place. -/
theorem stored (hO : Ok m) (c : Dev nD) (t : Fin (cfgM m hO).N) (hb : t.val / 2 < 32)
    (hp : ∀ n : Fin 2048, ((m ((c : Thread nD τ).loc main_arg0) : IVec S2048 32) (ix1 n)).toNat < 2560)
    (g : Fin 32) (p : Vec Ideal S1x1x64x128 .f32)
    (h : ∀ (d : Fin 64) (l : Fin 128) (pg : Fin 2560), page (tbl m) (grid0.coords t) g = pg.val →
      p (ix4 0 0 d l) = (m ((c : Thread nD τ).loc main_arg2) : Vec Ideal S4x2560x64x128 .f32) (ix4 0 pg d l))
    (r : Fin 8) (k : Fin 4096) (hk : 4096 * (t.val % 2) + k.val < 8192) (x : S1x8x128.Idx) (h1 : r.val = (x (1 : Fin 3)).val)
    (h2 : k.val = 128 * g.val + (x (2 : Fin 3)).val) :
    core (Q m hO c t) (KW m hO c t) p x = val_main_v38 (F := Ideal) (m ((c : Thread nD τ).loc main_arg0)) (m ((c : Thread nD τ).loc main_arg1))
      (m ((c : Thread nD τ).loc main_arg2)) (ix3 ⟨t.val / 2, hb⟩ r ⟨4096 * (t.val % 2) + k.val, hk⟩) := by
  have hx : (x (2 : Fin 3)).val < 128 := (x (2 : Fin 3)).isLt
  have e : x = (ix3 0 r (x (2 : Fin 3)) : S1x8x128.Idx) := by
    refine funext fun (a : Fin 3) => ?_
    match a with
    | ⟨0, _⟩ => exact Subsingleton.elim (α := Fin 1) _ _
    | ⟨1, _⟩ => exact Fin.ext h1.symm
    | ⟨2, _⟩ => rfl
  have hg := g.isLt
  have hn : 64 * (t.val / 2) + 32 * (t.val % 2) + g.val < 2048 := by omega
  rw [e]
  exact tile _ _ _ _ _ p ⟨t.val / 2, hb⟩ (Q_apply m hO c t hb) (KW_apply m hO c t hb) ⟨_, hn⟩ (hp _)
    (fun d l => h d l _ (page_eq m c t g ⟨_, hn⟩ rfl)) r (x (2 : Fin 3)) _
    (by dsimp only; omega) (by dsimp only; omega)

/-- After the run the second result holds the reference's scores of the new keys. -/
theorem fin35 (hO : Ok m) (c : Dev nD) : (dats m hO 0 c).arrAt 35 (cfgM m hO).N
    = val_main_v39 (F := Ideal) (m ((c : Thread nD τ).loc main_arg1)) := by
  refine (dats m hO 0 c).arrAt_eq_of_covers 35 _ (covers35 m hO) fun t _ y => ?_
  blk_simp
  rw [after0_35, outsAt0]
  frame_out
  have hN : (cfgM m hO).N = 64 := rfl
  have ht : t.val < 64 := t.isLt
  have hb : t.val / 2 < 32 := by omega
  obtain ⟨r, l, rfl⟩ : ∃ (r : Fin 8) (l : Fin 128), y = (ix3 0 r l : S1x8x128.Idx) := by
    refine ⟨y (1 : Fin 3), y (2 : Fin 3), funext fun (a : Fin 3) => ?_⟩
    match a with
    | ⟨0, _⟩ => exact Subsingleton.elim (α := Fin 1) _ _
    | ⟨1, _⟩ => rfl
    | ⟨2, _⟩ => rfl
  have e : (((cfgM m hO).win 35).blk t).view.emb (ix3 0 r l) = (ix3 ⟨t.val / 2, hb⟩ r l : S32x8x128.Idx) := by
    blk_ext [idx35 m hO t]
  refine (tail (m ((c : Thread nD τ).loc main_arg1)) (Q m hO c t) (KW m hO c t) ⟨t.val / 2, hb⟩ (Q_apply m hO c t hb) (KW_apply m hO c t hb) r l).trans ?_
  exact (congrArg (val_main_v39 (F := Ideal) (m ((c : Thread nD τ).loc main_arg1))) e).symm

/-- After the run the first result holds the reference's scores of the pages' keys. -/
theorem fin34 (hO : Ok m) (c : Dev nD) (hp : ∀ n : Fin 2048, ((m ((c : Thread nD τ).loc main_arg0) : IVec S2048 32) (ix1 n)).toNat < 2560) :
    (dats m hO 0 c).arrAt 34 (cfgM m hO).N
    = val_main_v38 (F := Ideal) (m ((c : Thread nD τ).loc main_arg0)) (m ((c : Thread nD τ).loc main_arg1)) (m ((c : Thread nD τ).loc main_arg2)) := by
  refine (dats m hO 0 c).arrAt_eq_of_covers 34 _ (covers34 m hO) fun t _ y => ?_
  blk_simp
  rw [after0_34, outsAt0]
  frame_out
  have hN : (cfgM m hO).N = 64 := rfl
  have ht : t.val < 64 := t.isLt
  have hb : t.val / 2 < 32 := by omega
  obtain ⟨r, k, rfl⟩ : ∃ (r : Fin 8) (k : Fin 4096), y = (ix3 0 r k : S1x8x4096.Idx) := by
    refine ⟨y (1 : Fin 3), y (2 : Fin 3), funext fun (a : Fin 3) => ?_⟩
    match a with
    | ⟨0, _⟩ => exact Subsingleton.elim (α := Fin 1) _ _
    | ⟨1, _⟩ => rfl
    | ⟨2, _⟩ => rfl
  have e : (((cfgM m hO).win 34).blk t).view.emb (ix3 0 r k) = (ix3 ⟨t.val / 2, hb⟩ r ⟨4096 * (t.val % 2) + k.val, by omega⟩ : S32x8x8192.Idx) := by
    blk_ext [idx34 m hO t]
  refine Eq.trans ?_ (congrArg (val_main_v38 (F := Ideal) (m ((c : Thread nD τ).loc main_arg0)) (m ((c : Thread nD τ).loc main_arg1)) (m ((c : Thread nD τ).loc main_arg2))) e).symm
  canon_tiles x h
  case piece0 =>
    exact (stored m hO c t hb hp 31 (P33 m hO c t) (fun d l pg hg => (congrFun ((hs0_33 m hO t).read_unread (iblk m hO c 33 t)) (ix4 0 0 d l : S1x1x64x128.Idx)).trans
      (pblk33 m hO c t d l pg hg)) r k (by omega) x h1 (h2))
  case piece1 =>
    exact (stored m hO c t hb hp 30 (P32 m hO c t) (fun d l pg hg => (congrFun ((hs0_32 m hO t).read_unread (iblk m hO c 32 t)) (ix4 0 0 d l : S1x1x64x128.Idx)).trans
      (pblk32 m hO c t d l pg hg)) r k (by omega) x h1 (h2))
  case piece2 =>
    exact (stored m hO c t hb hp 29 (P31 m hO c t) (fun d l pg hg => (congrFun ((hs0_31 m hO t).read_unread (iblk m hO c 31 t)) (ix4 0 0 d l : S1x1x64x128.Idx)).trans
      (pblk31 m hO c t d l pg hg)) r k (by omega) x h1 (h2))
  case piece3 =>
    exact (stored m hO c t hb hp 28 (P30 m hO c t) (fun d l pg hg => (congrFun ((hs0_30 m hO t).read_unread (iblk m hO c 30 t)) (ix4 0 0 d l : S1x1x64x128.Idx)).trans
      (pblk30 m hO c t d l pg hg)) r k (by omega) x h1 (h2))
  case piece4 =>
    exact (stored m hO c t hb hp 27 (P29 m hO c t) (fun d l pg hg => (congrFun ((hs0_29 m hO t).read_unread (iblk m hO c 29 t)) (ix4 0 0 d l : S1x1x64x128.Idx)).trans
      (pblk29 m hO c t d l pg hg)) r k (by omega) x h1 (h2))
  case piece5 =>
    exact (stored m hO c t hb hp 26 (P28 m hO c t) (fun d l pg hg => (congrFun ((hs0_28 m hO t).read_unread (iblk m hO c 28 t)) (ix4 0 0 d l : S1x1x64x128.Idx)).trans
      (pblk28 m hO c t d l pg hg)) r k (by omega) x h1 (h2))
  case piece6 =>
    exact (stored m hO c t hb hp 25 (P27 m hO c t) (fun d l pg hg => (congrFun ((hs0_27 m hO t).read_unread (iblk m hO c 27 t)) (ix4 0 0 d l : S1x1x64x128.Idx)).trans
      (pblk27 m hO c t d l pg hg)) r k (by omega) x h1 (h2))
  case piece7 =>
    exact (stored m hO c t hb hp 24 (P26 m hO c t) (fun d l pg hg => (congrFun ((hs0_26 m hO t).read_unread (iblk m hO c 26 t)) (ix4 0 0 d l : S1x1x64x128.Idx)).trans
      (pblk26 m hO c t d l pg hg)) r k (by omega) x h1 (h2))
  case piece8 =>
    exact (stored m hO c t hb hp 23 (P25 m hO c t) (fun d l pg hg => (congrFun ((hs0_25 m hO t).read_unread (iblk m hO c 25 t)) (ix4 0 0 d l : S1x1x64x128.Idx)).trans
      (pblk25 m hO c t d l pg hg)) r k (by omega) x h1 (h2))
  case piece9 =>
    exact (stored m hO c t hb hp 22 (P24 m hO c t) (fun d l pg hg => (congrFun ((hs0_24 m hO t).read_unread (iblk m hO c 24 t)) (ix4 0 0 d l : S1x1x64x128.Idx)).trans
      (pblk24 m hO c t d l pg hg)) r k (by omega) x h1 (h2))
  case piece10 =>
    exact (stored m hO c t hb hp 21 (P23 m hO c t) (fun d l pg hg => (congrFun ((hs0_23 m hO t).read_unread (iblk m hO c 23 t)) (ix4 0 0 d l : S1x1x64x128.Idx)).trans
      (pblk23 m hO c t d l pg hg)) r k (by omega) x h1 (h2))
  case piece11 =>
    exact (stored m hO c t hb hp 20 (P22 m hO c t) (fun d l pg hg => (congrFun ((hs0_22 m hO t).read_unread (iblk m hO c 22 t)) (ix4 0 0 d l : S1x1x64x128.Idx)).trans
      (pblk22 m hO c t d l pg hg)) r k (by omega) x h1 (h2))
  case piece12 =>
    exact (stored m hO c t hb hp 19 (P21 m hO c t) (fun d l pg hg => (congrFun ((hs0_21 m hO t).read_unread (iblk m hO c 21 t)) (ix4 0 0 d l : S1x1x64x128.Idx)).trans
      (pblk21 m hO c t d l pg hg)) r k (by omega) x h1 (h2))
  case piece13 =>
    exact (stored m hO c t hb hp 18 (P20 m hO c t) (fun d l pg hg => (congrFun ((hs0_20 m hO t).read_unread (iblk m hO c 20 t)) (ix4 0 0 d l : S1x1x64x128.Idx)).trans
      (pblk20 m hO c t d l pg hg)) r k (by omega) x h1 (h2))
  case piece14 =>
    exact (stored m hO c t hb hp 17 (P19 m hO c t) (fun d l pg hg => (congrFun ((hs0_19 m hO t).read_unread (iblk m hO c 19 t)) (ix4 0 0 d l : S1x1x64x128.Idx)).trans
      (pblk19 m hO c t d l pg hg)) r k (by omega) x h1 (h2))
  case piece15 =>
    exact (stored m hO c t hb hp 16 (P18 m hO c t) (fun d l pg hg => (congrFun ((hs0_18 m hO t).read_unread (iblk m hO c 18 t)) (ix4 0 0 d l : S1x1x64x128.Idx)).trans
      (pblk18 m hO c t d l pg hg)) r k (by omega) x h1 (h2))
  case piece16 =>
    exact (stored m hO c t hb hp 15 (P17 m hO c t) (fun d l pg hg => (congrFun ((hs0_17 m hO t).read_unread (iblk m hO c 17 t)) (ix4 0 0 d l : S1x1x64x128.Idx)).trans
      (pblk17 m hO c t d l pg hg)) r k (by omega) x h1 (h2))
  case piece17 =>
    exact (stored m hO c t hb hp 14 (P16 m hO c t) (fun d l pg hg => (congrFun ((hs0_16 m hO t).read_unread (iblk m hO c 16 t)) (ix4 0 0 d l : S1x1x64x128.Idx)).trans
      (pblk16 m hO c t d l pg hg)) r k (by omega) x h1 (h2))
  case piece18 =>
    exact (stored m hO c t hb hp 13 (P15 m hO c t) (fun d l pg hg => (congrFun ((hs0_15 m hO t).read_unread (iblk m hO c 15 t)) (ix4 0 0 d l : S1x1x64x128.Idx)).trans
      (pblk15 m hO c t d l pg hg)) r k (by omega) x h1 (h2))
  case piece19 =>
    exact (stored m hO c t hb hp 12 (P14 m hO c t) (fun d l pg hg => (congrFun ((hs0_14 m hO t).read_unread (iblk m hO c 14 t)) (ix4 0 0 d l : S1x1x64x128.Idx)).trans
      (pblk14 m hO c t d l pg hg)) r k (by omega) x h1 (h2))
  case piece20 =>
    exact (stored m hO c t hb hp 11 (P13 m hO c t) (fun d l pg hg => (congrFun ((hs0_13 m hO t).read_unread (iblk m hO c 13 t)) (ix4 0 0 d l : S1x1x64x128.Idx)).trans
      (pblk13 m hO c t d l pg hg)) r k (by omega) x h1 (h2))
  case piece21 =>
    exact (stored m hO c t hb hp 10 (P12 m hO c t) (fun d l pg hg => (congrFun ((hs0_12 m hO t).read_unread (iblk m hO c 12 t)) (ix4 0 0 d l : S1x1x64x128.Idx)).trans
      (pblk12 m hO c t d l pg hg)) r k (by omega) x h1 (h2))
  case piece22 =>
    exact (stored m hO c t hb hp 9 (P11 m hO c t) (fun d l pg hg => (congrFun ((hs0_11 m hO t).read_unread (iblk m hO c 11 t)) (ix4 0 0 d l : S1x1x64x128.Idx)).trans
      (pblk11 m hO c t d l pg hg)) r k (by omega) x h1 (h2))
  case piece23 =>
    exact (stored m hO c t hb hp 8 (P10 m hO c t) (fun d l pg hg => (congrFun ((hs0_10 m hO t).read_unread (iblk m hO c 10 t)) (ix4 0 0 d l : S1x1x64x128.Idx)).trans
      (pblk10 m hO c t d l pg hg)) r k (by omega) x h1 (h2))
  case piece24 =>
    exact (stored m hO c t hb hp 7 (P9 m hO c t) (fun d l pg hg => (congrFun ((hs0_9 m hO t).read_unread (iblk m hO c 9 t)) (ix4 0 0 d l : S1x1x64x128.Idx)).trans
      (pblk9 m hO c t d l pg hg)) r k (by omega) x h1 (h2))
  case piece25 =>
    exact (stored m hO c t hb hp 6 (P8 m hO c t) (fun d l pg hg => (congrFun ((hs0_8 m hO t).read_unread (iblk m hO c 8 t)) (ix4 0 0 d l : S1x1x64x128.Idx)).trans
      (pblk8 m hO c t d l pg hg)) r k (by omega) x h1 (h2))
  case piece26 =>
    exact (stored m hO c t hb hp 5 (P7 m hO c t) (fun d l pg hg => (congrFun ((hs0_7 m hO t).read_unread (iblk m hO c 7 t)) (ix4 0 0 d l : S1x1x64x128.Idx)).trans
      (pblk7 m hO c t d l pg hg)) r k (by omega) x h1 (h2))
  case piece27 =>
    exact (stored m hO c t hb hp 4 (P6 m hO c t) (fun d l pg hg => (congrFun ((hs0_6 m hO t).read_unread (iblk m hO c 6 t)) (ix4 0 0 d l : S1x1x64x128.Idx)).trans
      (pblk6 m hO c t d l pg hg)) r k (by omega) x h1 (h2))
  case piece28 =>
    exact (stored m hO c t hb hp 3 (P5 m hO c t) (fun d l pg hg => (congrFun ((hs0_5 m hO t).read_unread (iblk m hO c 5 t)) (ix4 0 0 d l : S1x1x64x128.Idx)).trans
      (pblk5 m hO c t d l pg hg)) r k (by omega) x h1 (h2))
  case piece29 =>
    exact (stored m hO c t hb hp 2 (P4 m hO c t) (fun d l pg hg => (congrFun ((hs0_4 m hO t).read_unread (iblk m hO c 4 t)) (ix4 0 0 d l : S1x1x64x128.Idx)).trans
      (pblk4 m hO c t d l pg hg)) r k (by omega) x h1 (h2))
  case piece30 =>
    exact (stored m hO c t hb hp 1 (P3 m hO c t) (fun d l pg hg => (congrFun ((hs0_3 m hO t).read_unread (iblk m hO c 3 t)) (ix4 0 0 d l : S1x1x64x128.Idx)).trans
      (pblk3 m hO c t d l pg hg)) r k (by omega) x h1 (h2))
  case piece31 =>
    exact (stored m hO c t hb hp 0 (P2 m hO c t) (fun d l pg hg => (congrFun ((hs0_2 m hO t).read_unread (iblk m hO c 2 t)) (ix4 0 0 d l : S1x1x64x128.Idx)).trans
      (pblk2 m hO c t d l pg hg)) r k (by omega) x h1 (h2.trans (Nat.zero_add _).symm))

end Cert.KernelIdeal.Pages
end
-- ==== Proof.IdxClaims.lean ====
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.IdxKernelOk
public import proofs.«01_k».proof.Proof.IdxValue
public import Idealize.ShloMosaic.Lib.Quiescent

/-!
The claims about the index scores of the sample rows.  The kernel reads the pages that the table names, so it is claimed of
tables whose entries name pages of the pool.
-/

@[expose] public section

set_option maxRecDepth 16384

noncomputable section
open Idealize.ShloMosaic Idealize.ShloMosaic.TcCoe Idealize.SL.Sem

namespace Cert.Proof.IdxClaims

/-- The kernel runs and leaves its arguments as they were. -/
theorem frame_k : Cert.quiescent_Kernel := fun m ρ h => Cert.Kernel.Gen.frame m ρ (Cert.Kernel.Pages.ok_of_pre m h)

/-- So it does at exact arithmetic. -/
theorem frame_i : Cert.quiescent_KernelIdeal := fun m ρ h => Cert.KernelIdeal.Gen.frame m ρ (Cert.KernelIdeal.Pages.ok_of_pre m h)

/-- The reference runs, leaves its arguments as they were, and holds no semaphore. -/
theorem frame_r : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The same of the tables the kernel is claimed of. -/
theorem frame_p : Cert.quiescent_ReferenceIdeal_pre_pages_exist := fun m ρ _ => frame_r m ρ trivial

open Cert.ReferenceIdeal.Read in
/-- The kernel's scores of the pages' keys and of the new keys are the reference's. -/
theorem algebraic : Cert.algebraic_KernelIdeal_ReferenceIdeal := by
  intro m g m' g' hm hag
  have hO := Cert.KernelIdeal.Pages.ok_of_pre m hm
  refine ⟨fun c => val_main_v38 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => val_main_v39 (F := Ideal) (m ((c.tc : Thread Cert.KernelIdeal.nD Cert.KernelIdeal.τ).loc Cert.KernelIdeal.main_arg1)), ?_, ?_⟩
  · refine (θ_run Cert.KernelIdeal.defs _ _).mono (fun r h c => ?_)
      (Idealize.ShloMosaic.θ_run_and (Cert.KernelIdeal.Gen.run_main m g hO) (Cert.KernelIdeal.Gen.unchanged m g hO))
    refine ⟨?_, ?_, h.2 c⟩
    · exact ((h.1 c).1 34).trans (Cert.KernelIdeal.Pages.fin34 m hO c fun n => Cert.KernelIdeal.Pages.pages_of_pre _ _ _ (hm c) _)
    · exact ((h.1 c).1 35).trans (Cert.KernelIdeal.Pages.fin35 m hO c)
  · refine (θ_run Cert.ReferenceIdeal.defs _ _).mono (fun r h c => ?_) (Cert.ReferenceIdeal.Value.run (F := Ideal) m' g')
    obtain ⟨h0, h1, ha⟩ := h c
    obtain ⟨e0, e1, e2⟩ := hag c
    exact ⟨h0.trans ((val_main_v38_eq _ _ _).trans (by rw [e0, e1, e2])), h1.trans ((val_main_v39_eq _).trans (by rw [e1])), ha⟩

end Cert.Proof.IdxClaims
end
-- ==== Proof.InPIdx.lean ====
module

public import proofs.«01_k».proof.Proof.Gen.InPIdeal.Frame
public import proofs.«01_k».proof.Proof.Gen.InPRefIdeal.Read
public import Idealize.ShloMosaic.Lib.Pipeline.ValueKit
public import Idealize.ShloMosaic.Lib.Pointwise

/-!
The prompt's input projection (`InP`): the block each of its windows shows at each of the 64 grid points.
-/

@[expose] public section

set_option maxRecDepth 16384

noncomputable section
open Idealize.ShloMosaic Idealize.ShloMosaic.TcCoe Idealize.SL.Sem
open Idealize.ShloMosaic.Pipeline (Dat)

namespace Cert.InPIdeal.Strip
open Cert.InPIdeal Cert.InPIdeal.Gen Cert.InPRefIdeal.Read

variable (m : (ℓ : Loc nD τ sig) → Buf (Elt Ideal) ℓ)

/-- The block every window shows at a grid point. -/
theorem idx : ∀ t : Fin cfg0.N, win0_0.index t = ![t.val, 0] ∧ win0_1.index t = ![0, 0]
    ∧ win0_2.index t = ![0, 0] ∧ win0_3.index t = ![0, 0]
    ∧ win0_4.index t = ![0, t.val / 16, 0, t.val % 16] ∧ win0_5.index t = ![0, t.val / 16, 0, t.val % 16]
    ∧ win0_6.index t = ![0, t.val / 16, 0, t.val % 16]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0]
    ∧ win0_13.index t = ![0, t.val] ∧ win0_14.index t = ![t.val, 0, 0] ∧ win0_15.index t = ![0, t.val]
    ∧ win0_16.index t = ![0, t.val] ∧ win0_17.index t = ![0, t.val] :=
  (by decide +kernel : ∀ t : Fin grid0.N, _)

end Cert.InPIdeal.Strip
end
-- ==== Proof.InPRows.lean ====
module

public import proofs.«01_k».proof.Proof.Gen.InPIdeal.Frame
public import proofs.«01_k».proof.Proof.Gen.InPRefIdeal.Read
public import Idealize.ShloMosaic.Lib.Pipeline.ValueKit
public import Idealize.ShloMosaic.Lib.Pointwise
public import proofs.«01_k».proof.Proof.InPIdx

/-!
Results 3 to 8 of the prompt's input projection: strips of 256 rows of `rmsnorm (x) · w`.
-/

@[expose] public section

set_option maxRecDepth 16384

noncomputable section
open Idealize.ShloMosaic Idealize.ShloMosaic.TcCoe Idealize.SL.Sem
open Idealize.ShloMosaic.Pipeline (Dat)

namespace Cert.InPIdeal.Strip
open Cert.InPIdeal Cert.InPIdeal.Gen Cert.InPRefIdeal.Read

variable (m : (ℓ : Loc nD τ sig) → Buf (Elt Ideal) ℓ)

/-- Result 3: the pooling input. -/
theorem final7 (c : Dev nD) : (dats m 0 c).arrAt 7 (cfgs 0).N
    = val_main_v18 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7, outsAt0]; frame_out
  pointwise [k0_pay1, k0_pay3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v18]
  blk_point [iblk, V, idx t]

/-- Result 4: the gate of the pooling branch. -/
theorem final8 (c : Dev nD) : (dats m 0 c).arrAt 8 (cfgs 0).N
    = val_main_v19 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8, outsAt0]; frame_out
  pointwise [k0_pay1, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v19]
  blk_point [iblk, V, idx t]

/-- Result 5: the merge gate of the attention. -/
theorem final9 (c : Dev nD) : (dats m 0 c).arrAt 9 (cfgs 0).N
    = val_main_v20 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9, outsAt0]; frame_out
  pointwise [k0_pay1, k0_pay5, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v20]
  blk_point [iblk, V, idx t]

/-- Result 6: the merge gate of the pooling. -/
theorem final10 (c : Dev nD) : (dats m 0 c).arrAt 10 (cfgs 0).N
    = val_main_v21 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10, outsAt0]; frame_out
  pointwise [k0_pay1, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v21]
  blk_point [iblk, V, idx t]

/-- Result 7: the keys by rows. -/
theorem final11 (c : Dev nD) : (dats m 0 c).arrAt 11 (cfgs 0).N
    = val_main_v47 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11, outsAt0]; frame_out
  pointwise [k0_pay1, k0_pay2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v17, val_main_v47]
  blk_point [iblk, V, idx t]

/-- Result 8: the index keys by rows. -/
theorem final12 (c : Dev nD) : (dats m 0 c).arrAt 12 (cfgs 0).N
    = val_main_v48 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12, outsAt0]; frame_out
  pointwise [k0_pay1, k0_pay7, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v22, val_main_v48]
  blk_point [iblk, V, idx t]

end Cert.InPIdeal.Strip
end
-- ==== Proof.InPCols.lean ====
module

public import proofs.«01_k».proof.Proof.Gen.InPIdeal.Frame
public import proofs.«01_k».proof.Proof.Gen.InPRefIdeal.Read
public import Idealize.ShloMosaic.Lib.Pipeline.ValueKit
public import Idealize.ShloMosaic.Lib.Pointwise
public import proofs.«01_k».proof.Proof.InPIdx

/-!
Results 9, 11, 12 and 13 of the prompt's input projection: strips of 256 columns of `w · rmsnorm (x)ᵀ`.
-/

@[expose] public section

set_option maxRecDepth 16384

noncomputable section
open Idealize.ShloMosaic Idealize.ShloMosaic.TcCoe Idealize.SL.Sem
open Idealize.ShloMosaic.Pipeline (Dat)

namespace Cert.InPIdeal.Strip
open Cert.InPIdeal Cert.InPIdeal.Gen Cert.InPRefIdeal.Read

variable (m : (ℓ : Loc nD τ sig) → Buf (Elt Ideal) ℓ)

/-- Result 9: the queries by columns. -/
theorem final13 (c : Dev nD) : (dats m 0 c).arrAt 13 (cfgs 0).N
    = val_main_v50 (F := Ideal) (m ((c : Thread nD τ).loc main_arg0)) (m ((c : Thread nD τ).loc main_arg1)) (m ((c : Thread nD τ).loc main_arg3)) := by
  refine (dats m 0 c).arrAt_eq_of_covers 13 _ (by decide +kernel) fun t _ y => ?_
  blk_simp
  rw [after0_13, outsAt0]; frame_out
  pointwise [k0_pay1, k0_pay8, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v24, val_main_v49, val_main_v50]
  blk_point [iblk, V, idx t]

/-- Result 11: the gate of the attention, by columns. -/
theorem final15 (c : Dev nD) : (dats m 0 c).arrAt 15 (cfgs 0).N
    = val_main_v54 (F := Ideal) (m ((c : Thread nD τ).loc main_arg0)) (m ((c : Thread nD τ).loc main_arg1)) (m ((c : Thread nD τ).loc main_arg3)) := by
  refine (dats m 0 c).arrAt_eq_of_covers 15 _ (by decide +kernel) fun t _ y => ?_
  blk_simp
  rw [after0_15, outsAt0]; frame_out
  pointwise [k0_pay1, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v27, val_main_v54]
  blk_point [iblk, V, idx t]

/-- Result 12: the index queries by columns. -/
theorem final16 (c : Dev nD) : (dats m 0 c).arrAt 16 (cfgs 0).N
    = val_main_v56 (F := Ideal) (m ((c : Thread nD τ).loc main_arg0)) (m ((c : Thread nD τ).loc main_arg1)) (m ((c : Thread nD τ).loc main_arg3)) := by
  refine (dats m 0 c).arrAt_eq_of_covers 16 _ (by decide +kernel) fun t _ y => ?_
  blk_simp
  rw [after0_16, outsAt0]; frame_out
  pointwise [k0_pay1, k0_pay17, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v28, val_main_v55, val_main_v56]
  blk_point [iblk, V, idx t]

/-- Result 13: the scaled index weights by columns. -/
theorem final17 (c : Dev nD) : (dats m 0 c).arrAt 17 (cfgs 0).N
    = val_main_v59 (F := Ideal) (m ((c : Thread nD τ).loc main_arg0)) (m ((c : Thread nD τ).loc main_arg1)) (m ((c : Thread nD τ).loc main_arg3)) := by
  refine (dats m 0 c).arrAt_eq_of_covers 17 _ (by decide +kernel) fun t _ y => ?_
  blk_simp
  rw [after0_17, outsAt0]; frame_out
  pointwise [k0_pay1, k0_pay19, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v30, val_main_v57, val_main_v58, val_main_v59, val_main_cst_2]
  blk_point [iblk, V, idx t]

end Cert.InPIdeal.Strip
end
-- ==== Proof.InPPages.lean ====
module

public import proofs.«01_k».proof.Proof.Gen.InPIdeal.Frame
public import proofs.«01_k».proof.Proof.Gen.InPRefIdeal.Read
public import Idealize.ShloMosaic.Lib.Pipeline.ValueKit
public import Idealize.ShloMosaic.Lib.Pointwise
public import proofs.«01_k».proof.Proof.InPIdx

/-!
Result 10 of the prompt's input projection: the values cut into pages of 128 columns, two pages a point.
-/

@[expose] public section

set_option maxRecDepth 16384

noncomputable section
open Idealize.ShloMosaic Idealize.ShloMosaic.TcCoe Idealize.SL.Sem
open Idealize.ShloMosaic.Pipeline (Dat)

namespace Cert.InPIdeal.Strip
open Cert.InPIdeal Cert.InPIdeal.Gen Cert.InPRefIdeal.Read

variable (m : (ℓ : Loc nD τ sig) → Buf (Elt Ideal) ℓ)

/-- One element of the values a point computes, wherever its page of 128 columns puts it. -/
theorem paged (c : Dev nD) (t : Fin cfg0.N) (y : S2x512x128.Idx) (i : S512x256.Idx) (j : S128x512x128.Idx)
    (hi0 : (i 0 : ℕ) = y 1) (hi1 : (i 1 : ℕ) = (y 0 : ℕ) * 128 + y 2)
    (hj0 : (j 0 : ℕ) = t.val * 2 + y 0) (hj1 : (j 1 : ℕ) = y 1) (hj2 : (j 2 : ℕ) = y 2) :
    k0_pay12 (F := Ideal) (k0_pay1 (F := Ideal) (iblk m c 0 t) (iblk m c 1 t)) (View.ld (iblk m c 3 t) (Rect.unit ![1024, 0] ![512, 1024] inb_S2640x1024_S512x1024_1024_0)) i
    = val_main_v53 (F := Ideal) (m ((c : Thread nD τ).loc main_arg0)) (m ((c : Thread nD τ).loc main_arg1)) (m ((c : Thread nD τ).loc main_arg3)) j := by
  pointwise [k0_pay1, k0_pay10, k0_pay12, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v26, val_main_v51, val_main_v52, val_main_v53]
  blk_point [iblk, V, idx t]

/-- Result 10: the values by pages of 128 columns. -/
theorem final14 (c : Dev nD) : (dats m 0 c).arrAt 14 (cfgs 0).N
    = val_main_v53 (F := Ideal) (m ((c : Thread nD τ).loc main_arg0)) (m ((c : Thread nD τ).loc main_arg1)) (m ((c : Thread nD τ).loc main_arg3)) := by
  refine (dats m 0 c).arrAt_eq_of_covers 14 _ (by decide +kernel) fun t _ y => ?_
  blk_simp
  rw [after0_14, outsAt0]; frame_out
  obtain_idx i : S512x256 := [(y 1 : ℕ), (y 0 : ℕ) * 128 + (y 2 : ℕ)] with hi
  refine Eq.trans (b := k0_pay12 (F := Ideal) (k0_pay1 (F := Ideal) (iblk m c 0 t) (iblk m c 1 t)) (View.ld (iblk m c 3 t) (Rect.unit ![1024, 0] ![512, 1024] inb_S2640x1024_S512x1024_1024_0)) i) ?_
    (paged m c t y i _ hi0 hi1 ?_ ?_ ?_)
  · canon_tiles x h
    all_goals (open_payloads; pointwise; blk_ext)
  all_goals (blk_simp [idx t] <;> try omega)

end Cert.InPIdeal.Strip
end
-- ==== Proof.InPStack.lean ====
module

public import proofs.«01_k».proof.Proof.Gen.InPIdeal.Frame
public import proofs.«01_k».proof.Proof.Gen.InPRefIdeal.Read
public import Idealize.ShloMosaic.Lib.Pipeline.ValueKit
public import Idealize.ShloMosaic.Lib.Pointwise
public import proofs.«01_k».proof.Proof.InPIdx

/-!
Results 0, 1 and 2 of the prompt's input projection: layer 0 of the stacked arrays is written, the other layers are
kept from the arguments.
-/

@[expose] public section

set_option maxRecDepth 16384

noncomputable section
open Idealize.ShloMosaic Idealize.ShloMosaic.TcCoe Idealize.SL.Sem
open Idealize.ShloMosaic.Pipeline (Dat)

namespace Cert.InPIdeal.Strip
open Cert.InPIdeal Cert.InPIdeal.Gen Cert.InPRefIdeal.Read

variable (m : (ℓ : Loc nD τ sig) → Buf (Elt Ideal) ℓ)

/-- What a point stores of result 0 is the layer's array, before it is stacked. -/
theorem layer4 (c : Dev nD) (t : Fin cfg0.N) (y : S1x1x512x256.Idx) (j : S4x4x512x4096.Idx)
    (hj1 : (j 1 : ℕ) = t.val / 16) (hj2 : (j 2 : ℕ) = y 2) (hj3 : (j 3 : ℕ) = t.val % 16 * 256 + y 3) :
    k0_pay9 (F := Ideal) (k0_pay1 (F := Ideal) (iblk m c 0 t) (iblk m c 1 t)) (View.ld (iblk m c 3 t)
      (Rect.unit ![512, 0] ![512, 1024] inb_S2640x1024_S512x1024_512_0)) y
    = val_main_v33 (F := Ideal) (m ((c : Thread nD τ).loc main_arg0)) (m ((c : Thread nD τ).loc main_arg1)) (m ((c : Thread nD τ).loc main_arg3)) (ix3 (j 1) (j 2) (j 3)) := by
  pointwise [k0_pay1, k0_pay9, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v25, val_main_v32, val_main_v33]
  blk_point [iblk, V, idx t]

/-- Result 0: the keys of every sequence, in layer 0 of the stacked array; the other layers stay. -/
theorem final4 (c : Dev nD) : (dats m 0 c).arrAt 4 (cfgs 0).N
    = val_main_v36 (F := Ideal) (m ((c : Thread nD τ).loc main_arg0)) (m ((c : Thread nD τ).loc main_arg1)) (m ((c : Thread nD τ).loc main_arg3)) (m ((c : Thread nD τ).loc main_arg4)) := by
  have h := (dats m 0 c).arrAt_eq_of_coversWhere 4
    (fun j : S4x4x512x4096.Idx => val_main_v33 (F := Ideal) (m ((c : Thread nD τ).loc main_arg0)) (m ((c : Thread nD τ).loc main_arg1)) (m ((c : Thread nD τ).loc main_arg3)) (ix3 (j 1) (j 2) (j 3)))
    (fun β => β 0 = 0) (by decide +kernel)
    (fun t _ y => by
      blk_simp
      rw [after0_4, outsAt0]; frame_out
      refine layer4 m c t y _ ?_ ?_ ?_ <;> (blk_simp [idx t] <;> try omega))
    (P := fun i => (i 0 : ℕ) = 0) (fun j => by blk_simp [Pipeline.Window.cell_apply]; omega)
  refine h.trans (funext fun i => ?_)
  rw [A_eq]
  change (if (i 0 : ℕ) = 0 then _ else V m c main_v0_0 i) = _
  entry_read
  pointwise [val_main_v36, val_main_v34, val_main_v35]
  by_cases hz : (i 0 : ℕ) = 0
  · rw [if_pos hz, dif_pos (by omega)]
  · rw [if_neg hz, dif_neg (by omega)]
    blk_ext

/-- What a point stores of result 1 is the layer's array, before it is stacked. -/
theorem layer5 (c : Dev nD) (t : Fin cfg0.N) (y : S1x1x512x256.Idx) (j : S4x4x512x4096.Idx)
    (hj1 : (j 1 : ℕ) = t.val / 16) (hj2 : (j 2 : ℕ) = y 2) (hj3 : (j 3 : ℕ) = t.val % 16 * 256 + y 3) :
    k0_pay11 (F := Ideal) (k0_pay1 (F := Ideal) (iblk m c 0 t) (iblk m c 1 t)) (View.ld (iblk m c 3 t)
      (Rect.unit ![1024, 0] ![512, 1024] inb_S2640x1024_S512x1024_1024_0)) y
    = val_main_v38 (F := Ideal) (m ((c : Thread nD τ).loc main_arg0)) (m ((c : Thread nD τ).loc main_arg1)) (m ((c : Thread nD τ).loc main_arg3)) (ix3 (j 1) (j 2) (j 3)) := by
  pointwise [k0_pay1, k0_pay11, k0_pay10, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v26, val_main_v37, val_main_v38]
  blk_point [iblk, V, idx t]

/-- Result 1: the values of every sequence, in layer 0 of the stacked array; the other layers stay. -/
theorem final5 (c : Dev nD) : (dats m 0 c).arrAt 5 (cfgs 0).N
    = val_main_v41 (F := Ideal) (m ((c : Thread nD τ).loc main_arg0)) (m ((c : Thread nD τ).loc main_arg1)) (m ((c : Thread nD τ).loc main_arg3)) (m ((c : Thread nD τ).loc main_arg5)) := by
  have h := (dats m 0 c).arrAt_eq_of_coversWhere 5
    (fun j : S4x4x512x4096.Idx => val_main_v38 (F := Ideal) (m ((c : Thread nD τ).loc main_arg0)) (m ((c : Thread nD τ).loc main_arg1)) (m ((c : Thread nD τ).loc main_arg3)) (ix3 (j 1) (j 2) (j 3)))
    (fun β => β 0 = 0) (by decide +kernel)
    (fun t _ y => by
      blk_simp
      rw [after0_5, outsAt0]; frame_out
      refine layer5 m c t y _ ?_ ?_ ?_ <;> (blk_simp [idx t] <;> try omega))
    (P := fun i => (i 0 : ℕ) = 0) (fun j => by blk_simp [Pipeline.Window.cell_apply]; omega)
  refine h.trans (funext fun i => ?_)
  rw [A_eq]
  change (if (i 0 : ℕ) = 0 then _ else V m c main_v0_1 i) = _
  entry_read
  pointwise [val_main_v41, val_main_v39, val_main_v40]
  by_cases hz : (i 0 : ℕ) = 0
  · rw [if_pos hz, dif_pos (by omega)]
  · rw [if_neg hz, dif_neg (by omega)]
    blk_ext

/-- What a point stores of result 2 is the layer's array, before it is stacked. -/
theorem layer6 (c : Dev nD) (t : Fin cfg0.N) (y : S1x1x64x256.Idx) (j : S4x4x64x4096.Idx)
    (hj1 : (j 1 : ℕ) = t.val / 16) (hj2 : (j 2 : ℕ) = y 2) (hj3 : (j 3 : ℕ) = t.val % 16 * 256 + y 3) :
    k0_pay18 (F := Ideal) (k0_pay1 (F := Ideal) (iblk m c 0 t) (iblk m c 1 t)) (View.ld (iblk m c 3 t)
      (Rect.unit ![2560, 0] ![64, 1024] inb_S2640x1024_S64x1024_2560_0)) y
    = val_main_v43 (F := Ideal) (m ((c : Thread nD τ).loc main_arg0)) (m ((c : Thread nD τ).loc main_arg1)) (m ((c : Thread nD τ).loc main_arg3)) (ix3 (j 1) (j 2) (j 3)) := by
  pointwise [k0_pay1, k0_pay18, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v29, val_main_v42, val_main_v43]
  blk_point [iblk, V, idx t]

/-- Result 2: the index keys of every sequence, in layer 0 of the stacked array; the other layers stay. -/
theorem final6 (c : Dev nD) : (dats m 0 c).arrAt 6 (cfgs 0).N
    = val_main_v46 (F := Ideal) (m ((c : Thread nD τ).loc main_arg0)) (m ((c : Thread nD τ).loc main_arg1)) (m ((c : Thread nD τ).loc main_arg3)) (m ((c : Thread nD τ).loc main_arg6)) := by
  have h := (dats m 0 c).arrAt_eq_of_coversWhere 6
    (fun j : S4x4x64x4096.Idx => val_main_v43 (F := Ideal) (m ((c : Thread nD τ).loc main_arg0)) (m ((c : Thread nD τ).loc main_arg1)) (m ((c : Thread nD τ).loc main_arg3)) (ix3 (j 1) (j 2) (j 3)))
    (fun β => β 0 = 0) (by decide +kernel)
    (fun t _ y => by
      blk_simp
      rw [after0_6, outsAt0]; frame_out
      refine layer6 m c t y _ ?_ ?_ ?_ <;> (blk_simp [idx t] <;> try omega))
    (P := fun i => (i 0 : ℕ) = 0) (fun j => by blk_simp [Pipeline.Window.cell_apply]; omega)
  refine h.trans (funext fun i => ?_)
  rw [A_eq]
  change (if (i 0 : ℕ) = 0 then _ else V m c main_v0_2 i) = _
  entry_read
  pointwise [val_main_v46, val_main_v44, val_main_v45]
  by_cases hz : (i 0 : ℕ) = 0
  · rw [if_pos hz, dif_pos (by omega)]
  · rw [if_neg hz, dif_neg (by omega)]
    blk_ext

end Cert.InPIdeal.Strip
end
-- ==== Proof.InPTail.lean ====
module

public import proofs.«01_k».proof.Proof.InPRows
public import proofs.«01_k».proof.Proof.InPStack
public import Idealize.ShloMosaic.Lib.StableHlo.Run

/-!
The host lines after the prompt rows' input projection: the stacked keys, values and index keys with the position in
front of the head, and the last 15 pooling rows of every sequence.
-/

@[expose] public section

set_option maxRecDepth 16384

noncomputable section
open Idealize.ShloMosaic Idealize.ShloMosaic.TcCoe Idealize.SL.Sem
open Idealize.ShloMosaic.Pipeline (Dat)

namespace Cert.InPIdeal.Strip
open Cert.InPIdeal Cert.InPIdeal.Gen Cert.InPRefIdeal.Read

variable (m : (ℓ : Loc nD τ sig) → Buf (Elt Ideal) ℓ)

/-- The stacked keys, head last: layer 0 is the projection's rows, the others are the old ones turned. -/
theorem keys_turned (x0 : (⟨S16384x1024, .f32⟩ : BufTy).Contents (Elt Ideal)) (x1 : (⟨S1x1024, .f32⟩ : BufTy).Contents (Elt Ideal))
    (x3 : (⟨S2640x1024, .bf16⟩ : BufTy).Contents (Elt Ideal)) (x : (⟨S4x4x512x4096, .f32⟩ : BufTy).Contents (Elt Ideal)) :
    val_main_v63 (F := Ideal) (val_main_v36 (F := Ideal) x0 x1 x3 x) = val_main_v66 (F := Ideal) x0 x1 x3 x := by
  funext i
  rw [val_main_v63_apply, val_main_v62_apply]
  unfold val_main_v36 val_main_v66
  generalize h34 : val_main_v34 (F := Ideal) x0 x1 x3 = a34
  generalize h35 : val_main_v35 (F := Ideal) x = a35
  generalize h64 : val_main_v64 (F := Ideal) x0 x1 x3 = a64
  generalize h65 : val_main_v65 (F := Ideal) x = a65
  have l0 : (i 0).val < 4 := (i 0).isLt
  have l1 : (i 1).val < 4 := (i 1).isLt
  have l2 : (i 2).val < 4096 := (i 2).isLt
  have l3 : (i 3).val < 8 := (i 3).isLt
  have l4 : (i 4).val < 64 := (i 4).isLt
  have e0 : (idx_main_v62 (idx_main_v63 i) 0).val = (i 0).val := by
    show (((((i 0).val * 4 + (i 1).val) * 8 + (i 3).val) * 64 + (i 4).val) * 4096 + (i 2).val) / 8388608 = (i 0).val; omega
  have e1 : (idx_main_v62 (idx_main_v63 i) 1).val = (i 1).val := by
    show (((((i 0).val * 4 + (i 1).val) * 8 + (i 3).val) * 64 + (i 4).val) * 4096 + (i 2).val) / 2097152 % 4 = (i 1).val; omega
  have e2 : (idx_main_v62 (idx_main_v63 i) 2).val = (i 3).val * 64 + (i 4).val := by
    show (((((i 0).val * 4 + (i 1).val) * 8 + (i 3).val) * 64 + (i 4).val) * 4096 + (i 2).val) / 4096 % 512 = _; omega
  have e3 : (idx_main_v62 (idx_main_v63 i) 3).val = (i 2).val := by
    show (((((i 0).val * 4 + (i 1).val) * 8 + (i 3).val) * 64 + (i 4).val) * 4096 + (i 2).val) % 4096 = (i 2).val; omega
  generalize idx_main_v62 (idx_main_v63 i) = j at e0 e1 e2 e3 ⊢
  pointwise
  by_cases hz : (i 0).val < 1
  · rw [dif_pos hz, dif_pos (show (j 0).val < 1 by omega)]
    subst h34 h64
    rw [val_main_v34_apply, val_main_v33_apply, val_main_v32_apply, val_main_v64_apply]
    refine congrArg _ (funext fun a => Fin.ext ?_)
    match a with
    | ⟨0, _⟩ =>
      show (((j 1).val * 4096 + (j 3).val) * 512 + (j 2).val) / 512
        = (((((i 0).val * 4 + (i 1).val) * 4096 + (i 2).val) * 8 + (i 3).val) * 64 + (i 4).val) / 512
      rw [e1, e2, e3]; omega
    | ⟨1, _⟩ =>
      show (((j 1).val * 4096 + (j 3).val) * 512 + (j 2).val) % 512
        = (((((i 0).val * 4 + (i 1).val) * 4096 + (i 2).val) * 8 + (i 3).val) * 64 + (i 4).val) % 512
      rw [e1, e2, e3]; omega
  · rw [dif_neg hz, dif_neg (show ¬ (j 0).val < 1 by omega)]
    subst h35 h65
    rw [val_main_v35_apply, val_main_v65_apply, val_main_v63_apply, val_main_v62_apply]
    refine congrArg _ (funext fun a => Fin.ext ?_)
    match a with
    | ⟨0, _⟩ =>
      show 1 + ((j 0).val - 1) = (((((1 + ((i 0).val - 1)) * 4 + (i 1).val) * 8 + (i 3).val) * 64 + (i 4).val) * 4096 + (i 2).val) / 8388608
      omega
    | ⟨1, _⟩ =>
      show (j 1).val = (((((1 + ((i 0).val - 1)) * 4 + (i 1).val) * 8 + (i 3).val) * 64 + (i 4).val) * 4096 + (i 2).val) / 2097152 % 4
      omega
    | ⟨2, _⟩ =>
      show (j 2).val = (((((1 + ((i 0).val - 1)) * 4 + (i 1).val) * 8 + (i 3).val) * 64 + (i 4).val) * 4096 + (i 2).val) / 4096 % 512
      omega
    | ⟨3, _⟩ =>
      show (j 3).val = (((((1 + ((i 0).val - 1)) * 4 + (i 1).val) * 8 + (i 3).val) * 64 + (i 4).val) * 4096 + (i 2).val) % 4096
      omega

/-- The stacked values, head last, the same way. -/
theorem values_turned (x0 : (⟨S16384x1024, .f32⟩ : BufTy).Contents (Elt Ideal)) (x1 : (⟨S1x1024, .f32⟩ : BufTy).Contents (Elt Ideal))
    (x3 : (⟨S2640x1024, .bf16⟩ : BufTy).Contents (Elt Ideal)) (x : (⟨S4x4x512x4096, .f32⟩ : BufTy).Contents (Elt Ideal)) :
    val_main_v68 (F := Ideal) (val_main_v41 (F := Ideal) x0 x1 x3 x) = val_main_v71 (F := Ideal) x0 x1 x3 x := by
  funext i
  rw [val_main_v68_apply, val_main_v67_apply]
  unfold val_main_v41 val_main_v71
  generalize h34 : val_main_v39 (F := Ideal) x0 x1 x3 = a34
  generalize h35 : val_main_v40 (F := Ideal) x = a35
  generalize h64 : val_main_v69 (F := Ideal) x0 x1 x3 = a64
  generalize h65 : val_main_v70 (F := Ideal) x = a65
  have l0 : (i 0).val < 4 := (i 0).isLt
  have l1 : (i 1).val < 4 := (i 1).isLt
  have l2 : (i 2).val < 4096 := (i 2).isLt
  have l3 : (i 3).val < 8 := (i 3).isLt
  have l4 : (i 4).val < 64 := (i 4).isLt
  have e0 : (idx_main_v67 (idx_main_v68 i) 0).val = (i 0).val := by
    show (((((i 0).val * 4 + (i 1).val) * 8 + (i 3).val) * 64 + (i 4).val) * 4096 + (i 2).val) / 8388608 = (i 0).val; omega
  have e1 : (idx_main_v67 (idx_main_v68 i) 1).val = (i 1).val := by
    show (((((i 0).val * 4 + (i 1).val) * 8 + (i 3).val) * 64 + (i 4).val) * 4096 + (i 2).val) / 2097152 % 4 = (i 1).val; omega
  have e2 : (idx_main_v67 (idx_main_v68 i) 2).val = (i 3).val * 64 + (i 4).val := by
    show (((((i 0).val * 4 + (i 1).val) * 8 + (i 3).val) * 64 + (i 4).val) * 4096 + (i 2).val) / 4096 % 512 = _; omega
  have e3 : (idx_main_v67 (idx_main_v68 i) 3).val = (i 2).val := by
    show (((((i 0).val * 4 + (i 1).val) * 8 + (i 3).val) * 64 + (i 4).val) * 4096 + (i 2).val) % 4096 = (i 2).val; omega
  generalize idx_main_v67 (idx_main_v68 i) = j at e0 e1 e2 e3 ⊢
  pointwise
  by_cases hz : (i 0).val < 1
  · rw [dif_pos hz, dif_pos (show (j 0).val < 1 by omega)]
    subst h34 h64
    rw [val_main_v39_apply, val_main_v38_apply, val_main_v37_apply, val_main_v69_apply]
    refine congrArg _ (funext fun a => Fin.ext ?_)
    match a with
    | ⟨0, _⟩ =>
      show (((j 1).val * 4096 + (j 3).val) * 512 + (j 2).val) / 512
        = (((((i 0).val * 4 + (i 1).val) * 4096 + (i 2).val) * 8 + (i 3).val) * 64 + (i 4).val) / 512
      rw [e1, e2, e3]; omega
    | ⟨1, _⟩ =>
      show (((j 1).val * 4096 + (j 3).val) * 512 + (j 2).val) % 512
        = (((((i 0).val * 4 + (i 1).val) * 4096 + (i 2).val) * 8 + (i 3).val) * 64 + (i 4).val) % 512
      rw [e1, e2, e3]; omega
  · rw [dif_neg hz, dif_neg (show ¬ (j 0).val < 1 by omega)]
    subst h35 h65
    rw [val_main_v40_apply, val_main_v70_apply, val_main_v68_apply, val_main_v67_apply]
    refine congrArg _ (funext fun a => Fin.ext ?_)
    match a with
    | ⟨0, _⟩ =>
      show 1 + ((j 0).val - 1) = (((((1 + ((i 0).val - 1)) * 4 + (i 1).val) * 8 + (i 3).val) * 64 + (i 4).val) * 4096 + (i 2).val) / 8388608
      omega
    | ⟨1, _⟩ =>
      show (j 1).val = (((((1 + ((i 0).val - 1)) * 4 + (i 1).val) * 8 + (i 3).val) * 64 + (i 4).val) * 4096 + (i 2).val) / 2097152 % 4
      omega
    | ⟨2, _⟩ =>
      show (j 2).val = (((((1 + ((i 0).val - 1)) * 4 + (i 1).val) * 8 + (i 3).val) * 64 + (i 4).val) * 4096 + (i 2).val) / 4096 % 512
      omega
    | ⟨3, _⟩ =>
      show (j 3).val = (((((1 + ((i 0).val - 1)) * 4 + (i 1).val) * 8 + (i 3).val) * 64 + (i 4).val) * 4096 + (i 2).val) % 4096
      omega

/-- The stacked index keys, column last. -/
theorem index_keys_turned (x0 : (⟨S16384x1024, .f32⟩ : BufTy).Contents (Elt Ideal)) (x1 : (⟨S1x1024, .f32⟩ : BufTy).Contents (Elt Ideal))
    (x3 : (⟨S2640x1024, .bf16⟩ : BufTy).Contents (Elt Ideal)) (x : (⟨S4x4x64x4096, .f32⟩ : BufTy).Contents (Elt Ideal)) :
    transpose S4x4x4096x64 [0, 1, 3, 2] (val_main_v46 (F := Ideal) x0 x1 x3 x) transposes_S4x4x64x4096_S4x4x4096x64_0_1_3_2
    = val_main_v75 (F := Ideal) x0 x1 x3 x := by
  funext i
  pointwise [val_main_v75, val_main_v74, val_main_v73, val_main_v72, val_main_v46, val_main_v45, val_main_v44, val_main_v43, val_main_v42]

/-- What the buffers hold when the call has returned. -/
abbrev exitV (c : Dev nD) : Valuation τ sig (Elt Ideal) :=
  Pipeline.withArrays (cfgs 0).spec c (V0 m c) fun w => (dats m 0 c).arrAt w (cfgs 0).N

theorem exit4 (c : Dev nD) : exitV m c (Proc.devRef .tc main_v0_0)
    = val_main_v36 (F := Ideal) (m ((c : Thread nD τ).loc main_arg0)) (m ((c : Thread nD τ).loc main_arg1)) (m ((c : Thread nD τ).loc main_arg3)) (m ((c : Thread nD τ).loc main_arg4)) :=
  (Pipeline.withArrays_arr spec0 launch0.win.arr_inj c (V0 m c) _ 4).trans (final4 m c)

theorem exit5 (c : Dev nD) : exitV m c (Proc.devRef .tc main_v0_1)
    = val_main_v41 (F := Ideal) (m ((c : Thread nD τ).loc main_arg0)) (m ((c : Thread nD τ).loc main_arg1)) (m ((c : Thread nD τ).loc main_arg3)) (m ((c : Thread nD τ).loc main_arg5)) :=
  (Pipeline.withArrays_arr spec0 launch0.win.arr_inj c (V0 m c) _ 5).trans (final5 m c)

theorem exit6 (c : Dev nD) : exitV m c (Proc.devRef .tc main_v0_2)
    = val_main_v46 (F := Ideal) (m ((c : Thread nD τ).loc main_arg0)) (m ((c : Thread nD τ).loc main_arg1)) (m ((c : Thread nD τ).loc main_arg3)) (m ((c : Thread nD τ).loc main_arg6)) :=
  (Pipeline.withArrays_arr spec0 launch0.win.arr_inj c (V0 m c) _ 6).trans (final6 m c)

theorem exit7 (c : Dev nD) : exitV m c (Proc.devRef .tc main_v0_3)
    = val_main_v18 (F := Ideal) (m ((c : Thread nD τ).loc main_arg0)) (m ((c : Thread nD τ).loc main_arg1)) (m ((c : Thread nD τ).loc main_arg2)) :=
  (Pipeline.withArrays_arr spec0 launch0.win.arr_inj c (V0 m c) _ 7).trans (final7 m c)

/-- The last 15 pooling rows are the reference's. -/
theorem tail_v2 (c : Dev nD) : Pipeline.afterTail₀ cfgs (dats m) 0 (V0 m) [hostOps1] c main_v2
    = val_main_v61 (F := Ideal) (m ((c : Thread nD τ).loc main_arg0)) (m ((c : Thread nD τ).loc main_arg1)) (m ((c : Thread nD τ).loc main_arg2)) := by
  unfold Pipeline.afterTail₀
  have h0 := exit7 m c
  unfold exitV at h0
  generalize Pipeline.withArrays (cfgs 0).spec c (V0 m c) (fun w => (dats m 0 c).arrAt w (cfgs 0).N) = W at h0 ⊢
  simp only [hostOps1, List.flatten_cons, List.flatten_nil, List.append_nil]
  after_results
  simp only [h0]
  rfl

/-- The turned keys are the reference's. -/
theorem tail_v4 (c : Dev nD) : Pipeline.afterTail₀ cfgs (dats m) 0 (V0 m) [hostOps1] c main_v4
    = val_main_v66 (F := Ideal) (m ((c : Thread nD τ).loc main_arg0)) (m ((c : Thread nD τ).loc main_arg1)) (m ((c : Thread nD τ).loc main_arg3)) (m ((c : Thread nD τ).loc main_arg4)) := by
  unfold Pipeline.afterTail₀
  have h0 := exit4 m c
  unfold exitV at h0
  generalize Pipeline.withArrays (cfgs 0).spec c (V0 m c) (fun w => (dats m 0 c).arrAt w (cfgs 0).N) = W at h0 ⊢
  simp only [hostOps1, List.flatten_cons, List.flatten_nil, List.append_nil]
  after_results
  simp only [h0]
  exact keys_turned _ _ _ _

/-- The turned values are the reference's. -/
theorem tail_v6 (c : Dev nD) : Pipeline.afterTail₀ cfgs (dats m) 0 (V0 m) [hostOps1] c main_v6
    = val_main_v71 (F := Ideal) (m ((c : Thread nD τ).loc main_arg0)) (m ((c : Thread nD τ).loc main_arg1)) (m ((c : Thread nD τ).loc main_arg3)) (m ((c : Thread nD τ).loc main_arg5)) := by
  unfold Pipeline.afterTail₀
  have h0 := exit5 m c
  unfold exitV at h0
  generalize Pipeline.withArrays (cfgs 0).spec c (V0 m c) (fun w => (dats m 0 c).arrAt w (cfgs 0).N) = W at h0 ⊢
  simp only [hostOps1, List.flatten_cons, List.flatten_nil, List.append_nil]
  after_results
  simp only [h0]
  exact values_turned _ _ _ _

/-- The turned index keys are the reference's. -/
theorem tail_v7 (c : Dev nD) : Pipeline.afterTail₀ cfgs (dats m) 0 (V0 m) [hostOps1] c main_v7
    = val_main_v75 (F := Ideal) (m ((c : Thread nD τ).loc main_arg0)) (m ((c : Thread nD τ).loc main_arg1)) (m ((c : Thread nD τ).loc main_arg3)) (m ((c : Thread nD τ).loc main_arg6)) := by
  unfold Pipeline.afterTail₀
  have h0 := exit6 m c
  unfold exitV at h0
  generalize Pipeline.withArrays (cfgs 0).spec c (V0 m c) (fun w => (dats m 0 c).arrAt w (cfgs 0).N) = W at h0 ⊢
  simp only [hostOps1, List.flatten_cons, List.flatten_nil, List.append_nil]
  after_results
  simp only [h0]
  exact index_keys_turned _ _ _ _

end Cert.InPIdeal.Strip
end
-- ==== Proof.InPClaims.lean ====
module

public import proofs.«01_k».proof.Defs
public import proofs.«01_k».proof.Proof.Gen.InPIdeal
public import proofs.«01_k».proof.Proof.Gen.InPRefIdeal
public import proofs.«01_k».proof.Proof.Gen.InPRefIdeal.Run
public import proofs.«01_k».proof.Proof.Gen.InPRefIdeal.Read
public import proofs.«01_k».proof.Proof.InPRows
public import proofs.«01_k».proof.Proof.InPCols
public import proofs.«01_k».proof.Proof.InPPages
public import proofs.«01_k».proof.Proof.InPStack
public import proofs.«01_k».proof.Proof.InPTail
public import Idealize.ShloMosaic.Lib.Quiescent

/-!
The claims about the prompt rows' input projection.
-/

@[expose] public section

set_option maxRecDepth 16384

noncomputable section
open Idealize.ShloMosaic Idealize.ShloMosaic.TcCoe Idealize.SL.Sem

namespace Cert.Proof.InPClaims

/-- The reference runs, leaves its arguments as they were, and holds no semaphore. -/
theorem frame_r : Cert.quiescent_InPRefIdeal := fun m ρ _ =>
  (θ_run Cert.InPRefIdeal.defs _ _).mono (fun r h => ⟨fun c => (h c).2.2.2.2.2.2.2.2.2.2.2.2.2.2.2.2.2.2,
      Idealize.ShloMosaic.sem_eq_zero_of_no_sems (by decide) r.2⟩)
    (Cert.InPRefIdeal.Value.run (F := Ideal) m ρ)

set_option maxHeartbeats 2000000 in
open Cert.InPIdeal Cert.InPIdeal.Gen Cert.InPRefIdeal.Read in
/-- Each of the fourteen arrays the kernel writes for the prompt rows is the reference's, and so are the four that the
host lines after it make. -/
theorem algebraic : Cert.algebraic_InPIdeal_InPRefIdeal := by
  intro m g m' g' _ hag
  refine ⟨fun c => val_main_v36 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)) (m ((c.tc : Thread Cert.InPIdeal.nD Cert.InPIdeal.τ).loc Cert.InPIdeal.main_arg4)),
    fun c => val_main_v41 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)) (m ((c.tc : Thread Cert.InPIdeal.nD Cert.InPIdeal.τ).loc Cert.InPIdeal.main_arg5)),
    fun c => val_main_v46 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)) (m ((c.tc : Thread Cert.InPIdeal.nD Cert.InPIdeal.τ).loc Cert.InPIdeal.main_arg6)),
    fun c => val_main_v18 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2)),
    fun c => val_main_v19 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2)),
    fun c => val_main_v20 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2)),
    fun c => val_main_v21 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2)),
    fun c => val_main_v47 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2)),
    fun c => val_main_v48 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2)),
    fun c => val_main_v50 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)),
    fun c => val_main_v53 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)),
    fun c => val_main_v54 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)),
    fun c => val_main_v56 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)),
    fun c => val_main_v59 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)),
    fun c => val_main_v61 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2)),
    fun c => val_main_v66 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)) (m ((c.tc : Thread Cert.InPIdeal.nD Cert.InPIdeal.τ).loc Cert.InPIdeal.main_arg4)),
    fun c => val_main_v71 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)) (m ((c.tc : Thread Cert.InPIdeal.nD Cert.InPIdeal.τ).loc Cert.InPIdeal.main_arg5)),
    fun c => val_main_v75 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg3)) (m ((c.tc : Thread Cert.InPIdeal.nD Cert.InPIdeal.τ).loc Cert.InPIdeal.main_arg6)), ?_, ?_⟩
  · refine (θ_run Cert.InPIdeal.defs _ _).mono (fun r h c => ?_) (run_main m g)
    refine ⟨((h c).1 4).trans (Strip.final4 m c),
      ((h c).1 5).trans (Strip.final5 m c),
      ((h c).1 6).trans (Strip.final6 m c),
      ((h c).1 7).trans (Strip.final7 m c),
      ((h c).1 8).trans (Strip.final8 m c),
      ((h c).1 9).trans (Strip.final9 m c),
      ((h c).1 10).trans (Strip.final10 m c),
      ((h c).1 11).trans (Strip.final11 m c),
      ((h c).1 12).trans (Strip.final12 m c),
      ((h c).1 13).trans (Strip.final13 m c),
      ((h c).1 14).trans (Strip.final14 m c),
      ((h c).1 15).trans (Strip.final15 m c),
      ((h c).1 16).trans (Strip.final16 m c),
      ((h c).1 17).trans (Strip.final17 m c),
      ((h c).2 main_v2 (Pipeline.mem_restRefs_of main_v2 (by decide) (by decide))).trans (Strip.tail_v2 m c),
      ((h c).2 main_v4 (Pipeline.mem_restRefs_of main_v4 (by decide) (by decide))).trans (Strip.tail_v4 m c),
      ((h c).2 main_v6 (Pipeline.mem_restRefs_of main_v6 (by decide) (by decide))).trans (Strip.tail_v6 m c),
      ((h c).2 main_v7 (Pipeline.mem_restRefs_of main_v7 (by decide) (by decide))).trans (Strip.tail_v7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩
  · refine (θ_run Cert.InPRefIdeal.defs _ _).mono (fun r h c => ?_) (Cert.InPRefIdeal.Value.run (F := Ideal) m' g')
    obtain ⟨h0, h1, h2, h3, h4, h5, h6, h7, h8, h9, h10, h11, h12, h13, h14, h15, h16, h17, ha⟩ := h c
    obtain ⟨e0, e1, e2, e3, e4, e5, e6⟩ := hag c
    exact ⟨h0.trans ((val_main_v36_eq _ _ _ _).trans (by rw [e0, e1, e3, e4])),
      h1.trans ((val_main_v41_eq _ _ _ _).trans (by rw [e0, e1, e3, e5])),
      h2.trans ((val_main_v46_eq _ _ _ _).trans (by rw [e0, e1, e3, e6])),
      h3.trans ((val_main_v18_eq _ _ _).trans (by rw [e0, e1, e2])),
      h4.trans ((val_main_v19_eq _ _ _).trans (by rw [e0, e1, e2])),
      h5.trans ((val_main_v20_eq _ _ _).trans (by rw [e0, e1, e2])),
      h6.trans ((val_main_v21_eq _ _ _).trans (by rw [e0, e1, e2])),
      h7.trans ((val_main_v47_eq _ _ _).trans (by rw [e0, e1, e2])),
      h8.trans ((val_main_v48_eq _ _ _).trans (by rw [e0, e1, e2])),
      h9.trans ((val_main_v50_eq _ _ _).trans (by rw [e0, e1, e3])),
      h10.trans ((val_main_v53_eq _ _ _).trans (by rw [e0, e1, e3])),
      h11.trans ((val_main_v54_eq _ _ _).trans (by rw [e0, e1, e3])),
      h12.trans ((val_main_v56_eq _ _ _).trans (by rw [e0, e1, e3])),
      h13.trans ((val_main_v59_eq _ _ _).trans (by rw [e0, e1, e3])),
      h14.trans ((val_main_v61_eq _ _ _).trans (by rw [e0, e1, e2])),
      h15.trans ((val_main_v66_eq _ _ _ _).trans (by rw [e0, e1, e3, e4])),
      h16.trans ((val_main_v71_eq _ _ _ _).trans (by rw [e0, e1, e3, e5])),
      h17.trans ((val_main_v75_eq _ _ _ _).trans (by rw [e0, e1, e3, e6])),
      ha⟩

end Cert.Proof.InPClaims
end
-- ==== Proof.MergePGate.lean ====
module

public import proofs.«01_k».proof.Proof.Gen.MergePIdeal.Frame
public import proofs.«01_k».proof.Proof.Gen.MergePRefIdeal.Read
public import Idealize.ShloMosaic.Lib.Pointwise

/-!
The dense part of the prompt's merge: the gates, the two up-projections, the output projection, the residual and the
final norm, for one row of a block against the same row of the whole arrays.
-/

@[expose] public section

set_option maxRecDepth 16384

noncomputable section
open Idealize.ShloMosaic Idealize.ShloMosaic.TcCoe Idealize.SL.Sem

namespace Cert.MergePIdeal.Strip
open Cert.MergePIdeal Cert.MergePIdeal.Gen Cert.MergePRefIdeal.Read

/-- The attention branch of a row: the gated attention output times its up-projection. -/
theorem attended (a z : Vec Ideal S512x256 .f32) (w : Vec Ideal S512x1024 .bf16)
    (x1 x2 : FVec Ideal S512x16384 .f32) (x10 : FVec Ideal S512x1024 .bf16)
    (p : Fin 256) (r : Fin 16384) (q : Fin 1024)
    (ha : ∀ k : Fin 512, a (ix2 k p) = x1 (ix2 k r)) (hz : ∀ k : Fin 512, z (ix2 k p) = x2 (ix2 k r)) (hw : ∀ k q, w (ix2 k q) = x10 (ix2 k q)) :
    k0_pay12 (F := Ideal) a z w (ix2 p q) = val_main_v92 (F := Ideal) x1 x2 x10 (ix2 r q) := by
  pointwise [k0_pay12, val_main_v92, val_main_v91, val_main_v90, val_main_v85, val_main_v86, val_main_v87, val_main_call0_v0, val_main_call0_v1, val_main_call0_v2, val_main_call0_v3, val_main_call0_v4, val_main_call0_v5, val_main_call0_cst, val_main_call0_cst_0]
  simp only [ha, hz, hw, zero_sub]

/-- The last step of a row: gates, output projection, residual and norm, from the two branches' rows. -/
theorem merged (X G1 G2 A : Vec Ideal S256x1024 .f32) (B : FVec Ideal S256x512 .bf16) (w11 : Vec Ideal S512x1024 .bf16)
    (b0 b1 : Vec Ideal S1x1024 .f32) (w12 : Vec Ideal S1024x1024 .bf16) (fg : Vec Ideal S1x1024 .f32)
    (x0 : FVec Ideal S16384x1024 .f32) (x1 x2 : FVec Ideal S512x16384 .f32) (x3 x4 : FVec Ideal S16384x512 .f32)
    (x5 x6 : FVec Ideal S16384x1024 .f32) (x7 : FVec Ideal S4x128x128 .bf16) (x8 : FVec Ideal S1x512 .f32) (x9 : FVec Ideal S2x1024 .f32)
    (x10 x11 : FVec Ideal S512x1024 .bf16) (x12 : FVec Ideal S1024x1024 .bf16) (x13 : FVec Ideal S1x1024 .f32)
    (p : Fin 256) (r : Fin 16384) (q : Fin 1024)
    (hX : ∀ q : Fin 1024, X (ix2 p q) = x0 (ix2 r q)) (h1 : ∀ q : Fin 1024, G1 (ix2 p q) = x5 (ix2 r q))
    (h2 : ∀ q : Fin 1024, G2 (ix2 p q) = x6 (ix2 r q))
    (hA : ∀ q : Fin 1024, A (ix2 p q) = val_main_v92 (F := Ideal) x1 x2 x10 (ix2 r q))
    (hB : ∀ k : Fin 512, B (ix2 p k) = val_main_v94 (F := Ideal) x3 x4 x7 x8 (ix2 r k))
    (h11 : ∀ k q, w11 (ix2 k q) = x11 (ix2 k q)) (h12 : ∀ k q, w12 (ix2 k q) = x12 (ix2 k q))
    (hb0 : ∀ q : Fin 1024, b0 (ix2 0 q) = x9 (ix2 0 q)) (hb1 : ∀ q : Fin 1024, b1 (ix2 0 q) = x9 (ix2 1 q))
    (hf : ∀ q : Fin 1024, fg (ix2 0 q) = x13 (ix2 0 q)) :
    k0_pay14 (F := Ideal) X G1 G2 A B w11 b0 b1 w12 fg (ix2 p q)
      = val_main_v134 (F := Ideal) x0 x1 x2 x3 x4 x5 x6 x7 x8 x9 x10 x11 x12 x13 (ix2 r q) := by
  pointwise [k0_pay14, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v89, val_main_v88, val_main_cst_10, val_main_cst_11, val_main_cst_12, val_main_cst_13, val_main_cst_14, val_main_cst_15, val_main_cst_16]
  simp only [hX, h1, h2, hA, hB, h11, h12, hb0, hb1, hf, zero_sub]

/-- The pooling branch of a row, from its four groups' products. -/
theorem pooled (d0 d1 d2 : FVec Ideal S256x128 .f32) (e3 : FVec Ideal S256x128 .bf16) (w3 : FVec Ideal S128x128 .bf16)
    (sc : Vec Ideal S1x512 .f32) (z : Vec Ideal S256x512 .f32)
    (x3 x4 : FVec Ideal S16384x512 .f32) (x7 : FVec Ideal S4x128x128 .bf16) (x8 : FVec Ideal S1x512 .f32)
    (p : Fin 256) (r : Fin 16384) (k : Fin 512)
    (h0 : ∀ q : Fin 128, d0 (ix2 p q) = val_main_v21 (F := Ideal) x3 x7 (ix2 r q))
    (h1 : ∀ q : Fin 128, d1 (ix2 p q) = val_main_v41 (F := Ideal) x3 x7 (ix2 r q))
    (h2 : ∀ q : Fin 128, d2 (ix2 p q) = val_main_v61 (F := Ideal) x3 x7 (ix2 r q))
    (h3 : ∀ q : Fin 128, e3 (ix2 p q) = val_main_v77 (F := Ideal) x3 (ix2 r q))
    (hw : ∀ i j : Fin 128, w3 (ix2 i j) = x7 (ix3 3 i j))
    (hs : ∀ k : Fin 512, sc (ix2 0 k) = x8 (ix2 0 k)) (hz : ∀ k : Fin 512, z (ix2 p k) = x4 (ix2 r k)) :
    k0_pay13 (F := Ideal) d0 d1 d2 e3 w3 (constant S256x128 FTy.f32 0#32) sc z (ix2 p k)
      = val_main_v94 (F := Ideal) x3 x4 x7 x8 (ix2 r k) := by
  pointwise [k0_pay13, val_main_v94, val_main_v93, val_main_v84, val_main_v83, val_main_v82, val_main_v81, val_main_v80, val_main_v79, val_main_v78, val_main_call1_v0, val_main_call1_v1, val_main_call1_v2, val_main_call1_v3, val_main_call1_v4, val_main_call1_v5, val_main_call1_cst, val_main_call1_cst_0]
  simp only [h0, h1, h2, h3, hw, hs, hz, zero_sub]
end Cert.MergePIdeal.Strip
end
-- ==== Proof.MergePPool.lean ====
module

public import proofs.«01_k».proof.Proof.Gen.MergePRefIdeal.Read
public import Idealize.ShloMosaic.Lib.Pointwise

/-!
The pooling part of the prompt's merge, on the reference's side: the trailing window of a sequence, read as a sum over
how many rows back an entry lies.
-/

@[expose] public section

set_option maxRecDepth 16384

noncomputable section
open Idealize.ShloMosaic Idealize.ShloMosaic.TcCoe Idealize.SL.Sem

namespace Cert.MergePRefIdeal.Pool
open Cert.MergePRefIdeal Cert.MergePRefIdeal.Gen Cert.MergePRefIdeal.Read

/-- The entry `k` rows back from row `r` in column `c`, zero where that lies before the sequence of `r` begins. -/
def back (u : S16384x512.Idx → EReal) (r k c : Nat) : EReal :=
  if h : k ≤ r % 4096 ∧ r < 16384 ∧ c < 512 then u (ix2 ⟨r - k, by omega⟩ ⟨c, h.2.2⟩) else 0

/-- A fold that adds is the start plus the sum. -/
theorem fold_add {n : Nat} (l : List (Fin n)) (E : Fin n → EReal) (v : EReal) :
    l.foldl (fun r i => r + E i) v = v + (l.map E).sum := by
  induction l generalizing v with
  | nil => simp
  | cons a l ih => rw [List.foldl_cons, ih, List.map_cons, List.sum_cons, add_assoc]

/-- A trailing window of `w` rows along the middle axis, counted back from its last row. -/
theorem trailing (w wm1 : Nat) (hw : wm1 + 1 = w) (x : S4x4096x128.Idx → EReal) (init : S_.Idx → EReal) (hi : init ix0 = 0)
    (h : S4x4096x128.ReduceWindows ![1, w, 1] ![1, 1, 1] ![0, wm1, 0] ![0, 0, 0] S4x4096x128) (hu : 0 < S_.numel)
    (hN : (⟨3, ![1, w, 1]⟩ : Shape).numel = w)
    (hc : ∀ n : Fin (⟨3, ![1, w, 1]⟩ : Shape).numel, ((⟨3, ![1, w, 1]⟩ : Shape).rowMajor.symm n 1).val = n.val)
    (b : Fin 4) (s : Fin 4096) (q : Fin 128) :
    Host.reduceWindowAdd (F := Ideal) (φ := .f32) ![1, w, 1] ![1, 1, 1] ![0, wm1, 0] ![0, 0, 0] x init h hu (ix3 b s q)
      = ∑ k : Fin w, if hk : k.val ≤ s.val then x (ix3 b ⟨s.val - k.val, by omega⟩ q) else 0 := by
  have hv : init (Shape.Idx.first hu) = 0 := (congrArg init (funext fun a => a.elim0)).trans hi
  show Host.reduceWindow (· + ·) ![1, w, 1] ![1, 1, 1] ![0, wm1, 0] ![0, 0, 0] x
    (fun _ : (⟨0, ![]⟩ : Shape).Idx => init (Shape.Idx.first hu)) h (by decide) (ix3 b s q) = _
  rw [hv]
  unfold Host.reduceWindow
  dsimp only
  rw [fold_add, zero_add, ← Fin.sum_univ_def]
  rw [← Equiv.sum_comp Fin.revPerm (fun k : Fin w => if hk : k.val ≤ s.val then x (ix3 b ⟨s.val - k.val, by omega⟩ q) else 0)]
  rw [← Equiv.sum_comp (finCongr hN)]
  refine Finset.sum_congr rfl fun n _ => ?_
  have h1 := hc n
  have hn : n.val < w := lt_of_lt_of_eq n.isLt hN
  have h0 : ((⟨3, ![1, w, 1]⟩ : Shape).rowMajor.symm n 0).val = 0 :=
    Nat.lt_one_iff.mp ((⟨3, ![1, w, 1]⟩ : Shape).rowMajor.symm n 0).isLt
  have h2 : ((⟨3, ![1, w, 1]⟩ : Shape).rowMajor.symm n 2).val = 0 :=
    Nat.lt_one_iff.mp ((⟨3, ![1, w, 1]⟩ : Shape).rowMajor.symm n 2).isLt
  have hr : (Fin.revPerm (finCongr hN n)).val = wm1 - n.val := by
    simp [Fin.revPerm, Fin.val_rev]; omega
  have hs := s.isLt
  have hb := b.isLt
  have hq := q.isLt
  by_cases hk : wm1 ≤ s.val + n.val
  · rw [dif_pos (by omega : (Fin.revPerm (finCongr hN n)).val ≤ s.val)]
    split
    · next hin =>
      refine congrArg x (funext fun a => Fin.ext ?_)
      match a with
      | ⟨0, _⟩ =>
        show b.val * 1 + ((⟨3, ![1, w, 1]⟩ : Shape).rowMajor.symm n 0).val - 0 = b.val
        omega
      | ⟨1, _⟩ =>
        show s.val * 1 + ((⟨3, ![1, w, 1]⟩ : Shape).rowMajor.symm n 1).val - wm1 = s.val - (Fin.revPerm (finCongr hN n)).val
        omega
      | ⟨2, _⟩ =>
        show q.val * 1 + ((⟨3, ![1, w, 1]⟩ : Shape).rowMajor.symm n 2).val - 0 = q.val
        omega
    · next hin =>
      refine absurd (fun a => ?_) hin
      match a with
      | ⟨0, _⟩ =>
        show 0 ≤ b.val * 1 + ((⟨3, ![1, w, 1]⟩ : Shape).rowMajor.symm n 0).val
          ∧ b.val * 1 + ((⟨3, ![1, w, 1]⟩ : Shape).rowMajor.symm n 0).val - 0 < 4
        omega
      | ⟨1, _⟩ =>
        show wm1 ≤ s.val * 1 + ((⟨3, ![1, w, 1]⟩ : Shape).rowMajor.symm n 1).val
          ∧ s.val * 1 + ((⟨3, ![1, w, 1]⟩ : Shape).rowMajor.symm n 1).val - wm1 < 4096
        omega
      | ⟨2, _⟩ =>
        show 0 ≤ q.val * 1 + ((⟨3, ![1, w, 1]⟩ : Shape).rowMajor.symm n 2).val
          ∧ q.val * 1 + ((⟨3, ![1, w, 1]⟩ : Shape).rowMajor.symm n 2).val - 0 < 128
        omega
  · rw [dif_neg (by omega : ¬ (Fin.revPerm (finCongr hN n)).val ≤ s.val)]
    split
    · next hin =>
      have h3 := hin 1
      change wm1 ≤ s.val * 1 + ((⟨3, ![1, w, 1]⟩ : Shape).rowMajor.symm n 1).val ∧ _ at h3
      omega
    · rfl

/-- The trailing mean of `w` rows, of which the first rows of a sequence have fewer, less the entry itself. -/
def centred (u : S16384x512.Idx → EReal) (w : Nat) (wb : BitVec 32) (r c : Nat) : EReal :=
  Ideal.div (∑ k : Fin w, back u r k.val c)
    (FloatOps.sitofp (F := Ideal) .f32 (IntOp.minsi (IntOp.addi (BitVec.ofNat 32 (r % 4096)) 1#32) wb)) - back u r 0 c

/-- The entry itself. -/
theorem back_zero (u : S16384x512.Idx → EReal) (r : Fin 16384) (c : Nat) (hc : c < 512) : back u r.val 0 c = u (ix2 r ⟨c, hc⟩) := by
  unfold back
  rw [dif_pos ⟨Nat.zero_le _, r.isLt, hc⟩]
  rfl

/-- An entry some rows back, its row named by sequence and place. -/
theorem back_eq (u : S16384x512.Idx → EReal) (r : Fin 16384) (k c : Nat) (hc : c < 512) (j : k ≤ r.val % 4096 → S16384x512.Idx)
    (h0 : ∀ h, (j h 0).val = r.val / 4096 * 4096 + (r.val % 4096 - k)) (h1 : ∀ h, (j h 1).val = c) :
    (if h : k ≤ r.val % 4096 then u (j h) else 0) = back u r.val k c := by
  unfold back
  by_cases h : k ≤ r.val % 4096
  · rw [dif_pos h, dif_pos ⟨h, r.isLt, hc⟩]
    refine congrArg u (funext fun a => Fin.ext ?_)
    have e0 := h0 h
    have e1 := h1 h
    match a with
    | ⟨0, _⟩ => show (j h 0).val = r.val - k; omega
    | ⟨1, _⟩ => show (j h 1).val = c; exact e1
  · rw [dif_neg h, dif_neg fun e => h e.1]

/-- The pool of 2 rows: columns 0 to 127. -/
theorem pool2 (u : FVec Ideal S16384x512 .f32) (r : Fin 16384) (q : Fin 128) :
    val_main_v17 (F := Ideal) u (ix2 r q) = centred u 2 2#32 r.val (0 + q.val) := by
  pointwise [val_main_v0, val_main_v1, val_main_v17, val_main_v16, val_main_v15, val_main_v14, val_main_v13, val_main_v12, val_main_v11, val_main_v10, val_main_v9, val_main_v8, val_main_v7, val_main_v6, val_main_v5, val_main_c, val_main_c_0]
  rw [trailing 2 1 rfl _ _ (by pointwise [val_main_v4, val_main_cst]) _ _ (by decide) (by decide)]
  pointwise [val_main_v0, val_main_v2, val_main_v3]
  have hq := q.isLt
  unfold centred
  rw [back_zero u r _ (by omega)]
  refine congrArg₂ (· - ·) (congrArg₂ Ideal.div (Finset.sum_congr rfl fun k _ => ?_) rfl) (congrArg u ?_)
  · exact back_eq u r k.val _ (by omega) _ (fun _ => rfl) (fun _ => rfl)
  · exact funext fun a => Fin.ext (by match a with | ⟨0, _⟩ => rfl | ⟨1, _⟩ => rfl)

/-- The pool of 4 rows: columns 128 to 255. -/
theorem pool4 (u : FVec Ideal S16384x512 .f32) (r : Fin 16384) (q : Fin 128) :
    val_main_v37 (F := Ideal) u (ix2 r q) = centred u 4 4#32 r.val (128 + q.val) := by
  pointwise [val_main_v0, val_main_v1, val_main_v37, val_main_v36, val_main_v35, val_main_v34, val_main_v33, val_main_v32, val_main_v31, val_main_v30, val_main_v29, val_main_v28, val_main_v27, val_main_v26, val_main_v25, val_main_c_2, val_main_c_3]
  rw [trailing 4 3 rfl _ _ (by pointwise [val_main_v24, val_main_cst_1]) _ _ (by decide) (by decide)]
  pointwise [val_main_v0, val_main_v22, val_main_v23]
  have hq := q.isLt
  unfold centred
  rw [back_zero u r _ (by omega)]
  refine congrArg₂ (· - ·) (congrArg₂ Ideal.div (Finset.sum_congr rfl fun k _ => ?_) rfl) (congrArg u ?_)
  · exact back_eq u r k.val _ (by omega) _ (fun _ => rfl) (fun _ => rfl)
  · exact funext fun a => Fin.ext (by match a with | ⟨0, _⟩ => rfl | ⟨1, _⟩ => rfl)

/-- The pool of 8 rows: columns 256 to 383. -/
theorem pool8 (u : FVec Ideal S16384x512 .f32) (r : Fin 16384) (q : Fin 128) :
    val_main_v57 (F := Ideal) u (ix2 r q) = centred u 8 8#32 r.val (256 + q.val) := by
  pointwise [val_main_v0, val_main_v1, val_main_v57, val_main_v56, val_main_v55, val_main_v54, val_main_v53, val_main_v52, val_main_v51, val_main_v50, val_main_v49, val_main_v48, val_main_v47, val_main_v46, val_main_v45, val_main_c_5, val_main_c_6]
  rw [trailing 8 7 rfl _ _ (by pointwise [val_main_v44, val_main_cst_4]) _ _ (by decide) (by decide)]
  pointwise [val_main_v0, val_main_v42, val_main_v43]
  have hq := q.isLt
  unfold centred
  rw [back_zero u r _ (by omega)]
  refine congrArg₂ (· - ·) (congrArg₂ Ideal.div (Finset.sum_congr rfl fun k _ => ?_) rfl) (congrArg u ?_)
  · exact back_eq u r k.val _ (by omega) _ (fun _ => rfl) (fun _ => rfl)
  · exact funext fun a => Fin.ext (by match a with | ⟨0, _⟩ => rfl | ⟨1, _⟩ => rfl)

/-- The pool of 16 rows: columns 384 to 511. -/
theorem pool16 (u : FVec Ideal S16384x512 .f32) (r : Fin 16384) (q : Fin 128) :
    val_main_v77 (F := Ideal) u (ix2 r q) = centred u 16 16#32 r.val (384 + q.val) := by
  pointwise [val_main_v0, val_main_v1, val_main_v77, val_main_v76, val_main_v75, val_main_v74, val_main_v73, val_main_v72, val_main_v71, val_main_v70, val_main_v69, val_main_v68, val_main_v67, val_main_v66, val_main_v65, val_main_c_8, val_main_c_9]
  rw [trailing 16 15 rfl _ _ (by pointwise [val_main_v64, val_main_cst_7]) _ _ (by decide) (by decide)]
  pointwise [val_main_v0, val_main_v62, val_main_v63]
  have hq := q.isLt
  unfold centred
  rw [back_zero u r _ (by omega)]
  refine congrArg₂ (· - ·) (congrArg₂ Ideal.div (Finset.sum_congr rfl fun k _ => ?_) rfl) (congrArg u ?_)
  · exact back_eq u r k.val _ (by omega) _ (fun _ => rfl) (fun _ => rfl)
  · exact funext fun a => Fin.ext (by match a with | ⟨0, _⟩ => rfl | ⟨1, _⟩ => rfl)

end Cert.MergePRefIdeal.Pool
end
-- ==== Proof.MergeP.lean ====
module

public import proofs.«01_k».proof.Proof.Gen.MergePIdeal.Frame
public import proofs.«01_k».proof.Proof.MergePGate
public import proofs.«01_k».proof.Proof.MergePPool
public import Idealize.ShloMosaic.Lib.Pipeline.ValueKit
public import Idealize.ShloMosaic.Lib.Pipeline.ReadBack
public import Idealize.ShloMosaic.Lib.Pointwise

/-!
The prompt's merge (`MergeP`): 64 grid points, each writing 256 rows.  A point keeps the 16 rows before its own in a
scratch, zero at the start of a sequence, and pools over trailing windows of it.
-/

@[expose] public section

set_option maxRecDepth 16384

noncomputable section
open Idealize.ShloMosaic Idealize.ShloMosaic.TcCoe Idealize.SL.Sem
open Idealize.ShloMosaic.Pipeline (Dat)

namespace Cert.MergePIdeal.Strip
open Cert.MergePIdeal Cert.MergePIdeal.Gen Cert.MergePRefIdeal.Read
open Cert.MergePRefIdeal.Pool (back centred)

variable (m : (ℓ : Loc nD τ sig) → Buf (Elt Ideal) ℓ)

/-- The block every window shows at a grid point. -/
theorem idx : ∀ t : Fin cfg0.N, win0_0.index t = ![t.val, 0] ∧ win0_1.index t = ![0, t.val]
    ∧ win0_2.index t = ![0, t.val] ∧ win0_3.index t = ![t.val, 0]
    ∧ win0_4.index t = ![t.val * 16 - 1, 0]
    ∧ win0_5.index t = ![t.val, 0]
    ∧ win0_6.index t = ![t.val, 0]
    ∧ win0_7.index t = ![t.val, 0] ∧ win0_8.index t = ![0, 0, 0] ∧ win0_9.index t = ![0, 0]
    ∧ win0_10.index t = ![0, 0] ∧ win0_11.index t = ![0, 0] ∧ win0_12.index t = ![0, 0]
    ∧ win0_13.index t = ![0, 0] ∧ win0_14.index t = ![0, 0] ∧ win0_15.index t = ![t.val, 0]
    ∧ ((grid0.coords t) 0).val = t.val :=
  (by decide +kernel : ∀ t : Fin grid0.N, _)

/-- The number of a point inside its sequence of sixteen, as the kernel computes it from the point's number. -/
def phase (n : Nat) : BitVec 32 :=
  let d := Scalar.select (Scalar.cmpi .eq 16#32 0#32) 1#32 16#32
  let e := Scalar.remsi (BitVec.ofNat 32 n) d
  Scalar.select (Scalar.andi (Scalar.xori (Scalar.cmpi .slt e 0#32) (Scalar.cmpi .slt d 0#32)) (Scalar.cmpi .ne e 0#32)) (Scalar.addi e d) e

theorem phase_eq : ∀ t : Fin cfg0.N, phase t.val = BitVec.ofNat 32 (t.val % 16)
    ∧ Scalar.cmpi .eq (phase t.val) 0#32 = (if t.val % 16 = 0 then 1#1 else 0#1)
    ∧ Scalar.muli (phase t.val) 256#32 = BitVec.ofNat 32 (t.val % 16 * 256) :=
  (by decide +kernel : ∀ t : Fin grid0.N, _)

/-- The rows before a point's own, or zeros where the sequence begins. -/
theorem before (i : grid0.Coords) (t : Fin cfg0.N) (hi : (i 0).val = t.val) (b : Vec Ideal S16x512 .f32) :
    k0_pay1 (F := Ideal) i b = fun j => if t.val % 16 = 0 then 0 else b j := by
  funext j
  unfold k0_pay1
  rw [hi]
  pointwise []
  refine (congrArg (fun s => Scalar.select s (0 : EReal) (b j)) (phase_eq t).2.1).trans ?_
  by_cases h : t.val % 16 = 0
  · rw [if_pos h, if_pos h]; rfl
  · rw [if_neg h, if_neg h]; rfl

/-- A row's place in its sequence, as the kernel counts it. -/
theorem place (i : grid0.Coords) (t : Fin cfg0.N) (hi : (i 0).val = t.val) (p : Fin 256) (q : Fin 128) :
    k0_pay3 i (ix2 p q) = BitVec.ofNat 32 ((t.val * 256 + p.val) % 4096) := by
  unfold k0_pay3
  rw [hi]
  pointwise []
  refine (congrArg (fun s => IntOp.addi s (BitVec.ofNat 32 p.val)) (phase_eq t).2.2).trans ?_
  have hp := p.isLt
  have e : (t.val * 256 + p.val) % 4096 = t.val % 16 * 256 + p.val := by omega
  rw [e, BitVec.ofNat_add]
  rfl

/-- What the scratch holds at a point once both stores are made: row `ρ` is the row `16` before the point's row `ρ`. -/
def held (u : S16384x512.Idx → EReal) (t : Nat) (j : S272x512.Idx) : EReal :=
  if t % 16 = 0 ∧ (j 0).val < 16 then 0
  else if h : 16 ≤ t * 256 + (j 0).val ∧ t * 256 + (j 0).val - 16 < 16384 then u (ix2 ⟨t * 256 + (j 0).val - 16, h.2⟩ (j 1)) else 0

theorem held_back (u : S16384x512.Idx → EReal) (t : Fin cfg0.N) (p : Fin 256) (k c : Nat) (hk : k < 16) (hc : c < 512) (j : S272x512.Idx)
    (h0 : (j 0).val = 16 - k + p.val) (h1 : (j 1).val = c) : held u t.val j = back u (t.val * 256 + p.val) k c := by
  have hp := p.isLt
  have ht : t.val < 64 := t.isLt
  unfold held back
  by_cases h : t.val % 16 = 0 ∧ (j 0).val < 16
  · rw [if_pos h, dif_neg (by omega)]
  · rw [if_neg h, dif_pos (by omega), dif_pos (by omega)]
    refine congrArg u (funext fun a => Fin.ext ?_)
    match a with
    | ⟨0, _⟩ => show t.val * 256 + (j 0).val - 16 = t.val * 256 + p.val - k; omega
    | ⟨1, _⟩ => exact h1

/-- The point's own rows, stored from row 16 of the scratch. -/
theorem own (c : Dev nD) (t : Fin cfg0.N) (x : S256x512.Idx) (j : S272x512.Idx) (h0 : (j 0).val = 16 + (x 0).val) (h1 : (j 1).val = (x 1).val) :
    k0_pay2 (F := Ideal) (iblk m c 3 t) x = held (m ((c : Thread nD τ).loc main_arg3)) t.val j := by
  have hx : (x 0).val < 256 := (x 0).isLt
  have ht : t.val < 64 := t.isLt
  unfold held
  rw [if_neg (by omega), dif_pos (by omega)]
  pointwise [k0_pay2]
  blk_point [iblk, V, idx t]

/-- The rows before, stored at the head of the scratch. -/
theorem prior (c : Dev nD) (t : Fin cfg0.N) (x : S16x512.Idx) (j : S272x512.Idx) (h0 : (j 0).val = (x 0).val) (h1 : (j 1).val = (x 1).val) :
    k0_pay1 (F := Ideal) (grid0.coords t) (iblk m c 4 t) x = held (m ((c : Thread nD τ).loc main_arg3)) t.val j := by
  have hx : (x 0).val < 16 := (x 0).isLt
  have ht : t.val < 64 := t.isLt
  refine (congrFun (before (grid0.coords t) t (idx t).2.2.2.2.2.2.2.2.2.2.2.2.2.2.2.2 (iblk m c 4 t)) x).trans ?_
  unfold held
  by_cases h : t.val % 16 = 0
  · rw [if_pos h, if_pos ⟨h, by omega⟩]
  · rw [if_neg h, if_neg (by omega), dif_pos (by omega)]
    blk_point [iblk, V, idx t]

/-- A load of the scratch after the two stores reads `held`. -/
theorem carried (c : Dev nD) (t : Fin cfg0.N) (B : LoadRect S272x512) :
    (View.whole cc0_scratch0).readCov (Val := Elt Ideal)
      [⟨Rect.unit ![16, 0] ![256, 512] inb_S272x512_S256x512_16_0, k0_pay2 (iblk m c 3 t)⟩,
       ⟨Rect.unit ![0, 0] ![16, 512] inb_S272x512_S16x512_0_0, k0_pay1 (grid0.coords t) (iblk m c 4 t)⟩] B
      = fun j => held (m ((c : Thread nD τ).loc main_arg3)) t.val (B.idx j) := by
  rw [View.readCov_eq_canon']
  funext j
  refine View.canon_apply_of_pieces (Val := Elt Ideal) (e := .f32) (held (m ((c : Thread nD τ).loc main_arg3)) t.val) _ ?_ _ ?_
  · refine View.PiecesOf.mem ⟨fun x => own m c t x _ ?_ ?_, fun x => prior m c t x _ ?_ ?_, trivial⟩
    · show ((Rect.unit (s := S272x512) ![16, 0] ![256, 512] inb_S272x512_S256x512_16_0).emb x 0).val = _
      blk_simp
    · show ((Rect.unit (s := S272x512) ![16, 0] ![256, 512] inb_S272x512_S256x512_16_0).emb x 1).val = _
      blk_simp
    · show ((Rect.unit (s := S272x512) ![0, 0] ![16, 512] inb_S272x512_S16x512_0_0).emb x 0).val = _
      blk_simp
    · show ((Rect.unit (s := S272x512) ![0, 0] ![16, 512] inb_S272x512_S16x512_0_0).emb x 1).val = _
      blk_simp
  · generalize B.idx j = y
    have y0 : (y 0).val < 272 := (y 0).isLt
    have y1 : (y 1).val < 512 := (y 1).isLt
    by_cases h : 16 ≤ (y 0).val
    · have e : y ∈ (Rect.unit (s := S272x512) ![16, 0] ![256, 512] inb_S272x512_S256x512_16_0).set := Rect.mem_set_unit.mpr fun a => by
        match a with
        | ⟨0, _⟩ => exact ⟨h, y0⟩
        | ⟨1, _⟩ => exact ⟨Nat.zero_le _, lt_of_lt_of_eq y1 (Nat.zero_add 512).symm⟩
      exact ⟨_, List.mem_cons_self, e⟩
    · have e : y ∈ (Rect.unit (s := S272x512) ![0, 0] ![16, 512] inb_S272x512_S16x512_0_0).set := Rect.mem_set_unit.mpr fun a => by
        match a with
        | ⟨0, _⟩ => exact ⟨Nat.zero_le _, by show (y 0).val < 0 + 16; omega⟩
        | ⟨1, _⟩ => exact ⟨Nat.zero_le _, lt_of_lt_of_eq y1 (Nat.zero_add 512).symm⟩
      exact ⟨_, List.mem_cons_of_mem _ List.mem_cons_self, e⟩

/-- A load of 256 rows of 128 columns of the scratch, `k` rows back. -/
theorem loaded (c : Dev nD) (t : Fin cfg0.N) (k b : Nat) (hk : k < 16) (hb : b + 128 ≤ 512)
    (inb : ∀ a, (![16 - k, b] : Fin 2 → Nat) a + (![256, 128] : Fin 2 → Nat) a ≤ S272x512.size a)
    (p : Fin 256) (q : Fin 128) :
    (View.whole cc0_scratch0).readCov (Val := Elt Ideal)
      [⟨Rect.unit ![16, 0] ![256, 512] inb_S272x512_S256x512_16_0, k0_pay2 (iblk m c 3 t)⟩,
       ⟨Rect.unit ![0, 0] ![16, 512] inb_S272x512_S16x512_0_0, k0_pay1 (grid0.coords t) (iblk m c 4 t)⟩] (Rect.unit (s := S272x512) ![16 - k, b] ![256, 128] inb).toLoadRect (ix2 p q)
      = back (m ((c : Thread nD τ).loc main_arg3)) (t.val * 256 + p.val) k (b + q.val) := by
  rw [carried]
  have hq := q.isLt
  exact held_back _ t p k _ hk (by omega) _
    (by show ((Rect.unit (s := S272x512) ![16 - k, b] ![256, 128] inb).emb (ix2 p q) 0).val = _; blk_simp)
    (by show ((Rect.unit (s := S272x512) ![16 - k, b] ![256, 128] inb).emb (ix2 p q) 1).val = _; blk_simp)

/-- The sum a trailing mean takes, written out. -/
theorem written (u : S16384x512.Idx → EReal) (r w c : Nat) : ∑ k : Fin w, back u r k.val c = ∑ k ∈ Finset.range w, back u r k c :=
  Fin.sum_univ_eq_sum_range (fun k => back u r k c) w

/-- The group that pools 2 rows, times its mixing matrix. -/
theorem group2 (i : grid0.Coords) (t : Fin cfg0.N) (hi : (i 0).val = t.val) (a0 a1 s : Vec Ideal S256x128 .f32) (w : Vec Ideal S1x128x128 .bf16)
    (x3 : FVec Ideal S16384x512 .f32) (x7 : FVec Ideal S4x128x128 .bf16) (p : Fin 256) (r : Fin 16384) (q : Fin 128) (hr : r.val = t.val * 256 + p.val)
    (h0 : ∀ q : Fin 128, a0 (ix2 p q) = back x3 r.val 0 (0 + q.val))
    (h1 : ∀ q : Fin 128, a1 (ix2 p q) = back x3 r.val 1 (0 + q.val))
    (hs : ∀ q : Fin 128, s (ix2 p q) = back x3 r.val 0 (0 + q.val))
    (hw : ∀ a b : Fin 128, w (ix3 0 a b) = x7 (ix3 0 a b)) :
    k0_pay5 (F := Ideal) (k0_pay4 (F := Ideal) i a0 a1) s w (ix2 p q) = val_main_v21 (F := Ideal) x3 x7 (ix2 r q) := by
  pointwise [k0_pay5, k0_pay4, val_main_v21, val_main_v20, val_main_v19, val_main_v18]
  refine Finset.sum_congr rfl fun k _ => Ideal.mul_congr ?_ (hw k q)
  rw [Cert.MergePRefIdeal.Pool.pool2]
  simp only [h0, h1, hs, place i t hi, centred, written, Finset.sum_range_succ, Finset.sum_range_zero, zero_add, ← hr]

/-- The group that pools 4 rows, times its mixing matrix. -/
theorem group4 (i : grid0.Coords) (t : Fin cfg0.N) (hi : (i 0).val = t.val) (a0 a1 a2 a3 s : Vec Ideal S256x128 .f32) (w : Vec Ideal S1x128x128 .bf16)
    (x3 : FVec Ideal S16384x512 .f32) (x7 : FVec Ideal S4x128x128 .bf16) (p : Fin 256) (r : Fin 16384) (q : Fin 128) (hr : r.val = t.val * 256 + p.val)
    (h0 : ∀ q : Fin 128, a0 (ix2 p q) = back x3 r.val 0 (128 + q.val))
    (h1 : ∀ q : Fin 128, a1 (ix2 p q) = back x3 r.val 1 (128 + q.val))
    (h2 : ∀ q : Fin 128, a2 (ix2 p q) = back x3 r.val 2 (128 + q.val))
    (h3 : ∀ q : Fin 128, a3 (ix2 p q) = back x3 r.val 3 (128 + q.val))
    (hs : ∀ q : Fin 128, s (ix2 p q) = back x3 r.val 0 (128 + q.val))
    (hw : ∀ a b : Fin 128, w (ix3 0 a b) = x7 (ix3 1 a b)) :
    k0_pay6 (F := Ideal) (k0_pay3 i) a0 a1 a2 a3 s w (ix2 p q) = val_main_v41 (F := Ideal) x3 x7 (ix2 r q) := by
  pointwise [k0_pay6, val_main_v41, val_main_v40, val_main_v39, val_main_v38]
  refine Finset.sum_congr rfl fun k _ => Ideal.mul_congr ?_ (hw k q)
  rw [Cert.MergePRefIdeal.Pool.pool4]
  simp only [h0, h1, h2, h3, hs, place i t hi, centred, written, Finset.sum_range_succ, Finset.sum_range_zero, zero_add, ← hr]

/-- The group that pools 8 rows, times its mixing matrix. -/
theorem group8 (i : grid0.Coords) (t : Fin cfg0.N) (hi : (i 0).val = t.val) (a0 a1 a2 a3 a4 a5 a6 a7 s : Vec Ideal S256x128 .f32) (w : Vec Ideal S1x128x128 .bf16)
    (x3 : FVec Ideal S16384x512 .f32) (x7 : FVec Ideal S4x128x128 .bf16) (p : Fin 256) (r : Fin 16384) (q : Fin 128) (hr : r.val = t.val * 256 + p.val)
    (h0 : ∀ q : Fin 128, a0 (ix2 p q) = back x3 r.val 0 (256 + q.val))
    (h1 : ∀ q : Fin 128, a1 (ix2 p q) = back x3 r.val 1 (256 + q.val))
    (h2 : ∀ q : Fin 128, a2 (ix2 p q) = back x3 r.val 2 (256 + q.val))
    (h3 : ∀ q : Fin 128, a3 (ix2 p q) = back x3 r.val 3 (256 + q.val))
    (h4 : ∀ q : Fin 128, a4 (ix2 p q) = back x3 r.val 4 (256 + q.val))
    (h5 : ∀ q : Fin 128, a5 (ix2 p q) = back x3 r.val 5 (256 + q.val))
    (h6 : ∀ q : Fin 128, a6 (ix2 p q) = back x3 r.val 6 (256 + q.val))
    (h7 : ∀ q : Fin 128, a7 (ix2 p q) = back x3 r.val 7 (256 + q.val))
    (hs : ∀ q : Fin 128, s (ix2 p q) = back x3 r.val 0 (256 + q.val))
    (hw : ∀ a b : Fin 128, w (ix3 0 a b) = x7 (ix3 2 a b)) :
    k0_pay8 (F := Ideal) (k0_pay3 i) (k0_pay7 (F := Ideal) a0 a1 a2) a3 a4 a5 a6 a7 s w (ix2 p q) = val_main_v61 (F := Ideal) x3 x7 (ix2 r q) := by
  pointwise [k0_pay8, k0_pay7, val_main_v61, val_main_v60, val_main_v59, val_main_v58]
  refine Finset.sum_congr rfl fun k _ => Ideal.mul_congr ?_ (hw k q)
  rw [Cert.MergePRefIdeal.Pool.pool8]
  simp only [h0, h1, h2, h3, h4, h5, h6, h7, hs, place i t hi, centred, written, Finset.sum_range_succ, Finset.sum_range_zero, zero_add, ← hr]

/-- The group that pools 16 rows, before its mixing matrix. -/
theorem group16 (i : grid0.Coords) (t : Fin cfg0.N) (hi : (i 0).val = t.val) (a0 a1 a2 a3 a4 a5 a6 a7 a8 a9 a10 a11 a12 a13 a14 a15 s : Vec Ideal S256x128 .f32)
    (x3 : FVec Ideal S16384x512 .f32) (p : Fin 256) (r : Fin 16384) (q : Fin 128) (hr : r.val = t.val * 256 + p.val)
    (h0 : ∀ q : Fin 128, a0 (ix2 p q) = back x3 r.val 0 (384 + q.val))
    (h1 : ∀ q : Fin 128, a1 (ix2 p q) = back x3 r.val 1 (384 + q.val))
    (h2 : ∀ q : Fin 128, a2 (ix2 p q) = back x3 r.val 2 (384 + q.val))
    (h3 : ∀ q : Fin 128, a3 (ix2 p q) = back x3 r.val 3 (384 + q.val))
    (h4 : ∀ q : Fin 128, a4 (ix2 p q) = back x3 r.val 4 (384 + q.val))
    (h5 : ∀ q : Fin 128, a5 (ix2 p q) = back x3 r.val 5 (384 + q.val))
    (h6 : ∀ q : Fin 128, a6 (ix2 p q) = back x3 r.val 6 (384 + q.val))
    (h7 : ∀ q : Fin 128, a7 (ix2 p q) = back x3 r.val 7 (384 + q.val))
    (h8 : ∀ q : Fin 128, a8 (ix2 p q) = back x3 r.val 8 (384 + q.val))
    (h9 : ∀ q : Fin 128, a9 (ix2 p q) = back x3 r.val 9 (384 + q.val))
    (h10 : ∀ q : Fin 128, a10 (ix2 p q) = back x3 r.val 10 (384 + q.val))
    (h11 : ∀ q : Fin 128, a11 (ix2 p q) = back x3 r.val 11 (384 + q.val))
    (h12 : ∀ q : Fin 128, a12 (ix2 p q) = back x3 r.val 12 (384 + q.val))
    (h13 : ∀ q : Fin 128, a13 (ix2 p q) = back x3 r.val 13 (384 + q.val))
    (h14 : ∀ q : Fin 128, a14 (ix2 p q) = back x3 r.val 14 (384 + q.val))
    (h15 : ∀ q : Fin 128, a15 (ix2 p q) = back x3 r.val 15 (384 + q.val))
    (hs : ∀ q : Fin 128, s (ix2 p q) = back x3 r.val 0 (384 + q.val)) :
    k0_pay10 (F := Ideal) (k0_pay3 i) (k0_pay9 (F := Ideal) a0 a1 a2 a3 a4) a5 a6 a7 a8 a9 a10 a11 a12 a13 a14 a15 s (ix2 p q) = val_main_v77 (F := Ideal) x3 (ix2 r q) := by
  pointwise [k0_pay10, k0_pay9]
  rw [Cert.MergePRefIdeal.Pool.pool16]
  simp only [h0, h1, h2, h3, h4, h5, h6, h7, h8, h9, h10, h11, h12, h13, h14, h15, hs, place i t hi, centred, written, Finset.sum_range_succ, Finset.sum_range_zero, zero_add, ← hr]

end Cert.MergePIdeal.Strip
end
-- ==== Proof.MergePFinal.lean ====
module

public import proofs.«01_k».proof.Proof.MergeP

/-!
The prompt's merge, put together: the result array is the reference's.
-/

@[expose] public section

set_option maxRecDepth 16384

noncomputable section
open Idealize.ShloMosaic Idealize.ShloMosaic.TcCoe Idealize.SL.Sem
open Idealize.ShloMosaic.Pipeline (Dat)

namespace Cert.MergePIdeal.Strip
open Cert.MergePIdeal Cert.MergePIdeal.Gen Cert.MergePRefIdeal.Read

variable (m : (ℓ : Loc nD τ sig) → Buf (Elt Ideal) ℓ)

/-- The result array after the run is the reference's result. -/
theorem final (c : Dev nD) : (dats m 0 c).arrAt 15 (cfgs 0).N
    = val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 15 _ (by decide +kernel) fun t _ y => ?_
  blk_simp
  rw [after0_15, outsAt0]; frame_open
  simp (disch := decide) only [↓ View.readCov_skip, ↓ View.readCov_cons_toLoadRect, ↓ View.readCov_fill]
  frame_out
  idx_vars y
  have ht : t.val < 64 := t.isLt
  rename' y0 => p, y1 => q
  have hp := p.isLt
  have he : ((View.whole main_v0).slice (win0_15.rect t)).emb (ix2 p q) = ix2 (⟨t.val * 256 + p.val, by omega⟩ : Fin 16384) q := by
    blk_ext [idx t]
  rw [he]
  have hi := (idx t).2.2.2.2.2.2.2.2.2.2.2.2.2.2.2.2
  refine merged _ _ _ _ _ _ _ _ _ _ _ _ _ _ _ _ _ _ _ _ _ _ _ _ p _ q ?_ ?_ ?_ ?_ ?_ ?_ ?_ ?_ ?_ ?_
  · intro q; blk_point [iblk, V, idx t]
  · intro q; blk_point [iblk, V, idx t]
  · intro q; blk_point [iblk, V, idx t]
  · intro q
    refine attended _ _ _ _ _ _ p _ q ?_ ?_ ?_
    · intro k; blk_point [iblk, V, idx t]
    · intro k; blk_point [iblk, V, idx t]
    · intro k q; blk_point [iblk, V, idx t]
  · intro k
    refine pooled _ _ _ _ _ _ _ _ _ _ _ p _ k ?_ ?_ ?_ ?_ ?_ ?_ ?_
    · intro q
      refine group2 _ t hi _ _ _ _ _ _ p _ q rfl ?_ ?_ ?_ ?_
      · exact loaded m c t 0 0 (by decide) (by decide) _ p
      · exact loaded m c t 1 0 (by decide) (by decide) _ p
      · intro q
        have hq := q.isLt
        refine Eq.trans ?_ (Cert.MergePRefIdeal.Pool.back_zero _ _ _ (by omega)).symm
        pointwise []
        blk_point [iblk, V, idx t]
      · intro a b
        pointwise []
        blk_point [iblk, V, idx t]
    · intro q
      refine group4 _ t hi _ _ _ _ _ _ _ _ p _ q rfl ?_ ?_ ?_ ?_ ?_ ?_
      · exact loaded m c t 0 128 (by decide) (by decide) _ p
      · exact loaded m c t 1 128 (by decide) (by decide) _ p
      · exact loaded m c t 2 128 (by decide) (by decide) _ p
      · exact loaded m c t 3 128 (by decide) (by decide) _ p
      · intro q
        have hq := q.isLt
        refine Eq.trans ?_ (Cert.MergePRefIdeal.Pool.back_zero _ _ _ (by omega)).symm
        pointwise []
        blk_point [iblk, V, idx t]
      · intro a b
        pointwise []
        blk_point [iblk, V, idx t]
    · intro q
      refine group8 _ t hi _ _ _ _ _ _ _ _ _ _ _ _ p _ q rfl ?_ ?_ ?_ ?_ ?_ ?_ ?_ ?_ ?_ ?_
      · exact loaded m c t 0 256 (by decide) (by decide) _ p
      · exact loaded m c t 1 256 (by decide) (by decide) _ p
      · exact loaded m c t 2 256 (by decide) (by decide) _ p
      · exact loaded m c t 3 256 (by decide) (by decide) _ p
      · exact loaded m c t 4 256 (by decide) (by decide) _ p
      · exact loaded m c t 5 256 (by decide) (by decide) _ p
      · exact loaded m c t 6 256 (by decide) (by decide) _ p
      · exact loaded m c t 7 256 (by decide) (by decide) _ p
      · intro q
        have hq := q.isLt
        refine Eq.trans ?_ (Cert.MergePRefIdeal.Pool.back_zero _ _ _ (by omega)).symm
        pointwise []
        blk_point [iblk, V, idx t]
      · intro a b
        pointwise []
        blk_point [iblk, V, idx t]
    · intro q
      refine group16 _ t hi _ _ _ _ _ _ _ _ _ _ _ _ _ _ _ _ _ _ p _ q rfl ?_ ?_ ?_ ?_ ?_ ?_ ?_ ?_ ?_ ?_ ?_ ?_ ?_ ?_ ?_ ?_ ?_
      · exact loaded m c t 0 384 (by decide) (by decide) _ p
      · exact loaded m c t 1 384 (by decide) (by decide) _ p
      · exact loaded m c t 2 384 (by decide) (by decide) _ p
      · exact loaded m c t 3 384 (by decide) (by decide) _ p
      · exact loaded m c t 4 384 (by decide) (by decide) _ p
      · exact loaded m c t 5 384 (by decide) (by decide) _ p
      · exact loaded m c t 6 384 (by decide) (by decide) _ p
      · exact loaded m c t 7 384 (by decide) (by decide) _ p
      · exact loaded m c t 8 384 (by decide) (by decide) _ p
      · exact loaded m c t 9 384 (by decide) (by decide) _ p
      · exact loaded m c t 10 384 (by decide) (by decide) _ p
      · exact loaded m c t 11 384 (by decide) (by decide) _ p
      · exact loaded m c t 12 384 (by decide) (by decide) _ p
      · exact loaded m c t 13 384 (by decide) (by decide) _ p
      · exact loaded m c t 14 384 (by decide) (by decide) _ p
      · exact loaded m c t 15 384 (by decide) (by decide) _ p
      · intro q
        have hq := q.isLt
        refine Eq.trans ?_ (Cert.MergePRefIdeal.Pool.back_zero _ _ _ (by omega)).symm
        pointwise []
        blk_point [iblk, V, idx t]
    · intro a b; pointwise [k0_pay11]; blk_point [iblk, V, idx t]
    · intro k; blk_point [iblk, V, idx t]
    · intro k; blk_point [iblk, V, idx t]
  · intro k q; blk_point [iblk, V, idx t]
  · intro k q; blk_point [iblk, V, idx t]
  · intro q; pointwise []; blk_point [iblk, V, idx t]
  · intro q; pointwise []; blk_point [iblk, V, idx t]
  · intro q; blk_point [iblk, V, idx t]
end Cert.MergePIdeal.Strip
end
-- ==== Proof.MergePClaims.lean ====
module

public import proofs.«01_k».proof.Defs
public import proofs.«01_k».proof.Proof.Gen.MergePIdeal
public import proofs.«01_k».proof.Proof.Gen.MergePRefIdeal
public import proofs.«01_k».proof.Proof.Gen.MergePIdeal.Value
public import proofs.«01_k».proof.Proof.Gen.MergePRefIdeal.Run
public import proofs.«01_k».proof.Proof.Gen.MergePRefIdeal.Read
public import proofs.«01_k».proof.Proof.MergePFinal
public import Idealize.ShloMosaic.Lib.Quiescent

/-!
The claims about the merge of the prompt rows.
-/

@[expose] public section

set_option maxRecDepth 16384

noncomputable section
open Idealize.ShloMosaic Idealize.ShloMosaic.TcCoe Idealize.SL.Sem

namespace Cert.Proof.MergePClaims

/-- The reference runs, leaves its arguments as they were, and holds no semaphore. -/
theorem frame_r : Cert.quiescent_MergePRefIdeal := fun m ρ _ =>
  (θ_run Cert.MergePRefIdeal.defs _ _).mono (fun r h => ⟨fun c => (h c).2,
      Idealize.ShloMosaic.sem_eq_zero_of_no_sems (by decide) r.2⟩)
    (Cert.MergePRefIdeal.Value.run (F := Ideal) m ρ)

open Cert.MergePRefIdeal.Read in
/-- The kernel's rows after gating, pooling, projection and norm are the reference's. -/
theorem algebraic : Cert.algebraic_MergePIdeal_MergePRefIdeal := by
  intro m g m' g' _ hag
  refine ⟨fun c => val_main_v134 (F := Ideal) (m ((c.tc : Thread Cert.MergePIdeal.nD Cert.MergePIdeal.τ).loc Cert.MergePIdeal.main_arg0)) (m ((c.tc : Thread Cert.MergePIdeal.nD Cert.MergePIdeal.τ).loc Cert.MergePIdeal.main_arg1)) (m ((c.tc : Thread Cert.MergePIdeal.nD Cert.MergePIdeal.τ).loc Cert.MergePIdeal.main_arg2)) (m ((c.tc : Thread Cert.MergePIdeal.nD Cert.MergePIdeal.τ).loc Cert.MergePIdeal.main_arg3)) (m ((c.tc : Thread Cert.MergePIdeal.nD Cert.MergePIdeal.τ).loc Cert.MergePIdeal.main_arg4)) (m ((c.tc : Thread Cert.MergePIdeal.nD Cert.MergePIdeal.τ).loc Cert.MergePIdeal.main_arg5)) (m ((c.tc : Thread Cert.MergePIdeal.nD Cert.MergePIdeal.τ).loc Cert.MergePIdeal.main_arg6)) (m ((c.tc : Thread Cert.MergePIdeal.nD Cert.MergePIdeal.τ).loc Cert.MergePIdeal.main_arg7)) (m ((c.tc : Thread Cert.MergePIdeal.nD Cert.MergePIdeal.τ).loc Cert.MergePIdeal.main_arg8)) (m ((c.tc : Thread Cert.MergePIdeal.nD Cert.MergePIdeal.τ).loc Cert.MergePIdeal.main_arg9)) (m ((c.tc : Thread Cert.MergePIdeal.nD Cert.MergePIdeal.τ).loc Cert.MergePIdeal.main_arg10)) (m ((c.tc : Thread Cert.MergePIdeal.nD Cert.MergePIdeal.τ).loc Cert.MergePIdeal.main_arg11)) (m ((c.tc : Thread Cert.MergePIdeal.nD Cert.MergePIdeal.τ).loc Cert.MergePIdeal.main_arg12)) (m ((c.tc : Thread Cert.MergePIdeal.nD Cert.MergePIdeal.τ).loc Cert.MergePIdeal.main_arg13)), ?_, ?_⟩
  · refine (θ_run Cert.MergePIdeal.defs _ _).mono (fun r h c => ?_) (Cert.MergePIdeal.Value.run_blocks m g)
    obtain ⟨h0, ha⟩ := h c
    exact ⟨h0.trans (Cert.MergePIdeal.Strip.final m c), ha⟩
  · refine (θ_run Cert.MergePRefIdeal.defs _ _).mono (fun r h c => ?_) (Cert.MergePRefIdeal.Value.run (F := Ideal) m' g')
    obtain ⟨h0, ha⟩ := h c
    obtain ⟨e0, e1, e2, e3, e4, e5, e6, e7, e8, e9, e10, e11, e12, e13⟩ := hag c
    exact ⟨h0.trans ((val_main_v134_eq m' c).trans (by rw [e0, e1, e2, e3, e4, e5, e6, e7, e8, e9, e10, e11, e12, e13])), ha⟩

end Cert.Proof.MergePClaims
end
-- ==== Proof.InS.lean ====
module

public import proofs.«01_k».proof.Proof.Gen.InSIdeal.Frame
public import proofs.«01_k».proof.Proof.Gen.InSRefIdeal.Read
public import Idealize.ShloMosaic.Lib.Pipeline.ValueKit
public import Idealize.ShloMosaic.Lib.Pointwise
public import Idealize.ShloMosaic.Lib.StableHlo.Run

/-!
The sample rows' input projection (`InS`): five grid points, each writing one column strip of
`rmsnorm (x) · wᵀ`.  The whole result array is the reference's `dot`.  The host lines after the call cut the keys, the
values, the indexer's keys and the pooling rows out of it and put the latter behind the pooling state.
-/

@[expose] public section

set_option maxRecDepth 16384

noncomputable section
open Idealize.ShloMosaic Idealize.ShloMosaic.TcCoe Idealize.SL.Sem
open Idealize.ShloMosaic.Pipeline (Dat)

namespace Cert.InSIdeal.Strip
open Cert.InSIdeal Cert.InSIdeal.Gen Cert.InSRefIdeal.Read

variable (m : (ℓ : Loc nD τ sig) → Buf (Elt Ideal) ℓ)

/-- The block every window shows at a grid point. -/
theorem idx : ∀ t : Fin cfg0.N, win0_0.index t = ![0, 0] ∧ win0_1.index t = ![0, 0]
    ∧ win0_2.index t = ![t.val, 0] ∧ win0_3.index t = ![0, t.val] :=
  (by decide +kernel : ∀ t : Fin grid0.N, _)

/-- What the body stores at a point, read in its block, is the reference read in the whole array. -/
theorem point (c : Dev nD) (t : Fin cfg0.N) (y : S256x1152.Idx) :
    k0_pay1 (iblk m c 0 t) (iblk m c 1 t) (iblk m c 2 t) y
    = val_main_v14 (F := Ideal) (m ((c : Thread nD τ).loc main_arg0)) (m ((c : Thread nD τ).loc main_arg1))
        (m ((c : Thread nD τ).loc main_arg2)) (((cfg0.win 3).blk t).view.emb y) := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  blk_point [iblk, V, idx t]

/-- The result array after the run is the reference's product. -/
theorem final (c : Dev nD) : (dats m 0 c).arrAt 3 (cfgs 0).N
    = val_main_v14 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

/-- What the buffers hold when the call has returned. -/
abbrev exitV (c : Dev nD) : Valuation τ sig (Elt Ideal) :=
  Pipeline.withArrays (cfgs 0).spec c (V0 m c) fun w => (dats m 0 c).arrAt w (cfgs 0).N

theorem exit_v0 (c : Dev nD) : exitV m c (Proc.devRef .tc main_v0) = val_main_v14 (F := Ideal) (m ((c : Thread nD τ).loc main_arg0)) (m ((c : Thread nD τ).loc main_arg1))
        (m ((c : Thread nD τ).loc main_arg2)) :=
  (Pipeline.withArrays_arr spec0 launch0.win.arr_inj c (V0 m c) _ 3).trans (final m c)

theorem exit_arg3 (c : Dev nD) : exitV m c (Proc.devRef .tc main_arg3) = m ((c : Thread nD τ).loc main_arg3) :=
  (Pipeline.withArrays_of_ne spec0 c (V0 m c) _ main_arg3 (by decide)).trans (V_main_arg3 m c)

/-- The new keys are the reference's. -/
theorem tail_v5 (c : Dev nD) : Pipeline.afterTail₀ cfgs (dats m) 0 (V0 m) [hostOps1] c main_v5
    = val_main_v19 (F := Ideal) (m ((c : Thread nD τ).loc main_arg0)) (m ((c : Thread nD τ).loc main_arg1))
        (m ((c : Thread nD τ).loc main_arg2)) := by
  unfold Pipeline.afterTail₀
  have h0 := exit_v0 m c
  unfold exitV at h0
  generalize Pipeline.withArrays (cfgs 0).spec c (V0 m c) (fun w => (dats m 0 c).arrAt w (cfgs 0).N) = W at h0 ⊢
  simp only [hostOps1, List.flatten_cons, List.flatten_nil, List.append_nil]
  after_results
  simp only [h0]
  rfl

/-- The new values are the reference's. -/
theorem tail_v7 (c : Dev nD) : Pipeline.afterTail₀ cfgs (dats m) 0 (V0 m) [hostOps1] c main_v7
    = val_main_v21 (F := Ideal) (m ((c : Thread nD τ).loc main_arg0)) (m ((c : Thread nD τ).loc main_arg1))
        (m ((c : Thread nD τ).loc main_arg2)) := by
  unfold Pipeline.afterTail₀
  have h0 := exit_v0 m c
  unfold exitV at h0
  generalize Pipeline.withArrays (cfgs 0).spec c (V0 m c) (fun w => (dats m 0 c).arrAt w (cfgs 0).N) = W at h0 ⊢
  simp only [hostOps1, List.flatten_cons, List.flatten_nil, List.append_nil]
  after_results
  simp only [h0]
  rfl

/-- The indexer's new keys are the reference's. -/
theorem tail_v9 (c : Dev nD) : Pipeline.afterTail₀ cfgs (dats m) 0 (V0 m) [hostOps1] c main_v9
    = val_main_v23 (F := Ideal) (m ((c : Thread nD τ).loc main_arg0)) (m ((c : Thread nD τ).loc main_arg1))
        (m ((c : Thread nD τ).loc main_arg2)) := by
  unfold Pipeline.afterTail₀
  have h0 := exit_v0 m c
  unfold exitV at h0
  generalize Pipeline.withArrays (cfgs 0).spec c (V0 m c) (fun w => (dats m 0 c).arrAt w (cfgs 0).N) = W at h0 ⊢
  simp only [hostOps1, List.flatten_cons, List.flatten_nil, List.append_nil]
  after_results
  simp only [h0]
  rfl

/-- The new pooling state is the reference's. -/
theorem tail_v10 (c : Dev nD) : Pipeline.afterTail₀ cfgs (dats m) 0 (V0 m) [hostOps1] c main_v10
    = val_main_v24 (F := Ideal) (m ((c : Thread nD τ).loc main_arg0)) (m ((c : Thread nD τ).loc main_arg1))
        (m ((c : Thread nD τ).loc main_arg2)) (m ((c : Thread nD τ).loc main_arg3)) := by
  unfold Pipeline.afterTail₀
  have h0 := exit_v0 m c
  have h3 := exit_arg3 m c
  unfold exitV at h0 h3
  generalize Pipeline.withArrays (cfgs 0).spec c (V0 m c) (fun w => (dats m 0 c).arrAt w (cfgs 0).N) = W at h0 h3 ⊢
  simp only [hostOps1, List.flatten_cons, List.flatten_nil, List.append_nil]
  after_results
  generalize W (Proc.devRef .tc main_v0) = a at h0 ⊢
  generalize W (Proc.devRef .tc main_arg3) = b at h3 ⊢
  subst h0 h3
  rfl

end Cert.InSIdeal.Strip
end
-- ==== Proof.InSClaims.lean ====
module

public import proofs.«01_k».proof.Defs
public import proofs.«01_k».proof.Proof.Gen.InSIdeal
public import proofs.«01_k».proof.Proof.Gen.InSRefIdeal
public import proofs.«01_k».proof.Proof.Gen.InSRefIdeal.Run
public import proofs.«01_k».proof.Proof.Gen.InSRefIdeal.Read
public import proofs.«01_k».proof.Proof.InS
public import Idealize.ShloMosaic.Lib.Quiescent

/-!
The claims about the sample rows' input projection.
-/

@[expose] public section

set_option maxRecDepth 16384

noncomputable section
open Idealize.ShloMosaic Idealize.ShloMosaic.TcCoe Idealize.SL.Sem

namespace Cert.Proof.InSClaims

/-- The reference runs, leaves its arguments as they were, and holds no semaphore. -/
theorem frame_r : Cert.quiescent_InSRefIdeal := fun m ρ _ =>
  (θ_run Cert.InSRefIdeal.defs _ _).mono (fun r h => ⟨fun c => (h c).2.2.2.2.2,
      Idealize.ShloMosaic.sem_eq_zero_of_no_sems (by decide) r.2⟩)
    (Cert.InSRefIdeal.Value.run (F := Ideal) m ρ)

open Cert.InSIdeal Cert.InSIdeal.Gen Cert.InSRefIdeal.Read in
/-- The kernel's projection of the sample rows is the reference's, and so are the keys, the values, the indexer's keys and
the pooling state taken from it. -/
theorem algebraic : Cert.algebraic_InSIdeal_InSRefIdeal := by
  intro m g m' g' _ hag
  refine ⟨fun c => val_main_v14 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1)) (m ((c.tc : Thread Cert.InSIdeal.nD Cert.InSIdeal.τ).loc Cert.InSIdeal.main_arg2)),
    fun c => val_main_v19 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1)) (m ((c.tc : Thread Cert.InSIdeal.nD Cert.InSIdeal.τ).loc Cert.InSIdeal.main_arg2)),
    fun c => val_main_v21 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1)) (m ((c.tc : Thread Cert.InSIdeal.nD Cert.InSIdeal.τ).loc Cert.InSIdeal.main_arg2)),
    fun c => val_main_v23 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1)) (m ((c.tc : Thread Cert.InSIdeal.nD Cert.InSIdeal.τ).loc Cert.InSIdeal.main_arg2)),
    fun c => val_main_v24 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1)) (m ((c.tc : Thread Cert.InSIdeal.nD Cert.InSIdeal.τ).loc Cert.InSIdeal.main_arg2)) (m ((c.tc : Thread Cert.InSIdeal.nD Cert.InSIdeal.τ).loc Cert.InSIdeal.main_arg3)), ?_, ?_⟩
  · refine (θ_run Cert.InSIdeal.defs _ _).mono (fun r h c => ?_) (run_main m g)
    refine ⟨((h c).1 3).trans (Strip.final m c),
      ((h c).2 main_v5 (Pipeline.mem_restRefs_of main_v5 (by decide) (by decide))).trans (Strip.tail_v5 m c),
      ((h c).2 main_v7 (Pipeline.mem_restRefs_of main_v7 (by decide) (by decide))).trans (Strip.tail_v7 m c),
      ((h c).2 main_v9 (Pipeline.mem_restRefs_of main_v9 (by decide) (by decide))).trans (Strip.tail_v9 m c),
      ((h c).2 main_v10 (Pipeline.mem_restRefs_of main_v10 (by decide) (by decide))).trans (Strip.tail_v10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩
  · refine (θ_run Cert.InSRefIdeal.defs _ _).mono (fun r h c => ?_) (Cert.InSRefIdeal.Value.run (F := Ideal) m' g')
    obtain ⟨h0, h1, h2, h3, h4, ha⟩ := h c
    obtain ⟨e0, e1, e2, e3⟩ := hag c
    exact ⟨h0.trans ((val_main_v14_eq _ _ _).trans (by rw [e0, e1, e2])),
      h1.trans ((val_main_v19_eq _ _ _).trans (by rw [e0, e1, e2])),
      h2.trans ((val_main_v21_eq _ _ _).trans (by rw [e0, e1, e2])),
      h3.trans ((val_main_v23_eq _ _ _).trans (by rw [e0, e1, e2])),
      h4.trans ((val_main_v24_eq _ _ _ _).trans (by rw [e0, e1, e2, e3])), ha⟩

end Cert.Proof.InSClaims
end
-- ==== Proof.MergeSRun.lean ====
module

public import proofs.«01_k».proof.Proof.Gen.MergeSRefIdeal
public import Idealize.ShloMosaic.Lib.StableHlo.Run

/-!
The reference of the sample rows' merge as a list of operations, in two parts, and its run: the result is one
expression of the arguments.  The list is built one operation at a time, since it is long.
-/

@[expose] public section

noncomputable section

namespace Cert.MergeSRefIdeal.Ran

open Cert.MergeSRefIdeal Cert.MergeSRefIdeal.Gen Idealize.ShloMosaic Idealize.ShloMosaic.TcCoe Idealize.SL.Sem Idealize.ShloMosaic.StableHlo

variable {F : FTy → Type} [FloatOps F]

/-- Four groups of 128 columns side by side. -/
def fn_main_v62 : (main_v16 : Ref sig .tc).ty.Contents (Elt F) → (main_v31 : Ref sig .tc).ty.Contents (Elt F) → (main_v46 : Ref sig .tc).ty.Contents (Elt F) → (main_v61 : Ref sig .tc).ty.Contents (Elt F) → (main_v62 : Ref sig .tc).ty.Contents (Elt F) :=
  (fun u0 u1 u2 u3 => (concatenate S256x512 1 [⟨S256x128, (u0 : (⟨S256x128, .f32⟩ : BufTy).Contents (Elt F))⟩, ⟨S256x128, (u1 : (⟨S256x128, .f32⟩ : BufTy).Contents (Elt F))⟩, ⟨S256x128, (u2 : (⟨S256x128, .f32⟩ : BufTy).Contents (Elt F))⟩, ⟨S256x128, (u3 : (⟨S256x128, .f32⟩ : BufTy).Contents (Elt F))⟩] concatenates_S256x128_S256x128_S256x128_S256x128_S256x512_d1 : (⟨S256x512, .f32⟩ : BufTy).Contents (Elt F)))

/-- The reference's operations from the gates on. -/
abbrev opsLate : List (HloOp τ sig (Elt F)) :=
  [ unary main_arg2 main_v66 ((extractStridedSlice S256x512 ![0, 3072] · slices_S256x5760_S256x512_0_3072) : (⟨S256x5760, .f32⟩ : BufTy).Contents (Elt F) → (⟨S256x512, .f32⟩ : BufTy).Contents (Elt F)),
    unary main_arg2 main_v67 ((extractStridedSlice S256x1024 ![0, 3584] · slices_S256x5760_S256x1024_0_3584) : (⟨S256x5760, .f32⟩ : BufTy).Contents (Elt F) → (⟨S256x1024, .f32⟩ : BufTy).Contents (Elt F)),
    unary main_arg2 main_v68 ((extractStridedSlice S256x1024 ![0, 4608] · slices_S256x5760_S256x1024_0_4608) : (⟨S256x5760, .f32⟩ : BufTy).Contents (Elt F) → (⟨S256x1024, .f32⟩ : BufTy).Contents (Elt F)),
    unary main_arg7 main_v69 ((extf .f32 · bitsLt_bf16_f32) : (⟨S512x1024, .bf16⟩ : BufTy).Contents (Elt F) → (⟨S512x1024, .f32⟩ : BufTy).Contents (Elt F)),
    unary main_arg8 main_v70 ((extf .f32 · bitsLt_bf16_f32) : (⟨S512x1024, .bf16⟩ : BufTy).Contents (Elt F) → (⟨S512x1024, .f32⟩ : BufTy).Contents (Elt F)),
    unary main_arg9 main_v71 ((extf .f32 · bitsLt_bf16_f32) : (⟨S1024x1024, .bf16⟩ : BufTy).Contents (Elt F) → (⟨S1024x1024, .f32⟩ : BufTy).Contents (Elt F)),
    TRef.unary (TRef.of (T := ⟨S256x512, .f32⟩) main_v65) (TRef.of (T := ⟨S256x512, .f32⟩) main_call0_v0) Host.negf,
    TRef.unary (TRef.of (T := ⟨S256x512, .f32⟩) main_call0_v0) (TRef.of (T := ⟨S256x512, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S256x512, .f32⟩) main_call0_v2) (broadcastInDim S256x512 ![] bcast_S_S256x512),
    TRef.binary (TRef.of (T := ⟨S256x512, .f32⟩) main_call0_v2) (TRef.of (T := ⟨S256x512, .f32⟩) main_call0_v1) (TRef.of (T := ⟨S256x512, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S256x512, .f32⟩) main_call0_v4) (broadcastInDim S256x512 ![] bcast_S_S256x512),
    TRef.binary (TRef.of (T := ⟨S256x512, .f32⟩) main_call0_v4) (TRef.of (T := ⟨S256x512, .f32⟩) main_call0_v3) (TRef.of (T := ⟨S256x512, .f32⟩) main_call0_v5) Host.divf,
    TRef.binary (TRef.of (T := ⟨S256x512, .f32⟩) main_v65) (TRef.of (T := ⟨S256x512, .f32⟩) main_call0_v5) (TRef.of (T := ⟨S256x512, .f32⟩) main_v72) mulf,
    binary main_arg1 main_v72 main_v73 (mulf : (⟨S256x512, .f32⟩ : BufTy).Contents (Elt F) → (⟨S256x512, .f32⟩ : BufTy).Contents (Elt F) → (⟨S256x512, .f32⟩ : BufTy).Contents (Elt F)),
    binary main_v73 main_v69 main_v74 ((fun l r => Host.dotGeneral dot_S256x512_S512x1024_S256x1024_1_0_0_1_n_n none l r) : (⟨S256x512, .f32⟩ : BufTy).Contents (Elt F) → (⟨S512x1024, .f32⟩ : BufTy).Contents (Elt F) → (⟨S256x1024, .f32⟩ : BufTy).Contents (Elt F)),
    TRef.unary (TRef.of (T := ⟨S256x512, .f32⟩) main_v66) (TRef.of (T := ⟨S256x512, .f32⟩) main_call1_v0) Host.negf,
    TRef.unary (TRef.of (T := ⟨S256x512, .f32⟩) main_call1_v0) (TRef.of (T := ⟨S256x512, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S256x512, .f32⟩) main_call1_v2) (broadcastInDim S256x512 ![] bcast_S_S256x512),
    TRef.binary (TRef.of (T := ⟨S256x512, .f32⟩) main_call1_v2) (TRef.of (T := ⟨S256x512, .f32⟩) main_call1_v1) (TRef.of (T := ⟨S256x512, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S256x512, .f32⟩) main_call1_v4) (broadcastInDim S256x512 ![] bcast_S_S256x512),
    TRef.binary (TRef.of (T := ⟨S256x512, .f32⟩) main_call1_v4) (TRef.of (T := ⟨S256x512, .f32⟩) main_call1_v3) (TRef.of (T := ⟨S256x512, .f32⟩) main_call1_v5) Host.divf,
    TRef.binary (TRef.of (T := ⟨S256x512, .f32⟩) main_v66) (TRef.of (T := ⟨S256x512, .f32⟩) main_call1_v5) (TRef.of (T := ⟨S256x512, .f32⟩) main_v75) mulf,
    binary main_v64 main_v75 main_v76 (mulf : (⟨S256x512, .f32⟩ : BufTy).Contents (Elt F) → (⟨S256x512, .f32⟩ : BufTy).Contents (Elt F) → (⟨S256x512, .f32⟩ : BufTy).Contents (Elt F)),
    binary main_v76 main_v70 main_v77 ((fun l r => Host.dotGeneral dot_S256x512_S512x1024_S256x1024_1_0_0_1_n_n none l r) : (⟨S256x512, .f32⟩ : BufTy).Contents (Elt F) → (⟨S512x1024, .f32⟩ : BufTy).Contents (Elt F) → (⟨S256x1024, .f32⟩ : BufTy).Contents (Elt F)),
    unary main_arg6 main_v78 ((extractStridedSlice S1x1024 ![0, 0] · slices_S2x1024_S1x1024_0_0) : (⟨S2x1024, .f32⟩ : BufTy).Contents (Elt F) → (⟨S1x1024, .f32⟩ : BufTy).Contents (Elt F)),
    reshape main_v78 main_v79 (rfl : (.f32 : EltTy) = .f32) shapeCasts_S1x1024_S1024,
    unary main_v79 main_v80 (broadcastInDim S1x1024 ![1] bcast_S1024_S1x1024_1 : (⟨S1024, .f32⟩ : BufTy).Contents (Elt F) → (⟨S1x1024, .f32⟩ : BufTy).Contents (Elt F)),
    unary main_v80 main_v81 (broadcastInDim S256x1024 ![0, 1] bcast_S1x1024_S256x1024_0_1 : (⟨S1x1024, .f32⟩ : BufTy).Contents (Elt F) → (⟨S256x1024, .f32⟩ : BufTy).Contents (Elt F)),
    binary main_v67 main_v81 main_v82 (addf : (⟨S256x1024, .f32⟩ : BufTy).Contents (Elt F) → (⟨S256x1024, .f32⟩ : BufTy).Contents (Elt F) → (⟨S256x1024, .f32⟩ : BufTy).Contents (Elt F)),
    unary main_v82 main_v83 (Host.negf : (⟨S256x1024, .f32⟩ : BufTy).Contents (Elt F) → (⟨S256x1024, .f32⟩ : BufTy).Contents (Elt F)),
    unary main_v83 main_v84 (Host.exp : (⟨S256x1024, .f32⟩ : BufTy).Contents (Elt F) → (⟨S256x1024, .f32⟩ : BufTy).Contents (Elt F)),
    nullary main_cst_7 (constant S_ .f32 0x3F800000#32),
    unary main_cst_7 main_v85 (broadcastInDim S256x1024 ![] bcast_S_S256x1024 : (⟨S_, .f32⟩ : BufTy).Contents (Elt F) → (⟨S256x1024, .f32⟩ : BufTy).Contents (Elt F)),
    binary main_v85 main_v84 main_v86 (addf : (⟨S256x1024, .f32⟩ : BufTy).Contents (Elt F) → (⟨S256x1024, .f32⟩ : BufTy).Contents (Elt F) → (⟨S256x1024, .f32⟩ : BufTy).Contents (Elt F)),
    nullary main_cst_8 (constant S_ .f32 0x3F800000#32),
    unary main_cst_8 main_v87 (broadcastInDim S256x1024 ![] bcast_S_S256x1024 : (⟨S_, .f32⟩ : BufTy).Contents (Elt F) → (⟨S256x1024, .f32⟩ : BufTy).Contents (Elt F)),
    binary main_v87 main_v86 main_v88 (Host.divf : (⟨S256x1024, .f32⟩ : BufTy).Contents (Elt F) → (⟨S256x1024, .f32⟩ : BufTy).Contents (Elt F) → (⟨S256x1024, .f32⟩ : BufTy).Contents (Elt F)),
    binary main_v88 main_v74 main_v89 (mulf : (⟨S256x1024, .f32⟩ : BufTy).Contents (Elt F) → (⟨S256x1024, .f32⟩ : BufTy).Contents (Elt F) → (⟨S256x1024, .f32⟩ : BufTy).Contents (Elt F)),
    unary main_arg6 main_v90 ((extractStridedSlice S1x1024 ![1, 0] · slices_S2x1024_S1x1024_1_0) : (⟨S2x1024, .f32⟩ : BufTy).Contents (Elt F) → (⟨S1x1024, .f32⟩ : BufTy).Contents (Elt F)),
    reshape main_v90 main_v91 (rfl : (.f32 : EltTy) = .f32) shapeCasts_S1x1024_S1024,
    unary main_v91 main_v92 (broadcastInDim S1x1024 ![1] bcast_S1024_S1x1024_1 : (⟨S1024, .f32⟩ : BufTy).Contents (Elt F) → (⟨S1x1024, .f32⟩ : BufTy).Contents (Elt F)),
    unary main_v92 main_v93 (broadcastInDim S256x1024 ![0, 1] bcast_S1x1024_S256x1024_0_1 : (⟨S1x1024, .f32⟩ : BufTy).Contents (Elt F) → (⟨S256x1024, .f32⟩ : BufTy).Contents (Elt F)),
    binary main_v68 main_v93 main_v94 (addf : (⟨S256x1024, .f32⟩ : BufTy).Contents (Elt F) → (⟨S256x1024, .f32⟩ : BufTy).Contents (Elt F) → (⟨S256x1024, .f32⟩ : BufTy).Contents (Elt F)),
    unary main_v94 main_v95 (Host.negf : (⟨S256x1024, .f32⟩ : BufTy).Contents (Elt F) → (⟨S256x1024, .f32⟩ : BufTy).Contents (Elt F)),
    unary main_v95 main_v96 (Host.exp : (⟨S256x1024, .f32⟩ : BufTy).Contents (Elt F) → (⟨S256x1024, .f32⟩ : BufTy).Contents (Elt F)),
    nullary main_cst_9 (constant S_ .f32 0x3F800000#32),
    unary main_cst_9 main_v97 (broadcastInDim S256x1024 ![] bcast_S_S256x1024 : (⟨S_, .f32⟩ : BufTy).Contents (Elt F) → (⟨S256x1024, .f32⟩ : BufTy).Contents (Elt F)),
    binary main_v97 main_v96 main_v98 (addf : (⟨S256x1024, .f32⟩ : BufTy).Contents (Elt F) → (⟨S256x1024, .f32⟩ : BufTy).Contents (Elt F) → (⟨S256x1024, .f32⟩ : BufTy).Contents (Elt F)),
    nullary main_cst_10 (constant S_ .f32 0x3F800000#32),
    unary main_cst_10 main_v99 (broadcastInDim S256x1024 ![] bcast_S_S256x1024 : (⟨S_, .f32⟩ : BufTy).Contents (Elt F) → (⟨S256x1024, .f32⟩ : BufTy).Contents (Elt F)),
    binary main_v99 main_v98 main_v100 (Host.divf : (⟨S256x1024, .f32⟩ : BufTy).Contents (Elt F) → (⟨S256x1024, .f32⟩ : BufTy).Contents (Elt F) → (⟨S256x1024, .f32⟩ : BufTy).Contents (Elt F)),
    binary main_v100 main_v77 main_v101 (mulf : (⟨S256x1024, .f32⟩ : BufTy).Contents (Elt F) → (⟨S256x1024, .f32⟩ : BufTy).Contents (Elt F) → (⟨S256x1024, .f32⟩ : BufTy).Contents (Elt F)),
    binary main_v89 main_v101 main_v102 (addf : (⟨S256x1024, .f32⟩ : BufTy).Contents (Elt F) → (⟨S256x1024, .f32⟩ : BufTy).Contents (Elt F) → (⟨S256x1024, .f32⟩ : BufTy).Contents (Elt F)),
    binary main_v102 main_v71 main_v103 ((fun l r => Host.dotGeneral dot_S256x1024_S1024x1024_S256x1024_1_0_0_1_n_n none l r) : (⟨S256x1024, .f32⟩ : BufTy).Contents (Elt F) → (⟨S1024x1024, .f32⟩ : BufTy).Contents (Elt F) → (⟨S256x1024, .f32⟩ : BufTy).Contents (Elt F)),
    binary main_arg0 main_v103 main_v104 (addf : (⟨S256x1024, .f32⟩ : BufTy).Contents (Elt F) → (⟨S256x1024, .f32⟩ : BufTy).Contents (Elt F) → (⟨S256x1024, .f32⟩ : BufTy).Contents (Elt F)),
    binary main_v104 main_v104 main_v105 (mulf : (⟨S256x1024, .f32⟩ : BufTy).Contents (Elt F) → (⟨S256x1024, .f32⟩ : BufTy).Contents (Elt F) → (⟨S256x1024, .f32⟩ : BufTy).Contents (Elt F)),
    nullary main_cst_11 (constant S_ .f32 0x00000000#32),
    binary main_v105 main_cst_11 main_v106 ((fun x v => Host.reduceAdd x v reducesTo_S256x1024_S256_d1 h_S_) : (⟨S256x1024, .f32⟩ : BufTy).Contents (Elt F) → (⟨S_, .f32⟩ : BufTy).Contents (Elt F) → (⟨S256, .f32⟩ : BufTy).Contents (Elt F)),
    unary main_v106 main_v107 (broadcastInDim S256x1 ![0] bcast_S256_S256x1_0 : (⟨S256, .f32⟩ : BufTy).Contents (Elt F) → (⟨S256x1, .f32⟩ : BufTy).Contents (Elt F)),
    nullary main_cst_12 (constant S_ .f32 0x44800000#32),
    unary main_cst_12 main_v108 (broadcastInDim S256x1 ![] bcast_S_S256x1 : (⟨S_, .f32⟩ : BufTy).Contents (Elt F) → (⟨S256x1, .f32⟩ : BufTy).Contents (Elt F)),
    binary main_v107 main_v108 main_v109 (Host.divf : (⟨S256x1, .f32⟩ : BufTy).Contents (Elt F) → (⟨S256x1, .f32⟩ : BufTy).Contents (Elt F) → (⟨S256x1, .f32⟩ : BufTy).Contents (Elt F)),
    nullary main_cst_13 (constant S_ .f32 0x358637BD#32),
    unary main_cst_13 main_v110 (broadcastInDim S256x1 ![] bcast_S_S256x1 : (⟨S_, .f32⟩ : BufTy).Contents (Elt F) → (⟨S256x1, .f32⟩ : BufTy).Contents (Elt F)),
    binary main_v109 main_v110 main_v111 (addf : (⟨S256x1, .f32⟩ : BufTy).Contents (Elt F) → (⟨S256x1, .f32⟩ : BufTy).Contents (Elt F) → (⟨S256x1, .f32⟩ : BufTy).Contents (Elt F)),
    unary main_v111 main_v112 (Host.rsqrt : (⟨S256x1, .f32⟩ : BufTy).Contents (Elt F) → (⟨S256x1, .f32⟩ : BufTy).Contents (Elt F)),
    unary main_v112 main_v113 (broadcastInDim S256x1024 ![0, 1] bcast_S256x1_S256x1024_0_1 : (⟨S256x1, .f32⟩ : BufTy).Contents (Elt F) → (⟨S256x1024, .f32⟩ : BufTy).Contents (Elt F)),
    binary main_v104 main_v113 main_v114 (mulf : (⟨S256x1024, .f32⟩ : BufTy).Contents (Elt F) → (⟨S256x1024, .f32⟩ : BufTy).Contents (Elt F) → (⟨S256x1024, .f32⟩ : BufTy).Contents (Elt F)),
    unary main_arg10 main_v115 (broadcastInDim S256x1024 ![0, 1] bcast_S1x1024_S256x1024_0_1 : (⟨S1x1024, .f32⟩ : BufTy).Contents (Elt F) → (⟨S256x1024, .f32⟩ : BufTy).Contents (Elt F)),
    binary main_v114 main_v115 main_v116 (mulf : (⟨S256x1024, .f32⟩ : BufTy).Contents (Elt F) → (⟨S256x1024, .f32⟩ : BufTy).Contents (Elt F) → (⟨S256x1024, .f32⟩ : BufTy).Contents (Elt F)) ]

/-- All of the reference's operations, in order. -/
abbrev ops : List (HloOp τ sig (Elt F)) :=
  unary main_arg3 main_v0 ((extractStridedSlice S32x23x512 ![0, 1, 0] · slices_S32x24x512_S32x23x512_0_1_0) : (⟨S32x24x512, .f32⟩ : BufTy).Contents (Elt F) → (⟨S32x23x512, .f32⟩ : BufTy).Contents (Elt F)) ::
  reshape main_v0 main_v1 (rfl : (.f32 : EltTy) = .f32) shapeCasts_S32x23x512_S32x23x4x128 ::
  unary main_v1 main_v2 ((extractStridedSlice S32x23x1x128 ![0, 0, 0, 0] · slices_S32x23x4x128_S32x23x1x128_0_0_0_0) : (⟨S32x23x4x128, .f32⟩ : BufTy).Contents (Elt F) → (⟨S32x23x1x128, .f32⟩ : BufTy).Contents (Elt F)) ::
  reshape main_v2 main_v3 (rfl : (.f32 : EltTy) = .f32) shapeCasts_S32x23x1x128_S32x23x128 ::
  nullary main_cst (constant S_ .f32 0x00000000#32) ::
  unary main_cst main_v4 (broadcastInDim S_ ![] bcast_S_S_ : (⟨S_, .f32⟩ : BufTy).Contents (Elt F) → (⟨S_, .f32⟩ : BufTy).Contents (Elt F)) ::
  binary main_v3 main_v4 main_v5 ((fun x v => Host.reduceWindowAdd ![1, 2, 1] ![1, 1, 1] ![0, 1, 0] ![0, 0, 0] x v reduceWindows_S32x23x128_S32x23x128_w1s1p0_0_w2s1p1_0_w1s1p0_0 h_S_) : (⟨S32x23x128, .f32⟩ : BufTy).Contents (Elt F) → (⟨S_, .f32⟩ : BufTy).Contents (Elt F) → (⟨S32x23x128, .f32⟩ : BufTy).Contents (Elt F)) ::
  unary main_v5 main_v6 ((extractStridedSlice S32x8x128 ![0, 15, 0] · slices_S32x23x128_S32x8x128_0_15_0) : (⟨S32x23x128, .f32⟩ : BufTy).Contents (Elt F) → (⟨S32x8x128, .f32⟩ : BufTy).Contents (Elt F)) ::
  nullary main_cst_0 (constant S_ .f32 0x40000000#32) ::
  unary main_cst_0 main_v7 (broadcastInDim S32x8x128 ![] bcast_S_S32x8x128 : (⟨S_, .f32⟩ : BufTy).Contents (Elt F) → (⟨S32x8x128, .f32⟩ : BufTy).Contents (Elt F)) ::
  binary main_v6 main_v7 main_v8 (Host.divf : (⟨S32x8x128, .f32⟩ : BufTy).Contents (Elt F) → (⟨S32x8x128, .f32⟩ : BufTy).Contents (Elt F) → (⟨S32x8x128, .f32⟩ : BufTy).Contents (Elt F)) ::
  unary main_v1 main_v9 ((extractStridedSlice S32x8x1x128 ![0, 15, 0, 0] · slices_S32x23x4x128_S32x8x1x128_0_15_0_0) : (⟨S32x23x4x128, .f32⟩ : BufTy).Contents (Elt F) → (⟨S32x8x1x128, .f32⟩ : BufTy).Contents (Elt F)) ::
  reshape main_v9 main_v10 (rfl : (.f32 : EltTy) = .f32) shapeCasts_S32x8x1x128_S32x8x128 ::
  binary main_v8 main_v10 main_v11 (subf : (⟨S32x8x128, .f32⟩ : BufTy).Contents (Elt F) → (⟨S32x8x128, .f32⟩ : BufTy).Contents (Elt F) → (⟨S32x8x128, .f32⟩ : BufTy).Contents (Elt F)) ::
  reshape main_v11 main_v12 (rfl : (.f32 : EltTy) = .f32) shapeCasts_S32x8x128_S256x128 ::
  unary main_arg4 main_v13 ((extractStridedSlice S1x128x128 ![0, 0, 0] · slices_S4x128x128_S1x128x128_0_0_0) : (⟨S4x128x128, .bf16⟩ : BufTy).Contents (Elt F) → (⟨S1x128x128, .bf16⟩ : BufTy).Contents (Elt F)) ::
  reshape main_v13 main_v14 (rfl : (.bf16 : EltTy) = .bf16) shapeCasts_S1x128x128_S128x128 ::
  unary main_v14 main_v15 ((extf .f32 · bitsLt_bf16_f32) : (⟨S128x128, .bf16⟩ : BufTy).Contents (Elt F) → (⟨S128x128, .f32⟩ : BufTy).Contents (Elt F)) ::
  binary main_v12 main_v15 main_v16 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)) ::
  unary main_v1 main_v17 ((extractStridedSlice S32x23x1x128 ![0, 0, 1, 0] · slices_S32x23x4x128_S32x23x1x128_0_0_1_0) : (⟨S32x23x4x128, .f32⟩ : BufTy).Contents (Elt F) → (⟨S32x23x1x128, .f32⟩ : BufTy).Contents (Elt F)) ::
  reshape main_v17 main_v18 (rfl : (.f32 : EltTy) = .f32) shapeCasts_S32x23x1x128_S32x23x128 ::
  nullary main_cst_1 (constant S_ .f32 0x00000000#32) ::
  unary main_cst_1 main_v19 (broadcastInDim S_ ![] bcast_S_S_ : (⟨S_, .f32⟩ : BufTy).Contents (Elt F) → (⟨S_, .f32⟩ : BufTy).Contents (Elt F)) ::
  binary main_v18 main_v19 main_v20 ((fun x v => Host.reduceWindowAdd ![1, 4, 1] ![1, 1, 1] ![0, 3, 0] ![0, 0, 0] x v reduceWindows_S32x23x128_S32x23x128_w1s1p0_0_w4s1p3_0_w1s1p0_0 h_S_) : (⟨S32x23x128, .f32⟩ : BufTy).Contents (Elt F) → (⟨S_, .f32⟩ : BufTy).Contents (Elt F) → (⟨S32x23x128, .f32⟩ : BufTy).Contents (Elt F)) ::
  unary main_v20 main_v21 ((extractStridedSlice S32x8x128 ![0, 15, 0] · slices_S32x23x128_S32x8x128_0_15_0) : (⟨S32x23x128, .f32⟩ : BufTy).Contents (Elt F) → (⟨S32x8x128, .f32⟩ : BufTy).Contents (Elt F)) ::
  nullary main_cst_2 (constant S_ .f32 0x40800000#32) ::
  unary main_cst_2 main_v22 (broadcastInDim S32x8x128 ![] bcast_S_S32x8x128 : (⟨S_, .f32⟩ : BufTy).Contents (Elt F) → (⟨S32x8x128, .f32⟩ : BufTy).Contents (Elt F)) ::
  binary main_v21 main_v22 main_v23 (Host.divf : (⟨S32x8x128, .f32⟩ : BufTy).Contents (Elt F) → (⟨S32x8x128, .f32⟩ : BufTy).Contents (Elt F) → (⟨S32x8x128, .f32⟩ : BufTy).Contents (Elt F)) ::
  unary main_v1 main_v24 ((extractStridedSlice S32x8x1x128 ![0, 15, 1, 0] · slices_S32x23x4x128_S32x8x1x128_0_15_1_0) : (⟨S32x23x4x128, .f32⟩ : BufTy).Contents (Elt F) → (⟨S32x8x1x128, .f32⟩ : BufTy).Contents (Elt F)) ::
  reshape main_v24 main_v25 (rfl : (.f32 : EltTy) = .f32) shapeCasts_S32x8x1x128_S32x8x128 ::
  binary main_v23 main_v25 main_v26 (subf : (⟨S32x8x128, .f32⟩ : BufTy).Contents (Elt F) → (⟨S32x8x128, .f32⟩ : BufTy).Contents (Elt F) → (⟨S32x8x128, .f32⟩ : BufTy).Contents (Elt F)) ::
  reshape main_v26 main_v27 (rfl : (.f32 : EltTy) = .f32) shapeCasts_S32x8x128_S256x128 ::
  unary main_arg4 main_v28 ((extractStridedSlice S1x128x128 ![1, 0, 0] · slices_S4x128x128_S1x128x128_1_0_0) : (⟨S4x128x128, .bf16⟩ : BufTy).Contents (Elt F) → (⟨S1x128x128, .bf16⟩ : BufTy).Contents (Elt F)) ::
  reshape main_v28 main_v29 (rfl : (.bf16 : EltTy) = .bf16) shapeCasts_S1x128x128_S128x128 ::
  unary main_v29 main_v30 ((extf .f32 · bitsLt_bf16_f32) : (⟨S128x128, .bf16⟩ : BufTy).Contents (Elt F) → (⟨S128x128, .f32⟩ : BufTy).Contents (Elt F)) ::
  binary main_v27 main_v30 main_v31 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)) ::
  unary main_v1 main_v32 ((extractStridedSlice S32x23x1x128 ![0, 0, 2, 0] · slices_S32x23x4x128_S32x23x1x128_0_0_2_0) : (⟨S32x23x4x128, .f32⟩ : BufTy).Contents (Elt F) → (⟨S32x23x1x128, .f32⟩ : BufTy).Contents (Elt F)) ::
  reshape main_v32 main_v33 (rfl : (.f32 : EltTy) = .f32) shapeCasts_S32x23x1x128_S32x23x128 ::
  nullary main_cst_3 (constant S_ .f32 0x00000000#32) ::
  unary main_cst_3 main_v34 (broadcastInDim S_ ![] bcast_S_S_ : (⟨S_, .f32⟩ : BufTy).Contents (Elt F) → (⟨S_, .f32⟩ : BufTy).Contents (Elt F)) ::
  binary main_v33 main_v34 main_v35 ((fun x v => Host.reduceWindowAdd ![1, 8, 1] ![1, 1, 1] ![0, 7, 0] ![0, 0, 0] x v reduceWindows_S32x23x128_S32x23x128_w1s1p0_0_w8s1p7_0_w1s1p0_0 h_S_) : (⟨S32x23x128, .f32⟩ : BufTy).Contents (Elt F) → (⟨S_, .f32⟩ : BufTy).Contents (Elt F) → (⟨S32x23x128, .f32⟩ : BufTy).Contents (Elt F)) ::
  unary main_v35 main_v36 ((extractStridedSlice S32x8x128 ![0, 15, 0] · slices_S32x23x128_S32x8x128_0_15_0) : (⟨S32x23x128, .f32⟩ : BufTy).Contents (Elt F) → (⟨S32x8x128, .f32⟩ : BufTy).Contents (Elt F)) ::
  nullary main_cst_4 (constant S_ .f32 0x41000000#32) ::
  unary main_cst_4 main_v37 (broadcastInDim S32x8x128 ![] bcast_S_S32x8x128 : (⟨S_, .f32⟩ : BufTy).Contents (Elt F) → (⟨S32x8x128, .f32⟩ : BufTy).Contents (Elt F)) ::
  binary main_v36 main_v37 main_v38 (Host.divf : (⟨S32x8x128, .f32⟩ : BufTy).Contents (Elt F) → (⟨S32x8x128, .f32⟩ : BufTy).Contents (Elt F) → (⟨S32x8x128, .f32⟩ : BufTy).Contents (Elt F)) ::
  unary main_v1 main_v39 ((extractStridedSlice S32x8x1x128 ![0, 15, 2, 0] · slices_S32x23x4x128_S32x8x1x128_0_15_2_0) : (⟨S32x23x4x128, .f32⟩ : BufTy).Contents (Elt F) → (⟨S32x8x1x128, .f32⟩ : BufTy).Contents (Elt F)) ::
  reshape main_v39 main_v40 (rfl : (.f32 : EltTy) = .f32) shapeCasts_S32x8x1x128_S32x8x128 ::
  binary main_v38 main_v40 main_v41 (subf : (⟨S32x8x128, .f32⟩ : BufTy).Contents (Elt F) → (⟨S32x8x128, .f32⟩ : BufTy).Contents (Elt F) → (⟨S32x8x128, .f32⟩ : BufTy).Contents (Elt F)) ::
  reshape main_v41 main_v42 (rfl : (.f32 : EltTy) = .f32) shapeCasts_S32x8x128_S256x128 ::
  unary main_arg4 main_v43 ((extractStridedSlice S1x128x128 ![2, 0, 0] · slices_S4x128x128_S1x128x128_2_0_0) : (⟨S4x128x128, .bf16⟩ : BufTy).Contents (Elt F) → (⟨S1x128x128, .bf16⟩ : BufTy).Contents (Elt F)) ::
  reshape main_v43 main_v44 (rfl : (.bf16 : EltTy) = .bf16) shapeCasts_S1x128x128_S128x128 ::
  unary main_v44 main_v45 ((extf .f32 · bitsLt_bf16_f32) : (⟨S128x128, .bf16⟩ : BufTy).Contents (Elt F) → (⟨S128x128, .f32⟩ : BufTy).Contents (Elt F)) ::
  binary main_v42 main_v45 main_v46 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)) ::
  unary main_v1 main_v47 ((extractStridedSlice S32x23x1x128 ![0, 0, 3, 0] · slices_S32x23x4x128_S32x23x1x128_0_0_3_0) : (⟨S32x23x4x128, .f32⟩ : BufTy).Contents (Elt F) → (⟨S32x23x1x128, .f32⟩ : BufTy).Contents (Elt F)) ::
  reshape main_v47 main_v48 (rfl : (.f32 : EltTy) = .f32) shapeCasts_S32x23x1x128_S32x23x128 ::
  nullary main_cst_5 (constant S_ .f32 0x00000000#32) ::
  unary main_cst_5 main_v49 (broadcastInDim S_ ![] bcast_S_S_ : (⟨S_, .f32⟩ : BufTy).Contents (Elt F) → (⟨S_, .f32⟩ : BufTy).Contents (Elt F)) ::
  binary main_v48 main_v49 main_v50 ((fun x v => Host.reduceWindowAdd ![1, 16, 1] ![1, 1, 1] ![0, 15, 0] ![0, 0, 0] x v reduceWindows_S32x23x128_S32x23x128_w1s1p0_0_w16s1p15_0_w1s1p0_0 h_S_) : (⟨S32x23x128, .f32⟩ : BufTy).Contents (Elt F) → (⟨S_, .f32⟩ : BufTy).Contents (Elt F) → (⟨S32x23x128, .f32⟩ : BufTy).Contents (Elt F)) ::
  unary main_v50 main_v51 ((extractStridedSlice S32x8x128 ![0, 15, 0] · slices_S32x23x128_S32x8x128_0_15_0) : (⟨S32x23x128, .f32⟩ : BufTy).Contents (Elt F) → (⟨S32x8x128, .f32⟩ : BufTy).Contents (Elt F)) ::
  nullary main_cst_6 (constant S_ .f32 0x41800000#32) ::
  unary main_cst_6 main_v52 (broadcastInDim S32x8x128 ![] bcast_S_S32x8x128 : (⟨S_, .f32⟩ : BufTy).Contents (Elt F) → (⟨S32x8x128, .f32⟩ : BufTy).Contents (Elt F)) ::
  binary main_v51 main_v52 main_v53 (Host.divf : (⟨S32x8x128, .f32⟩ : BufTy).Contents (Elt F) → (⟨S32x8x128, .f32⟩ : BufTy).Contents (Elt F) → (⟨S32x8x128, .f32⟩ : BufTy).Contents (Elt F)) ::
  unary main_v1 main_v54 ((extractStridedSlice S32x8x1x128 ![0, 15, 3, 0] · slices_S32x23x4x128_S32x8x1x128_0_15_3_0) : (⟨S32x23x4x128, .f32⟩ : BufTy).Contents (Elt F) → (⟨S32x8x1x128, .f32⟩ : BufTy).Contents (Elt F)) ::
  reshape main_v54 main_v55 (rfl : (.f32 : EltTy) = .f32) shapeCasts_S32x8x1x128_S32x8x128 ::
  binary main_v53 main_v55 main_v56 (subf : (⟨S32x8x128, .f32⟩ : BufTy).Contents (Elt F) → (⟨S32x8x128, .f32⟩ : BufTy).Contents (Elt F) → (⟨S32x8x128, .f32⟩ : BufTy).Contents (Elt F)) ::
  reshape main_v56 main_v57 (rfl : (.f32 : EltTy) = .f32) shapeCasts_S32x8x128_S256x128 ::
  unary main_arg4 main_v58 ((extractStridedSlice S1x128x128 ![3, 0, 0] · slices_S4x128x128_S1x128x128_3_0_0) : (⟨S4x128x128, .bf16⟩ : BufTy).Contents (Elt F) → (⟨S1x128x128, .bf16⟩ : BufTy).Contents (Elt F)) ::
  reshape main_v58 main_v59 (rfl : (.bf16 : EltTy) = .bf16) shapeCasts_S1x128x128_S128x128 ::
  unary main_v59 main_v60 ((extf .f32 · bitsLt_bf16_f32) : (⟨S128x128, .bf16⟩ : BufTy).Contents (Elt F) → (⟨S128x128, .f32⟩ : BufTy).Contents (Elt F)) ::
  binary main_v57 main_v60 main_v61 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)) ::
  nary ![main_v16, main_v31, main_v46, main_v61] main_v62 (fun u => fn_main_v62 (F := F) (u 0) (u 1) (u 2) (u 3)) ::
  unary main_arg5 main_v63 (broadcastInDim S256x512 ![0, 1] bcast_S1x512_S256x512_0_1 : (⟨S1x512, .f32⟩ : BufTy).Contents (Elt F) → (⟨S256x512, .f32⟩ : BufTy).Contents (Elt F)) ::
  binary main_v62 main_v63 main_v64 (mulf : (⟨S256x512, .f32⟩ : BufTy).Contents (Elt F) → (⟨S256x512, .f32⟩ : BufTy).Contents (Elt F) → (⟨S256x512, .f32⟩ : BufTy).Contents (Elt F)) ::
  unary main_arg2 main_v65 ((extractStridedSlice S256x512 ![0, 1536] · slices_S256x5760_S256x512_0_1536) : (⟨S256x5760, .f32⟩ : BufTy).Contents (Elt F) → (⟨S256x512, .f32⟩ : BufTy).Contents (Elt F)) ::
  opsLate

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., unary_bufs_sub .., reshape_bufs_sub .., binary_bufs_sub .., reshape_bufs_sub .., unary_bufs_sub .., reshape_bufs_sub .., unary_bufs_sub .., binary_bufs_sub .., unary_bufs_sub .., reshape_bufs_sub .., nullary_bufs_sub .., unary_bufs_sub .., binary_bufs_sub .., unary_bufs_sub .., nullary_bufs_sub .., unary_bufs_sub .., binary_bufs_sub .., unary_bufs_sub .., reshape_bufs_sub .., binary_bufs_sub .., reshape_bufs_sub .., unary_bufs_sub .., reshape_bufs_sub .., unary_bufs_sub .., binary_bufs_sub .., unary_bufs_sub .., reshape_bufs_sub .., nullary_bufs_sub .., unary_bufs_sub .., binary_bufs_sub .., unary_bufs_sub .., nullary_bufs_sub .., unary_bufs_sub .., binary_bufs_sub .., unary_bufs_sub .., reshape_bufs_sub .., binary_bufs_sub .., reshape_bufs_sub .., unary_bufs_sub .., reshape_bufs_sub .., unary_bufs_sub .., binary_bufs_sub .., unary_bufs_sub .., reshape_bufs_sub .., nullary_bufs_sub .., unary_bufs_sub .., binary_bufs_sub .., unary_bufs_sub .., nullary_bufs_sub .., unary_bufs_sub .., binary_bufs_sub .., unary_bufs_sub .., reshape_bufs_sub .., binary_bufs_sub .., reshape_bufs_sub .., unary_bufs_sub .., reshape_bufs_sub .., unary_bufs_sub .., binary_bufs_sub .., nary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub ..⟩

set_option maxRecDepth 8192 in
/-- The reference's result as one expression of its arguments. -/
def res_main_v116 (m : (ℓ : Loc nD τ sig) → Buf (Elt F) ℓ) (c : Dev nD) : Buf (Elt F) ((c.tc : Thread nD τ).loc main_v116) :=
  mulf (mulf (addf (m ((c.tc : Thread nD τ).loc main_arg0)) (Host.dotGeneral dot_S256x1024_S1024x1024_S256x1024_1_0_0_1_n_n none (addf (mulf (Host.divf (broadcastInDim S256x1024 ![] bcast_S_S256x1024 (constant S_ .f32 0x3F800000#32)) (addf (broadcastInDim S256x1024 ![] bcast_S_S256x1024 (constant S_ .f32 0x3F800000#32)) (Host.exp (Host.negf (addf (extractStridedSlice S256x1024 ![0, 3584] (m ((c.tc : Thread nD τ).loc main_arg2)) slices_S256x5760_S256x1024_0_3584) (broadcastInDim S256x1024 ![0, 1] bcast_S1x1024_S256x1024_0_1 (broadcastInDim S1x1024 ![1] bcast_S1024_S1x1024_1 (shapeCast _ (extractStridedSlice S1x1024 ![0, 0] (m ((c.tc : Thread nD τ).loc main_arg6)) slices_S2x1024_S1x1024_0_0) shapeCasts_S1x1024_S1024)))))))) (Host.dotGeneral dot_S256x512_S512x1024_S256x1024_1_0_0_1_n_n none (mulf (m ((c.tc : Thread nD τ).loc main_arg1)) (mulf (extractStridedSlice S256x512 ![0, 1536] (m ((c.tc : Thread nD τ).loc main_arg2)) slices_S256x5760_S256x512_0_1536) (Host.divf (broadcastInDim S256x512 ![] bcast_S_S256x512 (constant S_ .f32 0x3F800000#32)) (addf (broadcastInDim S256x512 ![] bcast_S_S256x512 (constant S_ .f32 0x3F800000#32)) (Host.exp (Host.negf (extractStridedSlice S256x512 ![0, 1536] (m ((c.tc : Thread nD τ).loc main_arg2)) slices_S256x5760_S256x512_0_1536))))))) (extf .f32 (m ((c.tc : Thread nD τ).loc main_arg7)) bitsLt_bf16_f32))) (mulf (Host.divf (broadcastInDim S256x1024 ![] bcast_S_S256x1024 (constant S_ .f32 0x3F800000#32)) (addf (broadcastInDim S256x1024 ![] bcast_S_S256x1024 (constant S_ .f32 0x3F800000#32)) (Host.exp (Host.negf (addf (extractStridedSlice S256x1024 ![0, 4608] (m ((c.tc : Thread nD τ).loc main_arg2)) slices_S256x5760_S256x1024_0_4608) (broadcastInDim S256x1024 ![0, 1] bcast_S1x1024_S256x1024_0_1 (broadcastInDim S1x1024 ![1] bcast_S1024_S1x1024_1 (shapeCast _ (extractStridedSlice S1x1024 ![1, 0] (m ((c.tc : Thread nD τ).loc main_arg6)) slices_S2x1024_S1x1024_1_0) shapeCasts_S1x1024_S1024)))))))) (Host.dotGeneral dot_S256x512_S512x1024_S256x1024_1_0_0_1_n_n none (mulf (mulf ((concatenate S256x512 1 [⟨S256x128, ((Host.dotGeneral dot_S256x128_S128x128_S256x128_1_0_0_1_n_n none (shapeCast _ (subf (Host.divf (extractStridedSlice S32x8x128 ![0, 15, 0] (Host.reduceWindowAdd ![1, 2, 1] ![1, 1, 1] ![0, 1, 0] ![0, 0, 0] (shapeCast _ (extractStridedSlice S32x23x1x128 ![0, 0, 0, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_0_0) shapeCasts_S32x23x1x128_S32x23x128) (broadcastInDim S_ ![] bcast_S_S_ (constant S_ .f32 0x00000000#32)) reduceWindows_S32x23x128_S32x23x128_w1s1p0_0_w2s1p1_0_w1s1p0_0 h_S_) slices_S32x23x128_S32x8x128_0_15_0) (broadcastInDim S32x8x128 ![] bcast_S_S32x8x128 (constant S_ .f32 0x40000000#32))) (shapeCast _ (extractStridedSlice S32x8x1x128 ![0, 15, 0, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_0_0) shapeCasts_S32x8x1x128_S32x8x128)) shapeCasts_S32x8x128_S256x128) (extf .f32 (shapeCast _ (extractStridedSlice S1x128x128 ![0, 0, 0] (m ((c.tc : Thread nD τ).loc main_arg4)) slices_S4x128x128_S1x128x128_0_0_0) shapeCasts_S1x128x128_S128x128) bitsLt_bf16_f32)) : (⟨S256x128, .f32⟩ : BufTy).Contents (Elt F))⟩, ⟨S256x128, ((Host.dotGeneral dot_S256x128_S128x128_S256x128_1_0_0_1_n_n none (shapeCast _ (subf (Host.divf (extractStridedSlice S32x8x128 ![0, 15, 0] (Host.reduceWindowAdd ![1, 4, 1] ![1, 1, 1] ![0, 3, 0] ![0, 0, 0] (shapeCast _ (extractStridedSlice S32x23x1x128 ![0, 0, 1, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_1_0) shapeCasts_S32x23x1x128_S32x23x128) (broadcastInDim S_ ![] bcast_S_S_ (constant S_ .f32 0x00000000#32)) reduceWindows_S32x23x128_S32x23x128_w1s1p0_0_w4s1p3_0_w1s1p0_0 h_S_) slices_S32x23x128_S32x8x128_0_15_0) (broadcastInDim S32x8x128 ![] bcast_S_S32x8x128 (constant S_ .f32 0x40800000#32))) (shapeCast _ (extractStridedSlice S32x8x1x128 ![0, 15, 1, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_1_0) shapeCasts_S32x8x1x128_S32x8x128)) shapeCasts_S32x8x128_S256x128) (extf .f32 (shapeCast _ (extractStridedSlice S1x128x128 ![1, 0, 0] (m ((c.tc : Thread nD τ).loc main_arg4)) slices_S4x128x128_S1x128x128_1_0_0) shapeCasts_S1x128x128_S128x128) bitsLt_bf16_f32)) : (⟨S256x128, .f32⟩ : BufTy).Contents (Elt F))⟩, ⟨S256x128, ((Host.dotGeneral dot_S256x128_S128x128_S256x128_1_0_0_1_n_n none (shapeCast _ (subf (Host.divf (extractStridedSlice S32x8x128 ![0, 15, 0] (Host.reduceWindowAdd ![1, 8, 1] ![1, 1, 1] ![0, 7, 0] ![0, 0, 0] (shapeCast _ (extractStridedSlice S32x23x1x128 ![0, 0, 2, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_2_0) shapeCasts_S32x23x1x128_S32x23x128) (broadcastInDim S_ ![] bcast_S_S_ (constant S_ .f32 0x00000000#32)) reduceWindows_S32x23x128_S32x23x128_w1s1p0_0_w8s1p7_0_w1s1p0_0 h_S_) slices_S32x23x128_S32x8x128_0_15_0) (broadcastInDim S32x8x128 ![] bcast_S_S32x8x128 (constant S_ .f32 0x41000000#32))) (shapeCast _ (extractStridedSlice S32x8x1x128 ![0, 15, 2, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_2_0) shapeCasts_S32x8x1x128_S32x8x128)) shapeCasts_S32x8x128_S256x128) (extf .f32 (shapeCast _ (extractStridedSlice S1x128x128 ![2, 0, 0] (m ((c.tc : Thread nD τ).loc main_arg4)) slices_S4x128x128_S1x128x128_2_0_0) shapeCasts_S1x128x128_S128x128) bitsLt_bf16_f32)) : (⟨S256x128, .f32⟩ : BufTy).Contents (Elt F))⟩, ⟨S256x128, ((Host.dotGeneral dot_S256x128_S128x128_S256x128_1_0_0_1_n_n none (shapeCast _ (subf (Host.divf (extractStridedSlice S32x8x128 ![0, 15, 0] (Host.reduceWindowAdd ![1, 16, 1] ![1, 1, 1] ![0, 15, 0] ![0, 0, 0] (shapeCast _ (extractStridedSlice S32x23x1x128 ![0, 0, 3, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_3_0) shapeCasts_S32x23x1x128_S32x23x128) (broadcastInDim S_ ![] bcast_S_S_ (constant S_ .f32 0x00000000#32)) reduceWindows_S32x23x128_S32x23x128_w1s1p0_0_w16s1p15_0_w1s1p0_0 h_S_) slices_S32x23x128_S32x8x128_0_15_0) (broadcastInDim S32x8x128 ![] bcast_S_S32x8x128 (constant S_ .f32 0x41800000#32))) (shapeCast _ (extractStridedSlice S32x8x1x128 ![0, 15, 3, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_3_0) shapeCasts_S32x8x1x128_S32x8x128)) shapeCasts_S32x8x128_S256x128) (extf .f32 (shapeCast _ (extractStridedSlice S1x128x128 ![3, 0, 0] (m ((c.tc : Thread nD τ).loc main_arg4)) slices_S4x128x128_S1x128x128_3_0_0) shapeCasts_S1x128x128_S128x128) bitsLt_bf16_f32)) : (⟨S256x128, .f32⟩ : BufTy).Contents (Elt F))⟩] concatenates_S256x128_S256x128_S256x128_S256x128_S256x512_d1 : (⟨S256x512, .f32⟩ : BufTy).Contents (Elt F))) (broadcastInDim S256x512 ![0, 1] bcast_S1x512_S256x512_0_1 (m ((c.tc : Thread nD τ).loc main_arg5)))) (mulf (extractStridedSlice S256x512 ![0, 3072] (m ((c.tc : Thread nD τ).loc main_arg2)) slices_S256x5760_S256x512_0_3072) (Host.divf (broadcastInDim S256x512 ![] bcast_S_S256x512 (constant S_ .f32 0x3F800000#32)) (addf (broadcastInDim S256x512 ![] bcast_S_S256x512 (constant S_ .f32 0x3F800000#32)) (Host.exp (Host.negf (extractStridedSlice S256x512 ![0, 3072] (m ((c.tc : Thread nD τ).loc main_arg2)) slices_S256x5760_S256x512_0_3072))))))) (extf .f32 (m ((c.tc : Thread nD τ).loc main_arg8)) bitsLt_bf16_f32)))) (extf .f32 (m ((c.tc : Thread nD τ).loc main_arg9)) bitsLt_bf16_f32))) (broadcastInDim S256x1024 ![0, 1] bcast_S256x1_S256x1024_0_1 (Host.rsqrt (addf (Host.divf (broadcastInDim S256x1 ![0] bcast_S256_S256x1_0 (Host.reduceAdd (mulf (addf (m ((c.tc : Thread nD τ).loc main_arg0)) (Host.dotGeneral dot_S256x1024_S1024x1024_S256x1024_1_0_0_1_n_n none (addf (mulf (Host.divf (broadcastInDim S256x1024 ![] bcast_S_S256x1024 (constant S_ .f32 0x3F800000#32)) (addf (broadcastInDim S256x1024 ![] bcast_S_S256x1024 (constant S_ .f32 0x3F800000#32)) (Host.exp (Host.negf (addf (extractStridedSlice S256x1024 ![0, 3584] (m ((c.tc : Thread nD τ).loc main_arg2)) slices_S256x5760_S256x1024_0_3584) (broadcastInDim S256x1024 ![0, 1] bcast_S1x1024_S256x1024_0_1 (broadcastInDim S1x1024 ![1] bcast_S1024_S1x1024_1 (shapeCast _ (extractStridedSlice S1x1024 ![0, 0] (m ((c.tc : Thread nD τ).loc main_arg6)) slices_S2x1024_S1x1024_0_0) shapeCasts_S1x1024_S1024)))))))) (Host.dotGeneral dot_S256x512_S512x1024_S256x1024_1_0_0_1_n_n none (mulf (m ((c.tc : Thread nD τ).loc main_arg1)) (mulf (extractStridedSlice S256x512 ![0, 1536] (m ((c.tc : Thread nD τ).loc main_arg2)) slices_S256x5760_S256x512_0_1536) (Host.divf (broadcastInDim S256x512 ![] bcast_S_S256x512 (constant S_ .f32 0x3F800000#32)) (addf (broadcastInDim S256x512 ![] bcast_S_S256x512 (constant S_ .f32 0x3F800000#32)) (Host.exp (Host.negf (extractStridedSlice S256x512 ![0, 1536] (m ((c.tc : Thread nD τ).loc main_arg2)) slices_S256x5760_S256x512_0_1536))))))) (extf .f32 (m ((c.tc : Thread nD τ).loc main_arg7)) bitsLt_bf16_f32))) (mulf (Host.divf (broadcastInDim S256x1024 ![] bcast_S_S256x1024 (constant S_ .f32 0x3F800000#32)) (addf (broadcastInDim S256x1024 ![] bcast_S_S256x1024 (constant S_ .f32 0x3F800000#32)) (Host.exp (Host.negf (addf (extractStridedSlice S256x1024 ![0, 4608] (m ((c.tc : Thread nD τ).loc main_arg2)) slices_S256x5760_S256x1024_0_4608) (broadcastInDim S256x1024 ![0, 1] bcast_S1x1024_S256x1024_0_1 (broadcastInDim S1x1024 ![1] bcast_S1024_S1x1024_1 (shapeCast _ (extractStridedSlice S1x1024 ![1, 0] (m ((c.tc : Thread nD τ).loc main_arg6)) slices_S2x1024_S1x1024_1_0) shapeCasts_S1x1024_S1024)))))))) (Host.dotGeneral dot_S256x512_S512x1024_S256x1024_1_0_0_1_n_n none (mulf (mulf ((concatenate S256x512 1 [⟨S256x128, ((Host.dotGeneral dot_S256x128_S128x128_S256x128_1_0_0_1_n_n none (shapeCast _ (subf (Host.divf (extractStridedSlice S32x8x128 ![0, 15, 0] (Host.reduceWindowAdd ![1, 2, 1] ![1, 1, 1] ![0, 1, 0] ![0, 0, 0] (shapeCast _ (extractStridedSlice S32x23x1x128 ![0, 0, 0, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_0_0) shapeCasts_S32x23x1x128_S32x23x128) (broadcastInDim S_ ![] bcast_S_S_ (constant S_ .f32 0x00000000#32)) reduceWindows_S32x23x128_S32x23x128_w1s1p0_0_w2s1p1_0_w1s1p0_0 h_S_) slices_S32x23x128_S32x8x128_0_15_0) (broadcastInDim S32x8x128 ![] bcast_S_S32x8x128 (constant S_ .f32 0x40000000#32))) (shapeCast _ (extractStridedSlice S32x8x1x128 ![0, 15, 0, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_0_0) shapeCasts_S32x8x1x128_S32x8x128)) shapeCasts_S32x8x128_S256x128) (extf .f32 (shapeCast _ (extractStridedSlice S1x128x128 ![0, 0, 0] (m ((c.tc : Thread nD τ).loc main_arg4)) slices_S4x128x128_S1x128x128_0_0_0) shapeCasts_S1x128x128_S128x128) bitsLt_bf16_f32)) : (⟨S256x128, .f32⟩ : BufTy).Contents (Elt F))⟩, ⟨S256x128, ((Host.dotGeneral dot_S256x128_S128x128_S256x128_1_0_0_1_n_n none (shapeCast _ (subf (Host.divf (extractStridedSlice S32x8x128 ![0, 15, 0] (Host.reduceWindowAdd ![1, 4, 1] ![1, 1, 1] ![0, 3, 0] ![0, 0, 0] (shapeCast _ (extractStridedSlice S32x23x1x128 ![0, 0, 1, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_1_0) shapeCasts_S32x23x1x128_S32x23x128) (broadcastInDim S_ ![] bcast_S_S_ (constant S_ .f32 0x00000000#32)) reduceWindows_S32x23x128_S32x23x128_w1s1p0_0_w4s1p3_0_w1s1p0_0 h_S_) slices_S32x23x128_S32x8x128_0_15_0) (broadcastInDim S32x8x128 ![] bcast_S_S32x8x128 (constant S_ .f32 0x40800000#32))) (shapeCast _ (extractStridedSlice S32x8x1x128 ![0, 15, 1, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_1_0) shapeCasts_S32x8x1x128_S32x8x128)) shapeCasts_S32x8x128_S256x128) (extf .f32 (shapeCast _ (extractStridedSlice S1x128x128 ![1, 0, 0] (m ((c.tc : Thread nD τ).loc main_arg4)) slices_S4x128x128_S1x128x128_1_0_0) shapeCasts_S1x128x128_S128x128) bitsLt_bf16_f32)) : (⟨S256x128, .f32⟩ : BufTy).Contents (Elt F))⟩, ⟨S256x128, ((Host.dotGeneral dot_S256x128_S128x128_S256x128_1_0_0_1_n_n none (shapeCast _ (subf (Host.divf (extractStridedSlice S32x8x128 ![0, 15, 0] (Host.reduceWindowAdd ![1, 8, 1] ![1, 1, 1] ![0, 7, 0] ![0, 0, 0] (shapeCast _ (extractStridedSlice S32x23x1x128 ![0, 0, 2, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_2_0) shapeCasts_S32x23x1x128_S32x23x128) (broadcastInDim S_ ![] bcast_S_S_ (constant S_ .f32 0x00000000#32)) reduceWindows_S32x23x128_S32x23x128_w1s1p0_0_w8s1p7_0_w1s1p0_0 h_S_) slices_S32x23x128_S32x8x128_0_15_0) (broadcastInDim S32x8x128 ![] bcast_S_S32x8x128 (constant S_ .f32 0x41000000#32))) (shapeCast _ (extractStridedSlice S32x8x1x128 ![0, 15, 2, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_2_0) shapeCasts_S32x8x1x128_S32x8x128)) shapeCasts_S32x8x128_S256x128) (extf .f32 (shapeCast _ (extractStridedSlice S1x128x128 ![2, 0, 0] (m ((c.tc : Thread nD τ).loc main_arg4)) slices_S4x128x128_S1x128x128_2_0_0) shapeCasts_S1x128x128_S128x128) bitsLt_bf16_f32)) : (⟨S256x128, .f32⟩ : BufTy).Contents (Elt F))⟩, ⟨S256x128, ((Host.dotGeneral dot_S256x128_S128x128_S256x128_1_0_0_1_n_n none (shapeCast _ (subf (Host.divf (extractStridedSlice S32x8x128 ![0, 15, 0] (Host.reduceWindowAdd ![1, 16, 1] ![1, 1, 1] ![0, 15, 0] ![0, 0, 0] (shapeCast _ (extractStridedSlice S32x23x1x128 ![0, 0, 3, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_3_0) shapeCasts_S32x23x1x128_S32x23x128) (broadcastInDim S_ ![] bcast_S_S_ (constant S_ .f32 0x00000000#32)) reduceWindows_S32x23x128_S32x23x128_w1s1p0_0_w16s1p15_0_w1s1p0_0 h_S_) slices_S32x23x128_S32x8x128_0_15_0) (broadcastInDim S32x8x128 ![] bcast_S_S32x8x128 (constant S_ .f32 0x41800000#32))) (shapeCast _ (extractStridedSlice S32x8x1x128 ![0, 15, 3, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_3_0) shapeCasts_S32x8x1x128_S32x8x128)) shapeCasts_S32x8x128_S256x128) (extf .f32 (shapeCast _ (extractStridedSlice S1x128x128 ![3, 0, 0] (m ((c.tc : Thread nD τ).loc main_arg4)) slices_S4x128x128_S1x128x128_3_0_0) shapeCasts_S1x128x128_S128x128) bitsLt_bf16_f32)) : (⟨S256x128, .f32⟩ : BufTy).Contents (Elt F))⟩] concatenates_S256x128_S256x128_S256x128_S256x128_S256x512_d1 : (⟨S256x512, .f32⟩ : BufTy).Contents (Elt F))) (broadcastInDim S256x512 ![0, 1] bcast_S1x512_S256x512_0_1 (m ((c.tc : Thread nD τ).loc main_arg5)))) (mulf (extractStridedSlice S256x512 ![0, 3072] (m ((c.tc : Thread nD τ).loc main_arg2)) slices_S256x5760_S256x512_0_3072) (Host.divf (broadcastInDim S256x512 ![] bcast_S_S256x512 (constant S_ .f32 0x3F800000#32)) (addf (broadcastInDim S256x512 ![] bcast_S_S256x512 (constant S_ .f32 0x3F800000#32)) (Host.exp (Host.negf (extractStridedSlice S256x512 ![0, 3072] (m ((c.tc : Thread nD τ).loc main_arg2)) slices_S256x5760_S256x512_0_3072))))))) (extf .f32 (m ((c.tc : Thread nD τ).loc main_arg8)) bitsLt_bf16_f32)))) (extf .f32 (m ((c.tc : Thread nD τ).loc main_arg9)) bitsLt_bf16_f32))) (addf (m ((c.tc : Thread nD τ).loc main_arg0)) (Host.dotGeneral dot_S256x1024_S1024x1024_S256x1024_1_0_0_1_n_n none (addf (mulf (Host.divf (broadcastInDim S256x1024 ![] bcast_S_S256x1024 (constant S_ .f32 0x3F800000#32)) (addf (broadcastInDim S256x1024 ![] bcast_S_S256x1024 (constant S_ .f32 0x3F800000#32)) (Host.exp (Host.negf (addf (extractStridedSlice S256x1024 ![0, 3584] (m ((c.tc : Thread nD τ).loc main_arg2)) slices_S256x5760_S256x1024_0_3584) (broadcastInDim S256x1024 ![0, 1] bcast_S1x1024_S256x1024_0_1 (broadcastInDim S1x1024 ![1] bcast_S1024_S1x1024_1 (shapeCast _ (extractStridedSlice S1x1024 ![0, 0] (m ((c.tc : Thread nD τ).loc main_arg6)) slices_S2x1024_S1x1024_0_0) shapeCasts_S1x1024_S1024)))))))) (Host.dotGeneral dot_S256x512_S512x1024_S256x1024_1_0_0_1_n_n none (mulf (m ((c.tc : Thread nD τ).loc main_arg1)) (mulf (extractStridedSlice S256x512 ![0, 1536] (m ((c.tc : Thread nD τ).loc main_arg2)) slices_S256x5760_S256x512_0_1536) (Host.divf (broadcastInDim S256x512 ![] bcast_S_S256x512 (constant S_ .f32 0x3F800000#32)) (addf (broadcastInDim S256x512 ![] bcast_S_S256x512 (constant S_ .f32 0x3F800000#32)) (Host.exp (Host.negf (extractStridedSlice S256x512 ![0, 1536] (m ((c.tc : Thread nD τ).loc main_arg2)) slices_S256x5760_S256x512_0_1536))))))) (extf .f32 (m ((c.tc : Thread nD τ).loc main_arg7)) bitsLt_bf16_f32))) (mulf (Host.divf (broadcastInDim S256x1024 ![] bcast_S_S256x1024 (constant S_ .f32 0x3F800000#32)) (addf (broadcastInDim S256x1024 ![] bcast_S_S256x1024 (constant S_ .f32 0x3F800000#32)) (Host.exp (Host.negf (addf (extractStridedSlice S256x1024 ![0, 4608] (m ((c.tc : Thread nD τ).loc main_arg2)) slices_S256x5760_S256x1024_0_4608) (broadcastInDim S256x1024 ![0, 1] bcast_S1x1024_S256x1024_0_1 (broadcastInDim S1x1024 ![1] bcast_S1024_S1x1024_1 (shapeCast _ (extractStridedSlice S1x1024 ![1, 0] (m ((c.tc : Thread nD τ).loc main_arg6)) slices_S2x1024_S1x1024_1_0) shapeCasts_S1x1024_S1024)))))))) (Host.dotGeneral dot_S256x512_S512x1024_S256x1024_1_0_0_1_n_n none (mulf (mulf ((concatenate S256x512 1 [⟨S256x128, ((Host.dotGeneral dot_S256x128_S128x128_S256x128_1_0_0_1_n_n none (shapeCast _ (subf (Host.divf (extractStridedSlice S32x8x128 ![0, 15, 0] (Host.reduceWindowAdd ![1, 2, 1] ![1, 1, 1] ![0, 1, 0] ![0, 0, 0] (shapeCast _ (extractStridedSlice S32x23x1x128 ![0, 0, 0, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_0_0) shapeCasts_S32x23x1x128_S32x23x128) (broadcastInDim S_ ![] bcast_S_S_ (constant S_ .f32 0x00000000#32)) reduceWindows_S32x23x128_S32x23x128_w1s1p0_0_w2s1p1_0_w1s1p0_0 h_S_) slices_S32x23x128_S32x8x128_0_15_0) (broadcastInDim S32x8x128 ![] bcast_S_S32x8x128 (constant S_ .f32 0x40000000#32))) (shapeCast _ (extractStridedSlice S32x8x1x128 ![0, 15, 0, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_0_0) shapeCasts_S32x8x1x128_S32x8x128)) shapeCasts_S32x8x128_S256x128) (extf .f32 (shapeCast _ (extractStridedSlice S1x128x128 ![0, 0, 0] (m ((c.tc : Thread nD τ).loc main_arg4)) slices_S4x128x128_S1x128x128_0_0_0) shapeCasts_S1x128x128_S128x128) bitsLt_bf16_f32)) : (⟨S256x128, .f32⟩ : BufTy).Contents (Elt F))⟩, ⟨S256x128, ((Host.dotGeneral dot_S256x128_S128x128_S256x128_1_0_0_1_n_n none (shapeCast _ (subf (Host.divf (extractStridedSlice S32x8x128 ![0, 15, 0] (Host.reduceWindowAdd ![1, 4, 1] ![1, 1, 1] ![0, 3, 0] ![0, 0, 0] (shapeCast _ (extractStridedSlice S32x23x1x128 ![0, 0, 1, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_1_0) shapeCasts_S32x23x1x128_S32x23x128) (broadcastInDim S_ ![] bcast_S_S_ (constant S_ .f32 0x00000000#32)) reduceWindows_S32x23x128_S32x23x128_w1s1p0_0_w4s1p3_0_w1s1p0_0 h_S_) slices_S32x23x128_S32x8x128_0_15_0) (broadcastInDim S32x8x128 ![] bcast_S_S32x8x128 (constant S_ .f32 0x40800000#32))) (shapeCast _ (extractStridedSlice S32x8x1x128 ![0, 15, 1, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_1_0) shapeCasts_S32x8x1x128_S32x8x128)) shapeCasts_S32x8x128_S256x128) (extf .f32 (shapeCast _ (extractStridedSlice S1x128x128 ![1, 0, 0] (m ((c.tc : Thread nD τ).loc main_arg4)) slices_S4x128x128_S1x128x128_1_0_0) shapeCasts_S1x128x128_S128x128) bitsLt_bf16_f32)) : (⟨S256x128, .f32⟩ : BufTy).Contents (Elt F))⟩, ⟨S256x128, ((Host.dotGeneral dot_S256x128_S128x128_S256x128_1_0_0_1_n_n none (shapeCast _ (subf (Host.divf (extractStridedSlice S32x8x128 ![0, 15, 0] (Host.reduceWindowAdd ![1, 8, 1] ![1, 1, 1] ![0, 7, 0] ![0, 0, 0] (shapeCast _ (extractStridedSlice S32x23x1x128 ![0, 0, 2, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_2_0) shapeCasts_S32x23x1x128_S32x23x128) (broadcastInDim S_ ![] bcast_S_S_ (constant S_ .f32 0x00000000#32)) reduceWindows_S32x23x128_S32x23x128_w1s1p0_0_w8s1p7_0_w1s1p0_0 h_S_) slices_S32x23x128_S32x8x128_0_15_0) (broadcastInDim S32x8x128 ![] bcast_S_S32x8x128 (constant S_ .f32 0x41000000#32))) (shapeCast _ (extractStridedSlice S32x8x1x128 ![0, 15, 2, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_2_0) shapeCasts_S32x8x1x128_S32x8x128)) shapeCasts_S32x8x128_S256x128) (extf .f32 (shapeCast _ (extractStridedSlice S1x128x128 ![2, 0, 0] (m ((c.tc : Thread nD τ).loc main_arg4)) slices_S4x128x128_S1x128x128_2_0_0) shapeCasts_S1x128x128_S128x128) bitsLt_bf16_f32)) : (⟨S256x128, .f32⟩ : BufTy).Contents (Elt F))⟩, ⟨S256x128, ((Host.dotGeneral dot_S256x128_S128x128_S256x128_1_0_0_1_n_n none (shapeCast _ (subf (Host.divf (extractStridedSlice S32x8x128 ![0, 15, 0] (Host.reduceWindowAdd ![1, 16, 1] ![1, 1, 1] ![0, 15, 0] ![0, 0, 0] (shapeCast _ (extractStridedSlice S32x23x1x128 ![0, 0, 3, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x23x1x128_0_0_3_0) shapeCasts_S32x23x1x128_S32x23x128) (broadcastInDim S_ ![] bcast_S_S_ (constant S_ .f32 0x00000000#32)) reduceWindows_S32x23x128_S32x23x128_w1s1p0_0_w16s1p15_0_w1s1p0_0 h_S_) slices_S32x23x128_S32x8x128_0_15_0) (broadcastInDim S32x8x128 ![] bcast_S_S32x8x128 (constant S_ .f32 0x41800000#32))) (shapeCast _ (extractStridedSlice S32x8x1x128 ![0, 15, 3, 0] (shapeCast _ (extractStridedSlice S32x23x512 ![0, 1, 0] (m ((c.tc : Thread nD τ).loc main_arg3)) slices_S32x24x512_S32x23x512_0_1_0) shapeCasts_S32x23x512_S32x23x4x128) slices_S32x23x4x128_S32x8x1x128_0_15_3_0) shapeCasts_S32x8x1x128_S32x8x128)) shapeCasts_S32x8x128_S256x128) (extf .f32 (shapeCast _ (extractStridedSlice S1x128x128 ![3, 0, 0] (m ((c.tc : Thread nD τ).loc main_arg4)) slices_S4x128x128_S1x128x128_3_0_0) shapeCasts_S1x128x128_S128x128) bitsLt_bf16_f32)) : (⟨S256x128, .f32⟩ : BufTy).Contents (Elt F))⟩] concatenates_S256x128_S256x128_S256x128_S256x128_S256x512_d1 : (⟨S256x512, .f32⟩ : BufTy).Contents (Elt F))) (broadcastInDim S256x512 ![0, 1] bcast_S1x512_S256x512_0_1 (m ((c.tc : Thread nD τ).loc main_arg5)))) (mulf (extractStridedSlice S256x512 ![0, 3072] (m ((c.tc : Thread nD τ).loc main_arg2)) slices_S256x5760_S256x512_0_3072) (Host.divf (broadcastInDim S256x512 ![] bcast_S_S256x512 (constant S_ .f32 0x3F800000#32)) (addf (broadcastInDim S256x512 ![] bcast_S_S256x512 (constant S_ .f32 0x3F800000#32)) (Host.exp (Host.negf (extractStridedSlice S256x512 ![0, 3072] (m ((c.tc : Thread nD τ).loc main_arg2)) slices_S256x5760_S256x512_0_3072))))))) (extf .f32 (m ((c.tc : Thread nD τ).loc main_arg8)) bitsLt_bf16_f32)))) (extf .f32 (m ((c.tc : Thread nD τ).loc main_arg9)) bitsLt_bf16_f32)))) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (m ((c.tc : Thread nD τ).loc main_arg10)))

set_option maxRecDepth 8192 in
set_option maxHeartbeats 59200000 in
/-- Every run of the reference ends with its result at that expression and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = res_main_v116 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v116).trans (by simp only [ops, opsLate, TRef.binary, TRef.nullary, TRef.unary, TRef.toBuf, TRef.ofBuf, cast_eq]; after_results_simp <;> (try dsimp only [Matrix.cons_val]) <;> (try after_results_simp) <;> rfl <;> (unfold res_main_v116; rfl)),
      (h c main_arg0).trans (by simp only [ops, opsLate, TRef.binary, TRef.nullary, TRef.unary, TRef.toBuf, TRef.ofBuf, cast_eq]; after_results_simp <;> (try dsimp only [Matrix.cons_val]) <;> (try after_results_simp) <;> rfl),
      (h c main_arg1).trans (by simp only [ops, opsLate, TRef.binary, TRef.nullary, TRef.unary, TRef.toBuf, TRef.ofBuf, cast_eq]; after_results_simp <;> (try dsimp only [Matrix.cons_val]) <;> (try after_results_simp) <;> rfl),
      (h c main_arg2).trans (by simp only [ops, opsLate, TRef.binary, TRef.nullary, TRef.unary, TRef.toBuf, TRef.ofBuf, cast_eq]; after_results_simp <;> (try dsimp only [Matrix.cons_val]) <;> (try after_results_simp) <;> rfl),
      (h c main_arg3).trans (by simp only [ops, opsLate, TRef.binary, TRef.nullary, TRef.unary, TRef.toBuf, TRef.ofBuf, cast_eq]; after_results_simp <;> (try dsimp only [Matrix.cons_val]) <;> (try after_results_simp) <;> rfl),
      (h c main_arg4).trans (by simp only [ops, opsLate, TRef.binary, TRef.nullary, TRef.unary, TRef.toBuf, TRef.ofBuf, cast_eq]; after_results_simp <;> (try dsimp only [Matrix.cons_val]) <;> (try after_results_simp) <;> rfl),
      (h c main_arg5).trans (by simp only [ops, opsLate, TRef.binary, TRef.nullary, TRef.unary, TRef.toBuf, TRef.ofBuf, cast_eq]; after_results_simp <;> (try dsimp only [Matrix.cons_val]) <;> (try after_results_simp) <;> rfl),
      (h c main_arg6).trans (by simp only [ops, opsLate, TRef.binary, TRef.nullary, TRef.unary, TRef.toBuf, TRef.ofBuf, cast_eq]; after_results_simp <;> (try dsimp only [Matrix.cons_val]) <;> (try after_results_simp) <;> rfl),
      (h c main_arg7).trans (by simp only [ops, opsLate, TRef.binary, TRef.nullary, TRef.unary, TRef.toBuf, TRef.ofBuf, cast_eq]; after_results_simp <;> (try dsimp only [Matrix.cons_val]) <;> (try after_results_simp) <;> rfl),
      (h c main_arg8).trans (by simp only [ops, opsLate, TRef.binary, TRef.nullary, TRef.unary, TRef.toBuf, TRef.ofBuf, cast_eq]; after_results_simp <;> (try dsimp only [Matrix.cons_val]) <;> (try after_results_simp) <;> rfl),
      (h c main_arg9).trans (by simp only [ops, opsLate, TRef.binary, TRef.nullary, TRef.unary, TRef.toBuf, TRef.ofBuf, cast_eq]; after_results_simp <;> (try dsimp only [Matrix.cons_val]) <;> (try after_results_simp) <;> rfl),
      (h c main_arg10).trans (by simp only [ops, opsLate, TRef.binary, TRef.nullary, TRef.unary, TRef.toBuf, TRef.ofBuf, cast_eq]; after_results_simp <;> (try dsimp only [Matrix.cons_val]) <;> (try after_results_simp) <;> rfl)⟩)
    (run_seq scopedRefs_eq scopedSems_eq defs main (fun _ => ops) main_eq (fun _ => ops_sub) m ρ)

end Cert.MergeSRefIdeal.Ran

end
-- ==== Proof.MergeSPoolStages.lean ====
module

public import proofs.«01_k».proof.Proof.Gen.MergeSRefIdeal
public import Idealize.ShloMosaic.Lib.Pipeline.Value
public import Idealize.ShloMosaic.Lib.ValueIdx
public import Idealize.ShloMosaic.PureOps.Ideal.Laws

/-!
The reference of the sample rows' merge, one operation at a time: what each operation writes as a function of the
arguments, and each such value read at an index.  This half: the pooling and its mixing matrices.
-/

@[expose] public section

noncomputable section

namespace Cert.MergeSRefIdeal.Stages

open Cert.MergeSRefIdeal Cert.MergeSRefIdeal.Gen Idealize.ShloMosaic Idealize.ShloMosaic.TcCoe Idealize.SL.Sem Idealize.ShloMosaic.StableHlo

variable {F : FTy → Type} [FloatOps F]

def val_main_v0 (x3 : (⟨S32x24x512, .f32⟩ : BufTy).Contents (Elt F)) : (⟨S32x23x512, .f32⟩ : BufTy).Contents (Elt F) :=
  extractStridedSlice S32x23x512 ![0, 1, 0] (x3) slices_S32x24x512_S32x23x512_0_1_0
set_option backward.proofsInPublic true in
abbrev idx_main_v0 (i : S32x23x512.Idx) : S32x24x512.Idx := fun a => match a with
  | ⟨0, _⟩ => ⟨(i 0).val, (i 0).isLt⟩
  | ⟨1, _⟩ => ⟨1 + (i 1).val, by have h1 : (i 1).val < 23 := (i 1).isLt; show 1 + (i 1).val < 24; omega⟩
  | ⟨2, _⟩ => ⟨(i 2).val, (i 2).isLt⟩
theorem val_main_v0_apply (x3 : (⟨S32x24x512, .f32⟩ : BufTy).Contents (Elt F)) (i : S32x23x512.Idx) :
    val_main_v0 (F := F) x3 i = x3 (idx_main_v0 i) := by
  unfold val_main_v0
  exact extractStridedSlice_apply ![0, 1, 0] x3 slices_S32x24x512_S32x23x512_0_1_0 i (idx_main_v0 i) (fun a => match a with
    | ⟨0, _⟩ => by show (i 0).val = 0 + (i 0).val; omega
    | ⟨1, _⟩ => by show 1 + (i 1).val = 1 + (i 1).val; omega
    | ⟨2, _⟩ => by show (i 2).val = 0 + (i 2).val; omega)

def val_main_v1 (x3 : (⟨S32x24x512, .f32⟩ : BufTy).Contents (Elt F)) : (⟨S32x23x4x128, .f32⟩ : BufTy).Contents (Elt F) :=
  shapeCast _ (val_main_v0 (F := F) x3) shapeCasts_S32x23x512_S32x23x4x128
set_option backward.proofsInPublic true in
abbrev idx_main_v1 (i : S32x23x4x128.Idx) : S32x23x512.Idx := fun a => match a with
  | ⟨0, _⟩ => ⟨((((i 0).val * 23 + (i 1).val) * 4 + (i 2).val) * 128 + (i 3).val) / 11776, by have h0 : (i 0).val < 32 := (i 0).isLt; have h1 : (i 1).val < 23 := (i 1).isLt; have h2 : (i 2).val < 4 := (i 2).isLt; have h3 : (i 3).val < 128 := (i 3).isLt; show ((((i 0).val * 23 + (i 1).val) * 4 + (i 2).val) * 128 + (i 3).val) / 11776 < 32; omega⟩
  | ⟨1, _⟩ => ⟨((((i 0).val * 23 + (i 1).val) * 4 + (i 2).val) * 128 + (i 3).val) / 512 % 23, by have h0 : (i 0).val < 32 := (i 0).isLt; have h1 : (i 1).val < 23 := (i 1).isLt; have h2 : (i 2).val < 4 := (i 2).isLt; have h3 : (i 3).val < 128 := (i 3).isLt; show ((((i 0).val * 23 + (i 1).val) * 4 + (i 2).val) * 128 + (i 3).val) / 512 % 23 < 23; omega⟩
  | ⟨2, _⟩ => ⟨((((i 0).val * 23 + (i 1).val) * 4 + (i 2).val) * 128 + (i 3).val) % 512, by have h0 : (i 0).val < 32 := (i 0).isLt; have h1 : (i 1).val < 23 := (i 1).isLt; have h2 : (i 2).val < 4 := (i 2).isLt; have h3 : (i 3).val < 128 := (i 3).isLt; show ((((i 0).val * 23 + (i 1).val) * 4 + (i 2).val) * 128 + (i 3).val) % 512 < 512; omega⟩
theorem val_main_v1_apply (x3 : (⟨S32x24x512, .f32⟩ : BufTy).Contents (Elt F)) (i : S32x23x4x128.Idx) :
    val_main_v1 (F := F) x3 i = val_main_v0 (F := F) x3 (idx_main_v1 i) := by
  unfold val_main_v1
  generalize val_main_v0 (F := F) x3 = y
  exact shapeCast_apply y shapeCasts_S32x23x512_S32x23x4x128 i (idx_main_v1 i)
    (by rewrite [Shape.rowMajor_val_three, Shape.rowMajor_val_four]; have h0 : (i 0).val < 32 := (i 0).isLt; have h1 : (i 1).val < 23 := (i 1).isLt; have h2 : (i 2).val < 4 := (i 2).isLt; have h3 : (i 3).val < 128 := (i 3).isLt; show (((((i 0).val * 23 + (i 1).val) * 4 + (i 2).val) * 128 + (i 3).val) / 11776 * 23 + ((((i 0).val * 23 + (i 1).val) * 4 + (i 2).val) * 128 + (i 3).val) / 512 % 23) * 512 + ((((i 0).val * 23 + (i 1).val) * 4 + (i 2).val) * 128 + (i 3).val) % 512 = (((i 0).val * 23 + (i 1).val) * 4 + (i 2).val) * 128 + (i 3).val; omega)

def val_main_v2 (x3 : (⟨S32x24x512, .f32⟩ : BufTy).Contents (Elt F)) : (⟨S32x23x1x128, .f32⟩ : BufTy).Contents (Elt F) :=
  extractStridedSlice S32x23x1x128 ![0, 0, 0, 0] (val_main_v1 (F := F) x3) slices_S32x23x4x128_S32x23x1x128_0_0_0_0
set_option backward.proofsInPublic true in
abbrev idx_main_v2 (i : S32x23x1x128.Idx) : S32x23x4x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 4; omega⟩
  | ⟨3, _⟩ => ⟨(i 3).val, (i 3).isLt⟩
theorem val_main_v2_apply (x3 : (⟨S32x24x512, .f32⟩ : BufTy).Contents (Elt F)) (i : S32x23x1x128.Idx) :
    val_main_v2 (F := F) x3 i = val_main_v1 (F := F) x3 (idx_main_v2 i) := by
  unfold val_main_v2
  generalize val_main_v1 (F := F) x3 = y
  exact extractStridedSlice_apply ![0, 0, 0, 0] y slices_S32x23x4x128_S32x23x1x128_0_0_0_0 i (idx_main_v2 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v3 (x3 : (⟨S32x24x512, .f32⟩ : BufTy).Contents (Elt F)) : (⟨S32x23x128, .f32⟩ : BufTy).Contents (Elt F) :=
  shapeCast _ (val_main_v2 (F := F) x3) shapeCasts_S32x23x1x128_S32x23x128
set_option backward.proofsInPublic true in
abbrev idx_main_v3 (i : S32x23x128.Idx) : S32x23x1x128.Idx := fun a => match a with
  | ⟨0, _⟩ => ⟨(((i 0).val * 23 + (i 1).val) * 128 + (i 2).val) / 2944, by have h0 : (i 0).val < 32 := (i 0).isLt; have h1 : (i 1).val < 23 := (i 1).isLt; have h2 : (i 2).val < 128 := (i 2).isLt; show (((i 0).val * 23 + (i 1).val) * 128 + (i 2).val) / 2944 < 32; omega⟩
  | ⟨1, _⟩ => ⟨(((i 0).val * 23 + (i 1).val) * 128 + (i 2).val) / 128 % 23, by have h0 : (i 0).val < 32 := (i 0).isLt; have h1 : (i 1).val < 23 := (i 1).isLt; have h2 : (i 2).val < 128 := (i 2).isLt; show (((i 0).val * 23 + (i 1).val) * 128 + (i 2).val) / 128 % 23 < 23; omega⟩
  | ⟨2, _⟩ => ⟨0, Nat.one_pos⟩
  | ⟨3, _⟩ => ⟨(((i 0).val * 23 + (i 1).val) * 128 + (i 2).val) % 128, by have h0 : (i 0).val < 32 := (i 0).isLt; have h1 : (i 1).val < 23 := (i 1).isLt; have h2 : (i 2).val < 128 := (i 2).isLt; show (((i 0).val * 23 + (i 1).val) * 128 + (i 2).val) % 128 < 128; omega⟩
theorem val_main_v3_apply (x3 : (⟨S32x24x512, .f32⟩ : BufTy).Contents (Elt F)) (i : S32x23x128.Idx) :
    val_main_v3 (F := F) x3 i = val_main_v2 (F := F) x3 (idx_main_v3 i) := by
  unfold val_main_v3
  generalize val_main_v2 (F := F) x3 = y
  exact shapeCast_apply y shapeCasts_S32x23x1x128_S32x23x128 i (idx_main_v3 i)
    (by rewrite [Shape.rowMajor_val_four, Shape.rowMajor_val_three]; have h0 : (i 0).val < 32 := (i 0).isLt; have h1 : (i 1).val < 23 := (i 1).isLt; have h2 : (i 2).val < 128 := (i 2).isLt; show (((((i 0).val * 23 + (i 1).val) * 128 + (i 2).val) / 2944 * 23 + (((i 0).val * 23 + (i 1).val) * 128 + (i 2).val) / 128 % 23) * 1 + 0) * 128 + (((i 0).val * 23 + (i 1).val) * 128 + (i 2).val) % 128 = ((i 0).val * 23 + (i 1).val) * 128 + (i 2).val; omega)

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v4 : (⟨S_, .f32⟩ : BufTy).Contents (Elt F) :=
  broadcastInDim S_ ![] bcast_S_S_ (val_main_cst (F := F))
abbrev idx_main_v4 (i : S_.Idx) : S_.Idx := fun a => a.elim0
theorem val_main_v4_apply (i : S_.Idx) :
    val_main_v4 (F := F) i = val_main_cst (F := F) (idx_main_v4 i) := by
  unfold val_main_v4
  generalize val_main_cst (F := F) = y
  exact broadcastInDim_apply _ bcast_S_S_ y i (idx_main_v4 i) (fun a => a.elim0)

def val_main_v5 (x3 : (⟨S32x24x512, .f32⟩ : BufTy).Contents (Elt F)) : (⟨S32x23x128, .f32⟩ : BufTy).Contents (Elt F) :=
  Host.reduceWindowAdd ![1, 2, 1] ![1, 1, 1] ![0, 1, 0] ![0, 0, 0] (val_main_v3 (F := F) x3) (val_main_v4 (F := F)) reduceWindows_S32x23x128_S32x23x128_w1s1p0_0_w2s1p1_0_w1s1p0_0 h_S_

def val_main_v6 (x3 : (⟨S32x24x512, .f32⟩ : BufTy).Contents (Elt F)) : (⟨S32x8x128, .f32⟩ : BufTy).Contents (Elt F) :=
  extractStridedSlice S32x8x128 ![0, 15, 0] (val_main_v5 (F := F) x3) slices_S32x23x128_S32x8x128_0_15_0
set_option backward.proofsInPublic true in
abbrev idx_main_v6 (i : S32x8x128.Idx) : S32x23x128.Idx := fun a => match a with
  | ⟨0, _⟩ => ⟨(i 0).val, (i 0).isLt⟩
  | ⟨1, _⟩ => ⟨15 + (i 1).val, by have h1 : (i 1).val < 8 := (i 1).isLt; show 15 + (i 1).val < 23; omega⟩
  | ⟨2, _⟩ => ⟨(i 2).val, (i 2).isLt⟩
theorem val_main_v6_apply (x3 : (⟨S32x24x512, .f32⟩ : BufTy).Contents (Elt F)) (i : S32x8x128.Idx) :
    val_main_v6 (F := F) x3 i = val_main_v5 (F := F) x3 (idx_main_v6 i) := by
  unfold val_main_v6
  generalize val_main_v5 (F := F) x3 = y
  exact extractStridedSlice_apply ![0, 15, 0] y slices_S32x23x128_S32x8x128_0_15_0 i (idx_main_v6 i) (fun a => match a with
    | ⟨0, _⟩ => by show (i 0).val = 0 + (i 0).val; omega
    | ⟨1, _⟩ => by show 15 + (i 1).val = 15 + (i 1).val; omega
    | ⟨2, _⟩ => by show (i 2).val = 0 + (i 2).val; omega)

def val_main_cst_0 : (⟨S_, .f32⟩ : BufTy).Contents (Elt F) :=
  constant S_ .f32 0x40000000#32
theorem val_main_cst_0_apply (i : S_.Idx) :
    val_main_cst_0 (F := F) i = FloatOps.ofBits .f32 0x40000000#32 := rfl

def val_main_v7 : (⟨S32x8x128, .f32⟩ : BufTy).Contents (Elt F) :=
  broadcastInDim S32x8x128 ![] bcast_S_S32x8x128 (val_main_cst_0 (F := F))
abbrev idx_main_v7 (i : S32x8x128.Idx) : S_.Idx := fun a => a.elim0
theorem val_main_v7_apply (i : S32x8x128.Idx) :
    val_main_v7 (F := F) i = val_main_cst_0 (F := F) (idx_main_v7 i) := by
  unfold val_main_v7
  generalize val_main_cst_0 (F := F) = y
  exact broadcastInDim_apply _ bcast_S_S32x8x128 y i (idx_main_v7 i) (fun a => a.elim0)

def val_main_v8 (x3 : (⟨S32x24x512, .f32⟩ : BufTy).Contents (Elt F)) : (⟨S32x8x128, .f32⟩ : BufTy).Contents (Elt F) :=
  Host.divf (val_main_v6 (F := F) x3) (val_main_v7 (F := F))
theorem val_main_v8_apply (x3 : (⟨S32x24x512, .f32⟩ : BufTy).Contents (Elt F)) (i : S32x8x128.Idx) :
    val_main_v8 (F := F) x3 i = FloatOps.hostDivf (val_main_v6 (F := F) x3 i) (val_main_v7 (F := F) i) := rfl

def val_main_v9 (x3 : (⟨S32x24x512, .f32⟩ : BufTy).Contents (Elt F)) : (⟨S32x8x1x128, .f32⟩ : BufTy).Contents (Elt F) :=
  extractStridedSlice S32x8x1x128 ![0, 15, 0, 0] (val_main_v1 (F := F) x3) slices_S32x23x4x128_S32x8x1x128_0_15_0_0
set_option backward.proofsInPublic true in
abbrev idx_main_v9 (i : S32x8x1x128.Idx) : S32x23x4x128.Idx := fun a => match a with
  | ⟨0, _⟩ => ⟨(i 0).val, (i 0).isLt⟩
  | ⟨1, _⟩ => ⟨15 + (i 1).val, by have h1 : (i 1).val < 8 := (i 1).isLt; show 15 + (i 1).val < 23; omega⟩
  | ⟨2, _⟩ => ⟨(i 2).val, by have h2 : (i 2).val < 1 := (i 2).isLt; show (i 2).val < 4; omega⟩
  | ⟨3, _⟩ => ⟨(i 3).val, (i 3).isLt⟩
theorem val_main_v9_apply (x3 : (⟨S32x24x512, .f32⟩ : BufTy).Contents (Elt F)) (i : S32x8x1x128.Idx) :
    val_main_v9 (F := F) x3 i = val_main_v1 (F := F) x3 (idx_main_v9 i) := by
  unfold val_main_v9
  generalize val_main_v1 (F := F) x3 = y
  exact extractStridedSlice_apply ![0, 15, 0, 0] y slices_S32x23x4x128_S32x8x1x128_0_15_0_0 i (idx_main_v9 i) (fun a => match a with
    | ⟨0, _⟩ => by show (i 0).val = 0 + (i 0).val; omega
    | ⟨1, _⟩ => by show 15 + (i 1).val = 15 + (i 1).val; omega
    | ⟨2, _⟩ => by show (i 2).val = 0 + (i 2).val; omega
    | ⟨3, _⟩ => by show (i 3).val = 0 + (i 3).val; omega)

def val_main_v10 (x3 : (⟨S32x24x512, .f32⟩ : BufTy).Contents (Elt F)) : (⟨S32x8x128, .f32⟩ : BufTy).Contents (Elt F) :=
  shapeCast _ (val_main_v9 (F := F) x3) shapeCasts_S32x8x1x128_S32x8x128
set_option backward.proofsInPublic true in
abbrev idx_main_v10 (i : S32x8x128.Idx) : S32x8x1x128.Idx := fun a => match a with
  | ⟨0, _⟩ => ⟨(((i 0).val * 8 + (i 1).val) * 128 + (i 2).val) / 1024, by have h0 : (i 0).val < 32 := (i 0).isLt; have h1 : (i 1).val < 8 := (i 1).isLt; have h2 : (i 2).val < 128 := (i 2).isLt; show (((i 0).val * 8 + (i 1).val) * 128 + (i 2).val) / 1024 < 32; omega⟩
  | ⟨1, _⟩ => ⟨(((i 0).val * 8 + (i 1).val) * 128 + (i 2).val) / 128 % 8, by have h0 : (i 0).val < 32 := (i 0).isLt; have h1 : (i 1).val < 8 := (i 1).isLt; have h2 : (i 2).val < 128 := (i 2).isLt; show (((i 0).val * 8 + (i 1).val) * 128 + (i 2).val) / 128 % 8 < 8; omega⟩
  | ⟨2, _⟩ => ⟨0, Nat.one_pos⟩
  | ⟨3, _⟩ => ⟨(((i 0).val * 8 + (i 1).val) * 128 + (i 2).val) % 128, by have h0 : (i 0).val < 32 := (i 0).isLt; have h1 : (i 1).val < 8 := (i 1).isLt; have h2 : (i 2).val < 128 := (i 2).isLt; show (((i 0).val * 8 + (i 1).val) * 128 + (i 2).val) % 128 < 128; omega⟩
theorem val_main_v10_apply (x3 : (⟨S32x24x512, .f32⟩ : BufTy).Contents (Elt F)) (i : S32x8x128.Idx) :
    val_main_v10 (F := F) x3 i = val_main_v9 (F := F) x3 (idx_main_v10 i) := by
  unfold val_main_v10
  generalize val_main_v9 (F := F) x3 = y
  exact shapeCast_apply y shapeCasts_S32x8x1x128_S32x8x128 i (idx_main_v10 i)
    (by rewrite [Shape.rowMajor_val_four, Shape.rowMajor_val_three]; have h0 : (i 0).val < 32 := (i 0).isLt; have h1 : (i 1).val < 8 := (i 1).isLt; have h2 : (i 2).val < 128 := (i 2).isLt; show (((((i 0).val * 8 + (i 1).val) * 128 + (i 2).val) / 1024 * 8 + (((i 0).val * 8 + (i 1).val) * 128 + (i 2).val) / 128 % 8) * 1 + 0) * 128 + (((i 0).val * 8 + (i 1).val) * 128 + (i 2).val) % 128 = ((i 0).val * 8 + (i 1).val) * 128 + (i 2).val; omega)

def val_main_v11 (x3 : (⟨S32x24x512, .f32⟩ : BufTy).Contents (Elt F)) : (⟨S32x8x128, .f32⟩ : BufTy).Contents (Elt F) :=
  subf (val_main_v8 (F := F) x3) (val_main_v10 (F := F) x3)
theorem val_main_v11_apply (x3 : (⟨S32x24x512, .f32⟩ : BufTy).Contents (Elt F)) (i : S32x8x128.Idx) :
    val_main_v11 (F := F) x3 i = FloatOps.subf (val_main_v8 (F := F) x3 i) (val_main_v10 (F := F) x3 i) := rfl

def val_main_v12 (x3 : (⟨S32x24x512, .f32⟩ : BufTy).Contents (Elt F)) : (⟨S256x128, .f32⟩ : BufTy).Contents (Elt F) :=
  shapeCast _ (val_main_v11 (F := F) x3) shapeCasts_S32x8x128_S256x128
set_option backward.proofsInPublic true in
abbrev idx_main_v12 (i : S256x128.Idx) : S32x8x128.Idx := fun a => match a with
  | ⟨0, _⟩ => ⟨((i 0).val * 128 + (i 1).val) / 1024, by have h0 : (i 0).val < 256 := (i 0).isLt; have h1 : (i 1).val < 128 := (i 1).isLt; show ((i 0).val * 128 + (i 1).val) / 1024 < 32; omega⟩
  | ⟨1, _⟩ => ⟨((i 0).val * 128 + (i 1).val) / 128 % 8, by have h0 : (i 0).val < 256 := (i 0).isLt; have h1 : (i 1).val < 128 := (i 1).isLt; show ((i 0).val * 128 + (i 1).val) / 128 % 8 < 8; omega⟩
  | ⟨2, _⟩ => ⟨((i 0).val * 128 + (i 1).val) % 128, by have h0 : (i 0).val < 256 := (i 0).isLt; have h1 : (i 1).val < 128 := (i 1).isLt; show ((i 0).val * 128 + (i 1).val) % 128 < 128; omega⟩
theorem val_main_v12_apply (x3 : (⟨S32x24x512, .f32⟩ : BufTy).Contents (Elt F)) (i : S256x128.Idx) :
    val_main_v12 (F := F) x3 i = val_main_v11 (F := F) x3 (idx_main_v12 i) := by
  unfold val_main_v12
  generalize val_main_v11 (F := F) x3 = y
  exact shapeCast_apply y shapeCasts_S32x8x128_S256x128 i (idx_main_v12 i)
    (by rewrite [Shape.rowMajor_val_three, Shape.rowMajor_val_two]; have h0 : (i 0).val < 256 := (i 0).isLt; have h1 : (i 1).val < 128 := (i 1).isLt; show (((i 0).val * 128 + (i 1).val) / 1024 * 8 + ((i 0).val * 128 + (i 1).val) / 128 % 8) * 128 + ((i 0).val * 128 + (i 1).val) % 128 = (i 0).val * 128 + (i 1).val; omega)

def val_main_v13 (x4 : (⟨S4x128x128, .bf16⟩ : BufTy).Contents (Elt F)) : (⟨S1x128x128, .bf16⟩ : BufTy).Contents (Elt F) :=
  extractStridedSlice S1x128x128 ![0, 0, 0] (x4) slices_S4x128x128_S1x128x128_0_0_0
set_option backward.proofsInPublic true in
abbrev idx_main_v13 (i : S1x128x128.Idx) : S4x128x128.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩
theorem val_main_v13_apply (x4 : (⟨S4x128x128, .bf16⟩ : BufTy).Contents (Elt F)) (i : S1x128x128.Idx) :
    val_main_v13 (F := F) x4 i = x4 (idx_main_v13 i) := by
  unfold val_main_v13
  exact extractStridedSlice_apply ![0, 0, 0] x4 slices_S4x128x128_S1x128x128_0_0_0 i (idx_main_v13 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v14 (x4 : (⟨S4x128x128, .bf16⟩ : BufTy).Contents (Elt F)) : (⟨S128x128, .bf16⟩ : BufTy).Contents (Elt F) :=
  shapeCast _ (val_main_v13 (F := F) x4) shapeCasts_S1x128x128_S128x128
set_option backward.proofsInPublic true in
abbrev idx_main_v14 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v14_apply (x4 : (⟨S4x128x128, .bf16⟩ : BufTy).Contents (Elt F)) (i : S128x128.Idx) :
    val_main_v14 (F := F) x4 i = val_main_v13 (F := F) x4 (idx_main_v14 i) := by
  unfold val_main_v14
  generalize val_main_v13 (F := F) x4 = y
  exact shapeCast_apply y shapeCasts_S1x128x128_S128x128 i (idx_main_v14 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

def val_main_v15 (x4 : (⟨S4x128x128, .bf16⟩ : BufTy).Contents (Elt F)) : (⟨S128x128, .f32⟩ : BufTy).Contents (Elt F) :=
  extf .f32 (val_main_v14 (F := F) x4) bitsLt_bf16_f32
theorem val_main_v15_apply (x4 : (⟨S4x128x128, .bf16⟩ : BufTy).Contents (Elt F)) (i : S128x128.Idx) :
    val_main_v15 (F := F) x4 i = FloatOps.extf .f32 bitsLt_bf16_f32 (val_main_v14 (F := F) x4 i) := rfl

def val_main_v16 (x3 : (⟨S32x24x512, .f32⟩ : BufTy).Contents (Elt F)) (x4 : (⟨S4x128x128, .bf16⟩ : BufTy).Contents (Elt F)) : (⟨S256x128, .f32⟩ : BufTy).Contents (Elt F) :=
  Host.dotGeneral dot_S256x128_S128x128_S256x128_1_0_0_1_n_n none (val_main_v12 (F := F) x3) (val_main_v15 (F := F) x4)
theorem lhs_main_v16_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs_main_v16_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem rhs_main_v16_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem rhs_main_v16_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl
abbrev lidx_main_v16 (i : S256x128.Idx) (k : Fin 128) : S256x128.Idx := fun a => match a with
  | ⟨0, _⟩ => ⟨(i 0).val, (i 0).isLt⟩
  | ⟨1, _⟩ => ⟨k.val, k.isLt⟩
abbrev ridx_main_v16 (i : S256x128.Idx) (k : Fin 128) : S128x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v16_apply (x3 : (⟨S32x24x512, .f32⟩ : BufTy).Contents (Elt Ideal)) (x4 : (⟨S4x128x128, .bf16⟩ : BufTy).Contents (Elt Ideal)) (i : S256x128.Idx) :
    val_main_v16 (F := Ideal) x3 x4 i = ∑ k : Fin 128, (val_main_v12 (F := Ideal) x3) (lidx_main_v16 i k) * (val_main_v15 (F := Ideal) x4) (ridx_main_v16 i k) := by
  unfold val_main_v16
  generalize val_main_v12 (F := Ideal) x3 = y0
  generalize val_main_v15 (F := Ideal) x4 = y1
  simp only [Host.dotGeneral]
  rw [Ideal.dotGeneral_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx i ((ValueIdx.contrEquiv1 dot_S256x128_S128x128_S256x128_1_0_0_1_n_n 128 rfl rfl).symm k) = lidx_main_v16 i k := funext fun a => Fin.ext (by
    match a with
    | ⟨0, _⟩ => exact lhs_main_v16_0 _ _
    | ⟨1, _⟩ => exact (lhs_main_v16_1 _ _).trans hk)
  have er : dot_S256x128_S128x128_S256x128_1_0_0_1_n_n.rhsIdx i ((ValueIdx.contrEquiv1 dot_S256x128_S128x128_S256x128_1_0_0_1_n_n 128 rfl rfl).symm k) = ridx_main_v16 i k := funext fun a => Fin.ext (by
    match a with
    | ⟨0, _⟩ => exact (rhs_main_v16_0 _ _).trans hk
    | ⟨1, _⟩ => exact rhs_main_v16_1 _ _)
  rw [el, er]

def val_main_v17 (x3 : (⟨S32x24x512, .f32⟩ : BufTy).Contents (Elt F)) : (⟨S32x23x1x128, .f32⟩ : BufTy).Contents (Elt F) :=
  extractStridedSlice S32x23x1x128 ![0, 0, 1, 0] (val_main_v1 (F := F) x3) slices_S32x23x4x128_S32x23x1x128_0_0_1_0
set_option backward.proofsInPublic true in
abbrev idx_main_v17 (i : S32x23x1x128.Idx) : S32x23x4x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 4; omega⟩
  | ⟨3, _⟩ => ⟨(i 3).val, (i 3).isLt⟩
theorem val_main_v17_apply (x3 : (⟨S32x24x512, .f32⟩ : BufTy).Contents (Elt F)) (i : S32x23x1x128.Idx) :
    val_main_v17 (F := F) x3 i = val_main_v1 (F := F) x3 (idx_main_v17 i) := by
  unfold val_main_v17
  generalize val_main_v1 (F := F) x3 = y
  exact extractStridedSlice_apply ![0, 0, 1, 0] y slices_S32x23x4x128_S32x23x1x128_0_0_1_0 i (idx_main_v17 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v18 (x3 : (⟨S32x24x512, .f32⟩ : BufTy).Contents (Elt F)) : (⟨S32x23x128, .f32⟩ : BufTy).Contents (Elt F) :=
  shapeCast _ (val_main_v17 (F := F) x3) shapeCasts_S32x23x1x128_S32x23x128
set_option backward.proofsInPublic true in
abbrev idx_main_v18 (i : S32x23x128.Idx) : S32x23x1x128.Idx := fun a => match a with
  | ⟨0, _⟩ => ⟨(((i 0).val * 23 + (i 1).val) * 128 + (i 2).val) / 2944, by have h0 : (i 0).val < 32 := (i 0).isLt; have h1 : (i 1).val < 23 := (i 1).isLt; have h2 : (i 2).val < 128 := (i 2).isLt; show (((i 0).val * 23 + (i 1).val) * 128 + (i 2).val) / 2944 < 32; omega⟩
  | ⟨1, _⟩ => ⟨(((i 0).val * 23 + (i 1).val) * 128 + (i 2).val) / 128 % 23, by have h0 : (i 0).val < 32 := (i 0).isLt; have h1 : (i 1).val < 23 := (i 1).isLt; have h2 : (i 2).val < 128 := (i 2).isLt; show (((i 0).val * 23 + (i 1).val) * 128 + (i 2).val) / 128 % 23 < 23; omega⟩
  | ⟨2, _⟩ => ⟨0, Nat.one_pos⟩
  | ⟨3, _⟩ => ⟨(((i 0).val * 23 + (i 1).val) * 128 + (i 2).val) % 128, by have h0 : (i 0).val < 32 := (i 0).isLt; have h1 : (i 1).val < 23 := (i 1).isLt; have h2 : (i 2).val < 128 := (i 2).isLt; show (((i 0).val * 23 + (i 1).val) * 128 + (i 2).val) % 128 < 128; omega⟩
theorem val_main_v18_apply (x3 : (⟨S32x24x512, .f32⟩ : BufTy).Contents (Elt F)) (i : S32x23x128.Idx) :
    val_main_v18 (F := F) x3 i = val_main_v17 (F := F) x3 (idx_main_v18 i) := by
  unfold val_main_v18
  generalize val_main_v17 (F := F) x3 = y
  exact shapeCast_apply y shapeCasts_S32x23x1x128_S32x23x128 i (idx_main_v18 i)
    (by rewrite [Shape.rowMajor_val_four, Shape.rowMajor_val_three]; have h0 : (i 0).val < 32 := (i 0).isLt; have h1 : (i 1).val < 23 := (i 1).isLt; have h2 : (i 2).val < 128 := (i 2).isLt; show (((((i 0).val * 23 + (i 1).val) * 128 + (i 2).val) / 2944 * 23 + (((i 0).val * 23 + (i 1).val) * 128 + (i 2).val) / 128 % 23) * 1 + 0) * 128 + (((i 0).val * 23 + (i 1).val) * 128 + (i 2).val) % 128 = ((i 0).val * 23 + (i 1).val) * 128 + (i 2).val; omega)

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v19 : (⟨S_, .f32⟩ : BufTy).Contents (Elt F) :=
  broadcastInDim S_ ![] bcast_S_S_ (val_main_cst_1 (F := F))
abbrev idx_main_v19 (i : S_.Idx) : S_.Idx := fun a => a.elim0
theorem val_main_v19_apply (i : S_.Idx) :
    val_main_v19 (F := F) i = val_main_cst_1 (F := F) (idx_main_v19 i) := by
  unfold val_main_v19
  generalize val_main_cst_1 (F := F) = y
  exact broadcastInDim_apply _ bcast_S_S_ y i (idx_main_v19 i) (fun a => a.elim0)

def val_main_v20 (x3 : (⟨S32x24x512, .f32⟩ : BufTy).Contents (Elt F)) : (⟨S32x23x128, .f32⟩ : BufTy).Contents (Elt F) :=
  Host.reduceWindowAdd ![1, 4, 1] ![1, 1, 1] ![0, 3, 0] ![0, 0, 0] (val_main_v18 (F := F) x3) (val_main_v19 (F := F)) reduceWindows_S32x23x128_S32x23x128_w1s1p0_0_w4s1p3_0_w1s1p0_0 h_S_

def val_main_v21 (x3 : (⟨S32x24x512, .f32⟩ : BufTy).Contents (Elt F)) : (⟨S32x8x128, .f32⟩ : BufTy).Contents (Elt F) :=
  extractStridedSlice S32x8x128 ![0, 15, 0] (val_main_v20 (F := F) x3) slices_S32x23x128_S32x8x128_0_15_0
set_option backward.proofsInPublic true in
abbrev idx_main_v21 (i : S32x8x128.Idx) : S32x23x128.Idx := fun a => match a with
  | ⟨0, _⟩ => ⟨(i 0).val, (i 0).isLt⟩
  | ⟨1, _⟩ => ⟨15 + (i 1).val, by have h1 : (i 1).val < 8 := (i 1).isLt; show 15 + (i 1).val < 23; omega⟩
  | ⟨2, _⟩ => ⟨(i 2).val, (i 2).isLt⟩
theorem val_main_v21_apply (x3 : (⟨S32x24x512, .f32⟩ : BufTy).Contents (Elt F)) (i : S32x8x128.Idx) :
    val_main_v21 (F := F) x3 i = val_main_v20 (F := F) x3 (idx_main_v21 i) := by
  unfold val_main_v21
  generalize val_main_v20 (F := F) x3 = y
  exact extractStridedSlice_apply ![0, 15, 0] y slices_S32x23x128_S32x8x128_0_15_0 i (idx_main_v21 i) (fun a => match a with
    | ⟨0, _⟩ => by show (i 0).val = 0 + (i 0).val; omega
    | ⟨1, _⟩ => by show 15 + (i 1).val = 15 + (i 1).val; omega
    | ⟨2, _⟩ => by show (i 2).val = 0 + (i 2).val; omega)

def val_main_cst_2 : (⟨S_, .f32⟩ : BufTy).Contents (Elt F) :=
  constant S_ .f32 0x40800000#32
theorem val_main_cst_2_apply (i : S_.Idx) :
    val_main_cst_2 (F := F) i = FloatOps.ofBits .f32 0x40800000#32 := rfl

def val_main_v22 : (⟨S32x8x128, .f32⟩ : BufTy).Contents (Elt F) :=
  broadcastInDim S32x8x128 ![] bcast_S_S32x8x128 (val_main_cst_2 (F := F))
abbrev idx_main_v22 (i : S32x8x128.Idx) : S_.Idx := fun a => a.elim0
theorem val_main_v22_apply (i : S32x8x128.Idx) :
    val_main_v22 (F := F) i = val_main_cst_2 (F := F) (idx_main_v22 i) := by
  unfold val_main_v22
  generalize val_main_cst_2 (F := F) = y
  exact broadcastInDim_apply _ bcast_S_S32x8x128 y i (idx_main_v22 i) (fun a => a.elim0)

def val_main_v23 (x3 : (⟨S32x24x512, .f32⟩ : BufTy).Contents (Elt F)) : (⟨S32x8x128, .f32⟩ : BufTy).Contents (Elt F) :=
  Host.divf (val_main_v21 (F := F) x3) (val_main_v22 (F := F))
theorem val_main_v23_apply (x3 : (⟨S32x24x512, .f32⟩ : BufTy).Contents (Elt F)) (i : S32x8x128.Idx) :
    val_main_v23 (F := F) x3 i = FloatOps.hostDivf (val_main_v21 (F := F) x3 i) (val_main_v22 (F := F) i) := rfl

def val_main_v24 (x3 : (⟨S32x24x512, .f32⟩ : BufTy).Contents (Elt F)) : (⟨S32x8x1x128, .f32⟩ : BufTy).Contents (Elt F) :=
  extractStridedSlice S32x8x1x128 ![0, 15, 1, 0] (val_main_v1 (F := F) x3) slices_S32x23x4x128_S32x8x1x128_0_15_1_0
set_option backward.proofsInPublic true in
abbrev idx_main_v24 (i : S32x8x1x128.Idx) : S32x23x4x128.Idx := fun a => match a with
  | ⟨0, _⟩ => ⟨(i 0).val, (i 0).isLt⟩
  | ⟨1, _⟩ => ⟨15 + (i 1).val, by have h1 : (i 1).val < 8 := (i 1).isLt; show 15 + (i 1).val < 23; omega⟩
  | ⟨2, _⟩ => ⟨1 + (i 2).val, by have h2 : (i 2).val < 1 := (i 2).isLt; show 1 + (i 2).val < 4; omega⟩
  | ⟨3, _⟩ => ⟨(i 3).val, (i 3).isLt⟩
theorem val_main_v24_apply (x3 : (⟨S32x24x512, .f32⟩ : BufTy).Contents (Elt F)) (i : S32x8x1x128.Idx) :
    val_main_v24 (F := F) x3 i = val_main_v1 (F := F) x3 (idx_main_v24 i) := by
  unfold val_main_v24
  generalize val_main_v1 (F := F) x3 = y
  exact extractStridedSlice_apply ![0, 15, 1, 0] y slices_S32x23x4x128_S32x8x1x128_0_15_1_0 i (idx_main_v24 i) (fun a => match a with
    | ⟨0, _⟩ => by show (i 0).val = 0 + (i 0).val; omega
    | ⟨1, _⟩ => by show 15 + (i 1).val = 15 + (i 1).val; omega
    | ⟨2, _⟩ => by show 1 + (i 2).val = 1 + (i 2).val; omega
    | ⟨3, _⟩ => by show (i 3).val = 0 + (i 3).val; omega)

def val_main_v25 (x3 : (⟨S32x24x512, .f32⟩ : BufTy).Contents (Elt F)) : (⟨S32x8x128, .f32⟩ : BufTy).Contents (Elt F) :=
  shapeCast _ (val_main_v24 (F := F) x3) shapeCasts_S32x8x1x128_S32x8x128
set_option backward.proofsInPublic true in
abbrev idx_main_v25 (i : S32x8x128.Idx) : S32x8x1x128.Idx := fun a => match a with
  | ⟨0, _⟩ => ⟨(((i 0).val * 8 + (i 1).val) * 128 + (i 2).val) / 1024, by have h0 : (i 0).val < 32 := (i 0).isLt; have h1 : (i 1).val < 8 := (i 1).isLt; have h2 : (i 2).val < 128 := (i 2).isLt; show (((i 0).val * 8 + (i 1).val) * 128 + (i 2).val) / 1024 < 32; omega⟩
  | ⟨1, _⟩ => ⟨(((i 0).val * 8 + (i 1).val) * 128 + (i 2).val) / 128 % 8, by have h0 : (i 0).val < 32 := (i 0).isLt; have h1 : (i 1).val < 8 := (i 1).isLt; have h2 : (i 2).val < 128 := (i 2).isLt; show (((i 0).val * 8 + (i 1).val) * 128 + (i 2).val) / 128 % 8 < 8; omega⟩
  | ⟨2, _⟩ => ⟨0, Nat.one_pos⟩
  | ⟨3, _⟩ => ⟨(((i 0).val * 8 + (i 1).val) * 128 + (i 2).val) % 128, by have h0 : (i 0).val < 32 := (i 0).isLt; have h1 : (i 1).val < 8 := (i 1).isLt; have h2 : (i 2).val < 128 := (i 2).isLt; show (((i 0).val * 8 + (i 1).val) * 128 + (i 2).val) % 128 < 128; omega⟩
theorem val_main_v25_apply (x3 : (⟨S32x24x512, .f32⟩ : BufTy).Contents (Elt F)) (i : S32x8x128.Idx) :
    val_main_v25 (F := F) x3 i = val_main_v24 (F := F) x3 (idx_main_v25 i) := by
  unfold val_main_v25
  generalize val_main_v24 (F := F) x3 = y
  exact shapeCast_apply y shapeCasts_S32x8x1x128_S32x8x128 i (idx_main_v25 i)
    (by rewrite [Shape.rowMajor_val_four, Shape.rowMajor_val_three]; have h0 : (i 0).val < 32 := (i 0).isLt; have h1 : (i 1).val < 8 := (i 1).isLt; have h2 : (i 2).val < 128 := (i 2).isLt; show (((((i 0).val * 8 + (i 1).val) * 128 + (i 2).val) / 1024 * 8 + (((i 0).val * 8 + (i 1).val) * 128 + (i 2).val) / 128 % 8) * 1 + 0) * 128 + (((i 0).val * 8 + (i 1).val) * 128 + (i 2).val) % 128 = ((i 0).val * 8 + (i 1).val) * 128 + (i 2).val; omega)

def val_main_v26 (x3 : (⟨S32x24x512, .f32⟩ : BufTy).Contents (Elt F)) : (⟨S32x8x128, .f32⟩ : BufTy).Contents (Elt F) :=
  subf (val_main_v23 (F := F) x3) (val_main_v25 (F := F) x3)
theorem val_main_v26_apply (x3 : (⟨S32x24x512, .f32⟩ : BufTy).Contents (Elt F)) (i : S32x8x128.Idx) :
    val_main_v26 (F := F) x3 i = FloatOps.subf (val_main_v23 (F := F) x3 i) (val_main_v25 (F := F) x3 i) := rfl

def val_main_v27 (x3 : (⟨S32x24x512, .f32⟩ : BufTy).Contents (Elt F)) : (⟨S256x128, .f32⟩ : BufTy).Contents (Elt F) :=
  shapeCast _ (val_main_v26 (F := F) x3) shapeCasts_S32x8x128_S256x128
set_option backward.proofsInPublic true in
abbrev idx_main_v27 (i : S256x128.Idx) : S32x8x128.Idx := fun a => match a with
  | ⟨0, _⟩ => ⟨((i 0).val * 128 + (i 1).val) / 1024, by have h0 : (i 0).val < 256 := (i 0).isLt; have h1 : (i 1).val < 128 := (i 1).isLt; show ((i 0).val * 128 + (i 1).val) / 1024 < 32; omega⟩
  | ⟨1, _⟩ => ⟨((i 0).val * 128 + (i 1).val) / 128 % 8, by have h0 : (i 0).val < 256 := (i 0).isLt; have h1 : (i 1).val < 128 := (i 1).isLt; show ((i 0).val * 128 + (i 1).val) / 128 % 8 < 8; omega⟩
  | ⟨2, _⟩ => ⟨((i 0).val * 128 + (i 1).val) % 128, by have h0 : (i 0).val < 256 := (i 0).isLt; have h1 : (i 1).val < 128 := (i 1).isLt; show ((i 0).val * 128 + (i 1).val) % 128 < 128; omega⟩
theorem val_main_v27_apply (x3 : (⟨S32x24x512, .f32⟩ : BufTy).Contents (Elt F)) (i : S256x128.Idx) :
    val_main_v27 (F := F) x3 i = val_main_v26 (F := F) x3 (idx_main_v27 i) := by
  unfold val_main_v27
  generalize val_main_v26 (F := F) x3 = y
  exact shapeCast_apply y shapeCasts_S32x8x128_S256x128 i (idx_main_v27 i)
    (by rewrite [Shape.rowMajor_val_three, Shape.rowMajor_val_two]; have h0 : (i 0).val < 256 := (i 0).isLt; have h1 : (i 1).val < 128 := (i 1).isLt; show (((i 0).val * 128 + (i 1).val) / 1024 * 8 + ((i 0).val * 128 + (i 1).val) / 128 % 8) * 128 + ((i 0).val * 128 + (i 1).val) % 128 = (i 0).val * 128 + (i 1).val; omega)

def val_main_v28 (x4 : (⟨S4x128x128, .bf16⟩ : BufTy).Contents (Elt F)) : (⟨S1x128x128, .bf16⟩ : BufTy).Contents (Elt F) :=
  extractStridedSlice S1x128x128 ![1, 0, 0] (x4) slices_S4x128x128_S1x128x128_1_0_0
set_option backward.proofsInPublic true in
abbrev idx_main_v28 (i : S1x128x128.Idx) : S4x128x128.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩
theorem val_main_v28_apply (x4 : (⟨S4x128x128, .bf16⟩ : BufTy).Contents (Elt F)) (i : S1x128x128.Idx) :
    val_main_v28 (F := F) x4 i = x4 (idx_main_v28 i) := by
  unfold val_main_v28
  exact extractStridedSlice_apply ![1, 0, 0] x4 slices_S4x128x128_S1x128x128_1_0_0 i (idx_main_v28 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v29 (x4 : (⟨S4x128x128, .bf16⟩ : BufTy).Contents (Elt F)) : (⟨S128x128, .bf16⟩ : BufTy).Contents (Elt F) :=
  shapeCast _ (val_main_v28 (F := F) x4) shapeCasts_S1x128x128_S128x128
set_option backward.proofsInPublic true in
abbrev idx_main_v29 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v29_apply (x4 : (⟨S4x128x128, .bf16⟩ : BufTy).Contents (Elt F)) (i : S128x128.Idx) :
    val_main_v29 (F := F) x4 i = val_main_v28 (F := F) x4 (idx_main_v29 i) := by
  unfold val_main_v29
  generalize val_main_v28 (F := F) x4 = y
  exact shapeCast_apply y shapeCasts_S1x128x128_S128x128 i (idx_main_v29 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

def val_main_v30 (x4 : (⟨S4x128x128, .bf16⟩ : BufTy).Contents (Elt F)) : (⟨S128x128, .f32⟩ : BufTy).Contents (Elt F) :=
  extf .f32 (val_main_v29 (F := F) x4) bitsLt_bf16_f32
theorem val_main_v30_apply (x4 : (⟨S4x128x128, .bf16⟩ : BufTy).Contents (Elt F)) (i : S128x128.Idx) :
    val_main_v30 (F := F) x4 i = FloatOps.extf .f32 bitsLt_bf16_f32 (val_main_v29 (F := F) x4 i) := rfl

def val_main_v31 (x3 : (⟨S32x24x512, .f32⟩ : BufTy).Contents (Elt F)) (x4 : (⟨S4x128x128, .bf16⟩ : BufTy).Contents (Elt F)) : (⟨S256x128, .f32⟩ : BufTy).Contents (Elt F) :=
  Host.dotGeneral dot_S256x128_S128x128_S256x128_1_0_0_1_n_n none (val_main_v27 (F := F) x3) (val_main_v30 (F := F) x4)
theorem lhs_main_v31_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs_main_v31_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem rhs_main_v31_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem rhs_main_v31_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl
abbrev lidx_main_v31 (i : S256x128.Idx) (k : Fin 128) : S256x128.Idx := fun a => match a with
  | ⟨0, _⟩ => ⟨(i 0).val, (i 0).isLt⟩
  | ⟨1, _⟩ => ⟨k.val, k.isLt⟩
abbrev ridx_main_v31 (i : S256x128.Idx) (k : Fin 128) : S128x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v31_apply (x3 : (⟨S32x24x512, .f32⟩ : BufTy).Contents (Elt Ideal)) (x4 : (⟨S4x128x128, .bf16⟩ : BufTy).Contents (Elt Ideal)) (i : S256x128.Idx) :
    val_main_v31 (F := Ideal) x3 x4 i = ∑ k : Fin 128, (val_main_v27 (F := Ideal) x3) (lidx_main_v31 i k) * (val_main_v30 (F := Ideal) x4) (ridx_main_v31 i k) := by
  unfold val_main_v31
  generalize val_main_v27 (F := Ideal) x3 = y0
  generalize val_main_v30 (F := Ideal) x4 = y1
  simp only [Host.dotGeneral]
  rw [Ideal.dotGeneral_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx i ((ValueIdx.contrEquiv1 dot_S256x128_S128x128_S256x128_1_0_0_1_n_n 128 rfl rfl).symm k) = lidx_main_v31 i k := funext fun a => Fin.ext (by
    match a with
    | ⟨0, _⟩ => exact lhs_main_v31_0 _ _
    | ⟨1, _⟩ => exact (lhs_main_v31_1 _ _).trans hk)
  have er : dot_S256x128_S128x128_S256x128_1_0_0_1_n_n.rhsIdx i ((ValueIdx.contrEquiv1 dot_S256x128_S128x128_S256x128_1_0_0_1_n_n 128 rfl rfl).symm k) = ridx_main_v31 i k := funext fun a => Fin.ext (by
    match a with
    | ⟨0, _⟩ => exact (rhs_main_v31_0 _ _).trans hk
    | ⟨1, _⟩ => exact rhs_main_v31_1 _ _)
  rw [el, er]

def val_main_v32 (x3 : (⟨S32x24x512, .f32⟩ : BufTy).Contents (Elt F)) : (⟨S32x23x1x128, .f32⟩ : BufTy).Contents (Elt F) :=
  extractStridedSlice S32x23x1x128 ![0, 0, 2, 0] (val_main_v1 (F := F) x3) slices_S32x23x4x128_S32x23x1x128_0_0_2_0
set_option backward.proofsInPublic true in
abbrev idx_main_v32 (i : S32x23x1x128.Idx) : S32x23x4x128.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 1 := (i 2).isLt; show 2 + (i 2).val < 4; omega⟩
  | ⟨3, _⟩ => ⟨(i 3).val, (i 3).isLt⟩
theorem val_main_v32_apply (x3 : (⟨S32x24x512, .f32⟩ : BufTy).Contents (Elt F)) (i : S32x23x1x128.Idx) :
    val_main_v32 (F := F) x3 i = val_main_v1 (F := F) x3 (idx_main_v32 i) := by
  unfold val_main_v32
  generalize val_main_v1 (F := F) x3 = y
  exact extractStridedSlice_apply ![0, 0, 2, 0] y slices_S32x23x4x128_S32x23x1x128_0_0_2_0 i (idx_main_v32 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega
    | ⟨3, _⟩ => by show (i 3).val = 0 + (i 3).val; omega)

def val_main_v33 (x3 : (⟨S32x24x512, .f32⟩ : BufTy).Contents (Elt F)) : (⟨S32x23x128, .f32⟩ : BufTy).Contents (Elt F) :=
  shapeCast _ (val_main_v32 (F := F) x3) shapeCasts_S32x23x1x128_S32x23x128
set_option backward.proofsInPublic true in
abbrev idx_main_v33 (i : S32x23x128.Idx) : S32x23x1x128.Idx := fun a => match a with
  | ⟨0, _⟩ => ⟨(((i 0).val * 23 + (i 1).val) * 128 + (i 2).val) / 2944, by have h0 : (i 0).val < 32 := (i 0).isLt; have h1 : (i 1).val < 23 := (i 1).isLt; have h2 : (i 2).val < 128 := (i 2).isLt; show (((i 0).val * 23 + (i 1).val) * 128 + (i 2).val) / 2944 < 32; omega⟩
  | ⟨1, _⟩ => ⟨(((i 0).val * 23 + (i 1).val) * 128 + (i 2).val) / 128 % 23, by have h0 : (i 0).val < 32 := (i 0).isLt; have h1 : (i 1).val < 23 := (i 1).isLt; have h2 : (i 2).val < 128 := (i 2).isLt; show (((i 0).val * 23 + (i 1).val) * 128 + (i 2).val) / 128 % 23 < 23; omega⟩
  | ⟨2, _⟩ => ⟨0, Nat.one_pos⟩
  | ⟨3, _⟩ => ⟨(((i 0).val * 23 + (i 1).val) * 128 + (i 2).val) % 128, by have h0 : (i 0).val < 32 := (i 0).isLt; have h1 : (i 1).val < 23 := (i 1).isLt; have h2 : (i 2).val < 128 := (i 2).isLt; show (((i 0).val * 23 + (i 1).val) * 128 + (i 2).val) % 128 < 128; omega⟩
theorem val_main_v33_apply (x3 : (⟨S32x24x512, .f32⟩ : BufTy).Contents (Elt F)) (i : S32x23x128.Idx) :
    val_main_v33 (F := F) x3 i = val_main_v32 (F := F) x3 (idx_main_v33 i) := by
  unfold val_main_v33
  generalize val_main_v32 (F := F) x3 = y
  exact shapeCast_apply y shapeCasts_S32x23x1x128_S32x23x128 i (idx_main_v33 i)
    (by rewrite [Shape.rowMajor_val_four, Shape.rowMajor_val_three]; have h0 : (i 0).val < 32 := (i 0).isLt; have h1 : (i 1).val < 23 := (i 1).isLt; have h2 : (i 2).val < 128 := (i 2).isLt; show (((((i 0).val * 23 + (i 1).val) * 128 + (i 2).val) / 2944 * 23 + (((i 0).val * 23 + (i 1).val) * 128 + (i 2).val) / 128 % 23) * 1 + 0) * 128 + (((i 0).val * 23 + (i 1).val) * 128 + (i 2).val) % 128 = ((i 0).val * 23 + (i 1).val) * 128 + (i 2).val; omega)

def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

def val_main_v34 : (⟨S_, .f32⟩ : BufTy).Contents (Elt F) :=
  broadcastInDim S_ ![] bcast_S_S_ (val_main_cst_3 (F := F))
abbrev idx_main_v34 (i : S_.Idx) : S_.Idx := fun a => a.elim0
theorem val_main_v34_apply (i : S_.Idx) :
    val_main_v34 (F := F) i = val_main_cst_3 (F := F) (idx_main_v34 i) := by
  unfold val_main_v34
  generalize val_main_cst_3 (F := F) = y
  exact broadcastInDim_apply _ bcast_S_S_ y i (idx_main_v34 i) (fun a => a.elim0)

def val_main_v35 (x3 : (⟨S32x24x512, .f32⟩ : BufTy).Contents (Elt F)) : (⟨S32x23x128, .f32⟩ : BufTy).Contents (Elt F) :=
  Host.reduceWindowAdd ![1, 8, 1] ![1, 1, 1] ![0, 7, 0] ![0, 0, 0] (val_main_v33 (F := F) x3) (val_main_v34 (F := F)) reduceWindows_S32x23x128_S32x23x128_w1s1p0_0_w8s1p7_0_w1s1p0_0 h_S_

def val_main_v36 (x3 : (⟨S32x24x512, .f32⟩ : BufTy).Contents (Elt F)) : (⟨S32x8x128, .f32⟩ : BufTy).Contents (Elt F) :=
  extractStridedSlice S32x8x128 ![0, 15, 0] (val_main_v35 (F := F) x3) slices_S32x23x128_S32x8x128_0_15_0
set_option backward.proofsInPublic true in
abbrev idx_main_v36 (i : S32x8x128.Idx) : S32x23x128.Idx := fun a => match a with
  | ⟨0, _⟩ => ⟨(i 0).val, (i 0).isLt⟩
  | ⟨1, _⟩ => ⟨15 + (i 1).val, by have h1 : (i 1).val < 8 := (i 1).isLt; show 15 + (i 1).val < 23; omega⟩
  | ⟨2, _⟩ => ⟨(i 2).val, (i 2).isLt⟩
theorem val_main_v36_apply (x3 : (⟨S32x24x512, .f32⟩ : BufTy).Contents (Elt F)) (i : S32x8x128.Idx) :
    val_main_v36 (F := F) x3 i = val_main_v35 (F := F) x3 (idx_main_v36 i) := by
  unfold val_main_v36
  generalize val_main_v35 (F := F) x3 = y
  exact extractStridedSlice_apply ![0, 15, 0] y slices_S32x23x128_S32x8x128_0_15_0 i (idx_main_v36 i) (fun a => match a with
    | ⟨0, _⟩ => by show (i 0).val = 0 + (i 0).val; omega
    | ⟨1, _⟩ => by show 15 + (i 1).val = 15 + (i 1).val; omega
    | ⟨2, _⟩ => by show (i 2).val = 0 + (i 2).val; omega)

def val_main_cst_4 : (⟨S_, .f32⟩ : BufTy).Contents (Elt F) :=
  constant S_ .f32 0x41000000#32
theorem val_main_cst_4_apply (i : S_.Idx) :
    val_main_cst_4 (F := F) i = FloatOps.ofBits .f32 0x41000000#32 := rfl

def val_main_v37 : (⟨S32x8x128, .f32⟩ : BufTy).Contents (Elt F) :=
  broadcastInDim S32x8x128 ![] bcast_S_S32x8x128 (val_main_cst_4 (F := F))
abbrev idx_main_v37 (i : S32x8x128.Idx) : S_.Idx := fun a => a.elim0
theorem val_main_v37_apply (i : S32x8x128.Idx) :
    val_main_v37 (F := F) i = val_main_cst_4 (F := F) (idx_main_v37 i) := by
  unfold val_main_v37
  generalize val_main_cst_4 (F := F) = y
  exact broadcastInDim_apply _ bcast_S_S32x8x128 y i (idx_main_v37 i) (fun a => a.elim0)

def val_main_v38 (x3 : (⟨S32x24x512, .f32⟩ : BufTy).Contents (Elt F)) : (⟨S32x8x128, .f32⟩ : BufTy).Contents (Elt F) :=
  Host.divf (val_main_v36 (F := F) x3) (val_main_v37 (F := F))
theorem val_main_v38_apply (x3 : (⟨S32x24x512, .f32⟩ : BufTy).Contents (Elt F)) (i : S32x8x128.Idx) :
    val_main_v38 (F := F) x3 i = FloatOps.hostDivf (val_main_v36 (F := F) x3 i) (val_main_v37 (F := F) i) := rfl

def val_main_v39 (x3 : (⟨S32x24x512, .f32⟩ : BufTy).Contents (Elt F)) : (⟨S32x8x1x128, .f32⟩ : BufTy).Contents (Elt F) :=
  extractStridedSlice S32x8x1x128 ![0, 15, 2, 0] (val_main_v1 (F := F) x3) slices_S32x23x4x128_S32x8x1x128_0_15_2_0
set_option backward.proofsInPublic true in
abbrev idx_main_v39 (i : S32x8x1x128.Idx) : S32x23x4x128.Idx := fun a => match a with
  | ⟨0, _⟩ => ⟨(i 0).val, (i 0).isLt⟩
  | ⟨1, _⟩ => ⟨15 + (i 1).val, by have h1 : (i 1).val < 8 := (i 1).isLt; show 15 + (i 1).val < 23; omega⟩
  | ⟨2, _⟩ => ⟨2 + (i 2).val, by have h2 : (i 2).val < 1 := (i 2).isLt; show 2 + (i 2).val < 4; omega⟩
  | ⟨3, _⟩ => ⟨(i 3).val, (i 3).isLt⟩
theorem val_main_v39_apply (x3 : (⟨S32x24x512, .f32⟩ : BufTy).Contents (Elt F)) (i : S32x8x1x128.Idx) :
    val_main_v39 (F := F) x3 i = val_main_v1 (F := F) x3 (idx_main_v39 i) := by
  unfold val_main_v39
  generalize val_main_v1 (F := F) x3 = y
  exact extractStridedSlice_apply ![0, 15, 2, 0] y slices_S32x23x4x128_S32x8x1x128_0_15_2_0 i (idx_main_v39 i) (fun a => match a with
    | ⟨0, _⟩ => by show (i 0).val = 0 + (i 0).val; omega
    | ⟨1, _⟩ => by show 15 + (i 1).val = 15 + (i 1).val; omega
    | ⟨2, _⟩ => by show 2 + (i 2).val = 2 + (i 2).val; omega
    | ⟨3, _⟩ => by show (i 3).val = 0 + (i 3).val; omega)

def val_main_v40 (x3 : (⟨S32x24x512, .f32⟩ : BufTy).Contents (Elt F)) : (⟨S32x8x128, .f32⟩ : BufTy).Contents (Elt F) :=
  shapeCast _ (val_main_v39 (F := F) x3) shapeCasts_S32x8x1x128_S32x8x128
set_option backward.proofsInPublic true in
abbrev idx_main_v40 (i : S32x8x128.Idx) : S32x8x1x128.Idx := fun a => match a with
  | ⟨0, _⟩ => ⟨(((i 0).val * 8 + (i 1).val) * 128 + (i 2).val) / 1024, by have h0 : (i 0).val < 32 := (i 0).isLt; have h1 : (i 1).val < 8 := (i 1).isLt; have h2 : (i 2).val < 128 := (i 2).isLt; show (((i 0).val * 8 + (i 1).val) * 128 + (i 2).val) / 1024 < 32; omega⟩
  | ⟨1, _⟩ => ⟨(((i 0).val * 8 + (i 1).val) * 128 + (i 2).val) / 128 % 8, by have h0 : (i 0).val < 32 := (i 0).isLt; have h1 : (i 1).val < 8 := (i 1).isLt; have h2 : (i 2).val < 128 := (i 2).isLt; show (((i 0).val * 8 + (i 1).val) * 128 + (i 2).val) / 128 % 8 < 8; omega⟩
  | ⟨2, _⟩ => ⟨0, Nat.one_pos⟩
  | ⟨3, _⟩ => ⟨(((i 0).val * 8 + (i 1).val) * 128 + (i 2).val) % 128, by have h0 : (i 0).val < 32 := (i 0).isLt; have h1 : (i 1).val < 8 := (i 1).isLt; have h2 : (i 2).val < 128 := (i 2).isLt; show (((i 0).val * 8 + (i 1).val) * 128 + (i 2).val) % 128 < 128; omega⟩
theorem val_main_v40_apply (x3 : (⟨S32x24x512, .f32⟩ : BufTy).Contents (Elt F)) (i : S32x8x128.Idx) :
    val_main_v40 (F := F) x3 i = val_main_v39 (F := F) x3 (idx_main_v40 i) := by
  unfold val_main_v40
  generalize val_main_v39 (F := F) x3 = y
  exact shapeCast_apply y shapeCasts_S32x8x1x128_S32x8x128 i (idx_main_v40 i)
    (by rewrite [Shape.rowMajor_val_four, Shape.rowMajor_val_three]; have h0 : (i 0).val < 32 := (i 0).isLt; have h1 : (i 1).val < 8 := (i 1).isLt; have h2 : (i 2).val < 128 := (i 2).isLt; show (((((i 0).val * 8 + (i 1).val) * 128 + (i 2).val) / 1024 * 8 + (((i 0).val * 8 + (i 1).val) * 128 + (i 2).val) / 128 % 8) * 1 + 0) * 128 + (((i 0).val * 8 + (i 1).val) * 128 + (i 2).val) % 128 = ((i 0).val * 8 + (i 1).val) * 128 + (i 2).val; omega)

def val_main_v41 (x3 : (⟨S32x24x512, .f32⟩ : BufTy).Contents (Elt F)) : (⟨S32x8x128, .f32⟩ : BufTy).Contents (Elt F) :=
  subf (val_main_v38 (F := F) x3) (val_main_v40 (F := F) x3)
theorem val_main_v41_apply (x3 : (⟨S32x24x512, .f32⟩ : BufTy).Contents (Elt F)) (i : S32x8x128.Idx) :
    val_main_v41 (F := F) x3 i = FloatOps.subf (val_main_v38 (F := F) x3 i) (val_main_v40 (F := F) x3 i) := rfl

def val_main_v42 (x3 : (⟨S32x24x512, .f32⟩ : BufTy).Contents (Elt F)) : (⟨S256x128, .f32⟩ : BufTy).Contents (Elt F) :=
  shapeCast _ (val_main_v41 (F := F) x3) shapeCasts_S32x8x128_S256x128
set_option backward.proofsInPublic true in
abbrev idx_main_v42 (i : S256x128.Idx) : S32x8x128.Idx := fun a => match a with
  | ⟨0, _⟩ => ⟨((i 0).val * 128 + (i 1).val) / 1024, by have h0 : (i 0).val < 256 := (i 0).isLt; have h1 : (i 1).val < 128 := (i 1).isLt; show ((i 0).val * 128 + (i 1).val) / 1024 < 32; omega⟩
  | ⟨1, _⟩ => ⟨((i 0).val * 128 + (i 1).val) / 128 % 8, by have h0 : (i 0).val < 256 := (i 0).isLt; have h1 : (i 1).val < 128 := (i 1).isLt; show ((i 0).val * 128 + (i 1).val) / 128 % 8 < 8; omega⟩
  | ⟨2, _⟩ => ⟨((i 0).val * 128 + (i 1).val) % 128, by have h0 : (i 0).val < 256 := (i 0).isLt; have h1 : (i 1).val < 128 := (i 1).isLt; show ((i 0).val * 128 + (i 1).val) % 128 < 128; omega⟩
theorem val_main_v42_apply (x3 : (⟨S32x24x512, .f32⟩ : BufTy).Contents (Elt F)) (i : S256x128.Idx) :
    val_main_v42 (F := F) x3 i = val_main_v41 (F := F) x3 (idx_main_v42 i) := by
  unfold val_main_v42
  generalize val_main_v41 (F := F) x3 = y
  exact shapeCast_apply y shapeCasts_S32x8x128_S256x128 i (idx_main_v42 i)
    (by rewrite [Shape.rowMajor_val_three, Shape.rowMajor_val_two]; have h0 : (i 0).val < 256 := (i 0).isLt; have h1 : (i 1).val < 128 := (i 1).isLt; show (((i 0).val * 128 + (i 1).val) / 1024 * 8 + ((i 0).val * 128 + (i 1).val) / 128 % 8) * 128 + ((i 0).val * 128 + (i 1).val) % 128 = (i 0).val * 128 + (i 1).val; omega)

def val_main_v43 (x4 : (⟨S4x128x128, .bf16⟩ : BufTy).Contents (Elt F)) : (⟨S1x128x128, .bf16⟩ : BufTy).Contents (Elt F) :=
  extractStridedSlice S1x128x128 ![2, 0, 0] (x4) slices_S4x128x128_S1x128x128_2_0_0
set_option backward.proofsInPublic true in
abbrev idx_main_v43 (i : S1x128x128.Idx) : S4x128x128.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩
theorem val_main_v43_apply (x4 : (⟨S4x128x128, .bf16⟩ : BufTy).Contents (Elt F)) (i : S1x128x128.Idx) :
    val_main_v43 (F := F) x4 i = x4 (idx_main_v43 i) := by
  unfold val_main_v43
  exact extractStridedSlice_apply ![2, 0, 0] x4 slices_S4x128x128_S1x128x128_2_0_0 i (idx_main_v43 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v44 (x4 : (⟨S4x128x128, .bf16⟩ : BufTy).Contents (Elt F)) : (⟨S128x128, .bf16⟩ : BufTy).Contents (Elt F) :=
  shapeCast _ (val_main_v43 (F := F) x4) shapeCasts_S1x128x128_S128x128
set_option backward.proofsInPublic true in
abbrev idx_main_v44 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v44_apply (x4 : (⟨S4x128x128, .bf16⟩ : BufTy).Contents (Elt F)) (i : S128x128.Idx) :
    val_main_v44 (F := F) x4 i = val_main_v43 (F := F) x4 (idx_main_v44 i) := by
  unfold val_main_v44
  generalize val_main_v43 (F := F) x4 = y
  exact shapeCast_apply y shapeCasts_S1x128x128_S128x128 i (idx_main_v44 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

def val_main_v45 (x4 : (⟨S4x128x128, .bf16⟩ : BufTy).Contents (Elt F)) : (⟨S128x128, .f32⟩ : BufTy).Contents (Elt F) :=
  extf .f32 (val_main_v44 (F := F) x4) bitsLt_bf16_f32
theorem val_main_v45_apply (x4 : (⟨S4x128x128, .bf16⟩ : BufTy).Contents (Elt F)) (i : S128x128.Idx) :
    val_main_v45 (F := F) x4 i = FloatOps.extf .f32 bitsLt_bf16_f32 (val_main_v44 (F := F) x4 i) := rfl

def val_main_v46 (x3 : (⟨S32x24x512, .f32⟩ : BufTy).Contents (Elt F)) (x4 : (⟨S4x128x128, .bf16⟩ : BufTy).Contents (Elt F)) : (⟨S256x128, .f32⟩ : BufTy).Contents (Elt F) :=
  Host.dotGeneral dot_S256x128_S128x128_S256x128_1_0_0_1_n_n none (val_main_v42 (F := F) x3) (val_main_v45 (F := F) x4)
theorem lhs_main_v46_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs_main_v46_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem rhs_main_v46_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem rhs_main_v46_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl
abbrev lidx_main_v46 (i : S256x128.Idx) (k : Fin 128) : S256x128.Idx := fun a => match a with
  | ⟨0, _⟩ => ⟨(i 0).val, (i 0).isLt⟩
  | ⟨1, _⟩ => ⟨k.val, k.isLt⟩
abbrev ridx_main_v46 (i : S256x128.Idx) (k : Fin 128) : S128x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v46_apply (x3 : (⟨S32x24x512, .f32⟩ : BufTy).Contents (Elt Ideal)) (x4 : (⟨S4x128x128, .bf16⟩ : BufTy).Contents (Elt Ideal)) (i : S256x128.Idx) :
    val_main_v46 (F := Ideal) x3 x4 i = ∑ k : Fin 128, (val_main_v42 (F := Ideal) x3) (lidx_main_v46 i k) * (val_main_v45 (F := Ideal) x4) (ridx_main_v46 i k) := by
  unfold val_main_v46
  generalize val_main_v42 (F := Ideal) x3 = y0
  generalize val_main_v45 (F := Ideal) x4 = y1
  simp only [Host.dotGeneral]
  rw [Ideal.dotGeneral_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx i ((ValueIdx.contrEquiv1 dot_S256x128_S128x128_S256x128_1_0_0_1_n_n 128 rfl rfl).symm k) = lidx_main_v46 i k := funext fun a => Fin.ext (by
    match a with
    | ⟨0, _⟩ => exact lhs_main_v46_0 _ _
    | ⟨1, _⟩ => exact (lhs_main_v46_1 _ _).trans hk)
  have er : dot_S256x128_S128x128_S256x128_1_0_0_1_n_n.rhsIdx i ((ValueIdx.contrEquiv1 dot_S256x128_S128x128_S256x128_1_0_0_1_n_n 128 rfl rfl).symm k) = ridx_main_v46 i k := funext fun a => Fin.ext (by
    match a with
    | ⟨0, _⟩ => exact (rhs_main_v46_0 _ _).trans hk
    | ⟨1, _⟩ => exact rhs_main_v46_1 _ _)
  rw [el, er]

def val_main_v47 (x3 : (⟨S32x24x512, .f32⟩ : BufTy).Contents (Elt F)) : (⟨S32x23x1x128, .f32⟩ : BufTy).Contents (Elt F) :=
  extractStridedSlice S32x23x1x128 ![0, 0, 3, 0] (val_main_v1 (F := F) x3) slices_S32x23x4x128_S32x23x1x128_0_0_3_0
set_option backward.proofsInPublic true in
abbrev idx_main_v47 (i : S32x23x1x128.Idx) : S32x23x4x128.Idx := fun a => match a with
  | ⟨0, _⟩ => ⟨(i 0).val, (i 0).isLt⟩
  | ⟨1, _⟩ => ⟨(i 1).val, (i 1).isLt⟩
  | ⟨2, _⟩ => ⟨3 + (i 2).val, by have h2 : (i 2).val < 1 := (i 2).isLt; show 3 + (i 2).val < 4; omega⟩
  | ⟨3, _⟩ => ⟨(i 3).val, (i 3).isLt⟩
theorem val_main_v47_apply (x3 : (⟨S32x24x512, .f32⟩ : BufTy).Contents (Elt F)) (i : S32x23x1x128.Idx) :
    val_main_v47 (F := F) x3 i = val_main_v1 (F := F) x3 (idx_main_v47 i) := by
  unfold val_main_v47
  generalize val_main_v1 (F := F) x3 = y
  exact extractStridedSlice_apply ![0, 0, 3, 0] y slices_S32x23x4x128_S32x23x1x128_0_0_3_0 i (idx_main_v47 i) (fun a => match a with
    | ⟨0, _⟩ => by show (i 0).val = 0 + (i 0).val; omega
    | ⟨1, _⟩ => by show (i 1).val = 0 + (i 1).val; omega
    | ⟨2, _⟩ => by show 3 + (i 2).val = 3 + (i 2).val; omega
    | ⟨3, _⟩ => by show (i 3).val = 0 + (i 3).val; omega)

def val_main_v48 (x3 : (⟨S32x24x512, .f32⟩ : BufTy).Contents (Elt F)) : (⟨S32x23x128, .f32⟩ : BufTy).Contents (Elt F) :=
  shapeCast _ (val_main_v47 (F := F) x3) shapeCasts_S32x23x1x128_S32x23x128
set_option backward.proofsInPublic true in
abbrev idx_main_v48 (i : S32x23x128.Idx) : S32x23x1x128.Idx := fun a => match a with
  | ⟨0, _⟩ => ⟨(((i 0).val * 23 + (i 1).val) * 128 + (i 2).val) / 2944, by have h0 : (i 0).val < 32 := (i 0).isLt; have h1 : (i 1).val < 23 := (i 1).isLt; have h2 : (i 2).val < 128 := (i 2).isLt; show (((i 0).val * 23 + (i 1).val) * 128 + (i 2).val) / 2944 < 32; omega⟩
  | ⟨1, _⟩ => ⟨(((i 0).val * 23 + (i 1).val) * 128 + (i 2).val) / 128 % 23, by have h0 : (i 0).val < 32 := (i 0).isLt; have h1 : (i 1).val < 23 := (i 1).isLt; have h2 : (i 2).val < 128 := (i 2).isLt; show (((i 0).val * 23 + (i 1).val) * 128 + (i 2).val) / 128 % 23 < 23; omega⟩
  | ⟨2, _⟩ => ⟨0, Nat.one_pos⟩
  | ⟨3, _⟩ => ⟨(((i 0).val * 23 + (i 1).val) * 128 + (i 2).val) % 128, by have h0 : (i 0).val < 32 := (i 0).isLt; have h1 : (i 1).val < 23 := (i 1).isLt; have h2 : (i 2).val < 128 := (i 2).isLt; show (((i 0).val * 23 + (i 1).val) * 128 + (i 2).val) % 128 < 128; omega⟩
theorem val_main_v48_apply (x3 : (⟨S32x24x512, .f32⟩ : BufTy).Contents (Elt F)) (i : S32x23x128.Idx) :
    val_main_v48 (F := F) x3 i = val_main_v47 (F := F) x3 (idx_main_v48 i) := by
  unfold val_main_v48
  generalize val_main_v47 (F := F) x3 = y
  exact shapeCast_apply y shapeCasts_S32x23x1x128_S32x23x128 i (idx_main_v48 i)
    (by rewrite [Shape.rowMajor_val_four, Shape.rowMajor_val_three]; have h0 : (i 0).val < 32 := (i 0).isLt; have h1 : (i 1).val < 23 := (i 1).isLt; have h2 : (i 2).val < 128 := (i 2).isLt; show (((((i 0).val * 23 + (i 1).val) * 128 + (i 2).val) / 2944 * 23 + (((i 0).val * 23 + (i 1).val) * 128 + (i 2).val) / 128 % 23) * 1 + 0) * 128 + (((i 0).val * 23 + (i 1).val) * 128 + (i 2).val) % 128 = ((i 0).val * 23 + (i 1).val) * 128 + (i 2).val; omega)

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v49 : (⟨S_, .f32⟩ : BufTy).Contents (Elt F) :=
  broadcastInDim S_ ![] bcast_S_S_ (val_main_cst_5 (F := F))
abbrev idx_main_v49 (i : S_.Idx) : S_.Idx := fun a => a.elim0
theorem val_main_v49_apply (i : S_.Idx) :
    val_main_v49 (F := F) i = val_main_cst_5 (F := F) (idx_main_v49 i) := by
  unfold val_main_v49
  generalize val_main_cst_5 (F := F) = y
  exact broadcastInDim_apply _ bcast_S_S_ y i (idx_main_v49 i) (fun a => a.elim0)

def val_main_v50 (x3 : (⟨S32x24x512, .f32⟩ : BufTy).Contents (Elt F)) : (⟨S32x23x128, .f32⟩ : BufTy).Contents (Elt F) :=
  Host.reduceWindowAdd ![1, 16, 1] ![1, 1, 1] ![0, 15, 0] ![0, 0, 0] (val_main_v48 (F := F) x3) (val_main_v49 (F := F)) reduceWindows_S32x23x128_S32x23x128_w1s1p0_0_w16s1p15_0_w1s1p0_0 h_S_

def val_main_v51 (x3 : (⟨S32x24x512, .f32⟩ : BufTy).Contents (Elt F)) : (⟨S32x8x128, .f32⟩ : BufTy).Contents (Elt F) :=
  extractStridedSlice S32x8x128 ![0, 15, 0] (val_main_v50 (F := F) x3) slices_S32x23x128_S32x8x128_0_15_0
set_option backward.proofsInPublic true in
abbrev idx_main_v51 (i : S32x8x128.Idx) : S32x23x128.Idx := fun a => match a with
  | ⟨0, _⟩ => ⟨(i 0).val, (i 0).isLt⟩
  | ⟨1, _⟩ => ⟨15 + (i 1).val, by have h1 : (i 1).val < 8 := (i 1).isLt; show 15 + (i 1).val < 23; omega⟩
  | ⟨2, _⟩ => ⟨(i 2).val, (i 2).isLt⟩
theorem val_main_v51_apply (x3 : (⟨S32x24x512, .f32⟩ : BufTy).Contents (Elt F)) (i : S32x8x128.Idx) :
    val_main_v51 (F := F) x3 i = val_main_v50 (F := F) x3 (idx_main_v51 i) := by
  unfold val_main_v51
  generalize val_main_v50 (F := F) x3 = y
  exact extractStridedSlice_apply ![0, 15, 0] y slices_S32x23x128_S32x8x128_0_15_0 i (idx_main_v51 i) (fun a => match a with
    | ⟨0, _⟩ => by show (i 0).val = 0 + (i 0).val; omega
    | ⟨1, _⟩ => by show 15 + (i 1).val = 15 + (i 1).val; omega
    | ⟨2, _⟩ => by show (i 2).val = 0 + (i 2).val; omega)

def val_main_cst_6 : (⟨S_, .f32⟩ : BufTy).Contents (Elt F) :=
  constant S_ .f32 0x41800000#32
theorem val_main_cst_6_apply (i : S_.Idx) :
    val_main_cst_6 (F := F) i = FloatOps.ofBits .f32 0x41800000#32 := rfl

def val_main_v52 : (⟨S32x8x128, .f32⟩ : BufTy).Contents (Elt F) :=
  broadcastInDim S32x8x128 ![] bcast_S_S32x8x128 (val_main_cst_6 (F := F))
abbrev idx_main_v52 (i : S32x8x128.Idx) : S_.Idx := fun a => a.elim0
theorem val_main_v52_apply (i : S32x8x128.Idx) :
    val_main_v52 (F := F) i = val_main_cst_6 (F := F) (idx_main_v52 i) := by
  unfold val_main_v52
  generalize val_main_cst_6 (F := F) = y
  exact broadcastInDim_apply _ bcast_S_S32x8x128 y i (idx_main_v52 i) (fun a => a.elim0)

def val_main_v53 (x3 : (⟨S32x24x512, .f32⟩ : BufTy).Contents (Elt F)) : (⟨S32x8x128, .f32⟩ : BufTy).Contents (Elt F) :=
  Host.divf (val_main_v51 (F := F) x3) (val_main_v52 (F := F))
theorem val_main_v53_apply (x3 : (⟨S32x24x512, .f32⟩ : BufTy).Contents (Elt F)) (i : S32x8x128.Idx) :
    val_main_v53 (F := F) x3 i = FloatOps.hostDivf (val_main_v51 (F := F) x3 i) (val_main_v52 (F := F) i) := rfl

def val_main_v54 (x3 : (⟨S32x24x512, .f32⟩ : BufTy).Contents (Elt F)) : (⟨S32x8x1x128, .f32⟩ : BufTy).Contents (Elt F) :=
  extractStridedSlice S32x8x1x128 ![0, 15, 3, 0] (val_main_v1 (F := F) x3) slices_S32x23x4x128_S32x8x1x128_0_15_3_0
set_option backward.proofsInPublic true in
abbrev idx_main_v54 (i : S32x8x1x128.Idx) : S32x23x4x128.Idx := fun a => match a with
  | ⟨0, _⟩ => ⟨(i 0).val, (i 0).isLt⟩
  | ⟨1, _⟩ => ⟨15 + (i 1).val, by have h1 : (i 1).val < 8 := (i 1).isLt; show 15 + (i 1).val < 23; omega⟩
  | ⟨2, _⟩ => ⟨3 + (i 2).val, by have h2 : (i 2).val < 1 := (i 2).isLt; show 3 + (i 2).val < 4; omega⟩
  | ⟨3, _⟩ => ⟨(i 3).val, (i 3).isLt⟩
theorem val_main_v54_apply (x3 : (⟨S32x24x512, .f32⟩ : BufTy).Contents (Elt F)) (i : S32x8x1x128.Idx) :
    val_main_v54 (F := F) x3 i = val_main_v1 (F := F) x3 (idx_main_v54 i) := by
  unfold val_main_v54
  generalize val_main_v1 (F := F) x3 = y
  exact extractStridedSlice_apply ![0, 15, 3, 0] y slices_S32x23x4x128_S32x8x1x128_0_15_3_0 i (idx_main_v54 i) (fun a => match a with
    | ⟨0, _⟩ => by show (i 0).val = 0 + (i 0).val; omega
    | ⟨1, _⟩ => by show 15 + (i 1).val = 15 + (i 1).val; omega
    | ⟨2, _⟩ => by show 3 + (i 2).val = 3 + (i 2).val; omega
    | ⟨3, _⟩ => by show (i 3).val = 0 + (i 3).val; omega)

def val_main_v55 (x3 : (⟨S32x24x512, .f32⟩ : BufTy).Contents (Elt F)) : (⟨S32x8x128, .f32⟩ : BufTy).Contents (Elt F) :=
  shapeCast _ (val_main_v54 (F := F) x3) shapeCasts_S32x8x1x128_S32x8x128
set_option backward.proofsInPublic true in
abbrev idx_main_v55 (i : S32x8x128.Idx) : S32x8x1x128.Idx := fun a => match a with
  | ⟨0, _⟩ => ⟨(((i 0).val * 8 + (i 1).val) * 128 + (i 2).val) / 1024, by have h0 : (i 0).val < 32 := (i 0).isLt; have h1 : (i 1).val < 8 := (i 1).isLt; have h2 : (i 2).val < 128 := (i 2).isLt; show (((i 0).val * 8 + (i 1).val) * 128 + (i 2).val) / 1024 < 32; omega⟩
  | ⟨1, _⟩ => ⟨(((i 0).val * 8 + (i 1).val) * 128 + (i 2).val) / 128 % 8, by have h0 : (i 0).val < 32 := (i 0).isLt; have h1 : (i 1).val < 8 := (i 1).isLt; have h2 : (i 2).val < 128 := (i 2).isLt; show (((i 0).val * 8 + (i 1).val) * 128 + (i 2).val) / 128 % 8 < 8; omega⟩
  | ⟨2, _⟩ => ⟨0, Nat.one_pos⟩
  | ⟨3, _⟩ => ⟨(((i 0).val * 8 + (i 1).val) * 128 + (i 2).val) % 128, by have h0 : (i 0).val < 32 := (i 0).isLt; have h1 : (i 1).val < 8 := (i 1).isLt; have h2 : (i 2).val < 128 := (i 2).isLt; show (((i 0).val * 8 + (i 1).val) * 128 + (i 2).val) % 128 < 128; omega⟩
theorem val_main_v55_apply (x3 : (⟨S32x24x512, .f32⟩ : BufTy).Contents (Elt F)) (i : S32x8x128.Idx) :
    val_main_v55 (F := F) x3 i = val_main_v54 (F := F) x3 (idx_main_v55 i) := by
  unfold val_main_v55
  generalize val_main_v54 (F := F) x3 = y
  exact shapeCast_apply y shapeCasts_S32x8x1x128_S32x8x128 i (idx_main_v55 i)
    (by rewrite [Shape.rowMajor_val_four, Shape.rowMajor_val_three]; have h0 : (i 0).val < 32 := (i 0).isLt; have h1 : (i 1).val < 8 := (i 1).isLt; have h2 : (i 2).val < 128 := (i 2).isLt; show (((((i 0).val * 8 + (i 1).val) * 128 + (i 2).val) / 1024 * 8 + (((i 0).val * 8 + (i 1).val) * 128 + (i 2).val) / 128 % 8) * 1 + 0) * 128 + (((i 0).val * 8 + (i 1).val) * 128 + (i 2).val) % 128 = ((i 0).val * 8 + (i 1).val) * 128 + (i 2).val; omega)

def val_main_v56 (x3 : (⟨S32x24x512, .f32⟩ : BufTy).Contents (Elt F)) : (⟨S32x8x128, .f32⟩ : BufTy).Contents (Elt F) :=
  subf (val_main_v53 (F := F) x3) (val_main_v55 (F := F) x3)
theorem val_main_v56_apply (x3 : (⟨S32x24x512, .f32⟩ : BufTy).Contents (Elt F)) (i : S32x8x128.Idx) :
    val_main_v56 (F := F) x3 i = FloatOps.subf (val_main_v53 (F := F) x3 i) (val_main_v55 (F := F) x3 i) := rfl

def val_main_v57 (x3 : (⟨S32x24x512, .f32⟩ : BufTy).Contents (Elt F)) : (⟨S256x128, .f32⟩ : BufTy).Contents (Elt F) :=
  shapeCast _ (val_main_v56 (F := F) x3) shapeCasts_S32x8x128_S256x128
set_option backward.proofsInPublic true in
abbrev idx_main_v57 (i : S256x128.Idx) : S32x8x128.Idx := fun a => match a with
  | ⟨0, _⟩ => ⟨((i 0).val * 128 + (i 1).val) / 1024, by have h0 : (i 0).val < 256 := (i 0).isLt; have h1 : (i 1).val < 128 := (i 1).isLt; show ((i 0).val * 128 + (i 1).val) / 1024 < 32; omega⟩
  | ⟨1, _⟩ => ⟨((i 0).val * 128 + (i 1).val) / 128 % 8, by have h0 : (i 0).val < 256 := (i 0).isLt; have h1 : (i 1).val < 128 := (i 1).isLt; show ((i 0).val * 128 + (i 1).val) / 128 % 8 < 8; omega⟩
  | ⟨2, _⟩ => ⟨((i 0).val * 128 + (i 1).val) % 128, by have h0 : (i 0).val < 256 := (i 0).isLt; have h1 : (i 1).val < 128 := (i 1).isLt; show ((i 0).val * 128 + (i 1).val) % 128 < 128; omega⟩
theorem val_main_v57_apply (x3 : (⟨S32x24x512, .f32⟩ : BufTy).Contents (Elt F)) (i : S256x128.Idx) :
    val_main_v57 (F := F) x3 i = val_main_v56 (F := F) x3 (idx_main_v57 i) := by
  unfold val_main_v57
  generalize val_main_v56 (F := F) x3 = y
  exact shapeCast_apply y shapeCasts_S32x8x128_S256x128 i (idx_main_v57 i)
    (by rewrite [Shape.rowMajor_val_three, Shape.rowMajor_val_two]; have h0 : (i 0).val < 256 := (i 0).isLt; have h1 : (i 1).val < 128 := (i 1).isLt; show (((i 0).val * 128 + (i 1).val) / 1024 * 8 + ((i 0).val * 128 + (i 1).val) / 128 % 8) * 128 + ((i 0).val * 128 + (i 1).val) % 128 = (i 0).val * 128 + (i 1).val; omega)

def val_main_v58 (x4 : (⟨S4x128x128, .bf16⟩ : BufTy).Contents (Elt F)) : (⟨S1x128x128, .bf16⟩ : BufTy).Contents (Elt F) :=
  extractStridedSlice S1x128x128 ![3, 0, 0] (x4) slices_S4x128x128_S1x128x128_3_0_0
set_option backward.proofsInPublic true in
abbrev idx_main_v58 (i : S1x128x128.Idx) : S4x128x128.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩
theorem val_main_v58_apply (x4 : (⟨S4x128x128, .bf16⟩ : BufTy).Contents (Elt F)) (i : S1x128x128.Idx) :
    val_main_v58 (F := F) x4 i = x4 (idx_main_v58 i) := by
  unfold val_main_v58
  exact extractStridedSlice_apply ![3, 0, 0] x4 slices_S4x128x128_S1x128x128_3_0_0 i (idx_main_v58 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

def val_main_v59 (x4 : (⟨S4x128x128, .bf16⟩ : BufTy).Contents (Elt F)) : (⟨S128x128, .bf16⟩ : BufTy).Contents (Elt F) :=
  shapeCast _ (val_main_v58 (F := F) x4) shapeCasts_S1x128x128_S128x128
set_option backward.proofsInPublic true in
abbrev idx_main_v59 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v59_apply (x4 : (⟨S4x128x128, .bf16⟩ : BufTy).Contents (Elt F)) (i : S128x128.Idx) :
    val_main_v59 (F := F) x4 i = val_main_v58 (F := F) x4 (idx_main_v59 i) := by
  unfold val_main_v59
  generalize val_main_v58 (F := F) x4 = y
  exact shapeCast_apply y shapeCasts_S1x128x128_S128x128 i (idx_main_v59 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

def val_main_v60 (x4 : (⟨S4x128x128, .bf16⟩ : BufTy).Contents (Elt F)) : (⟨S128x128, .f32⟩ : BufTy).Contents (Elt F) :=
  extf .f32 (val_main_v59 (F := F) x4) bitsLt_bf16_f32
theorem val_main_v60_apply (x4 : (⟨S4x128x128, .bf16⟩ : BufTy).Contents (Elt F)) (i : S128x128.Idx) :
    val_main_v60 (F := F) x4 i = FloatOps.extf .f32 bitsLt_bf16_f32 (val_main_v59 (F := F) x4 i) := rfl

def val_main_v61 (x3 : (⟨S32x24x512, .f32⟩ : BufTy).Contents (Elt F)) (x4 : (⟨S4x128x128, .bf16⟩ : BufTy).Contents (Elt F)) : (⟨S256x128, .f32⟩ : BufTy).Contents (Elt F) :=
  Host.dotGeneral dot_S256x128_S128x128_S256x128_1_0_0_1_n_n none (val_main_v57 (F := F) x3) (val_main_v60 (F := F) x4)
theorem lhs_main_v61_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs_main_v61_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem rhs_main_v61_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem rhs_main_v61_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl
abbrev lidx_main_v61 (i : S256x128.Idx) (k : Fin 128) : S256x128.Idx := fun a => match a with
  | ⟨0, _⟩ => ⟨(i 0).val, (i 0).isLt⟩
  | ⟨1, _⟩ => ⟨k.val, k.isLt⟩
abbrev ridx_main_v61 (i : S256x128.Idx) (k : Fin 128) : S128x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v61_apply (x3 : (⟨S32x24x512, .f32⟩ : BufTy).Contents (Elt Ideal)) (x4 : (⟨S4x128x128, .bf16⟩ : BufTy).Contents (Elt Ideal)) (i : S256x128.Idx) :
    val_main_v61 (F := Ideal) x3 x4 i = ∑ k : Fin 128, (val_main_v57 (F := Ideal) x3) (lidx_main_v61 i k) * (val_main_v60 (F := Ideal) x4) (ridx_main_v61 i k) := by
  unfold val_main_v61
  generalize val_main_v57 (F := Ideal) x3 = y0
  generalize val_main_v60 (F := Ideal) x4 = y1
  simp only [Host.dotGeneral]
  rw [Ideal.dotGeneral_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx i ((ValueIdx.contrEquiv1 dot_S256x128_S128x128_S256x128_1_0_0_1_n_n 128 rfl rfl).symm k) = lidx_main_v61 i k := funext fun a => Fin.ext (by
    match a with
    | ⟨0, _⟩ => exact lhs_main_v61_0 _ _
    | ⟨1, _⟩ => exact (lhs_main_v61_1 _ _).trans hk)
  have er : dot_S256x128_S128x128_S256x128_1_0_0_1_n_n.rhsIdx i ((ValueIdx.contrEquiv1 dot_S256x128_S128x128_S256x128_1_0_0_1_n_n 128 rfl rfl).symm k) = ridx_main_v61 i k := funext fun a => Fin.ext (by
    match a with
    | ⟨0, _⟩ => exact (rhs_main_v61_0 _ _).trans hk
    | ⟨1, _⟩ => exact rhs_main_v61_1 _ _)
  rw [el, er]

def val_main_v62 (x3 : (⟨S32x24x512, .f32⟩ : BufTy).Contents (Elt F)) (x4 : (⟨S4x128x128, .bf16⟩ : BufTy).Contents (Elt F)) : (⟨S256x512, .f32⟩ : BufTy).Contents (Elt F) :=
  (concatenate S256x512 1 [⟨S256x128, ((val_main_v16 (F := F) x3 x4) : (⟨S256x128, .f32⟩ : BufTy).Contents (Elt F))⟩, ⟨S256x128, ((val_main_v31 (F := F) x3 x4) : (⟨S256x128, .f32⟩ : BufTy).Contents (Elt F))⟩, ⟨S256x128, ((val_main_v46 (F := F) x3 x4) : (⟨S256x128, .f32⟩ : BufTy).Contents (Elt F))⟩, ⟨S256x128, ((val_main_v61 (F := F) x3 x4) : (⟨S256x128, .f32⟩ : BufTy).Contents (Elt F))⟩] concatenates_S256x128_S256x128_S256x128_S256x128_S256x512_d1 : (⟨S256x512, .f32⟩ : BufTy).Contents (Elt F))

end Cert.MergeSRefIdeal.Stages

end
-- ==== Proof.MergeSStages.lean ====
module

public import proofs.«01_k».proof.Proof.MergeSRun
public import proofs.«01_k».proof.Proof.MergeSPoolStages
public import Idealize.ShloMosaic.Lib.Pipeline.Value
public import Idealize.ShloMosaic.Lib.ValueIdx
public import Idealize.ShloMosaic.PureOps.Ideal.Laws

/-!
The reference of the sample rows' merge, one operation at a time: what each operation writes as a function of the
arguments, and each such value read at an index.  This half: the gates, the projections, the residual and the norm.
-/

@[expose] public section

noncomputable section

namespace Cert.MergeSRefIdeal.Stages

open Cert.MergeSRefIdeal Cert.MergeSRefIdeal.Gen Idealize.ShloMosaic Idealize.ShloMosaic.TcCoe Idealize.SL.Sem Idealize.ShloMosaic.StableHlo

variable {F : FTy → Type} [FloatOps F]

def val_main_v63 (x5 : (⟨S1x512, .f32⟩ : BufTy).Contents (Elt F)) : (⟨S256x512, .f32⟩ : BufTy).Contents (Elt F) :=
  broadcastInDim S256x512 ![0, 1] bcast_S1x512_S256x512_0_1 (x5)
abbrev idx_main_v63 (i : S256x512.Idx) : S1x512.Idx := fun a => match a with
  | ⟨0, _⟩ => ⟨0, Nat.one_pos⟩
  | ⟨1, _⟩ => ⟨(i 1).val, (i 1).isLt⟩
theorem val_main_v63_apply (x5 : (⟨S1x512, .f32⟩ : BufTy).Contents (Elt F)) (i : S256x512.Idx) :
    val_main_v63 (F := F) x5 i = x5 (idx_main_v63 i) := by
  unfold val_main_v63
  exact broadcastInDim_apply _ bcast_S1x512_S256x512_0_1 x5 i (idx_main_v63 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v64 (x3 : (⟨S32x24x512, .f32⟩ : BufTy).Contents (Elt F)) (x4 : (⟨S4x128x128, .bf16⟩ : BufTy).Contents (Elt F)) (x5 : (⟨S1x512, .f32⟩ : BufTy).Contents (Elt F)) : (⟨S256x512, .f32⟩ : BufTy).Contents (Elt F) :=
  mulf (val_main_v62 (F := F) x3 x4) (val_main_v63 (F := F) x5)
theorem val_main_v64_apply (x3 : (⟨S32x24x512, .f32⟩ : BufTy).Contents (Elt F)) (x4 : (⟨S4x128x128, .bf16⟩ : BufTy).Contents (Elt F)) (x5 : (⟨S1x512, .f32⟩ : BufTy).Contents (Elt F)) (i : S256x512.Idx) :
    val_main_v64 (F := F) x3 x4 x5 i = FloatOps.mulf (val_main_v62 (F := F) x3 x4 i) (val_main_v63 (F := F) x5 i) := rfl

def val_main_v65 (x2 : (⟨S256x5760, .f32⟩ : BufTy).Contents (Elt F)) : (⟨S256x512, .f32⟩ : BufTy).Contents (Elt F) :=
  extractStridedSlice S256x512 ![0, 1536] (x2) slices_S256x5760_S256x512_0_1536
set_option backward.proofsInPublic true in
abbrev idx_main_v65 (i : S256x512.Idx) : S256x5760.Idx := fun a => match a with
  | ⟨0, _⟩ => ⟨(i 0).val, (i 0).isLt⟩
  | ⟨1, _⟩ => ⟨1536 + (i 1).val, by have h1 : (i 1).val < 512 := (i 1).isLt; show 1536 + (i 1).val < 5760; omega⟩
theorem val_main_v65_apply (x2 : (⟨S256x5760, .f32⟩ : BufTy).Contents (Elt F)) (i : S256x512.Idx) :
    val_main_v65 (F := F) x2 i = x2 (idx_main_v65 i) := by
  unfold val_main_v65
  exact extractStridedSlice_apply ![0, 1536] x2 slices_S256x5760_S256x512_0_1536 i (idx_main_v65 i) (fun a => match a with
    | ⟨0, _⟩ => by show (i 0).val = 0 + (i 0).val; omega
    | ⟨1, _⟩ => by show 1536 + (i 1).val = 1536 + (i 1).val; omega)

def val_main_v66 (x2 : (⟨S256x5760, .f32⟩ : BufTy).Contents (Elt F)) : (⟨S256x512, .f32⟩ : BufTy).Contents (Elt F) :=
  extractStridedSlice S256x512 ![0, 3072] (x2) slices_S256x5760_S256x512_0_3072
set_option backward.proofsInPublic true in
abbrev idx_main_v66 (i : S256x512.Idx) : S256x5760.Idx := fun a => match a with
  | ⟨0, _⟩ => ⟨(i 0).val, (i 0).isLt⟩
  | ⟨1, _⟩ => ⟨3072 + (i 1).val, by have h1 : (i 1).val < 512 := (i 1).isLt; show 3072 + (i 1).val < 5760; omega⟩
theorem val_main_v66_apply (x2 : (⟨S256x5760, .f32⟩ : BufTy).Contents (Elt F)) (i : S256x512.Idx) :
    val_main_v66 (F := F) x2 i = x2 (idx_main_v66 i) := by
  unfold val_main_v66
  exact extractStridedSlice_apply ![0, 3072] x2 slices_S256x5760_S256x512_0_3072 i (idx_main_v66 i) (fun a => match a with
    | ⟨0, _⟩ => by show (i 0).val = 0 + (i 0).val; omega
    | ⟨1, _⟩ => by show 3072 + (i 1).val = 3072 + (i 1).val; omega)

def val_main_v67 (x2 : (⟨S256x5760, .f32⟩ : BufTy).Contents (Elt F)) : (⟨S256x1024, .f32⟩ : BufTy).Contents (Elt F) :=
  extractStridedSlice S256x1024 ![0, 3584] (x2) slices_S256x5760_S256x1024_0_3584
set_option backward.proofsInPublic true in
abbrev idx_main_v67 (i : S256x1024.Idx) : S256x5760.Idx := fun a => match a with
  | ⟨0, _⟩ => ⟨(i 0).val, (i 0).isLt⟩
  | ⟨1, _⟩ => ⟨3584 + (i 1).val, by have h1 : (i 1).val < 1024 := (i 1).isLt; show 3584 + (i 1).val < 5760; omega⟩
theorem val_main_v67_apply (x2 : (⟨S256x5760, .f32⟩ : BufTy).Contents (Elt F)) (i : S256x1024.Idx) :
    val_main_v67 (F := F) x2 i = x2 (idx_main_v67 i) := by
  unfold val_main_v67
  exact extractStridedSlice_apply ![0, 3584] x2 slices_S256x5760_S256x1024_0_3584 i (idx_main_v67 i) (fun a => match a with
    | ⟨0, _⟩ => by show (i 0).val = 0 + (i 0).val; omega
    | ⟨1, _⟩ => by show 3584 + (i 1).val = 3584 + (i 1).val; omega)

def val_main_v68 (x2 : (⟨S256x5760, .f32⟩ : BufTy).Contents (Elt F)) : (⟨S256x1024, .f32⟩ : BufTy).Contents (Elt F) :=
  extractStridedSlice S256x1024 ![0, 4608] (x2) slices_S256x5760_S256x1024_0_4608
set_option backward.proofsInPublic true in
abbrev idx_main_v68 (i : S256x1024.Idx) : S256x5760.Idx := fun a => match a with
  | ⟨0, _⟩ => ⟨(i 0).val, (i 0).isLt⟩
  | ⟨1, _⟩ => ⟨4608 + (i 1).val, by have h1 : (i 1).val < 1024 := (i 1).isLt; show 4608 + (i 1).val < 5760; omega⟩
theorem val_main_v68_apply (x2 : (⟨S256x5760, .f32⟩ : BufTy).Contents (Elt F)) (i : S256x1024.Idx) :
    val_main_v68 (F := F) x2 i = x2 (idx_main_v68 i) := by
  unfold val_main_v68
  exact extractStridedSlice_apply ![0, 4608] x2 slices_S256x5760_S256x1024_0_4608 i (idx_main_v68 i) (fun a => match a with
    | ⟨0, _⟩ => by show (i 0).val = 0 + (i 0).val; omega
    | ⟨1, _⟩ => by show 4608 + (i 1).val = 4608 + (i 1).val; omega)

def val_main_v69 (x7 : (⟨S512x1024, .bf16⟩ : BufTy).Contents (Elt F)) : (⟨S512x1024, .f32⟩ : BufTy).Contents (Elt F) :=
  extf .f32 (x7) bitsLt_bf16_f32
theorem val_main_v69_apply (x7 : (⟨S512x1024, .bf16⟩ : BufTy).Contents (Elt F)) (i : S512x1024.Idx) :
    val_main_v69 (F := F) x7 i = FloatOps.extf .f32 bitsLt_bf16_f32 (x7 i) := rfl

def val_main_v70 (x8 : (⟨S512x1024, .bf16⟩ : BufTy).Contents (Elt F)) : (⟨S512x1024, .f32⟩ : BufTy).Contents (Elt F) :=
  extf .f32 (x8) bitsLt_bf16_f32
theorem val_main_v70_apply (x8 : (⟨S512x1024, .bf16⟩ : BufTy).Contents (Elt F)) (i : S512x1024.Idx) :
    val_main_v70 (F := F) x8 i = FloatOps.extf .f32 bitsLt_bf16_f32 (x8 i) := rfl

def val_main_v71 (x9 : (⟨S1024x1024, .bf16⟩ : BufTy).Contents (Elt F)) : (⟨S1024x1024, .f32⟩ : BufTy).Contents (Elt F) :=
  extf .f32 (x9) bitsLt_bf16_f32
theorem val_main_v71_apply (x9 : (⟨S1024x1024, .bf16⟩ : BufTy).Contents (Elt F)) (i : S1024x1024.Idx) :
    val_main_v71 (F := F) x9 i = FloatOps.extf .f32 bitsLt_bf16_f32 (x9 i) := rfl

def val_main_call0_v0 (x2 : (⟨S256x5760, .f32⟩ : BufTy).Contents (Elt F)) : (⟨S256x512, .f32⟩ : BufTy).Contents (Elt F) :=
  Host.negf (val_main_v65 (F := F) x2)
theorem val_main_call0_v0_apply (x2 : (⟨S256x5760, .f32⟩ : BufTy).Contents (Elt F)) (i : S256x512.Idx) :
    val_main_call0_v0 (F := F) x2 i = FloatOps.hostNegf (val_main_v65 (F := F) x2 i) := rfl

def val_main_call0_v1 (x2 : (⟨S256x5760, .f32⟩ : BufTy).Contents (Elt F)) : (⟨S256x512, .f32⟩ : BufTy).Contents (Elt F) :=
  Host.exp (val_main_call0_v0 (F := F) x2)
theorem val_main_call0_v1_apply (x2 : (⟨S256x5760, .f32⟩ : BufTy).Contents (Elt F)) (i : S256x512.Idx) :
    val_main_call0_v1 (F := F) x2 i = FloatOps.hostUnary .exp (val_main_call0_v0 (F := F) x2 i) := rfl

def val_main_call0_cst : (⟨S_, .f32⟩ : BufTy).Contents (Elt F) :=
  constant S_ .f32 0x3F800000#32
theorem val_main_call0_cst_apply (i : S_.Idx) :
    val_main_call0_cst (F := F) i = FloatOps.ofBits .f32 0x3F800000#32 := rfl

def val_main_call0_v2 : (⟨S256x512, .f32⟩ : BufTy).Contents (Elt F) :=
  broadcastInDim S256x512 ![] bcast_S_S256x512 (val_main_call0_cst (F := F))
abbrev idx_main_call0_v2 (i : S256x512.Idx) : S_.Idx := fun a => a.elim0
theorem val_main_call0_v2_apply (i : S256x512.Idx) :
    val_main_call0_v2 (F := F) i = val_main_call0_cst (F := F) (idx_main_call0_v2 i) := by
  unfold val_main_call0_v2
  generalize val_main_call0_cst (F := F) = y
  exact broadcastInDim_apply _ bcast_S_S256x512 y i (idx_main_call0_v2 i) (fun a => a.elim0)

def val_main_call0_v3 (x2 : (⟨S256x5760, .f32⟩ : BufTy).Contents (Elt F)) : (⟨S256x512, .f32⟩ : BufTy).Contents (Elt F) :=
  addf (val_main_call0_v2 (F := F)) (val_main_call0_v1 (F := F) x2)
theorem val_main_call0_v3_apply (x2 : (⟨S256x5760, .f32⟩ : BufTy).Contents (Elt F)) (i : S256x512.Idx) :
    val_main_call0_v3 (F := F) x2 i = FloatOps.addf (val_main_call0_v2 (F := F) i) (val_main_call0_v1 (F := F) x2 i) := rfl

def val_main_call0_cst_0 : (⟨S_, .f32⟩ : BufTy).Contents (Elt F) :=
  constant S_ .f32 0x3F800000#32
theorem val_main_call0_cst_0_apply (i : S_.Idx) :
    val_main_call0_cst_0 (F := F) i = FloatOps.ofBits .f32 0x3F800000#32 := rfl

def val_main_call0_v4 : (⟨S256x512, .f32⟩ : BufTy).Contents (Elt F) :=
  broadcastInDim S256x512 ![] bcast_S_S256x512 (val_main_call0_cst_0 (F := F))
abbrev idx_main_call0_v4 (i : S256x512.Idx) : S_.Idx := fun a => a.elim0
theorem val_main_call0_v4_apply (i : S256x512.Idx) :
    val_main_call0_v4 (F := F) i = val_main_call0_cst_0 (F := F) (idx_main_call0_v4 i) := by
  unfold val_main_call0_v4
  generalize val_main_call0_cst_0 (F := F) = y
  exact broadcastInDim_apply _ bcast_S_S256x512 y i (idx_main_call0_v4 i) (fun a => a.elim0)

def val_main_call0_v5 (x2 : (⟨S256x5760, .f32⟩ : BufTy).Contents (Elt F)) : (⟨S256x512, .f32⟩ : BufTy).Contents (Elt F) :=
  Host.divf (val_main_call0_v4 (F := F)) (val_main_call0_v3 (F := F) x2)
theorem val_main_call0_v5_apply (x2 : (⟨S256x5760, .f32⟩ : BufTy).Contents (Elt F)) (i : S256x512.Idx) :
    val_main_call0_v5 (F := F) x2 i = FloatOps.hostDivf (val_main_call0_v4 (F := F) i) (val_main_call0_v3 (F := F) x2 i) := rfl

def val_main_v72 (x2 : (⟨S256x5760, .f32⟩ : BufTy).Contents (Elt F)) : (⟨S256x512, .f32⟩ : BufTy).Contents (Elt F) :=
  mulf (val_main_v65 (F := F) x2) (val_main_call0_v5 (F := F) x2)
theorem val_main_v72_apply (x2 : (⟨S256x5760, .f32⟩ : BufTy).Contents (Elt F)) (i : S256x512.Idx) :
    val_main_v72 (F := F) x2 i = FloatOps.mulf (val_main_v65 (F := F) x2 i) (val_main_call0_v5 (F := F) x2 i) := rfl

def val_main_v73 (x1 : (⟨S256x512, .f32⟩ : BufTy).Contents (Elt F)) (x2 : (⟨S256x5760, .f32⟩ : BufTy).Contents (Elt F)) : (⟨S256x512, .f32⟩ : BufTy).Contents (Elt F) :=
  mulf (x1) (val_main_v72 (F := F) x2)
theorem val_main_v73_apply (x1 : (⟨S256x512, .f32⟩ : BufTy).Contents (Elt F)) (x2 : (⟨S256x5760, .f32⟩ : BufTy).Contents (Elt F)) (i : S256x512.Idx) :
    val_main_v73 (F := F) x1 x2 i = FloatOps.mulf (x1 i) (val_main_v72 (F := F) x2 i) := rfl

def val_main_v74 (x1 : (⟨S256x512, .f32⟩ : BufTy).Contents (Elt F)) (x2 : (⟨S256x5760, .f32⟩ : BufTy).Contents (Elt F)) (x7 : (⟨S512x1024, .bf16⟩ : BufTy).Contents (Elt F)) : (⟨S256x1024, .f32⟩ : BufTy).Contents (Elt F) :=
  Host.dotGeneral dot_S256x512_S512x1024_S256x1024_1_0_0_1_n_n none (val_main_v73 (F := F) x1 x2) (val_main_v69 (F := F) x7)
theorem lhs_main_v74_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem lhs_main_v74_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
theorem rhs_main_v74_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
theorem rhs_main_v74_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl
abbrev lidx_main_v74 (i : S256x1024.Idx) (k : Fin 512) : S256x512.Idx := fun a => match a with
  | ⟨0, _⟩ => ⟨(i 0).val, (i 0).isLt⟩
  | ⟨1, _⟩ => ⟨k.val, k.isLt⟩
abbrev ridx_main_v74 (i : S256x1024.Idx) (k : Fin 512) : S512x1024.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v74_apply (x1 : (⟨S256x512, .f32⟩ : BufTy).Contents (Elt Ideal)) (x2 : (⟨S256x5760, .f32⟩ : BufTy).Contents (Elt Ideal)) (x7 : (⟨S512x1024, .bf16⟩ : BufTy).Contents (Elt Ideal)) (i : S256x1024.Idx) :
    val_main_v74 (F := Ideal) x1 x2 x7 i = ∑ k : Fin 512, (val_main_v73 (F := Ideal) x1 x2) (lidx_main_v74 i k) * (val_main_v69 (F := Ideal) x7) (ridx_main_v74 i k) := by
  unfold val_main_v74
  generalize val_main_v73 (F := Ideal) x1 x2 = y0
  generalize val_main_v69 (F := Ideal) x7 = y1
  simp only [Host.dotGeneral]
  rw [Ideal.dotGeneral_apply, ← Equiv.sum_comp (ValueIdx.contrEquiv1 dot_S256x512_S512x1024_S256x1024_1_0_0_1_n_n 512 rfl rfl).symm]
  refine Finset.sum_congr rfl fun k _ => ?_
  have hk := ValueIdx.contrEquiv1_symm_val dot_S256x512_S512x1024_S256x1024_1_0_0_1_n_n 512 rfl rfl k
  have el : dot_S256x512_S512x1024_S256x1024_1_0_0_1_n_n.lhsIdx i ((ValueIdx.contrEquiv1 dot_S256x512_S512x1024_S256x1024_1_0_0_1_n_n 512 rfl rfl).symm k) = lidx_main_v74 i k := funext fun a => Fin.ext (by
    match a with
    | ⟨0, _⟩ => exact lhs_main_v74_0 _ _
    | ⟨1, _⟩ => exact (lhs_main_v74_1 _ _).trans hk)
  have er : dot_S256x512_S512x1024_S256x1024_1_0_0_1_n_n.rhsIdx i ((ValueIdx.contrEquiv1 dot_S256x512_S512x1024_S256x1024_1_0_0_1_n_n 512 rfl rfl).symm k) = ridx_main_v74 i k := funext fun a => Fin.ext (by
    match a with
    | ⟨0, _⟩ => exact (rhs_main_v74_0 _ _).trans hk
    | ⟨1, _⟩ => exact rhs_main_v74_1 _ _)
  rw [el, er]

def val_main_call1_v0 (x2 : (⟨S256x5760, .f32⟩ : BufTy).Contents (Elt F)) : (⟨S256x512, .f32⟩ : BufTy).Contents (Elt F) :=
  Host.negf (val_main_v66 (F := F) x2)
theorem val_main_call1_v0_apply (x2 : (⟨S256x5760, .f32⟩ : BufTy).Contents (Elt F)) (i : S256x512.Idx) :
    val_main_call1_v0 (F := F) x2 i = FloatOps.hostNegf (val_main_v66 (F := F) x2 i) := rfl

def val_main_call1_v1 (x2 : (⟨S256x5760, .f32⟩ : BufTy).Contents (Elt F)) : (⟨S256x512, .f32⟩ : BufTy).Contents (Elt F) :=
  Host.exp (val_main_call1_v0 (F := F) x2)
theorem val_main_call1_v1_apply (x2 : (⟨S256x5760, .f32⟩ : BufTy).Contents (Elt F)) (i : S256x512.Idx) :
    val_main_call1_v1 (F := F) x2 i = FloatOps.hostUnary .exp (val_main_call1_v0 (F := F) x2 i) := rfl

def val_main_call1_cst : (⟨S_, .f32⟩ : BufTy).Contents (Elt F) :=
  constant S_ .f32 0x3F800000#32
theorem val_main_call1_cst_apply (i : S_.Idx) :
    val_main_call1_cst (F := F) i = FloatOps.ofBits .f32 0x3F800000#32 := rfl

def val_main_call1_v2 : (⟨S256x512, .f32⟩ : BufTy).Contents (Elt F) :=
  broadcastInDim S256x512 ![] bcast_S_S256x512 (val_main_call1_cst (F := F))
abbrev idx_main_call1_v2 (i : S256x512.Idx) : S_.Idx := fun a => a.elim0
theorem val_main_call1_v2_apply (i : S256x512.Idx) :
    val_main_call1_v2 (F := F) i = val_main_call1_cst (F := F) (idx_main_call1_v2 i) := by
  unfold val_main_call1_v2
  generalize val_main_call1_cst (F := F) = y
  exact broadcastInDim_apply _ bcast_S_S256x512 y i (idx_main_call1_v2 i) (fun a => a.elim0)

def val_main_call1_v3 (x2 : (⟨S256x5760, .f32⟩ : BufTy).Contents (Elt F)) : (⟨S256x512, .f32⟩ : BufTy).Contents (Elt F) :=
  addf (val_main_call1_v2 (F := F)) (val_main_call1_v1 (F := F) x2)
theorem val_main_call1_v3_apply (x2 : (⟨S256x5760, .f32⟩ : BufTy).Contents (Elt F)) (i : S256x512.Idx) :
    val_main_call1_v3 (F := F) x2 i = FloatOps.addf (val_main_call1_v2 (F := F) i) (val_main_call1_v1 (F := F) x2 i) := rfl

def val_main_call1_cst_0 : (⟨S_, .f32⟩ : BufTy).Contents (Elt F) :=
  constant S_ .f32 0x3F800000#32
theorem val_main_call1_cst_0_apply (i : S_.Idx) :
    val_main_call1_cst_0 (F := F) i = FloatOps.ofBits .f32 0x3F800000#32 := rfl

def val_main_call1_v4 : (⟨S256x512, .f32⟩ : BufTy).Contents (Elt F) :=
  broadcastInDim S256x512 ![] bcast_S_S256x512 (val_main_call1_cst_0 (F := F))
abbrev idx_main_call1_v4 (i : S256x512.Idx) : S_.Idx := fun a => a.elim0
theorem val_main_call1_v4_apply (i : S256x512.Idx) :
    val_main_call1_v4 (F := F) i = val_main_call1_cst_0 (F := F) (idx_main_call1_v4 i) := by
  unfold val_main_call1_v4
  generalize val_main_call1_cst_0 (F := F) = y
  exact broadcastInDim_apply _ bcast_S_S256x512 y i (idx_main_call1_v4 i) (fun a => a.elim0)

def val_main_call1_v5 (x2 : (⟨S256x5760, .f32⟩ : BufTy).Contents (Elt F)) : (⟨S256x512, .f32⟩ : BufTy).Contents (Elt F) :=
  Host.divf (val_main_call1_v4 (F := F)) (val_main_call1_v3 (F := F) x2)
theorem val_main_call1_v5_apply (x2 : (⟨S256x5760, .f32⟩ : BufTy).Contents (Elt F)) (i : S256x512.Idx) :
    val_main_call1_v5 (F := F) x2 i = FloatOps.hostDivf (val_main_call1_v4 (F := F) i) (val_main_call1_v3 (F := F) x2 i) := rfl

def val_main_v75 (x2 : (⟨S256x5760, .f32⟩ : BufTy).Contents (Elt F)) : (⟨S256x512, .f32⟩ : BufTy).Contents (Elt F) :=
  mulf (val_main_v66 (F := F) x2) (val_main_call1_v5 (F := F) x2)
theorem val_main_v75_apply (x2 : (⟨S256x5760, .f32⟩ : BufTy).Contents (Elt F)) (i : S256x512.Idx) :
    val_main_v75 (F := F) x2 i = FloatOps.mulf (val_main_v66 (F := F) x2 i) (val_main_call1_v5 (F := F) x2 i) := rfl

def val_main_v76 (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) : (⟨S256x512, .f32⟩ : BufTy).Contents (Elt F) :=
  mulf (val_main_v64 (F := F) x3 x4 x5) (val_main_v75 (F := F) x2)
theorem val_main_v76_apply (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (i : S256x512.Idx) :
    val_main_v76 (F := F) x2 x3 x4 x5 i = FloatOps.mulf (val_main_v64 (F := F) x3 x4 x5 i) (val_main_v75 (F := F) x2 i) := rfl

def val_main_v77 (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x8 : (⟨S512x1024, .bf16⟩ : BufTy).Contents (Elt F)) : (⟨S256x1024, .f32⟩ : BufTy).Contents (Elt F) :=
  Host.dotGeneral dot_S256x512_S512x1024_S256x1024_1_0_0_1_n_n none (val_main_v76 (F := F) x2 x3 x4 x5) (val_main_v70 (F := F) x8)
theorem lhs_main_v77_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem lhs_main_v77_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
theorem rhs_main_v77_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
theorem rhs_main_v77_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl
abbrev lidx_main_v77 (i : S256x1024.Idx) (k : Fin 512) : S256x512.Idx := fun a => match a with
  | ⟨0, _⟩ => ⟨(i 0).val, (i 0).isLt⟩
  | ⟨1, _⟩ => ⟨k.val, k.isLt⟩
abbrev ridx_main_v77 (i : S256x1024.Idx) (k : Fin 512) : S512x1024.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v77_apply (x2 : (⟨S256x5760, .f32⟩ : BufTy).Contents (Elt Ideal)) (x3 : (⟨S32x24x512, .f32⟩ : BufTy).Contents (Elt Ideal)) (x4 : (⟨S4x128x128, .bf16⟩ : BufTy).Contents (Elt Ideal)) (x5 : (⟨S1x512, .f32⟩ : BufTy).Contents (Elt Ideal)) (x8 : (⟨S512x1024, .bf16⟩ : BufTy).Contents (Elt Ideal)) (i : S256x1024.Idx) :
    val_main_v77 (F := Ideal) x2 x3 x4 x5 x8 i = ∑ k : Fin 512, (val_main_v76 (F := Ideal) x2 x3 x4 x5) (lidx_main_v77 i k) * (val_main_v70 (F := Ideal) x8) (ridx_main_v77 i k) := by
  unfold val_main_v77
  generalize val_main_v76 (F := Ideal) x2 x3 x4 x5 = y0
  generalize val_main_v70 (F := Ideal) x8 = y1
  simp only [Host.dotGeneral]
  rw [Ideal.dotGeneral_apply, ← Equiv.sum_comp (ValueIdx.contrEquiv1 dot_S256x512_S512x1024_S256x1024_1_0_0_1_n_n 512 rfl rfl).symm]
  refine Finset.sum_congr rfl fun k _ => ?_
  have hk := ValueIdx.contrEquiv1_symm_val dot_S256x512_S512x1024_S256x1024_1_0_0_1_n_n 512 rfl rfl k
  have el : dot_S256x512_S512x1024_S256x1024_1_0_0_1_n_n.lhsIdx i ((ValueIdx.contrEquiv1 dot_S256x512_S512x1024_S256x1024_1_0_0_1_n_n 512 rfl rfl).symm k) = lidx_main_v77 i k := funext fun a => Fin.ext (by
    match a with
    | ⟨0, _⟩ => exact lhs_main_v77_0 _ _
    | ⟨1, _⟩ => exact (lhs_main_v77_1 _ _).trans hk)
  have er : dot_S256x512_S512x1024_S256x1024_1_0_0_1_n_n.rhsIdx i ((ValueIdx.contrEquiv1 dot_S256x512_S512x1024_S256x1024_1_0_0_1_n_n 512 rfl rfl).symm k) = ridx_main_v77 i k := funext fun a => Fin.ext (by
    match a with
    | ⟨0, _⟩ => exact (rhs_main_v77_0 _ _).trans hk
    | ⟨1, _⟩ => exact rhs_main_v77_1 _ _)
  rw [el, er]

def val_main_v78 (x6 : (⟨S2x1024, .f32⟩ : BufTy).Contents (Elt F)) : (⟨S1x1024, .f32⟩ : BufTy).Contents (Elt F) :=
  extractStridedSlice S1x1024 ![0, 0] (x6) slices_S2x1024_S1x1024_0_0
set_option backward.proofsInPublic true in
abbrev idx_main_v78 (i : S1x1024.Idx) : S2x1024.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v78_apply (x6 : (⟨S2x1024, .f32⟩ : BufTy).Contents (Elt F)) (i : S1x1024.Idx) :
    val_main_v78 (F := F) x6 i = x6 (idx_main_v78 i) := by
  unfold val_main_v78
  exact extractStridedSlice_apply ![0, 0] x6 slices_S2x1024_S1x1024_0_0 i (idx_main_v78 i) (fun a => match a with
    | ⟨0, _⟩ => by show (i 0).val = 0 + (i 0).val; omega
    | ⟨1, _⟩ => by show (i 1).val = 0 + (i 1).val; omega)

def val_main_v79 (x6 : (⟨S2x1024, .f32⟩ : BufTy).Contents (Elt F)) : (⟨S1024, .f32⟩ : BufTy).Contents (Elt F) :=
  shapeCast _ (val_main_v78 (F := F) x6) shapeCasts_S1x1024_S1024
set_option backward.proofsInPublic true in
abbrev idx_main_v79 (i : S1024.Idx) : S1x1024.Idx := fun a => match a with
  | ⟨0, _⟩ => ⟨0, Nat.one_pos⟩
  | ⟨1, _⟩ => ⟨((i 0).val) % 1024, by have h0 : (i 0).val < 1024 := (i 0).isLt; show ((i 0).val) % 1024 < 1024; omega⟩
theorem val_main_v79_apply (x6 : (⟨S2x1024, .f32⟩ : BufTy).Contents (Elt F)) (i : S1024.Idx) :
    val_main_v79 (F := F) x6 i = val_main_v78 (F := F) x6 (idx_main_v79 i) := by
  unfold val_main_v79
  generalize val_main_v78 (F := F) x6 = y
  exact shapeCast_apply y shapeCasts_S1x1024_S1024 i (idx_main_v79 i)
    (by rewrite [Shape.rowMajor_val_two, Shape.rowMajor_val_one]; have h0 : (i 0).val < 1024 := (i 0).isLt; show 0 * 1024 + ((i 0).val) % 1024 = (i 0).val; omega)

def val_main_v80 (x6 : (⟨S2x1024, .f32⟩ : BufTy).Contents (Elt F)) : (⟨S1x1024, .f32⟩ : BufTy).Contents (Elt F) :=
  broadcastInDim S1x1024 ![1] bcast_S1024_S1x1024_1 (val_main_v79 (F := F) x6)
abbrev idx_main_v80 (i : S1x1024.Idx) : S1024.Idx := fun a => match a with
  | ⟨0, _⟩ => ⟨(i 1).val, (i 1).isLt⟩
theorem val_main_v80_apply (x6 : (⟨S2x1024, .f32⟩ : BufTy).Contents (Elt F)) (i : S1x1024.Idx) :
    val_main_v80 (F := F) x6 i = val_main_v79 (F := F) x6 (idx_main_v80 i) := by
  unfold val_main_v80
  generalize val_main_v79 (F := F) x6 = y
  exact broadcastInDim_apply _ bcast_S1024_S1x1024_1 y i (idx_main_v80 i) (fun a => match a with
    | ⟨0, _⟩ => by show (i 1).val = if (1024 : Nat) = 1 then 0 else (i 1).val; rw [if_neg (by decide)])

def val_main_v81 (x6 : (⟨S2x1024, .f32⟩ : BufTy).Contents (Elt F)) : (⟨S256x1024, .f32⟩ : BufTy).Contents (Elt F) :=
  broadcastInDim S256x1024 ![0, 1] bcast_S1x1024_S256x1024_0_1 (val_main_v80 (F := F) x6)
abbrev idx_main_v81 (i : S256x1024.Idx) : S1x1024.Idx := fun a => match a with
  | ⟨0, _⟩ => ⟨0, Nat.one_pos⟩
  | ⟨1, _⟩ => ⟨(i 1).val, (i 1).isLt⟩
theorem val_main_v81_apply (x6 : (⟨S2x1024, .f32⟩ : BufTy).Contents (Elt F)) (i : S256x1024.Idx) :
    val_main_v81 (F := F) x6 i = val_main_v80 (F := F) x6 (idx_main_v81 i) := by
  unfold val_main_v81
  generalize val_main_v80 (F := F) x6 = y
  exact broadcastInDim_apply _ bcast_S1x1024_S256x1024_0_1 y i (idx_main_v81 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

def val_main_v82 (x2 : (⟨S256x5760, .f32⟩ : BufTy).Contents (Elt F)) (x6 : (⟨S2x1024, .f32⟩ : BufTy).Contents (Elt F)) : (⟨S256x1024, .f32⟩ : BufTy).Contents (Elt F) :=
  addf (val_main_v67 (F := F) x2) (val_main_v81 (F := F) x6)
theorem val_main_v82_apply (x2 : (⟨S256x5760, .f32⟩ : BufTy).Contents (Elt F)) (x6 : (⟨S2x1024, .f32⟩ : BufTy).Contents (Elt F)) (i : S256x1024.Idx) :
    val_main_v82 (F := F) x2 x6 i = FloatOps.addf (val_main_v67 (F := F) x2 i) (val_main_v81 (F := F) x6 i) := rfl

def val_main_v83 (x2 : (⟨S256x5760, .f32⟩ : BufTy).Contents (Elt F)) (x6 : (⟨S2x1024, .f32⟩ : BufTy).Contents (Elt F)) : (⟨S256x1024, .f32⟩ : BufTy).Contents (Elt F) :=
  Host.negf (val_main_v82 (F := F) x2 x6)
theorem val_main_v83_apply (x2 : (⟨S256x5760, .f32⟩ : BufTy).Contents (Elt F)) (x6 : (⟨S2x1024, .f32⟩ : BufTy).Contents (Elt F)) (i : S256x1024.Idx) :
    val_main_v83 (F := F) x2 x6 i = FloatOps.hostNegf (val_main_v82 (F := F) x2 x6 i) := rfl

def val_main_v84 (x2 : (⟨S256x5760, .f32⟩ : BufTy).Contents (Elt F)) (x6 : (⟨S2x1024, .f32⟩ : BufTy).Contents (Elt F)) : (⟨S256x1024, .f32⟩ : BufTy).Contents (Elt F) :=
  Host.exp (val_main_v83 (F := F) x2 x6)
theorem val_main_v84_apply (x2 : (⟨S256x5760, .f32⟩ : BufTy).Contents (Elt F)) (x6 : (⟨S2x1024, .f32⟩ : BufTy).Contents (Elt F)) (i : S256x1024.Idx) :
    val_main_v84 (F := F) x2 x6 i = FloatOps.hostUnary .exp (val_main_v83 (F := F) x2 x6 i) := rfl

def val_main_cst_7 : (⟨S_, .f32⟩ : BufTy).Contents (Elt F) :=
  constant S_ .f32 0x3F800000#32
theorem val_main_cst_7_apply (i : S_.Idx) :
    val_main_cst_7 (F := F) i = FloatOps.ofBits .f32 0x3F800000#32 := rfl

def val_main_v85 : (⟨S256x1024, .f32⟩ : BufTy).Contents (Elt F) :=
  broadcastInDim S256x1024 ![] bcast_S_S256x1024 (val_main_cst_7 (F := F))
abbrev idx_main_v85 (i : S256x1024.Idx) : S_.Idx := fun a => a.elim0
theorem val_main_v85_apply (i : S256x1024.Idx) :
    val_main_v85 (F := F) i = val_main_cst_7 (F := F) (idx_main_v85 i) := by
  unfold val_main_v85
  generalize val_main_cst_7 (F := F) = y
  exact broadcastInDim_apply _ bcast_S_S256x1024 y i (idx_main_v85 i) (fun a => a.elim0)

def val_main_v86 (x2 : (⟨S256x5760, .f32⟩ : BufTy).Contents (Elt F)) (x6 : (⟨S2x1024, .f32⟩ : BufTy).Contents (Elt F)) : (⟨S256x1024, .f32⟩ : BufTy).Contents (Elt F) :=
  addf (val_main_v85 (F := F)) (val_main_v84 (F := F) x2 x6)
theorem val_main_v86_apply (x2 : (⟨S256x5760, .f32⟩ : BufTy).Contents (Elt F)) (x6 : (⟨S2x1024, .f32⟩ : BufTy).Contents (Elt F)) (i : S256x1024.Idx) :
    val_main_v86 (F := F) x2 x6 i = FloatOps.addf (val_main_v85 (F := F) i) (val_main_v84 (F := F) x2 x6 i) := rfl

def val_main_cst_8 : (⟨S_, .f32⟩ : BufTy).Contents (Elt F) :=
  constant S_ .f32 0x3F800000#32
theorem val_main_cst_8_apply (i : S_.Idx) :
    val_main_cst_8 (F := F) i = FloatOps.ofBits .f32 0x3F800000#32 := rfl

def val_main_v87 : (⟨S256x1024, .f32⟩ : BufTy).Contents (Elt F) :=
  broadcastInDim S256x1024 ![] bcast_S_S256x1024 (val_main_cst_8 (F := F))
abbrev idx_main_v87 (i : S256x1024.Idx) : S_.Idx := fun a => a.elim0
theorem val_main_v87_apply (i : S256x1024.Idx) :
    val_main_v87 (F := F) i = val_main_cst_8 (F := F) (idx_main_v87 i) := by
  unfold val_main_v87
  generalize val_main_cst_8 (F := F) = y
  exact broadcastInDim_apply _ bcast_S_S256x1024 y i (idx_main_v87 i) (fun a => a.elim0)

def val_main_v88 (x2 : (⟨S256x5760, .f32⟩ : BufTy).Contents (Elt F)) (x6 : (⟨S2x1024, .f32⟩ : BufTy).Contents (Elt F)) : (⟨S256x1024, .f32⟩ : BufTy).Contents (Elt F) :=
  Host.divf (val_main_v87 (F := F)) (val_main_v86 (F := F) x2 x6)
theorem val_main_v88_apply (x2 : (⟨S256x5760, .f32⟩ : BufTy).Contents (Elt F)) (x6 : (⟨S2x1024, .f32⟩ : BufTy).Contents (Elt F)) (i : S256x1024.Idx) :
    val_main_v88 (F := F) x2 x6 i = FloatOps.hostDivf (val_main_v87 (F := F) i) (val_main_v86 (F := F) x2 x6 i) := rfl

def val_main_v89 (x1 : (⟨S256x512, .f32⟩ : BufTy).Contents (Elt F)) (x2 : (⟨S256x5760, .f32⟩ : BufTy).Contents (Elt F)) (x6 : (⟨S2x1024, .f32⟩ : BufTy).Contents (Elt F)) (x7 : (⟨S512x1024, .bf16⟩ : BufTy).Contents (Elt F)) : (⟨S256x1024, .f32⟩ : BufTy).Contents (Elt F) :=
  mulf (val_main_v88 (F := F) x2 x6) (val_main_v74 (F := F) x1 x2 x7)
theorem val_main_v89_apply (x1 : (⟨S256x512, .f32⟩ : BufTy).Contents (Elt F)) (x2 : (⟨S256x5760, .f32⟩ : BufTy).Contents (Elt F)) (x6 : (⟨S2x1024, .f32⟩ : BufTy).Contents (Elt F)) (x7 : (⟨S512x1024, .bf16⟩ : BufTy).Contents (Elt F)) (i : S256x1024.Idx) :
    val_main_v89 (F := F) x1 x2 x6 x7 i = FloatOps.mulf (val_main_v88 (F := F) x2 x6 i) (val_main_v74 (F := F) x1 x2 x7 i) := rfl

def val_main_v90 (x6 : (⟨S2x1024, .f32⟩ : BufTy).Contents (Elt F)) : (⟨S1x1024, .f32⟩ : BufTy).Contents (Elt F) :=
  extractStridedSlice S1x1024 ![1, 0] (x6) slices_S2x1024_S1x1024_1_0
set_option backward.proofsInPublic true in
abbrev idx_main_v90 (i : S1x1024.Idx) : S2x1024.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v90_apply (x6 : (⟨S2x1024, .f32⟩ : BufTy).Contents (Elt F)) (i : S1x1024.Idx) :
    val_main_v90 (F := F) x6 i = x6 (idx_main_v90 i) := by
  unfold val_main_v90
  exact extractStridedSlice_apply ![1, 0] x6 slices_S2x1024_S1x1024_1_0 i (idx_main_v90 i) (fun a => match a with
    | ⟨0, _⟩ => by show 1 + (i 0).val = 1 + (i 0).val; omega
    | ⟨1, _⟩ => by show (i 1).val = 0 + (i 1).val; omega)

def val_main_v91 (x6 : (⟨S2x1024, .f32⟩ : BufTy).Contents (Elt F)) : (⟨S1024, .f32⟩ : BufTy).Contents (Elt F) :=
  shapeCast _ (val_main_v90 (F := F) x6) shapeCasts_S1x1024_S1024
set_option backward.proofsInPublic true in
abbrev idx_main_v91 (i : S1024.Idx) : S1x1024.Idx := fun a => match a with
  | ⟨0, _⟩ => ⟨0, Nat.one_pos⟩
  | ⟨1, _⟩ => ⟨((i 0).val) % 1024, by have h0 : (i 0).val < 1024 := (i 0).isLt; show ((i 0).val) % 1024 < 1024; omega⟩
theorem val_main_v91_apply (x6 : (⟨S2x1024, .f32⟩ : BufTy).Contents (Elt F)) (i : S1024.Idx) :
    val_main_v91 (F := F) x6 i = val_main_v90 (F := F) x6 (idx_main_v91 i) := by
  unfold val_main_v91
  generalize val_main_v90 (F := F) x6 = y
  exact shapeCast_apply y shapeCasts_S1x1024_S1024 i (idx_main_v91 i)
    (by rewrite [Shape.rowMajor_val_two, Shape.rowMajor_val_one]; have h0 : (i 0).val < 1024 := (i 0).isLt; show 0 * 1024 + ((i 0).val) % 1024 = (i 0).val; omega)

def val_main_v92 (x6 : (⟨S2x1024, .f32⟩ : BufTy).Contents (Elt F)) : (⟨S1x1024, .f32⟩ : BufTy).Contents (Elt F) :=
  broadcastInDim S1x1024 ![1] bcast_S1024_S1x1024_1 (val_main_v91 (F := F) x6)
abbrev idx_main_v92 (i : S1x1024.Idx) : S1024.Idx := fun a => match a with
  | ⟨0, _⟩ => ⟨(i 1).val, (i 1).isLt⟩
theorem val_main_v92_apply (x6 : (⟨S2x1024, .f32⟩ : BufTy).Contents (Elt F)) (i : S1x1024.Idx) :
    val_main_v92 (F := F) x6 i = val_main_v91 (F := F) x6 (idx_main_v92 i) := by
  unfold val_main_v92
  generalize val_main_v91 (F := F) x6 = y
  exact broadcastInDim_apply _ bcast_S1024_S1x1024_1 y i (idx_main_v92 i) (fun a => match a with
    | ⟨0, _⟩ => by show (i 1).val = if (1024 : Nat) = 1 then 0 else (i 1).val; rw [if_neg (by decide)])

def val_main_v93 (x6 : (⟨S2x1024, .f32⟩ : BufTy).Contents (Elt F)) : (⟨S256x1024, .f32⟩ : BufTy).Contents (Elt F) :=
  broadcastInDim S256x1024 ![0, 1] bcast_S1x1024_S256x1024_0_1 (val_main_v92 (F := F) x6)
abbrev idx_main_v93 (i : S256x1024.Idx) : S1x1024.Idx := fun a => match a with
  | ⟨0, _⟩ => ⟨0, Nat.one_pos⟩
  | ⟨1, _⟩ => ⟨(i 1).val, (i 1).isLt⟩
theorem val_main_v93_apply (x6 : (⟨S2x1024, .f32⟩ : BufTy).Contents (Elt F)) (i : S256x1024.Idx) :
    val_main_v93 (F := F) x6 i = val_main_v92 (F := F) x6 (idx_main_v93 i) := by
  unfold val_main_v93
  generalize val_main_v92 (F := F) x6 = y
  exact broadcastInDim_apply _ bcast_S1x1024_S256x1024_0_1 y i (idx_main_v93 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

def val_main_v94 (x2 : (⟨S256x5760, .f32⟩ : BufTy).Contents (Elt F)) (x6 : (⟨S2x1024, .f32⟩ : BufTy).Contents (Elt F)) : (⟨S256x1024, .f32⟩ : BufTy).Contents (Elt F) :=
  addf (val_main_v68 (F := F) x2) (val_main_v93 (F := F) x6)
theorem val_main_v94_apply (x2 : (⟨S256x5760, .f32⟩ : BufTy).Contents (Elt F)) (x6 : (⟨S2x1024, .f32⟩ : BufTy).Contents (Elt F)) (i : S256x1024.Idx) :
    val_main_v94 (F := F) x2 x6 i = FloatOps.addf (val_main_v68 (F := F) x2 i) (val_main_v93 (F := F) x6 i) := rfl

def val_main_v95 (x2 : (⟨S256x5760, .f32⟩ : BufTy).Contents (Elt F)) (x6 : (⟨S2x1024, .f32⟩ : BufTy).Contents (Elt F)) : (⟨S256x1024, .f32⟩ : BufTy).Contents (Elt F) :=
  Host.negf (val_main_v94 (F := F) x2 x6)
theorem val_main_v95_apply (x2 : (⟨S256x5760, .f32⟩ : BufTy).Contents (Elt F)) (x6 : (⟨S2x1024, .f32⟩ : BufTy).Contents (Elt F)) (i : S256x1024.Idx) :
    val_main_v95 (F := F) x2 x6 i = FloatOps.hostNegf (val_main_v94 (F := F) x2 x6 i) := rfl

def val_main_v96 (x2 : (⟨S256x5760, .f32⟩ : BufTy).Contents (Elt F)) (x6 : (⟨S2x1024, .f32⟩ : BufTy).Contents (Elt F)) : (⟨S256x1024, .f32⟩ : BufTy).Contents (Elt F) :=
  Host.exp (val_main_v95 (F := F) x2 x6)
theorem val_main_v96_apply (x2 : (⟨S256x5760, .f32⟩ : BufTy).Contents (Elt F)) (x6 : (⟨S2x1024, .f32⟩ : BufTy).Contents (Elt F)) (i : S256x1024.Idx) :
    val_main_v96 (F := F) x2 x6 i = FloatOps.hostUnary .exp (val_main_v95 (F := F) x2 x6 i) := rfl

def val_main_cst_9 : (⟨S_, .f32⟩ : BufTy).Contents (Elt F) :=
  constant S_ .f32 0x3F800000#32
theorem val_main_cst_9_apply (i : S_.Idx) :
    val_main_cst_9 (F := F) i = FloatOps.ofBits .f32 0x3F800000#32 := rfl

def val_main_v97 : (⟨S256x1024, .f32⟩ : BufTy).Contents (Elt F) :=
  broadcastInDim S256x1024 ![] bcast_S_S256x1024 (val_main_cst_9 (F := F))
abbrev idx_main_v97 (i : S256x1024.Idx) : S_.Idx := fun a => a.elim0
theorem val_main_v97_apply (i : S256x1024.Idx) :
    val_main_v97 (F := F) i = val_main_cst_9 (F := F) (idx_main_v97 i) := by
  unfold val_main_v97
  generalize val_main_cst_9 (F := F) = y
  exact broadcastInDim_apply _ bcast_S_S256x1024 y i (idx_main_v97 i) (fun a => a.elim0)

def val_main_v98 (x2 : (⟨S256x5760, .f32⟩ : BufTy).Contents (Elt F)) (x6 : (⟨S2x1024, .f32⟩ : BufTy).Contents (Elt F)) : (⟨S256x1024, .f32⟩ : BufTy).Contents (Elt F) :=
  addf (val_main_v97 (F := F)) (val_main_v96 (F := F) x2 x6)
theorem val_main_v98_apply (x2 : (⟨S256x5760, .f32⟩ : BufTy).Contents (Elt F)) (x6 : (⟨S2x1024, .f32⟩ : BufTy).Contents (Elt F)) (i : S256x1024.Idx) :
    val_main_v98 (F := F) x2 x6 i = FloatOps.addf (val_main_v97 (F := F) i) (val_main_v96 (F := F) x2 x6 i) := rfl

def val_main_cst_10 : (⟨S_, .f32⟩ : BufTy).Contents (Elt F) :=
  constant S_ .f32 0x3F800000#32
theorem val_main_cst_10_apply (i : S_.Idx) :
    val_main_cst_10 (F := F) i = FloatOps.ofBits .f32 0x3F800000#32 := rfl

def val_main_v99 : (⟨S256x1024, .f32⟩ : BufTy).Contents (Elt F) :=
  broadcastInDim S256x1024 ![] bcast_S_S256x1024 (val_main_cst_10 (F := F))
abbrev idx_main_v99 (i : S256x1024.Idx) : S_.Idx := fun a => a.elim0
theorem val_main_v99_apply (i : S256x1024.Idx) :
    val_main_v99 (F := F) i = val_main_cst_10 (F := F) (idx_main_v99 i) := by
  unfold val_main_v99
  generalize val_main_cst_10 (F := F) = y
  exact broadcastInDim_apply _ bcast_S_S256x1024 y i (idx_main_v99 i) (fun a => a.elim0)

def val_main_v100 (x2 : (⟨S256x5760, .f32⟩ : BufTy).Contents (Elt F)) (x6 : (⟨S2x1024, .f32⟩ : BufTy).Contents (Elt F)) : (⟨S256x1024, .f32⟩ : BufTy).Contents (Elt F) :=
  Host.divf (val_main_v99 (F := F)) (val_main_v98 (F := F) x2 x6)
theorem val_main_v100_apply (x2 : (⟨S256x5760, .f32⟩ : BufTy).Contents (Elt F)) (x6 : (⟨S2x1024, .f32⟩ : BufTy).Contents (Elt F)) (i : S256x1024.Idx) :
    val_main_v100 (F := F) x2 x6 i = FloatOps.hostDivf (val_main_v99 (F := F) i) (val_main_v98 (F := F) x2 x6 i) := rfl

def val_main_v101 (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x8 : (⟨S512x1024, .bf16⟩ : BufTy).Contents (Elt F)) : (⟨S256x1024, .f32⟩ : BufTy).Contents (Elt F) :=
  mulf (val_main_v100 (F := F) x2 x6) (val_main_v77 (F := F) x2 x3 x4 x5 x8)
theorem val_main_v101_apply (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x8 : (⟨S512x1024, .bf16⟩ : BufTy).Contents (Elt F)) (i : S256x1024.Idx) :
    val_main_v101 (F := F) x2 x3 x4 x5 x6 x8 i = FloatOps.mulf (val_main_v100 (F := F) x2 x6 i) (val_main_v77 (F := F) x2 x3 x4 x5 x8 i) := rfl

def val_main_v102 (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) : (⟨S256x1024, .f32⟩ : BufTy).Contents (Elt F) :=
  addf (val_main_v89 (F := F) x1 x2 x6 x7) (val_main_v101 (F := F) x2 x3 x4 x5 x6 x8)
theorem val_main_v102_apply (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (i : S256x1024.Idx) :
    val_main_v102 (F := F) x1 x2 x3 x4 x5 x6 x7 x8 i = FloatOps.addf (val_main_v89 (F := F) x1 x2 x6 x7 i) (val_main_v101 (F := F) x2 x3 x4 x5 x6 x8 i) := rfl

def val_main_v103 (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) : (⟨S256x1024, .f32⟩ : BufTy).Contents (Elt F) :=
  Host.dotGeneral dot_S256x1024_S1024x1024_S256x1024_1_0_0_1_n_n none (val_main_v102 (F := F) x1 x2 x3 x4 x5 x6 x7 x8) (val_main_v71 (F := F) x9)
theorem lhs_main_v103_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_main_v103_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_main_v103_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_main_v103_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
abbrev lidx_main_v103 (i : S256x1024.Idx) (k : Fin 1024) : S256x1024.Idx := fun a => match a with
  | ⟨0, _⟩ => ⟨(i 0).val, (i 0).isLt⟩
  | ⟨1, _⟩ => ⟨k.val, k.isLt⟩
abbrev ridx_main_v103 (i : S256x1024.Idx) (k : Fin 1024) : S1024x1024.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v103_apply (x1 : (⟨S256x512, .f32⟩ : BufTy).Contents (Elt Ideal)) (x2 : (⟨S256x5760, .f32⟩ : BufTy).Contents (Elt Ideal)) (x3 : (⟨S32x24x512, .f32⟩ : BufTy).Contents (Elt Ideal)) (x4 : (⟨S4x128x128, .bf16⟩ : BufTy).Contents (Elt Ideal)) (x5 : (⟨S1x512, .f32⟩ : BufTy).Contents (Elt Ideal)) (x6 : (⟨S2x1024, .f32⟩ : BufTy).Contents (Elt Ideal)) (x7 x8 : (⟨S512x1024, .bf16⟩ : BufTy).Contents (Elt Ideal)) (x9 : (⟨S1024x1024, .bf16⟩ : BufTy).Contents (Elt Ideal)) (i : S256x1024.Idx) :
    val_main_v103 (F := Ideal) x1 x2 x3 x4 x5 x6 x7 x8 x9 i = ∑ k : Fin 1024, (val_main_v102 (F := Ideal) x1 x2 x3 x4 x5 x6 x7 x8) (lidx_main_v103 i k) * (val_main_v71 (F := Ideal) x9) (ridx_main_v103 i k) := by
  unfold val_main_v103
  generalize val_main_v102 (F := Ideal) x1 x2 x3 x4 x5 x6 x7 x8 = y0
  generalize val_main_v71 (F := Ideal) x9 = y1
  simp only [Host.dotGeneral]
  rw [Ideal.dotGeneral_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx i ((ValueIdx.contrEquiv1 dot_S256x1024_S1024x1024_S256x1024_1_0_0_1_n_n 1024 rfl rfl).symm k) = lidx_main_v103 i k := funext fun a => Fin.ext (by
    match a with
    | ⟨0, _⟩ => exact lhs_main_v103_0 _ _
    | ⟨1, _⟩ => exact (lhs_main_v103_1 _ _).trans hk)
  have er : dot_S256x1024_S1024x1024_S256x1024_1_0_0_1_n_n.rhsIdx i ((ValueIdx.contrEquiv1 dot_S256x1024_S1024x1024_S256x1024_1_0_0_1_n_n 1024 rfl rfl).symm k) = ridx_main_v103 i k := funext fun a => Fin.ext (by
    match a with
    | ⟨0, _⟩ => exact (rhs_main_v103_0 _ _).trans hk
    | ⟨1, _⟩ => exact rhs_main_v103_1 _ _)
  rw [el, er]

def val_main_v104 (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) : (⟨S256x1024, .f32⟩ : BufTy).Contents (Elt F) :=
  addf (x0) (val_main_v103 (F := F) x1 x2 x3 x4 x5 x6 x7 x8 x9)
theorem val_main_v104_apply (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) (i : S256x1024.Idx) :
    val_main_v104 (F := F) x0 x1 x2 x3 x4 x5 x6 x7 x8 x9 i = FloatOps.addf (x0 i) (val_main_v103 (F := F) x1 x2 x3 x4 x5 x6 x7 x8 x9 i) := rfl

def val_main_v105 (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) : (⟨S256x1024, .f32⟩ : BufTy).Contents (Elt F) :=
  mulf (val_main_v104 (F := F) x0 x1 x2 x3 x4 x5 x6 x7 x8 x9) (val_main_v104 (F := F) x0 x1 x2 x3 x4 x5 x6 x7 x8 x9)
theorem val_main_v105_apply (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) (i : S256x1024.Idx) :
    val_main_v105 (F := F) x0 x1 x2 x3 x4 x5 x6 x7 x8 x9 i = FloatOps.mulf (val_main_v104 (F := F) x0 x1 x2 x3 x4 x5 x6 x7 x8 x9 i) (val_main_v104 (F := F) x0 x1 x2 x3 x4 x5 x6 x7 x8 x9 i) := rfl

def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

def val_main_v106 (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) : (⟨S256, .f32⟩ : BufTy).Contents (Elt F) :=
  Host.reduceAdd (val_main_v105 (F := F) x0 x1 x2 x3 x4 x5 x6 x7 x8 x9) (val_main_cst_11 (F := F)) reducesTo_S256x1024_S256_d1 h_S_
abbrev idx_main_v106 (i : S256.Idx) (k : Fin 1024) : S256x1024.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v106_apply (x0 : (⟨S256x1024, .f32⟩ : BufTy).Contents (Elt Ideal)) (x1 : (⟨S256x512, .f32⟩ : BufTy).Contents (Elt Ideal)) (x2 : (⟨S256x5760, .f32⟩ : BufTy).Contents (Elt Ideal)) (x3 : (⟨S32x24x512, .f32⟩ : BufTy).Contents (Elt Ideal)) (x4 : (⟨S4x128x128, .bf16⟩ : BufTy).Contents (Elt Ideal)) (x5 : (⟨S1x512, .f32⟩ : BufTy).Contents (Elt Ideal)) (x6 : (⟨S2x1024, .f32⟩ : BufTy).Contents (Elt Ideal)) (x7 x8 : (⟨S512x1024, .bf16⟩ : BufTy).Contents (Elt Ideal)) (x9 : (⟨S1024x1024, .bf16⟩ : BufTy).Contents (Elt Ideal)) (i : S256.Idx) :
    val_main_v106 (F := Ideal) x0 x1 x2 x3 x4 x5 x6 x7 x8 x9 i = (val_main_cst_11 (F := Ideal)) (Shape.Idx.first h_S_) + ∑ k : Fin 1024, (val_main_v105 (F := Ideal) x0 x1 x2 x3 x4 x5 x6 x7 x8 x9) (idx_main_v106 i k) := by
  unfold val_main_v106
  generalize val_main_v105 (F := Ideal) x0 x1 x2 x3 x4 x5 x6 x7 x8 x9 = y0
  simp only [Host.reduceAdd, Ideal.hostReduceAdd_def]
  rw [Ideal.hostReduceAdd_single reducesTo_S256x1024_S256_d1 (by decide)]
  refine congrArg (_ + ·) (Finset.sum_congr rfl fun k _ => ?_)
  exact congrArg y0 (funext fun a => Fin.ext (by match a with | ⟨0, _⟩ => rfl | ⟨1, _⟩ => rfl))

def val_main_v107 (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) : (⟨S256x1, .f32⟩ : BufTy).Contents (Elt F) :=
  broadcastInDim S256x1 ![0] bcast_S256_S256x1_0 (val_main_v106 (F := F) x0 x1 x2 x3 x4 x5 x6 x7 x8 x9)
abbrev idx_main_v107 (i : S256x1.Idx) : S256.Idx := fun a => match a with
  | ⟨0, _⟩ => ⟨(i 0).val, (i 0).isLt⟩
theorem val_main_v107_apply (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) (i : S256x1.Idx) :
    val_main_v107 (F := F) x0 x1 x2 x3 x4 x5 x6 x7 x8 x9 i = val_main_v106 (F := F) x0 x1 x2 x3 x4 x5 x6 x7 x8 x9 (idx_main_v107 i) := by
  unfold val_main_v107
  generalize val_main_v106 (F := F) x0 x1 x2 x3 x4 x5 x6 x7 x8 x9 = y
  exact broadcastInDim_apply _ bcast_S256_S256x1_0 y i (idx_main_v107 i) (fun a => match a with
    | ⟨0, _⟩ => by show (i 0).val = if (256 : Nat) = 1 then 0 else (i 0).val; rw [if_neg (by decide)])

def val_main_cst_12 : (⟨S_, .f32⟩ : BufTy).Contents (Elt F) :=
  constant S_ .f32 0x44800000#32
theorem val_main_cst_12_apply (i : S_.Idx) :
    val_main_cst_12 (F := F) i = FloatOps.ofBits .f32 0x44800000#32 := rfl

def val_main_v108 : (⟨S256x1, .f32⟩ : BufTy).Contents (Elt F) :=
  broadcastInDim S256x1 ![] bcast_S_S256x1 (val_main_cst_12 (F := F))
abbrev idx_main_v108 (i : S256x1.Idx) : S_.Idx := fun a => a.elim0
theorem val_main_v108_apply (i : S256x1.Idx) :
    val_main_v108 (F := F) i = val_main_cst_12 (F := F) (idx_main_v108 i) := by
  unfold val_main_v108
  generalize val_main_cst_12 (F := F) = y
  exact broadcastInDim_apply _ bcast_S_S256x1 y i (idx_main_v108 i) (fun a => a.elim0)

def val_main_v109 (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) : (⟨S256x1, .f32⟩ : BufTy).Contents (Elt F) :=
  Host.divf (val_main_v107 (F := F) x0 x1 x2 x3 x4 x5 x6 x7 x8 x9) (val_main_v108 (F := F))
theorem val_main_v109_apply (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) (i : S256x1.Idx) :
    val_main_v109 (F := F) x0 x1 x2 x3 x4 x5 x6 x7 x8 x9 i = FloatOps.hostDivf (val_main_v107 (F := F) x0 x1 x2 x3 x4 x5 x6 x7 x8 x9 i) (val_main_v108 (F := F) i) := rfl

def val_main_cst_13 : (⟨S_, .f32⟩ : BufTy).Contents (Elt F) :=
  constant S_ .f32 0x358637BD#32
theorem val_main_cst_13_apply (i : S_.Idx) :
    val_main_cst_13 (F := F) i = FloatOps.ofBits .f32 0x358637BD#32 := rfl

def val_main_v110 : (⟨S256x1, .f32⟩ : BufTy).Contents (Elt F) :=
  broadcastInDim S256x1 ![] bcast_S_S256x1 (val_main_cst_13 (F := F))
abbrev idx_main_v110 (i : S256x1.Idx) : S_.Idx := fun a => a.elim0
theorem val_main_v110_apply (i : S256x1.Idx) :
    val_main_v110 (F := F) i = val_main_cst_13 (F := F) (idx_main_v110 i) := by
  unfold val_main_v110
  generalize val_main_cst_13 (F := F) = y
  exact broadcastInDim_apply _ bcast_S_S256x1 y i (idx_main_v110 i) (fun a => a.elim0)

def val_main_v111 (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) : (⟨S256x1, .f32⟩ : BufTy).Contents (Elt F) :=
  addf (val_main_v109 (F := F) x0 x1 x2 x3 x4 x5 x6 x7 x8 x9) (val_main_v110 (F := F))
theorem val_main_v111_apply (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) (i : S256x1.Idx) :
    val_main_v111 (F := F) x0 x1 x2 x3 x4 x5 x6 x7 x8 x9 i = FloatOps.addf (val_main_v109 (F := F) x0 x1 x2 x3 x4 x5 x6 x7 x8 x9 i) (val_main_v110 (F := F) i) := rfl

def val_main_v112 (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) : (⟨S256x1, .f32⟩ : BufTy).Contents (Elt F) :=
  Host.rsqrt (val_main_v111 (F := F) x0 x1 x2 x3 x4 x5 x6 x7 x8 x9)
theorem val_main_v112_apply (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) (i : S256x1.Idx) :
    val_main_v112 (F := F) x0 x1 x2 x3 x4 x5 x6 x7 x8 x9 i = FloatOps.hostUnary .rsqrt (val_main_v111 (F := F) x0 x1 x2 x3 x4 x5 x6 x7 x8 x9 i) := rfl

def val_main_v113 (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) : (⟨S256x1024, .f32⟩ : BufTy).Contents (Elt F) :=
  broadcastInDim S256x1024 ![0, 1] bcast_S256x1_S256x1024_0_1 (val_main_v112 (F := F) x0 x1 x2 x3 x4 x5 x6 x7 x8 x9)
abbrev idx_main_v113 (i : S256x1024.Idx) : S256x1.Idx := fun a => match a with
  | ⟨0, _⟩ => ⟨(i 0).val, (i 0).isLt⟩
  | ⟨1, _⟩ => ⟨0, Nat.one_pos⟩
theorem val_main_v113_apply (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) (i : S256x1024.Idx) :
    val_main_v113 (F := F) x0 x1 x2 x3 x4 x5 x6 x7 x8 x9 i = val_main_v112 (F := F) x0 x1 x2 x3 x4 x5 x6 x7 x8 x9 (idx_main_v113 i) := by
  unfold val_main_v113
  generalize val_main_v112 (F := F) x0 x1 x2 x3 x4 x5 x6 x7 x8 x9 = y
  exact broadcastInDim_apply _ bcast_S256x1_S256x1024_0_1 y i (idx_main_v113 i) (fun a => match a with
    | ⟨0, _⟩ => by show (i 0).val = if (256 : Nat) = 1 then 0 else (i 0).val; rw [if_neg (by decide)]
    | ⟨1, _⟩ => by show 0 = if (1 : Nat) = 1 then 0 else (i 1).val; rw [if_pos rfl])

def val_main_v114 (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) : (⟨S256x1024, .f32⟩ : BufTy).Contents (Elt F) :=
  mulf (val_main_v104 (F := F) x0 x1 x2 x3 x4 x5 x6 x7 x8 x9) (val_main_v113 (F := F) x0 x1 x2 x3 x4 x5 x6 x7 x8 x9)
theorem val_main_v114_apply (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) (i : S256x1024.Idx) :
    val_main_v114 (F := F) x0 x1 x2 x3 x4 x5 x6 x7 x8 x9 i = FloatOps.mulf (val_main_v104 (F := F) x0 x1 x2 x3 x4 x5 x6 x7 x8 x9 i) (val_main_v113 (F := F) x0 x1 x2 x3 x4 x5 x6 x7 x8 x9 i) := rfl

def val_main_v115 (x10 : (⟨S1x1024, .f32⟩ : BufTy).Contents (Elt F)) : (⟨S256x1024, .f32⟩ : BufTy).Contents (Elt F) :=
  broadcastInDim S256x1024 ![0, 1] bcast_S1x1024_S256x1024_0_1 (x10)
abbrev idx_main_v115 (i : S256x1024.Idx) : S1x1024.Idx := fun a => match a with
  | ⟨0, _⟩ => ⟨0, Nat.one_pos⟩
  | ⟨1, _⟩ => ⟨(i 1).val, (i 1).isLt⟩
theorem val_main_v115_apply (x10 : (⟨S1x1024, .f32⟩ : BufTy).Contents (Elt F)) (i : S256x1024.Idx) :
    val_main_v115 (F := F) x10 i = x10 (idx_main_v115 i) := by
  unfold val_main_v115
  exact broadcastInDim_apply _ bcast_S1x1024_S256x1024_0_1 x10 i (idx_main_v115 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

def val_main_v116 (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) (x10 : (⟨S1x1024, .f32⟩ : BufTy).Contents (Elt F)) : (⟨S256x1024, .f32⟩ : BufTy).Contents (Elt F) :=
  mulf (val_main_v114 (F := F) x0 x1 x2 x3 x4 x5 x6 x7 x8 x9) (val_main_v115 (F := F) x10)
theorem val_main_v116_apply (x0 : (⟨S256x1024, .f32⟩ : BufTy).Contents (Elt F)) (x1 : (⟨S256x512, .f32⟩ : BufTy).Contents (Elt F)) (x2 : (⟨S256x5760, .f32⟩ : BufTy).Contents (Elt F)) (x3 : (⟨S32x24x512, .f32⟩ : BufTy).Contents (Elt F)) (x4 : (⟨S4x128x128, .bf16⟩ : BufTy).Contents (Elt F)) (x5 : (⟨S1x512, .f32⟩ : BufTy).Contents (Elt F)) (x6 : (⟨S2x1024, .f32⟩ : BufTy).Contents (Elt F)) (x7 x8 : (⟨S512x1024, .bf16⟩ : BufTy).Contents (Elt F)) (x9 : (⟨S1024x1024, .bf16⟩ : BufTy).Contents (Elt F)) (x10 : (⟨S1x1024, .f32⟩ : BufTy).Contents (Elt F)) (i : S256x1024.Idx) :
    val_main_v116 (F := F) x0 x1 x2 x3 x4 x5 x6 x7 x8 x9 x10 i = FloatOps.mulf (val_main_v114 (F := F) x0 x1 x2 x3 x4 x5 x6 x7 x8 x9 i) (val_main_v115 (F := F) x10 i) := rfl

/-- The result's expression is the last stage. -/
theorem val_main_v116_eq (m : (ℓ : Loc nD τ sig) → Buf (Elt F) ℓ) (c : Dev nD) :
    Cert.MergeSRefIdeal.Ran.res_main_v116 m c = val_main_v116 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.MergeSRefIdeal.Ran.res_main_v116; rfl

end Cert.MergeSRefIdeal.Stages

end
-- ==== Proof.MergeSPool.lean ====
module

public import proofs.«01_k».proof.Proof.MergeSStages
public import Idealize.ShloMosaic.Lib.Pointwise

/-!
The pooling part of the sample rows' merge, on the reference's side.  Every sequence holds 23 rows, the last eight of
them new, so each new row has at least fifteen rows before it and its windows are whole.
-/

@[expose] public section

set_option maxRecDepth 16384

noncomputable section
open Idealize.ShloMosaic Idealize.ShloMosaic.TcCoe Idealize.SL.Sem

namespace Cert.MergeSRefIdeal.Pool
open Cert.MergeSRefIdeal Cert.MergeSRefIdeal.Gen Cert.MergeSRefIdeal.Stages

/-- The entry `k` rows before new row `t` of sequence `b`, in column `c`. -/
def back (u : S32x24x512.Idx → EReal) (b : Fin 32) (t : Fin 8) (k c : Nat) : EReal :=
  if h : k ≤ 15 ∧ c < 512 then u (ix3 b ⟨16 + t.val - k, by omega⟩ ⟨c, h.2⟩) else 0

/-- A fold that adds is the start plus the sum. -/
theorem fold_add {n : Nat} (l : List (Fin n)) (E : Fin n → EReal) (v : EReal) :
    l.foldl (fun r i => r + E i) v = v + (l.map E).sum := by
  induction l generalizing v with
  | nil => simp
  | cons a l ih => rw [List.foldl_cons, ih, List.map_cons, List.sum_cons, add_assoc]

/-- The window of `w` rows that ends at a row, counted back from that row. -/
theorem trailing (w wm1 : Nat) (hw : wm1 + 1 = w) (x : S32x23x128.Idx → EReal) (init : S_.Idx → EReal) (hi : init ix0 = 0)
    (h : S32x23x128.ReduceWindows ![1, w, 1] ![1, 1, 1] ![0, wm1, 0] ![0, 0, 0] S32x23x128) (hu : 0 < S_.numel)
    (hN : (⟨3, ![1, w, 1]⟩ : Shape).numel = w)
    (hc : ∀ n : Fin (⟨3, ![1, w, 1]⟩ : Shape).numel, ((⟨3, ![1, w, 1]⟩ : Shape).rowMajor.symm n 1).val = n.val)
    (b : Fin 32) (s : Fin 23) (q : Fin 128) :
    Host.reduceWindowAdd (F := Ideal) (φ := .f32) ![1, w, 1] ![1, 1, 1] ![0, wm1, 0] ![0, 0, 0] x init h hu (ix3 b s q)
      = ∑ k : Fin w, if hk : k.val ≤ s.val then x (ix3 b ⟨s.val - k.val, by omega⟩ q) else 0 := by
  have hv : init (Shape.Idx.first hu) = 0 := (congrArg init (funext fun a => a.elim0)).trans hi
  show Host.reduceWindow (· + ·) ![1, w, 1] ![1, 1, 1] ![0, wm1, 0] ![0, 0, 0] x
    (fun _ : (⟨0, ![]⟩ : Shape).Idx => init (Shape.Idx.first hu)) h (by decide) (ix3 b s q) = _
  rw [hv]
  unfold Host.reduceWindow
  dsimp only
  rw [fold_add, zero_add, ← Fin.sum_univ_def]
  rw [← Equiv.sum_comp Fin.revPerm (fun k : Fin w => if hk : k.val ≤ s.val then x (ix3 b ⟨s.val - k.val, by omega⟩ q) else 0)]
  rw [← Equiv.sum_comp (finCongr hN)]
  refine Finset.sum_congr rfl fun n _ => ?_
  have h1 := hc n
  have hn : n.val < w := lt_of_lt_of_eq n.isLt hN
  have h0 : ((⟨3, ![1, w, 1]⟩ : Shape).rowMajor.symm n 0).val = 0 :=
    Nat.lt_one_iff.mp ((⟨3, ![1, w, 1]⟩ : Shape).rowMajor.symm n 0).isLt
  have h2 : ((⟨3, ![1, w, 1]⟩ : Shape).rowMajor.symm n 2).val = 0 :=
    Nat.lt_one_iff.mp ((⟨3, ![1, w, 1]⟩ : Shape).rowMajor.symm n 2).isLt
  have hr : (Fin.revPerm (finCongr hN n)).val = wm1 - n.val := by
    simp [Fin.revPerm, Fin.val_rev]; omega
  have hs := s.isLt
  have hb := b.isLt
  have hq := q.isLt
  by_cases hk : wm1 ≤ s.val + n.val
  · rw [dif_pos (by omega : (Fin.revPerm (finCongr hN n)).val ≤ s.val)]
    split
    · next hin =>
      refine congrArg x (funext fun a => Fin.ext ?_)
      match a with
      | ⟨0, _⟩ =>
        show b.val * 1 + ((⟨3, ![1, w, 1]⟩ : Shape).rowMajor.symm n 0).val - 0 = b.val
        omega
      | ⟨1, _⟩ =>
        show s.val * 1 + ((⟨3, ![1, w, 1]⟩ : Shape).rowMajor.symm n 1).val - wm1 = s.val - (Fin.revPerm (finCongr hN n)).val
        omega
      | ⟨2, _⟩ =>
        show q.val * 1 + ((⟨3, ![1, w, 1]⟩ : Shape).rowMajor.symm n 2).val - 0 = q.val
        omega
    · next hin =>
      refine absurd (fun a => ?_) hin
      match a with
      | ⟨0, _⟩ =>
        show 0 ≤ b.val * 1 + ((⟨3, ![1, w, 1]⟩ : Shape).rowMajor.symm n 0).val
          ∧ b.val * 1 + ((⟨3, ![1, w, 1]⟩ : Shape).rowMajor.symm n 0).val - 0 < 32
        omega
      | ⟨1, _⟩ =>
        show wm1 ≤ s.val * 1 + ((⟨3, ![1, w, 1]⟩ : Shape).rowMajor.symm n 1).val
          ∧ s.val * 1 + ((⟨3, ![1, w, 1]⟩ : Shape).rowMajor.symm n 1).val - wm1 < 23
        omega
      | ⟨2, _⟩ =>
        show 0 ≤ q.val * 1 + ((⟨3, ![1, w, 1]⟩ : Shape).rowMajor.symm n 2).val
          ∧ q.val * 1 + ((⟨3, ![1, w, 1]⟩ : Shape).rowMajor.symm n 2).val - 0 < 128
        omega
  · rw [dif_neg (by omega : ¬ (Fin.revPerm (finCongr hN n)).val ≤ s.val)]
    split
    · next hin =>
      have h3 := hin 1
      change wm1 ≤ s.val * 1 + ((⟨3, ![1, w, 1]⟩ : Shape).rowMajor.symm n 1).val ∧ _ at h3
      omega
    · rfl

/-- The mean of a window of `w` rows less the entry itself. -/
def centred (u : S32x24x512.Idx → EReal) (w : Nat) (f : EReal) (b : Fin 32) (t : Fin 8) (c : Nat) : EReal :=
  Ideal.div (∑ k : Fin w, back u b t k.val c) f - back u b t 0 c

/-- An entry of a window, whichever way its row is named. -/
theorem back_eq (u : S32x24x512.Idx → EReal) (b : Fin 32) (t : Fin 8) (k c : Nat) (hk : k ≤ 15) (hc : c < 512) (n : Nat) (hn : n = 15 + t.val) (j : k ≤ n → S32x24x512.Idx)
    (h0 : ∀ h, (j h 0).val = b.val) (h1 : ∀ h, (j h 1).val = 16 + t.val - k) (h2 : ∀ h, (j h 2).val = c) :
    (if h : k ≤ n then u (j h) else 0) = back u b t k c := by
  unfold back
  have h : k ≤ n := by omega
  rw [dif_pos h, dif_pos ⟨hk, hc⟩]
  refine congrArg u (funext fun a => Fin.ext ?_)
  match a with
  | ⟨0, _⟩ => exact h0 h
  | ⟨1, _⟩ => exact h1 h
  | ⟨2, _⟩ => exact h2 h

/-- The entry itself. -/
theorem back_zero (u : S32x24x512.Idx → EReal) (b : Fin 32) (t : Fin 8) (c : Nat) (hc : c < 512) (j : S32x24x512.Idx)
    (h0 : (j 0).val = b.val) (h1 : (j 1).val = 16 + t.val) (h2 : (j 2).val = c) : u j = back u b t 0 c := by
  unfold back
  rw [dif_pos ⟨Nat.zero_le _, hc⟩]
  refine congrArg u (funext fun a => Fin.ext ?_)
  match a with
  | ⟨0, _⟩ => exact h0
  | ⟨1, _⟩ => exact h1
  | ⟨2, _⟩ => exact h2

/-- The pool of 2 rows: columns 0 to 127. -/
theorem pool2 (u : FVec Ideal S32x24x512 .f32) (b : Fin 32) (t : Fin 8) (q : Fin 128) :
    val_main_v11 (F := Ideal) u (ix3 b t q) = centred u 2 (Ideal.ofBits .f32 0x40000000#32) b t (0 + q.val) := by
  pointwise [val_main_v0, val_main_v1, val_main_v11, val_main_v10, val_main_v9, val_main_v8, val_main_v7, val_main_v6, val_main_v5, val_main_cst_0]
  rw [trailing 2 1 rfl _ _ (by pointwise [val_main_v4, val_main_cst]) _ _ (by decide) (by decide)]
  pointwise [val_main_v0, val_main_v1, val_main_v2, val_main_v3]
  have hq := q.isLt
  have ht := t.isLt
  unfold centred
  refine congrArg₂ (· - ·) (congrArg₂ Ideal.div (Finset.sum_congr rfl fun k _ => ?_) rfl) ?_
  · have hk := k.isLt
    refine back_eq u b t k.val _ (by omega) (by omega) _ (by first | rfl | simp | (show _ = _; omega)) _ (fun _ => ?_) (fun h => ?_) (fun _ => ?_)
    · rfl
    · show 1 + (15 + t.val - k.val) = 16 + t.val - k.val
      omega
    · rfl
  · refine back_zero u b t _ (by omega) _ rfl ?_ rfl
    show 1 + (15 + t.val) = 16 + t.val
    omega

/-- The pool of 4 rows: columns 128 to 255. -/
theorem pool4 (u : FVec Ideal S32x24x512 .f32) (b : Fin 32) (t : Fin 8) (q : Fin 128) :
    val_main_v26 (F := Ideal) u (ix3 b t q) = centred u 4 (Ideal.ofBits .f32 0x40800000#32) b t (128 + q.val) := by
  pointwise [val_main_v0, val_main_v1, val_main_v26, val_main_v25, val_main_v24, val_main_v23, val_main_v22, val_main_v21, val_main_v20, val_main_cst_2]
  rw [trailing 4 3 rfl _ _ (by pointwise [val_main_v19, val_main_cst_1]) _ _ (by decide) (by decide)]
  pointwise [val_main_v0, val_main_v1, val_main_v17, val_main_v18]
  have hq := q.isLt
  have ht := t.isLt
  unfold centred
  refine congrArg₂ (· - ·) (congrArg₂ Ideal.div (Finset.sum_congr rfl fun k _ => ?_) rfl) ?_
  · have hk := k.isLt
    refine back_eq u b t k.val _ (by omega) (by omega) _ (by first | rfl | simp | (show _ = _; omega)) _ (fun _ => ?_) (fun h => ?_) (fun _ => ?_)
    · rfl
    · show 1 + (15 + t.val - k.val) = 16 + t.val - k.val
      omega
    · rfl
  · refine back_zero u b t _ (by omega) _ rfl ?_ rfl
    show 1 + (15 + t.val) = 16 + t.val
    omega

/-- The pool of 8 rows: columns 256 to 383. -/
theorem pool8 (u : FVec Ideal S32x24x512 .f32) (b : Fin 32) (t : Fin 8) (q : Fin 128) :
    val_main_v41 (F := Ideal) u (ix3 b t q) = centred u 8 (Ideal.ofBits .f32 0x41000000#32) b t (256 + q.val) := by
  pointwise [val_main_v0, val_main_v1, val_main_v41, val_main_v40, val_main_v39, val_main_v38, val_main_v37, val_main_v36, val_main_v35, val_main_cst_4]
  rw [trailing 8 7 rfl _ _ (by pointwise [val_main_v34, val_main_cst_3]) _ _ (by decide) (by decide)]
  pointwise [val_main_v0, val_main_v1, val_main_v32, val_main_v33]
  have hq := q.isLt
  have ht := t.isLt
  unfold centred
  refine congrArg₂ (· - ·) (congrArg₂ Ideal.div (Finset.sum_congr rfl fun k _ => ?_) rfl) ?_
  · have hk := k.isLt
    refine back_eq u b t k.val _ (by omega) (by omega) _ (by first | rfl | simp | (show _ = _; omega)) _ (fun _ => ?_) (fun h => ?_) (fun _ => ?_)
    · rfl
    · show 1 + (15 + t.val - k.val) = 16 + t.val - k.val
      omega
    · rfl
  · refine back_zero u b t _ (by omega) _ rfl ?_ rfl
    show 1 + (15 + t.val) = 16 + t.val
    omega

/-- The pool of 16 rows: columns 384 to 511. -/
theorem pool16 (u : FVec Ideal S32x24x512 .f32) (b : Fin 32) (t : Fin 8) (q : Fin 128) :
    val_main_v56 (F := Ideal) u (ix3 b t q) = centred u 16 (Ideal.ofBits .f32 0x41800000#32) b t (384 + q.val) := by
  pointwise [val_main_v0, val_main_v1, val_main_v56, val_main_v55, val_main_v54, val_main_v53, val_main_v52, val_main_v51, val_main_v50, val_main_cst_6]
  rw [trailing 16 15 rfl _ _ (by pointwise [val_main_v49, val_main_cst_5]) _ _ (by decide) (by decide)]
  pointwise [val_main_v0, val_main_v1, val_main_v47, val_main_v48]
  have hq := q.isLt
  have ht := t.isLt
  unfold centred
  refine congrArg₂ (· - ·) (congrArg₂ Ideal.div (Finset.sum_congr rfl fun k _ => ?_) rfl) ?_
  · have hk := k.isLt
    refine back_eq u b t k.val _ (by omega) (by omega) _ (by first | rfl | simp | (show _ = _; omega)) _ (fun _ => ?_) (fun h => ?_) (fun _ => ?_)
    · rfl
    · show 1 + (15 + t.val - k.val) = 16 + t.val - k.val
      omega
    · rfl
  · refine back_zero u b t _ (by omega) _ rfl ?_ rfl
    show 1 + (15 + t.val) = 16 + t.val
    omega

end Cert.MergeSRefIdeal.Pool
end
-- ==== Proof.MergeS.lean ====
module

public import proofs.«01_k».proof.Proof.Gen.MergeSIdeal.Frame
public import proofs.«01_k».proof.Proof.MergeSPool
public import Idealize.ShloMosaic.Lib.Pipeline.ValueKit
public import Idealize.ShloMosaic.Lib.Pointwise

/-!
The merge of the sample rows (`MergeS`): one grid point that writes all 256 rows.
-/

@[expose] public section

set_option maxRecDepth 16384

noncomputable section
open Idealize.ShloMosaic Idealize.ShloMosaic.TcCoe Idealize.SL.Sem
open Idealize.ShloMosaic.Pipeline (Dat)

namespace Cert.MergeSIdeal.Strip
open Cert.MergeSIdeal Cert.MergeSIdeal.Gen Cert.MergeSRefIdeal.Stages
open Cert.MergeSRefIdeal.Pool (back centred)

variable (m : (ℓ : Loc nD τ sig) → Buf (Elt Ideal) ℓ)

/-- The sum over a window, written out. -/
theorem written (u : S32x24x512.Idx → EReal) (b : Fin 32) (t : Fin 8) (w c : Nat) : ∑ k : Fin w, back u b t k.val c = ∑ k ∈ Finset.range w, back u b t k c :=
  Fin.sum_univ_eq_sum_range (fun k => back u b t k c) w

/-- The group that pools 2 rows, times its mixing matrix. -/
theorem group2 (a0 a1 : Vec Ideal S32x8x128 .f32) (w : Vec Ideal S1x128x128 .bf16)
    (x3 : FVec Ideal S32x24x512 .f32) (x4 : FVec Ideal S4x128x128 .bf16) (p : Fin 256) (q : Fin 128)
    (h0 : ∀ (b : Fin 32) (t : Fin 8) (q : Fin 128), a0 (ix3 b t q) = back x3 b t 0 (0 + q.val))
    (h1 : ∀ (b : Fin 32) (t : Fin 8) (q : Fin 128), a1 (ix3 b t q) = back x3 b t 1 (0 + q.val))
    (hw : ∀ a b : Fin 128, w (ix3 0 a b) = x4 (ix3 0 a b)) :
    k0_pay2 (F := Ideal) a0 a1 w (ix2 p q) = val_main_v16 (F := Ideal) x3 x4 (ix2 p q) := by
  pointwise [k0_pay2, val_main_v16, val_main_v15, val_main_v14, val_main_v13, val_main_v12]
  refine Finset.sum_congr rfl fun k _ => Ideal.mul_congr ?_ (hw k q)
  rw [Cert.MergeSRefIdeal.Pool.pool2]
  simp only [h0, h1, centred, written, Finset.sum_range_succ, Finset.sum_range_zero, zero_add]

/-- The group that pools 4 rows, times its mixing matrix. -/
theorem group4 (a0 a1 a2 a3 : Vec Ideal S32x8x128 .f32) (w : Vec Ideal S1x128x128 .bf16)
    (x3 : FVec Ideal S32x24x512 .f32) (x4 : FVec Ideal S4x128x128 .bf16) (p : Fin 256) (q : Fin 128)
    (h0 : ∀ (b : Fin 32) (t : Fin 8) (q : Fin 128), a0 (ix3 b t q) = back x3 b t 0 (128 + q.val))
    (h1 : ∀ (b : Fin 32) (t : Fin 8) (q : Fin 128), a1 (ix3 b t q) = back x3 b t 1 (128 + q.val))
    (h2 : ∀ (b : Fin 32) (t : Fin 8) (q : Fin 128), a2 (ix3 b t q) = back x3 b t 2 (128 + q.val))
    (h3 : ∀ (b : Fin 32) (t : Fin 8) (q : Fin 128), a3 (ix3 b t q) = back x3 b t 3 (128 + q.val))
    (hw : ∀ a b : Fin 128, w (ix3 0 a b) = x4 (ix3 1 a b)) :
    k0_pay3 (F := Ideal) a0 a1 a2 a3 w (ix2 p q) = val_main_v31 (F := Ideal) x3 x4 (ix2 p q) := by
  pointwise [k0_pay3, val_main_v31, val_main_v30, val_main_v29, val_main_v28, val_main_v27]
  refine Finset.sum_congr rfl fun k _ => Ideal.mul_congr ?_ (hw k q)
  rw [Cert.MergeSRefIdeal.Pool.pool4]
  simp only [h0, h1, h2, h3, centred, written, Finset.sum_range_succ, Finset.sum_range_zero, zero_add]

/-- The group that pools 8 rows, times its mixing matrix. -/
theorem group8 (a0 a1 a2 a3 a4 a5 a6 a7 : Vec Ideal S32x8x128 .f32) (w : Vec Ideal S1x128x128 .bf16)
    (x3 : FVec Ideal S32x24x512 .f32) (x4 : FVec Ideal S4x128x128 .bf16) (p : Fin 256) (q : Fin 128)
    (h0 : ∀ (b : Fin 32) (t : Fin 8) (q : Fin 128), a0 (ix3 b t q) = back x3 b t 0 (256 + q.val))
    (h1 : ∀ (b : Fin 32) (t : Fin 8) (q : Fin 128), a1 (ix3 b t q) = back x3 b t 1 (256 + q.val))
    (h2 : ∀ (b : Fin 32) (t : Fin 8) (q : Fin 128), a2 (ix3 b t q) = back x3 b t 2 (256 + q.val))
    (h3 : ∀ (b : Fin 32) (t : Fin 8) (q : Fin 128), a3 (ix3 b t q) = back x3 b t 3 (256 + q.val))
    (h4 : ∀ (b : Fin 32) (t : Fin 8) (q : Fin 128), a4 (ix3 b t q) = back x3 b t 4 (256 + q.val))
    (h5 : ∀ (b : Fin 32) (t : Fin 8) (q : Fin 128), a5 (ix3 b t q) = back x3 b t 5 (256 + q.val))
    (h6 : ∀ (b : Fin 32) (t : Fin 8) (q : Fin 128), a6 (ix3 b t q) = back x3 b t 6 (256 + q.val))
    (h7 : ∀ (b : Fin 32) (t : Fin 8) (q : Fin 128), a7 (ix3 b t q) = back x3 b t 7 (256 + q.val))
    (hw : ∀ a b : Fin 128, w (ix3 0 a b) = x4 (ix3 2 a b)) :
    k0_pay4 (F := Ideal) a0 a1 a2 a3 a4 a5 a6 a7 w (ix2 p q) = val_main_v46 (F := Ideal) x3 x4 (ix2 p q) := by
  pointwise [k0_pay4, val_main_v46, val_main_v45, val_main_v44, val_main_v43, val_main_v42]
  refine Finset.sum_congr rfl fun k _ => Ideal.mul_congr ?_ (hw k q)
  rw [Cert.MergeSRefIdeal.Pool.pool8]
  simp only [h0, h1, h2, h3, h4, h5, h6, h7, centred, written, Finset.sum_range_succ, Finset.sum_range_zero, zero_add]

/-- The centred pool of 16 rows, as the kernel sums it over two steps. -/
theorem wide (a0 a1 a2 a3 a4 a5 a6 a7 a8 a9 a10 a11 a12 a13 a14 a15 : Vec Ideal S32x8x128 .f32) (x3 : FVec Ideal S32x24x512 .f32) (b : Fin 32) (t : Fin 8) (q : Fin 128)
    (h0 : ∀ (b : Fin 32) (t : Fin 8) (q : Fin 128), a0 (ix3 b t q) = back x3 b t 0 (384 + q.val))
    (h1 : ∀ (b : Fin 32) (t : Fin 8) (q : Fin 128), a1 (ix3 b t q) = back x3 b t 1 (384 + q.val))
    (h2 : ∀ (b : Fin 32) (t : Fin 8) (q : Fin 128), a2 (ix3 b t q) = back x3 b t 2 (384 + q.val))
    (h3 : ∀ (b : Fin 32) (t : Fin 8) (q : Fin 128), a3 (ix3 b t q) = back x3 b t 3 (384 + q.val))
    (h4 : ∀ (b : Fin 32) (t : Fin 8) (q : Fin 128), a4 (ix3 b t q) = back x3 b t 4 (384 + q.val))
    (h5 : ∀ (b : Fin 32) (t : Fin 8) (q : Fin 128), a5 (ix3 b t q) = back x3 b t 5 (384 + q.val))
    (h6 : ∀ (b : Fin 32) (t : Fin 8) (q : Fin 128), a6 (ix3 b t q) = back x3 b t 6 (384 + q.val))
    (h7 : ∀ (b : Fin 32) (t : Fin 8) (q : Fin 128), a7 (ix3 b t q) = back x3 b t 7 (384 + q.val))
    (h8 : ∀ (b : Fin 32) (t : Fin 8) (q : Fin 128), a8 (ix3 b t q) = back x3 b t 8 (384 + q.val))
    (h9 : ∀ (b : Fin 32) (t : Fin 8) (q : Fin 128), a9 (ix3 b t q) = back x3 b t 9 (384 + q.val))
    (h10 : ∀ (b : Fin 32) (t : Fin 8) (q : Fin 128), a10 (ix3 b t q) = back x3 b t 10 (384 + q.val))
    (h11 : ∀ (b : Fin 32) (t : Fin 8) (q : Fin 128), a11 (ix3 b t q) = back x3 b t 11 (384 + q.val))
    (h12 : ∀ (b : Fin 32) (t : Fin 8) (q : Fin 128), a12 (ix3 b t q) = back x3 b t 12 (384 + q.val))
    (h13 : ∀ (b : Fin 32) (t : Fin 8) (q : Fin 128), a13 (ix3 b t q) = back x3 b t 13 (384 + q.val))
    (h14 : ∀ (b : Fin 32) (t : Fin 8) (q : Fin 128), a14 (ix3 b t q) = back x3 b t 14 (384 + q.val))
    (h15 : ∀ (b : Fin 32) (t : Fin 8) (q : Fin 128), a15 (ix3 b t q) = back x3 b t 15 (384 + q.val)) :
    Ideal.div (k0_pay6 (F := Ideal) (k0_pay5 (F := Ideal) a0 a1) a2 a3 a4 a5 a6 a7 a8 a9 a10 a11 a12 a13 (ix3 b t q) + a14 (ix3 b t q) + a15 (ix3 b t q))
      (Ideal.ofBits .f32 0x41800000#32) - a0 (ix3 b t q) = val_main_v56 (F := Ideal) x3 (ix3 b t q) := by
  pointwise [k0_pay5, k0_pay6]
  rw [Cert.MergeSRefIdeal.Pool.pool16]
  simp only [h0, h1, h2, h3, h4, h5, h6, h7, h8, h9, h10, h11, h12, h13, h14, h15, centred, written, Finset.sum_range_succ, Finset.sum_range_zero, zero_add]

/-- The four groups side by side, scaled. -/
theorem scaled (d0 d1 d2 : FVec Ideal S256x128 .f32) (a0 e a14 a15 : FVec Ideal S32x8x128 .f32) (w : Vec Ideal S1x128x128 .bf16)
    (sc : Vec Ideal S1x512 .f32) (x3 : FVec Ideal S32x24x512 .f32) (x4 : FVec Ideal S4x128x128 .bf16) (x5 : FVec Ideal S1x512 .f32)
    (p : Fin 256) (k : Fin 512)
    (h0 : ∀ q : Fin 128, d0 (ix2 p q) = val_main_v16 (F := Ideal) x3 x4 (ix2 p q))
    (h1 : ∀ q : Fin 128, d1 (ix2 p q) = val_main_v31 (F := Ideal) x3 x4 (ix2 p q))
    (h2 : ∀ q : Fin 128, d2 (ix2 p q) = val_main_v46 (F := Ideal) x3 x4 (ix2 p q))
    (h3 : ∀ (b : Fin 32) (t : Fin 8) (q : Fin 128), Ideal.div (e (ix3 b t q) + a14 (ix3 b t q) + a15 (ix3 b t q))
      (Ideal.ofBits .f32 0x41800000#32) - a0 (ix3 b t q) = val_main_v56 (F := Ideal) x3 (ix3 b t q))
    (hw : ∀ a b : Fin 128, w (ix3 0 a b) = x4 (ix3 3 a b))
    (hs : ∀ k : Fin 512, sc (ix2 0 k) = x5 (ix2 0 k)) :
    k0_pay7 (F := Ideal) d0 d1 d2 a0 e a14 a15 w sc (ix2 p k) = val_main_v64 (F := Ideal) x3 x4 x5 (ix2 p k) := by
  pointwise [k0_pay7, val_main_v64, val_main_v63, val_main_v62, val_main_v61, val_main_v60, val_main_v59, val_main_v58, val_main_v57]
  simp only [h0, h1, h2, h3, hw, hs]

/-- The dense part of a row: the gates, the two up-projections, the output projection, the residual and the norm. -/
theorem merged (P : FVec Ideal S256x512 .f32) (X : Vec Ideal S256x1024 .f32) (a za zp : Vec Ideal S256x512 .f32) (g1 g2 : Vec Ideal S256x1024 .f32)
    (w7 w8 : Vec Ideal S512x1024 .bf16) (b0 b1 : Vec Ideal S1x1024 .f32) (w9 : Vec Ideal S1024x1024 .bf16) (fg : Vec Ideal S1x1024 .f32)
    (x0 : FVec Ideal S256x1024 .f32) (x1 : FVec Ideal S256x512 .f32) (x2 : FVec Ideal S256x5760 .f32) (x3 : FVec Ideal S32x24x512 .f32)
    (x4 : FVec Ideal S4x128x128 .bf16) (x5 : FVec Ideal S1x512 .f32) (x6 : FVec Ideal S2x1024 .f32) (x7 x8 : FVec Ideal S512x1024 .bf16)
    (x9 : FVec Ideal S1024x1024 .bf16) (x10 : FVec Ideal S1x1024 .f32) (p : Fin 256) (q : Fin 1024)
    (hP : ∀ k : Fin 512, P (ix2 p k) = val_main_v64 (F := Ideal) x3 x4 x5 (ix2 p k))
    (hX : ∀ q : Fin 1024, X (ix2 p q) = x0 (ix2 p q))
    (ha : ∀ k : Fin 512, a (ix2 p k) = x1 (ix2 p k))
    (hza : ∀ k : Fin 512, za (ix2 p k) = x2 (ix2 p ⟨1536 + k.val, by omega⟩))
    (hzp : ∀ k : Fin 512, zp (ix2 p k) = x2 (ix2 p ⟨3072 + k.val, by omega⟩))
    (hg1 : ∀ q : Fin 1024, g1 (ix2 p q) = x2 (ix2 p ⟨3584 + q.val, by omega⟩))
    (hg2 : ∀ q : Fin 1024, g2 (ix2 p q) = x2 (ix2 p ⟨4608 + q.val, by omega⟩))
    (h7 : ∀ k q, w7 (ix2 k q) = x7 (ix2 k q)) (h8 : ∀ k q, w8 (ix2 k q) = x8 (ix2 k q)) (h9 : ∀ k q, w9 (ix2 k q) = x9 (ix2 k q))
    (hb0 : ∀ q : Fin 1024, b0 (ix2 0 q) = x6 (ix2 0 q)) (hb1 : ∀ q : Fin 1024, b1 (ix2 0 q) = x6 (ix2 1 q))
    (hf : ∀ q : Fin 1024, fg (ix2 0 q) = x10 (ix2 0 q)) :
    k0_pay1 (F := Ideal) (k0_pay9 (F := Ideal) P X zp g1 g2 (k0_pay8 (F := Ideal) a za) w7 (constant S256x1024 FTy.f32 0#32) w8 b0 b1 w9) fg (ix2 p q)
      = val_main_v116 (F := Ideal) x0 x1 x2 x3 x4 x5 x6 x7 x8 x9 x10 (ix2 p q) := by
  pointwise [k0_pay1, k0_pay9, k0_pay8, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_call0_v0, val_main_call0_v1, val_main_call0_v2, val_main_call0_v3, val_main_call0_v4, val_main_call0_v5, val_main_call0_cst, val_main_call0_cst_0, val_main_call1_v0, val_main_call1_v1, val_main_call1_v2, val_main_call1_v3, val_main_call1_v4, val_main_call1_v5, val_main_call1_cst, val_main_call1_cst_0, val_main_cst_7, val_main_cst_8, val_main_cst_9, val_main_cst_10, val_main_cst_11, val_main_cst_12, val_main_cst_13]
  simp only [hP, hX, ha, hza, hzp, hg1, hg2, h7, h8, h9, hb0, hb1, hf, zero_sub]

end Cert.MergeSIdeal.Strip
end
-- ==== Proof.MergeSFinal.lean ====
module

public import proofs.«01_k».proof.Proof.MergeS

/-!
The merge of the sample rows, put together: the result array is the reference's.
-/

@[expose] public section

set_option maxRecDepth 16384

noncomputable section
open Idealize.ShloMosaic Idealize.ShloMosaic.TcCoe Idealize.SL.Sem
open Idealize.ShloMosaic.Pipeline (Dat)

namespace Cert.MergeSIdeal.Strip
open Cert.MergeSIdeal Cert.MergeSIdeal.Gen Cert.MergeSRefIdeal.Stages
open Cert.MergeSRefIdeal.Pool (back centred back_zero)

variable (m : (ℓ : Loc nD τ sig) → Buf (Elt Ideal) ℓ)

/-- Every window shows its whole array. -/
theorem idx : ∀ t : Fin cfg0.N, win0_0.index t = ![0, 0] ∧ win0_1.index t = ![0, 0] ∧ win0_2.index t = ![0, 0] ∧ win0_3.index t = ![0, 0, 0] ∧ win0_4.index t = ![0, 0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

/-- A load of eight rows of 128 columns of the extended rows, `k` rows back. -/
theorem loaded (c : Dev nD) (t : Fin cfg0.N) (k o : Nat) (hk : k ≤ 15) (ho : o + 128 ≤ 512)
    (inb : ∀ a, (![0, 16 - k, o] : Fin 3 → Nat) a + S32x8x128.size a ≤ S32x24x512.size a)
    (b : Fin 32) (r : Fin 8) (q : Fin 128) :
    View.ld (Val := Elt Ideal) (iblk m c 3 t) (Rect.unit (s := S32x24x512) ![0, 16 - k, o] S32x8x128.size inb) (ix3 b r q)
      = back (m ((c : Thread nD τ).loc main_arg3)) b r k (o + q.val) := by
  have hq := q.isLt
  unfold Cert.MergeSRefIdeal.Pool.back
  rw [dif_pos ⟨hk, by omega⟩]
  blk_point [iblk, V, idx t]

/-- The result array after the run is the reference's result. -/
theorem final (c : Dev nD) : (dats m 0 c).arrAt 11 (cfgs 0).N
    = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  frame_out
  idx_vars y
  rename' y0 => p, y1 => q
  have he : ((View.whole main_v0).slice (win0_11.rect t)).emb (ix2 p q) = ix2 p q := by
    blk_ext [idx t]
  rw [he]
  refine merged _ _ _ _ _ _ _ _ _ _ _ _ _ _ _ _ _ _ _ _ _ _ _ _ p q ?_ ?_ ?_ ?_ ?_ ?_ ?_ ?_ ?_ ?_ ?_ ?_ ?_
  · intro k
    refine scaled _ _ _ _ _ _ _ _ _ _ _ _ p k ?_ ?_ ?_ ?_ ?_ ?_
    · intro q
      refine group2 _ _ _ _ _ p q ?_ ?_ ?_
      · exact loaded m c t 0 0 (by decide) (by decide) _
      · exact loaded m c t 1 0 (by decide) (by decide) _
      · intro a b; blk_point [iblk, V, idx t]
    · intro q
      refine group4 _ _ _ _ _ _ _ p q ?_ ?_ ?_ ?_ ?_
      · exact loaded m c t 0 128 (by decide) (by decide) _
      · exact loaded m c t 1 128 (by decide) (by decide) _
      · exact loaded m c t 2 128 (by decide) (by decide) _
      · exact loaded m c t 3 128 (by decide) (by decide) _
      · intro a b; blk_point [iblk, V, idx t]
    · intro q
      refine group8 _ _ _ _ _ _ _ _ _ _ _ p q ?_ ?_ ?_ ?_ ?_ ?_ ?_ ?_ ?_
      · exact loaded m c t 0 256 (by decide) (by decide) _
      · exact loaded m c t 1 256 (by decide) (by decide) _
      · exact loaded m c t 2 256 (by decide) (by decide) _
      · exact loaded m c t 3 256 (by decide) (by decide) _
      · exact loaded m c t 4 256 (by decide) (by decide) _
      · exact loaded m c t 5 256 (by decide) (by decide) _
      · exact loaded m c t 6 256 (by decide) (by decide) _
      · exact loaded m c t 7 256 (by decide) (by decide) _
      · intro a b; blk_point [iblk, V, idx t]
    · intro b r q
      refine wide _ _ _ _ _ _ _ _ _ _ _ _ _ _ _ _ _ b r q ?_ ?_ ?_ ?_ ?_ ?_ ?_ ?_ ?_ ?_ ?_ ?_ ?_ ?_ ?_ ?_
      · exact loaded m c t 0 384 (by decide) (by decide) _
      · exact loaded m c t 1 384 (by decide) (by decide) _
      · exact loaded m c t 2 384 (by decide) (by decide) _
      · exact loaded m c t 3 384 (by decide) (by decide) _
      · exact loaded m c t 4 384 (by decide) (by decide) _
      · exact loaded m c t 5 384 (by decide) (by decide) _
      · exact loaded m c t 6 384 (by decide) (by decide) _
      · exact loaded m c t 7 384 (by decide) (by decide) _
      · exact loaded m c t 8 384 (by decide) (by decide) _
      · exact loaded m c t 9 384 (by decide) (by decide) _
      · exact loaded m c t 10 384 (by decide) (by decide) _
      · exact loaded m c t 11 384 (by decide) (by decide) _
      · exact loaded m c t 12 384 (by decide) (by decide) _
      · exact loaded m c t 13 384 (by decide) (by decide) _
      · exact loaded m c t 14 384 (by decide) (by decide) _
      · exact loaded m c t 15 384 (by decide) (by decide) _
    · intro a b; blk_point [iblk, V, idx t]
    · intro k; blk_point [iblk, V, idx t]
  · intro q; blk_point [iblk, V, idx t]
  · intro k; blk_point [iblk, V, idx t]
  · intro k; blk_point [iblk, V, idx t]
  · intro k; blk_point [iblk, V, idx t]
  · intro q; blk_point [iblk, V, idx t]
  · intro q; blk_point [iblk, V, idx t]
  · intro k q; blk_point [iblk, V, idx t]
  · intro k q; blk_point [iblk, V, idx t]
  · intro k q; blk_point [iblk, V, idx t]
  · intro q; blk_point [iblk, V, idx t]
  · intro q; blk_point [iblk, V, idx t]
  · intro q; blk_point [iblk, V, idx t]
end Cert.MergeSIdeal.Strip
end
-- ==== Proof.MergeSClaims.lean ====
module

public import proofs.«01_k».proof.Defs
public import proofs.«01_k».proof.Proof.Gen.MergeSIdeal
public import proofs.«01_k».proof.Proof.Gen.MergeSRefIdeal
public import proofs.«01_k».proof.Proof.Gen.MergeSIdeal.Value
public import proofs.«01_k».proof.Proof.MergeSRun
public import proofs.«01_k».proof.Proof.MergeSStages
public import proofs.«01_k».proof.Proof.MergeSFinal
public import Idealize.ShloMosaic.Lib.Quiescent

/-!
The claims about the merge of the sample rows.
-/

@[expose] public section

set_option maxRecDepth 16384

noncomputable section
open Idealize.ShloMosaic Idealize.ShloMosaic.TcCoe Idealize.SL.Sem

namespace Cert.Proof.MergeSClaims

/-- The reference runs, leaves its arguments as they were, and holds no semaphore. -/
theorem frame_r : Cert.quiescent_MergeSRefIdeal := fun m ρ _ =>
  (θ_run Cert.MergeSRefIdeal.defs _ _).mono (fun r h => ⟨fun c => (h c).2,
      Idealize.ShloMosaic.sem_eq_zero_of_no_sems (by decide) r.2⟩)
    (Cert.MergeSRefIdeal.Ran.run (F := Ideal) m ρ)

open Cert.MergeSRefIdeal.Stages in
/-- The kernel's rows after gating, pooling, projection and norm are the reference's. -/
theorem algebraic : Cert.algebraic_MergeSIdeal_MergeSRefIdeal := by
  intro m g m' g' _ hag
  refine ⟨fun c => val_main_v116 (F := Ideal) (m ((c.tc : Thread Cert.MergeSIdeal.nD Cert.MergeSIdeal.τ).loc Cert.MergeSIdeal.main_arg0)) (m ((c.tc : Thread Cert.MergeSIdeal.nD Cert.MergeSIdeal.τ).loc Cert.MergeSIdeal.main_arg1)) (m ((c.tc : Thread Cert.MergeSIdeal.nD Cert.MergeSIdeal.τ).loc Cert.MergeSIdeal.main_arg2)) (m ((c.tc : Thread Cert.MergeSIdeal.nD Cert.MergeSIdeal.τ).loc Cert.MergeSIdeal.main_arg3)) (m ((c.tc : Thread Cert.MergeSIdeal.nD Cert.MergeSIdeal.τ).loc Cert.MergeSIdeal.main_arg4)) (m ((c.tc : Thread Cert.MergeSIdeal.nD Cert.MergeSIdeal.τ).loc Cert.MergeSIdeal.main_arg5)) (m ((c.tc : Thread Cert.MergeSIdeal.nD Cert.MergeSIdeal.τ).loc Cert.MergeSIdeal.main_arg6)) (m ((c.tc : Thread Cert.MergeSIdeal.nD Cert.MergeSIdeal.τ).loc Cert.MergeSIdeal.main_arg7)) (m ((c.tc : Thread Cert.MergeSIdeal.nD Cert.MergeSIdeal.τ).loc Cert.MergeSIdeal.main_arg8)) (m ((c.tc : Thread Cert.MergeSIdeal.nD Cert.MergeSIdeal.τ).loc Cert.MergeSIdeal.main_arg9)) (m ((c.tc : Thread Cert.MergeSIdeal.nD Cert.MergeSIdeal.τ).loc Cert.MergeSIdeal.main_arg10)), ?_, ?_⟩
  · refine (θ_run Cert.MergeSIdeal.defs _ _).mono (fun r h c => ?_) (Cert.MergeSIdeal.Value.run_blocks m g)
    obtain ⟨h0, ha⟩ := h c
    exact ⟨h0.trans (Cert.MergeSIdeal.Strip.final m c), ha⟩
  · refine (θ_run Cert.MergeSRefIdeal.defs _ _).mono (fun r h c => ?_) (Cert.MergeSRefIdeal.Ran.run (F := Ideal) m' g')
    obtain ⟨h0, ha⟩ := h c
    obtain ⟨e0, e1, e2, e3, e4, e5, e6, e7, e8, e9, e10⟩ := hag c
    exact ⟨h0.trans ((val_main_v116_eq m' c).trans (by rw [e0, e1, e2, e3, e4, e5, e6, e7, e8, e9, e10])), ha⟩

end Cert.Proof.MergeSClaims
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.IdxClaims
public import proofs.«01_k».proof.Proof.Gen.InP
public import proofs.«01_k».proof.Proof.Gen.InPIdeal
public import proofs.«01_k».proof.Proof.Gen.InPRefIdeal
public import proofs.«01_k».proof.Proof.Gen.InP.Frame
public import proofs.«01_k».proof.Proof.Gen.InPIdeal.Frame
public import proofs.«01_k».proof.Proof.InPClaims
public import proofs.«01_k».proof.Proof.Gen.MergeP
public import proofs.«01_k».proof.Proof.Gen.MergePIdeal
public import proofs.«01_k».proof.Proof.Gen.MergePRefIdeal
public import proofs.«01_k».proof.Proof.Gen.MergeP.Frame
public import proofs.«01_k».proof.Proof.Gen.MergePIdeal.Frame
public import proofs.«01_k».proof.Proof.MergePClaims
public import proofs.«01_k».proof.Proof.Gen.InS
public import proofs.«01_k».proof.Proof.Gen.InSIdeal
public import proofs.«01_k».proof.Proof.Gen.InSRefIdeal
public import proofs.«01_k».proof.Proof.Gen.InS.Frame
public import proofs.«01_k».proof.Proof.Gen.InSIdeal.Frame
public import proofs.«01_k».proof.Proof.InSClaims
public import proofs.«01_k».proof.Proof.Gen.MergeS
public import proofs.«01_k».proof.Proof.Gen.MergeSIdeal
public import proofs.«01_k».proof.Proof.Gen.MergeSRefIdeal
public import proofs.«01_k».proof.Proof.Gen.MergeS.Frame
public import proofs.«01_k».proof.Proof.Gen.MergeSIdeal.Frame
public import proofs.«01_k».proof.Proof.MergeSClaims
public import proofs.«01_k».proof.Proof.Gen.Pre_pages_exist

/-!
The certificate's claim: the facts that the programs' declarations need, then the frames, and for each pair of programs that
the ideal program is the kernel's own text and that its results are the reference's.
-/

@[expose] public section

noncomputable section

namespace Cert.Proof

theorem claim : Cert.Claim :=
  ⟨Cert.Kernel.Gen.facts,
    Cert.KernelIdeal.Gen.facts,
    Cert.ReferenceIdeal.Gen.facts,
    Cert.InP.Gen.facts,
    Cert.InPIdeal.Gen.facts,
    Cert.InPRefIdeal.Gen.facts,
    Cert.MergeP.Gen.facts,
    Cert.MergePIdeal.Gen.facts,
    Cert.MergePRefIdeal.Gen.facts,
    Cert.InS.Gen.facts,
    Cert.InSIdeal.Gen.facts,
    Cert.InSRefIdeal.Gen.facts,
    Cert.MergeS.Gen.facts,
    Cert.MergeSIdeal.Gen.facts,
    Cert.MergeSRefIdeal.Gen.facts,
    Cert.Pre_pages_exist.Gen.facts,
    IdxClaims.frame_k,
    IdxClaims.frame_i,
    IdxClaims.frame_r,
    IdxClaims.frame_p,
    fun m ρ _ => Cert.InP.Gen.frame m ρ,
    fun m ρ _ => Cert.InPIdeal.Gen.frame m ρ,
    InPClaims.frame_r,
    fun m ρ _ => Cert.MergeP.Gen.frame m ρ,
    fun m ρ _ => Cert.MergePIdeal.Gen.frame m ρ,
    MergePClaims.frame_r,
    fun m ρ _ => Cert.InS.Gen.frame m ρ,
    fun m ρ _ => Cert.InSIdeal.Gen.frame m ρ,
    InSClaims.frame_r,
    fun m ρ _ => Cert.MergeS.Gen.frame m ρ,
    fun m ρ _ => Cert.MergeSIdeal.Gen.frame m ρ,
    MergeSClaims.frame_r,
    trivial,
    IdxClaims.algebraic,
    trivial,
    InPClaims.algebraic,
    trivial,
    MergePClaims.algebraic,
    trivial,
    InSClaims.algebraic,
    trivial,
    MergeSClaims.algebraic⟩

end Cert.Proof

end
